-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v39_0)) (v1 : (c : Dev Cert.Kernel4Ideal.nD) → Buf (Elt Ideal) ((c.tc : Thread Cert.Kernel4Ideal.nD Cert.Kernel4Ideal.τ).loc Cert.Kernel4Ideal.main_v39_1)) (v2 : (c : Dev Cert.Kernel4Ideal.nD) → Buf (Elt Ideal) ((c.tc : Thread Cert.Kernel4Ideal.nD Cert.Kernel4Ideal.τ).loc Cert.Kernel4Ideal.main_v39_2)) (v3 : (c : Dev Cert.Kernel4Ideal.nD) → Buf (Elt Ideal) ((c.tc : Thread Cert.Kernel4Ideal.nD Cert.Kernel4Ideal.τ).loc Cert.Kernel4Ideal.main_v39_3)) (v4 : (c : Dev Cert.Kernel4Ideal.nD) → Buf (Elt Ideal) ((c.tc : Thread Cert.Kernel4Ideal.nD Cert.Kernel4Ideal.τ).loc Cert.Kernel4Ideal.main_v39_4)) (v5 : (c : Dev Cert.Kernel4Ideal.nD) → Buf (Elt Ideal) ((c.tc : Thread Cert.Kernel4Ideal.nD Cert.Kernel4Ideal.τ).loc Cert.Kernel4Ideal.main_v39_5)) (v6 : (c : Dev Cert.Kernel4Ideal.nD) → Buf (Elt Ideal) ((c.tc : Thread Cert.Kernel4Ideal.nD Cert.Kernel4Ideal.τ).loc Cert.Kernel4Ideal.main_v39_6)) (v7 : (c : Dev Cert.Kernel4Ideal.nD) → Buf (Elt Ideal) ((c.tc : Thread Cert.Kernel4Ideal.nD Cert.Kernel4Ideal.τ).loc Cert.Kernel4Ideal.main_v39_7)) (v8 : (c : Dev Cert.Kernel4Ideal.nD) → Buf (Elt Ideal) ((c.tc : Thread Cert.Kernel4Ideal.nD Cert.Kernel4Ideal.τ).loc Cert.Kernel4Ideal.main_v39_8)) (v9 : (c : Dev Cert.Kernel4Ideal.nD) → Buf (Elt Ideal) ((c.tc : Thread Cert.Kernel4Ideal.nD Cert.Kernel4Ideal.τ).loc Cert.Kernel4Ideal.main_v39_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v39_0) = v0 c
          ∧ r.2.mem ((c.tc : Thread Cert.Kernel4Ideal.nD Cert.Kernel4Ideal.τ).loc Cert.Kernel4Ideal.main_v39_1) = v1 c
          ∧ r.2.mem ((c.tc : Thread Cert.Kernel4Ideal.nD Cert.Kernel4Ideal.τ).loc Cert.Kernel4Ideal.main_v39_2) = v2 c
          ∧ r.2.mem ((c.tc : Thread Cert.Kernel4Ideal.nD Cert.Kernel4Ideal.τ).loc Cert.Kernel4Ideal.main_v39_3) = v3 c
          ∧ r.2.mem ((c.tc : Thread Cert.Kernel4Ideal.nD Cert.Kernel4Ideal.τ).loc Cert.Kernel4Ideal.main_v39_4) = v4 c
          ∧ r.2.mem ((c.tc : Thread Cert.Kernel4Ideal.nD Cert.Kernel4Ideal.τ).loc Cert.Kernel4Ideal.main_v39_5) = v5 c
          ∧ r.2.mem ((c.tc : Thread Cert.Kernel4Ideal.nD Cert.Kernel4Ideal.τ).loc Cert.Kernel4Ideal.main_v39_6) = v6 c
          ∧ r.2.mem ((c.tc : Thread Cert.Kernel4Ideal.nD Cert.Kernel4Ideal.τ).loc Cert.Kernel4Ideal.main_v39_7) = v7 c
          ∧ r.2.mem ((c.tc : Thread Cert.Kernel4Ideal.nD Cert.Kernel4Ideal.τ).loc Cert.Kernel4Ideal.main_v39_8) = v8 c
          ∧ r.2.mem ((c.tc : Thread Cert.Kernel4Ideal.nD Cert.Kernel4Ideal.τ).loc Cert.Kernel4Ideal.main_v39_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v154) = v0 c
          ∧ r.2.mem ((c.tc : Thread Cert.Reference4Ideal.nD Cert.Reference4Ideal.τ).loc Cert.Reference4Ideal.main_v155) = v1 c
          ∧ r.2.mem ((c.tc : Thread Cert.Reference4Ideal.nD Cert.Reference4Ideal.τ).loc Cert.Reference4Ideal.main_v156) = v2 c
          ∧ r.2.mem ((c.tc : Thread Cert.Reference4Ideal.nD Cert.Reference4Ideal.τ).loc Cert.Reference4Ideal.main_v157) = v3 c
          ∧ r.2.mem ((c.tc : Thread Cert.Reference4Ideal.nD Cert.Reference4Ideal.τ).loc Cert.Reference4Ideal.main_v159) = v4 c
          ∧ r.2.mem ((c.tc : Thread Cert.Reference4Ideal.nD Cert.Reference4Ideal.τ).loc Cert.Reference4Ideal.main_v160) = v5 c
          ∧ r.2.mem ((c.tc : Thread Cert.Reference4Ideal.nD Cert.Reference4Ideal.τ).loc Cert.Reference4Ideal.main_v161) = v6 c
          ∧ r.2.mem ((c.tc : Thread Cert.Reference4Ideal.nD Cert.Reference4Ideal.τ).loc Cert.Reference4Ideal.main_v162) = v7 c
          ∧ r.2.mem ((c.tc : Thread Cert.Reference4Ideal.nD Cert.Reference4Ideal.τ).loc Cert.Reference4Ideal.main_v163) = v8 c
          ∧ r.2.mem ((c.tc : Thread Cert.Reference4Ideal.nD Cert.Reference4Ideal.τ).loc Cert.Reference4Ideal.main_v164) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x8192x1024 : Shape := ⟨3, ![4, 8192, 1024]⟩
abbrev S32768x512 : Shape := ⟨2, ![32768, 512]⟩
abbrev S4x8192x512 : Shape := ⟨3, ![4, 8192, 512]⟩
abbrev S1024 : Shape := ⟨1, ![1024]⟩
abbrev S1024x6408 : Shape := ⟨2, ![1024, 6408]⟩
abbrev S3x512x1024 : Shape := ⟨3, ![3, 512, 1024]⟩
abbrev S1024x1024 : Shape := ⟨2, ![1024, 1024]⟩
abbrev S512 : Shape := ⟨1, ![512]⟩
abbrev S1024x4096 : Shape := ⟨2, ![1024, 4096]⟩
abbrev S1x512x1024 : Shape := ⟨3, ![1, 512, 1024]⟩
abbrev S_ : Shape := ⟨0, ![]⟩
abbrev S512x1 : Shape := ⟨2, ![512, 1]⟩
abbrev S2x512x1024 : Shape := ⟨3, ![2, 512, 1024]⟩
abbrev S1x1024 : Shape := ⟨2, ![1, 1024]⟩
abbrev S32768x1024 : Shape := ⟨2, ![32768, 1024]⟩
abbrev S3x256x1024 : Shape := ⟨3, ![3, 256, 1024]⟩
abbrev S3 : Shape := ⟨1, ![3]⟩
abbrev S3x256x512 : Shape := ⟨3, ![3, 256, 512]⟩
abbrev S2x256x1024 : Shape := ⟨3, ![2, 256, 1024]⟩
abbrev S2 : Shape := ⟨1, ![2]⟩
abbrev S1 : Shape := ⟨1, ![1]⟩
abbrev S1x256x1024 : Shape := ⟨3, ![1, 256, 1024]⟩
abbrev S256x1024 : Shape := ⟨2, ![256, 1024]⟩
abbrev S1x256x512 : Shape := ⟨3, ![1, 256, 512]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩

abbrev nBuf : Space → Nat
  | .hbm => 32
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S32768x512, .bf16⟩
  | .hbm, ⟨2, _⟩ => ⟨S4x8192x512, .bf16⟩
  | .hbm, ⟨3, _⟩ => ⟨S32768x512, .bf16⟩
  | .hbm, ⟨4, _⟩ => ⟨S1024, .f32⟩
  | .hbm, ⟨5, _⟩ => ⟨S1024x6408, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S512, .i32⟩
  | .hbm, ⟨11, _⟩ => ⟨S512, .i1⟩
  | .hbm, ⟨12, _⟩ => ⟨S1024x4096, .f32⟩
  | .hbm, ⟨13, _⟩ => ⟨S1024x4096, .bf16⟩
  | .hbm, ⟨14, _⟩ => ⟨S1x512x1024, .f32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S512, .i32⟩
  | .hbm, ⟨19, _⟩ => ⟨S512x1, .i32⟩
  | .hbm, ⟨20, _⟩ => ⟨S1x512x1024, .f32⟩
  | .hbm, ⟨21, _⟩ => ⟨S2x512x1024, .f32⟩
  | .hbm, ⟨22, _⟩ => ⟨S3x512x1024, .f32⟩
  | .hbm, ⟨23, _⟩ => ⟨S3x512x1024, .bf16⟩
  | .hbm, ⟨24, _⟩ => ⟨S1024x1024, .bf16⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S32768x1024, .f32⟩
  | .hbm, ⟨29, _⟩ => ⟨S32768x512, .bf16⟩
  | .hbm, ⟨30, _⟩ => ⟨S32768x1024, .f32⟩
  | .hbm, ⟨31, _⟩ => ⟨S32768x1024, .bf16⟩
  | .local _ .vmem, ⟨0, _⟩ => ⟨S1x1024, .f32⟩
  | .local _ .vmem, ⟨1, _⟩ => ⟨S1024x4096, .bf16⟩
  | .local _ .vmem, ⟨2, _⟩ => ⟨S3x512x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S3x256x1024, .f32⟩
  | .local _ .vmem, ⟨7, _⟩ => ⟨S3x256x512, .bf16⟩
  | .local _ .vmem, ⟨8, _⟩ => ⟨S3x256x512, .bf16⟩
  | .local _ .vmem, ⟨9, _⟩ => ⟨S3x256x512, .bf16⟩
  | .local _ .vmem, ⟨10, _⟩ => ⟨S2x256x1024, .f32⟩
  | .local _ .vmem, ⟨11, _⟩ => ⟨S2x256x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scoped0 : Ref sig .tc := ⟨.vmem, 6, rfl⟩
abbrev cc0_scoped2 : Ref sig .tc := ⟨.vmem, 7, rfl⟩
abbrev cc0_scoped4 : Ref sig .tc := ⟨.vmem, 8, rfl⟩
abbrev cc0_scoped6 : Ref sig .tc := ⟨.vmem, 9, rfl⟩
abbrev cc0_scoped8 : Ref sig .tc := ⟨.vmem, 10, rfl⟩
abbrev cc0_scoped10 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 : Fin 1 → Nat :=
  let c0_i32_21_r0 : BitVec 32 := 0#32
  let c3_i32_r0 : BitVec 32 := 3#32
  let v24_r0 : BitVec 32 := Scalar.remui c0_i32_21_r0 c3_i32_r0
  ![v24_r0.toNat]
def k0_off2 : Fin 3 → Nat :=
  let c0_i32_21_r0 : BitVec 32 := 0#32
  let c3_i32_r0 : BitVec 32 := 3#32
  let v24_r0 : BitVec 32 := Scalar.remui c0_i32_21_r0 c3_i32_r0
  let c0_i32_22_r0 : BitVec 32 := 0#32
  let c0_i32_23_r0 : BitVec 32 := 0#32
  ![v24_r0.toNat, 0, 0]
def k0_off3 : Fin 3 → Nat :=
  let c0_i32_28_r0 : BitVec 32 := 0#32
  let c3_i32_29_r0 : BitVec 32 := 3#32
  let v31_r0 : BitVec 32 := Scalar.remui c0_i32_28_r0 c3_i32_29_r0
  let c0_i32_30_r0 : BitVec 32 := 0#32
  let c0_i32_31_r0 : BitVec 32 := 0#32
  ![v31_r0.toNat, 0, 0]
def k0_cond1 : BitVec 1 :=
  let true_53_r0 : BitVec 1 := 1#1
  let true_7_r0 : BitVec 1 := 1#1
  let c1_i32_r0 : BitVec 32 := 1#32
  let c0_i32_8_r0 : BitVec 32 := 0#32
  let v10_r0 : BitVec 32 := Scalar.select true_7_r0 c1_i32_r0 c0_i32_8_r0
  let c128_i32_r0 : BitVec 32 := 128#32
  let v11_r0 : BitVec 1 := Scalar.cmpi .eq v10_r0 c128_i32_r0
  let c0_i32_9_r0 : BitVec 32 := 0#32
  let v12_r0 : BitVec 32 := Scalar.select v11_r0 c0_i32_9_r0 v10_r0
  let c0_i32_10_r0 : BitVec 32 := 0#32
  let v13_r0 : BitVec 32 := Scalar.addi v12_r0 c0_i32_10_r0
  let c0_i32_52_r0 : BitVec 32 := 0#32
  let v52_r0 : BitVec 1 := Scalar.cmpi .ne v13_r0 c0_i32_52_r0
  let v53_r0 : BitVec 1 := Scalar.andi true_53_r0 v52_r0
  let true_54_r0 : BitVec 1 := 1#1
  let v54_r0 : BitVec 1 := Scalar.andi v53_r0 true_54_r0
  let v55_r0 : BitVec 32 := Scalar.extui v54_r0
  let c0_i32_55_r0 : BitVec 32 := 0#32
  let v56_r0 : BitVec 1 := Scalar.cmpi .ne v55_r0 c0_i32_55_r0
  v56_r0

def k0_off4 : Fin 1 → Nat :=
  let c0_i32_26_r0 : BitVec 32 := 0#32
  let c1_i32_27_r0 : BitVec 32 := 1#32
  let v30_r0 : BitVec 32 := Scalar.addi c0_i32_26_r0 c1_i32_27_r0
  let c3_i32_118_r0 : BitVec 32 := 3#32
  let v121_r0 : BitVec 32 := Scalar.remui v30_r0 c3_i32_118_r0
  ![v121_r0.toNat]
def k0_off5 : Fin 3 → Nat :=
  let c0_i32_26_r0 : BitVec 32 := 0#32
  let c1_i32_27_r0 : BitVec 32 := 1#32
  let v30_r0 : BitVec 32 := Scalar.addi c0_i32_26_r0 c1_i32_27_r0
  let c3_i32_118_r0 : BitVec 32 := 3#32
  let v121_r0 : BitVec 32 := Scalar.remui v30_r0 c3_i32_118_r0
  let c0_i32_120_r0 : BitVec 32 := 0#32
  let c0_i32_121_r0 : BitVec 32 := 0#32
  ![v121_r0.toNat, 0, 0]
def k0_off6 : Fin 2 → Nat :=
  let c256_i32_119_r0 : BitVec 32 := 256#32
  let true_7_r0 : BitVec 1 := 1#1
  let c1_i32_r0 : BitVec 32 := 1#32
  let c0_i32_8_r0 : BitVec 32 := 0#32
  let v10_r0 : BitVec 32 := Scalar.select true_7_r0 c1_i32_r0 c0_i32_8_r0
  let c128_i32_r0 : BitVec 32 := 128#32
  let v11_r0 : BitVec 1 := Scalar.cmpi .eq v10_r0 c128_i32_r0
  let c0_i32_9_r0 : BitVec 32 := 0#32
  let v12_r0 : BitVec 32 := Scalar.select v11_r0 c0_i32_9_r0 v10_r0
  let c0_i32_10_r0 : BitVec 32 := 0#32
  let v13_r0 : BitVec 32 := Scalar.addi v12_r0 c0_i32_10_r0
  let v122_r0 : BitVec 32 := Scalar.muli c256_i32_119_r0 v13_r0
  let c0_i32_122_r0 : BitVec 32 := 0#32
  ![v122_r0.toNat, 0]
def k0_cond2 : BitVec 1 :=
  let true_58_r0 : BitVec 1 := 1#1
  let true_7_r0 : BitVec 1 := 1#1
  let c1_i32_r0 : BitVec 32 := 1#32
  let c0_i32_8_r0 : BitVec 32 := 0#32
  let v10_r0 : BitVec 32 := Scalar.select true_7_r0 c1_i32_r0 c0_i32_8_r0
  let c128_i32_r0 : BitVec 32 := 128#32
  let v11_r0 : BitVec 1 := Scalar.cmpi .eq v10_r0 c128_i32_r0
  let c0_i32_9_r0 : BitVec 32 := 0#32
  let v12_r0 : BitVec 32 := Scalar.select v11_r0 c0_i32_9_r0 v10_r0
  let c0_i32_10_r0 : BitVec 32 := 0#32
  let v13_r0 : BitVec 32 := Scalar.addi v12_r0 c0_i32_10_r0
  let c0_i32_57_r0 : BitVec 32 := 0#32
  let v59_r0 : BitVec 1 := Scalar.cmpi .ne v13_r0 c0_i32_57_r0
  let v60_r0 : BitVec 1 := Scalar.andi true_58_r0 v59_r0
  let true_59_r0 : BitVec 1 := 1#1
  let v61_r0 : BitVec 1 := Scalar.andi v60_r0 true_59_r0
  let v62_r0 : BitVec 32 := Scalar.extui v61_r0
  let c0_i32_60_r0 : BitVec 32 := 0#32
  let v63_r0 : BitVec 1 := Scalar.cmpi .ne v62_r0 c0_i32_60_r0
  v63_r0

def k0_off7 : Fin 1 → Nat :=
  let c0_i32_34_r0 : BitVec 32 := 0#32
  let c1_i32_35_r0 : BitVec 32 := 1#32
  let v37_r0 : BitVec 32 := Scalar.addi c0_i32_34_r0 c1_i32_35_r0
  let c3_i32_118_r0 : BitVec 32 := 3#32
  let v121_r0 : BitVec 32 := Scalar.remui v37_r0 c3_i32_118_r0
  ![v121_r0.toNat]
def k0_off8 : Fin 3 → Nat :=
  let c0_i32_34_r0 : BitVec 32 := 0#32
  let c1_i32_35_r0 : BitVec 32 := 1#32
  let v37_r0 : BitVec 32 := Scalar.addi c0_i32_34_r0 c1_i32_35_r0
  let c3_i32_118_r0 : BitVec 32 := 3#32
  let v121_r0 : BitVec 32 := Scalar.remui v37_r0 c3_i32_118_r0
  let c0_i32_120_r0 : BitVec 32 := 0#32
  let c0_i32_121_r0 : BitVec 32 := 0#32
  ![v121_r0.toNat, 0, 0]
def k0_off9 : Fin 2 → Nat :=
  let c256_i32_119_r0 : BitVec 32 := 256#32
  let true_7_r0 : BitVec 1 := 1#1
  let c1_i32_r0 : BitVec 32 := 1#32
  let c0_i32_8_r0 : BitVec 32 := 0#32
  let v10_r0 : BitVec 32 := Scalar.select true_7_r0 c1_i32_r0 c0_i32_8_r0
  let c128_i32_r0 : BitVec 32 := 128#32
  let v11_r0 : BitVec 1 := Scalar.cmpi .eq v10_r0 c128_i32_r0
  let c0_i32_9_r0 : BitVec 32 := 0#32
  let v12_r0 : BitVec 32 := Scalar.select v11_r0 c0_i32_9_r0 v10_r0
  let c0_i32_10_r0 : BitVec 32 := 0#32
  let v13_r0 : BitVec 32 := Scalar.addi v12_r0 c0_i32_10_r0
  let v122_r0 : BitVec 32 := Scalar.muli c256_i32_119_r0 v13_r0
  let c0_i32_122_r0 : BitVec 32 := 0#32
  ![v122_r0.toNat, 0]
def k0_cond3 : BitVec 1 :=
  let true_63_r0 : BitVec 1 := 1#1
  let true_7_r0 : BitVec 1 := 1#1
  let c1_i32_r0 : BitVec 32 := 1#32
  let c0_i32_8_r0 : BitVec 32 := 0#32
  let v10_r0 : BitVec 32 := Scalar.select true_7_r0 c1_i32_r0 c0_i32_8_r0
  let c128_i32_r0 : BitVec 32 := 128#32
  let v11_r0 : BitVec 1 := Scalar.cmpi .eq v10_r0 c128_i32_r0
  let c0_i32_9_r0 : BitVec 32 := 0#32
  let v12_r0 : BitVec 32 := Scalar.select v11_r0 c0_i32_9_r0 v10_r0
  let c0_i32_10_r0 : BitVec 32 := 0#32
  let v13_r0 : BitVec 32 := Scalar.addi v12_r0 c0_i32_10_r0
  let c0_i32_62_r0 : BitVec 32 := 0#32
  let v66_r0 : BitVec 1 := Scalar.cmpi .ne v13_r0 c0_i32_62_r0
  let v67_r0 : BitVec 1 := Scalar.andi true_63_r0 v66_r0
  let true_64_r0 : BitVec 1 := 1#1
  let v68_r0 : BitVec 1 := Scalar.andi v67_r0 true_64_r0
  let v69_r0 : BitVec 32 := Scalar.extui v68_r0
  let c0_i32_65_r0 : BitVec 32 := 0#32
  let v70_r0 : BitVec 1 := Scalar.cmpi .ne v69_r0 c0_i32_65_r0
  v70_r0

def k0_off10 : Fin 1 → Nat :=
  let c0_i32_42_r0 : BitVec 32 := 0#32
  let c1_i32_43_r0 : BitVec 32 := 1#32
  let v44_r0 : BitVec 32 := Scalar.addi c0_i32_42_r0 c1_i32_43_r0
  let c3_i32_118_r0 : BitVec 32 := 3#32
  let v121_r0 : BitVec 32 := Scalar.remui v44_r0 c3_i32_118_r0
  ![v121_r0.toNat]
def k0_off11 : Fin 3 → Nat :=
  let c0_i32_42_r0 : BitVec 32 := 0#32
  let c1_i32_43_r0 : BitVec 32 := 1#32
  let v44_r0 : BitVec 32 := Scalar.addi c0_i32_42_r0 c1_i32_43_r0
  let c3_i32_118_r0 : BitVec 32 := 3#32
  let v121_r0 : BitVec 32 := Scalar.remui v44_r0 c3_i32_118_r0
  let c0_i32_120_r0 : BitVec 32 := 0#32
  let c0_i32_121_r0 : BitVec 32 := 0#32
  ![v121_r0.toNat, 0, 0]
def k0_off12 : Fin 2 → Nat :=
  let c256_i32_119_r0 : BitVec 32 := 256#32
  let true_7_r0 : BitVec 1 := 1#1
  let c1_i32_r0 : BitVec 32 := 1#32
  let c0_i32_8_r0 : BitVec 32 := 0#32
  let v10_r0 : BitVec 32 := Scalar.select true_7_r0 c1_i32_r0 c0_i32_8_r0
  let c128_i32_r0 : BitVec 32 := 128#32
  let v11_r0 : BitVec 1 := Scalar.cmpi .eq v10_r0 c128_i32_r0
  let c0_i32_9_r0 : BitVec 32 := 0#32
  let v12_r0 : BitVec 32 := Scalar.select v11_r0 c0_i32_9_r0 v10_r0
  let c0_i32_10_r0 : BitVec 32 := 0#32
  let v13_r0 : BitVec 32 := Scalar.addi v12_r0 c0_i32_10_r0
  let v122_r0 : BitVec 32 := Scalar.muli c256_i32_119_r0 v13_r0
  let c0_i32_122_r0 : BitVec 32 := 0#32
  ![v122_r0.toNat, 0]
def k0_cond4 : BitVec 1 :=
  let true_68_r0 : BitVec 1 := 1#1
  let true_7_r0 : BitVec 1 := 1#1
  let c1_i32_r0 : BitVec 32 := 1#32
  let c0_i32_8_r0 : BitVec 32 := 0#32
  let v10_r0 : BitVec 32 := Scalar.select true_7_r0 c1_i32_r0 c0_i32_8_r0
  let c128_i32_r0 : BitVec 32 := 128#32
  let v11_r0 : BitVec 1 := Scalar.cmpi .eq v10_r0 c128_i32_r0
  let c0_i32_9_r0 : BitVec 32 := 0#32
  let v12_r0 : BitVec 32 := Scalar.select v11_r0 c0_i32_9_r0 v10_r0
  let c0_i32_10_r0 : BitVec 32 := 0#32
  let v13_r0 : BitVec 32 := Scalar.addi v12_r0 c0_i32_10_r0
  let c0_i32_67_r0 : BitVec 32 := 0#32
  let v73_r0 : BitVec 1 := Scalar.cmpi .ne v13_r0 c0_i32_67_r0
  let v74_r0 : BitVec 1 := Scalar.andi true_68_r0 v73_r0
  let true_69_r0 : BitVec 1 := 1#1
  let v75_r0 : BitVec 1 := Scalar.andi v74_r0 true_69_r0
  let v76_r0 : BitVec 32 := Scalar.extui v75_r0
  let c0_i32_70_r0 : BitVec 32 := 0#32
  let v77_r0 : BitVec 1 := Scalar.cmpi .ne v76_r0 c0_i32_70_r0
  v77_r0

def k0_off13 : Fin 1 → Nat :=
  let c0_i32_50_r0 : BitVec 32 := 0#32
  let c1_i32_51_r0 : BitVec 32 := 1#32
  let v51_r0 : BitVec 32 := Scalar.addi c0_i32_50_r0 c1_i32_51_r0
  let c3_i32_118_r0 : BitVec 32 := 3#32
  let v121_r0 : BitVec 32 := Scalar.remui v51_r0 c3_i32_118_r0
  ![v121_r0.toNat]
def k0_off14 : Fin 3 → Nat :=
  let c0_i32_50_r0 : BitVec 32 := 0#32
  let c1_i32_51_r0 : BitVec 32 := 1#32
  let v51_r0 : BitVec 32 := Scalar.addi c0_i32_50_r0 c1_i32_51_r0
  let c3_i32_118_r0 : BitVec 32 := 3#32
  let v121_r0 : BitVec 32 := Scalar.remui v51_r0 c3_i32_118_r0
  let c0_i32_120_r0 : BitVec 32 := 0#32
  let c0_i32_121_r0 : BitVec 32 := 0#32
  ![v121_r0.toNat, 0, 0]
def k0_off15 : Fin 2 → Nat :=
  let c256_i32_119_r0 : BitVec 32 := 256#32
  let true_7_r0 : BitVec 1 := 1#1
  let c1_i32_r0 : BitVec 32 := 1#32
  let c0_i32_8_r0 : BitVec 32 := 0#32
  let v10_r0 : BitVec 32 := Scalar.select true_7_r0 c1_i32_r0 c0_i32_8_r0
  let c128_i32_r0 : BitVec 32 := 128#32
  let v11_r0 : BitVec 1 := Scalar.cmpi .eq v10_r0 c128_i32_r0
  let c0_i32_9_r0 : BitVec 32 := 0#32
  let v12_r0 : BitVec 32 := Scalar.select v11_r0 c0_i32_9_r0 v10_r0
  let c0_i32_10_r0 : BitVec 32 := 0#32
  let v13_r0 : BitVec 32 := Scalar.addi v12_r0 c0_i32_10_r0
  let v122_r0 : BitVec 32 := Scalar.muli c256_i32_119_r0 v13_r0
  let c0_i32_122_r0 : BitVec 32 := 0#32
  ![v122_r0.toNat, 0]
@[reducible] def k0_t1_loop : Scf.Loop 32 :=
  let c0_i32_81_r0 : BitVec 32 := 0#32
  let c128_i32_82_r0 : BitVec 32 := 128#32
  let v80_r0 : BitVec 32 := Scalar.addi c0_i32_81_r0 c128_i32_82_r0
  let c1_i32_83_r0 : BitVec 32 := 1#32
  ⟨c0_i32_81_r0, v80_r0, c1_i32_83_r0⟩
def k0_off16 (arg13_r0 : BitVec 32) : Fin 1 → Nat :=
  let c3_i32_271_r0 : BitVec 32 := 3#32
  let v423_r0 : BitVec 32 := Scalar.remui arg13_r0 c3_i32_271_r0
  ![v423_r0.toNat]
def k0_cond5 (k0_t1 : Fin k0_t1_loop.trips) (arg25_r0 : BitVec 32) : BitVec 1 :=
  let true_127_r0 : BitVec 1 := 1#1
  let c1_i32_126_r0 : BitVec 32 := 1#32
  let v129_r0 : BitVec 32 := Scalar.addi arg25_r0 c1_i32_126_r0
  let v130_r0 : BitVec 32 := Scalar.select true_127_r0 v129_r0 arg25_r0
  let c128_i32_128_r0 : BitVec 32 := 128#32
  let v131_r0 : BitVec 1 := Scalar.cmpi .eq v130_r0 c128_i32_128_r0
  let c0_i32_129_r0 : BitVec 32 := 0#32
  let v132_r0 : BitVec 32 := Scalar.select v131_r0 c0_i32_129_r0 v130_r0
  let c0_i32_130_r0 : BitVec 32 := 0#32
  let v133_r0 : BitVec 32 := Scalar.addi v132_r0 c0_i32_130_r0
  let true_132_r0 : BitVec 1 := 1#1
  let c1_i32_131_r0 : BitVec 32 := 1#32
  let v134_r0 : BitVec 32 := Scalar.addi v132_r0 c1_i32_131_r0
  let v135_r0 : BitVec 32 := Scalar.select true_132_r0 v134_r0 v132_r0
  let c128_i32_133_r0 : BitVec 32 := 128#32
  let v136_r0 : BitVec 1 := Scalar.cmpi .eq v135_r0 c128_i32_133_r0
  let c0_i32_134_r0 : BitVec 32 := 0#32
  let v137_r0 : BitVec 32 := Scalar.select v136_r0 c0_i32_134_r0 v135_r0
  let c0_i32_135_r0 : BitVec 32 := 0#32
  let v138_r0 : BitVec 32 := Scalar.addi v137_r0 c0_i32_135_r0
  let v144_r0 : BitVec 1 := Scalar.cmpi .ne v133_r0 v138_r0
  let c0_i32_81_r0 : BitVec 32 := 0#32
  let c1_i32_83_r0 : BitVec 32 := 1#32
  let arg12_r0 : BitVec 32 := Scf.iv c0_i32_81_r0 c1_i32_83_r0 k0_t1
  let c126_i32_r0 : BitVec 32 := 126#32
  let v145_r0 : BitVec 1 := Scalar.cmpi .sge arg12_r0 c126_i32_r0
  let true_141_r0 : BitVec 1 := 1#1
  let v146_r0 : BitVec 1 := Scalar.xori v145_r0 true_141_r0
  let v147_r0 : BitVec 1 := Scalar.andi v144_r0 v146_r0
  let true_142_r0 : BitVec 1 := 1#1
  let v148_r0 : BitVec 1 := Scalar.andi v147_r0 true_142_r0
  let v149_r0 : BitVec 32 := Scalar.extui v148_r0
  let c0_i32_143_r0 : BitVec 32 := 0#32
  let v150_r0 : BitVec 1 := Scalar.cmpi .ne v149_r0 c0_i32_143_r0
  v150_r0

def k0_off17 (arg13_r0 : BitVec 32) : Fin 3 → Nat :=
  let c3_i32_271_r0 : BitVec 32 := 3#32
  let v423_r0 : BitVec 32 := Scalar.remui arg13_r0 c3_i32_271_r0
  let c0_i32_273_r0 : BitVec 32 := 0#32
  let c0_i32_274_r0 : BitVec 32 := 0#32
  ![v423_r0.toNat, 0, 0]
def k0_off18 (arg25_r0 : BitVec 32) : Fin 2 → Nat :=
  let c256_i32_272_r0 : BitVec 32 := 256#32
  let true_132_r0 : BitVec 1 := 1#1
  let true_127_r0 : BitVec 1 := 1#1
  let c1_i32_126_r0 : BitVec 32 := 1#32
  let v129_r0 : BitVec 32 := Scalar.addi arg25_r0 c1_i32_126_r0
  let v130_r0 : BitVec 32 := Scalar.select true_127_r0 v129_r0 arg25_r0
  let c128_i32_128_r0 : BitVec 32 := 128#32
  let v131_r0 : BitVec 1 := Scalar.cmpi .eq v130_r0 c128_i32_128_r0
  let c0_i32_129_r0 : BitVec 32 := 0#32
  let v132_r0 : BitVec 32 := Scalar.select v131_r0 c0_i32_129_r0 v130_r0
  let c1_i32_131_r0 : BitVec 32 := 1#32
  let v134_r0 : BitVec 32 := Scalar.addi v132_r0 c1_i32_131_r0
  let v135_r0 : BitVec 32 := Scalar.select true_132_r0 v134_r0 v132_r0
  let c128_i32_133_r0 : BitVec 32 := 128#32
  let v136_r0 : BitVec 1 := Scalar.cmpi .eq v135_r0 c128_i32_133_r0
  let c0_i32_134_r0 : BitVec 32 := 0#32
  let v137_r0 : BitVec 32 := Scalar.select v136_r0 c0_i32_134_r0 v135_r0
  let c0_i32_135_r0 : BitVec 32 := 0#32
  let v138_r0 : BitVec 32 := Scalar.addi v137_r0 c0_i32_135_r0
  let v424_r0 : BitVec 32 := Scalar.muli c256_i32_272_r0 v138_r0
  let c0_i32_275_r0 : BitVec 32 := 0#32
  ![v424_r0.toNat, 0]
def k0_off19 (arg15_r0 : BitVec 32) : Fin 1 → Nat :=
  let c3_i32_271_r0 : BitVec 32 := 3#32
  let v423_r0 : BitVec 32 := Scalar.remui arg15_r0 c3_i32_271_r0
  ![v423_r0.toNat]
def k0_cond6 (k0_t1 : Fin k0_t1_loop.trips) (arg25_r0 : BitVec 32) : BitVec 1 :=
  let true_127_r0 : BitVec 1 := 1#1
  let c1_i32_126_r0 : BitVec 32 := 1#32
  let v129_r0 : BitVec 32 := Scalar.addi arg25_r0 c1_i32_126_r0
  let v130_r0 : BitVec 32 := Scalar.select true_127_r0 v129_r0 arg25_r0
  let c128_i32_128_r0 : BitVec 32 := 128#32
  let v131_r0 : BitVec 1 := Scalar.cmpi .eq v130_r0 c128_i32_128_r0
  let c0_i32_129_r0 : BitVec 32 := 0#32
  let v132_r0 : BitVec 32 := Scalar.select v131_r0 c0_i32_129_r0 v130_r0
  let c0_i32_130_r0 : BitVec 32 := 0#32
  let v133_r0 : BitVec 32 := Scalar.addi v132_r0 c0_i32_130_r0
  let true_132_r0 : BitVec 1 := 1#1
  let c1_i32_131_r0 : BitVec 32 := 1#32
  let v134_r0 : BitVec 32 := Scalar.addi v132_r0 c1_i32_131_r0
  let v135_r0 : BitVec 32 := Scalar.select true_132_r0 v134_r0 v132_r0
  let c128_i32_133_r0 : BitVec 32 := 128#32
  let v136_r0 : BitVec 1 := Scalar.cmpi .eq v135_r0 c128_i32_133_r0
  let c0_i32_134_r0 : BitVec 32 := 0#32
  let v137_r0 : BitVec 32 := Scalar.select v136_r0 c0_i32_134_r0 v135_r0
  let c0_i32_135_r0 : BitVec 32 := 0#32
  let v138_r0 : BitVec 32 := Scalar.addi v137_r0 c0_i32_135_r0
  let v154_r0 : BitVec 1 := Scalar.cmpi .ne v133_r0 v138_r0
  let c0_i32_81_r0 : BitVec 32 := 0#32
  let c1_i32_83_r0 : BitVec 32 := 1#32
  let arg12_r0 : BitVec 32 := Scf.iv c0_i32_81_r0 c1_i32_83_r0 k0_t1
  let c126_i32_146_r0 : BitVec 32 := 126#32
  let v155_r0 : BitVec 1 := Scalar.cmpi .sge arg12_r0 c126_i32_146_r0
  let true_147_r0 : BitVec 1 := 1#1
  let v156_r0 : BitVec 1 := Scalar.xori v155_r0 true_147_r0
  let v157_r0 : BitVec 1 := Scalar.andi v154_r0 v156_r0
  let true_148_r0 : BitVec 1 := 1#1
  let v158_r0 : BitVec 1 := Scalar.andi v157_r0 true_148_r0
  let v159_r0 : BitVec 32 := Scalar.extui v158_r0
  let c0_i32_149_r0 : BitVec 32 := 0#32
  let v160_r0 : BitVec 1 := Scalar.cmpi .ne v159_r0 c0_i32_149_r0
  v160_r0

def k0_off20 (arg15_r0 : BitVec 32) : Fin 3 → Nat :=
  let c3_i32_271_r0 : BitVec 32 := 3#32
  let v423_r0 : BitVec 32 := Scalar.remui arg15_r0 c3_i32_271_r0
  let c0_i32_273_r0 : BitVec 32 := 0#32
  let c0_i32_274_r0 : BitVec 32 := 0#32
  ![v423_r0.toNat, 0, 0]
def k0_off21 (arg25_r0 : BitVec 32) : Fin 2 → Nat :=
  let c256_i32_272_r0 : BitVec 32 := 256#32
  let true_132_r0 : BitVec 1 := 1#1
  let true_127_r0 : BitVec 1 := 1#1
  let c1_i32_126_r0 : BitVec 32 := 1#32
  let v129_r0 : BitVec 32 := Scalar.addi arg25_r0 c1_i32_126_r0
  let v130_r0 : BitVec 32 := Scalar.select true_127_r0 v129_r0 arg25_r0
  let c128_i32_128_r0 : BitVec 32 := 128#32
  let v131_r0 : BitVec 1 := Scalar.cmpi .eq v130_r0 c128_i32_128_r0
  let c0_i32_129_r0 : BitVec 32 := 0#32
  let v132_r0 : BitVec 32 := Scalar.select v131_r0 c0_i32_129_r0 v130_r0
  let c1_i32_131_r0 : BitVec 32 := 1#32
  let v134_r0 : BitVec 32 := Scalar.addi v132_r0 c1_i32_131_r0
  let v135_r0 : BitVec 32 := Scalar.select true_132_r0 v134_r0 v132_r0
  let c128_i32_133_r0 : BitVec 32 := 128#32
  let v136_r0 : BitVec 1 := Scalar.cmpi .eq v135_r0 c128_i32_133_r0
  let c0_i32_134_r0 : BitVec 32 := 0#32
  let v137_r0 : BitVec 32 := Scalar.select v136_r0 c0_i32_134_r0 v135_r0
  let c0_i32_135_r0 : BitVec 32 := 0#32
  let v138_r0 : BitVec 32 := Scalar.addi v137_r0 c0_i32_135_r0
  let v424_r0 : BitVec 32 := Scalar.muli c256_i32_272_r0 v138_r0
  let c0_i32_275_r0 : BitVec 32 := 0#32
  ![v424_r0.toNat, 0]
def k0_off22 (arg17_r0 : BitVec 32) : Fin 1 → Nat :=
  let c3_i32_271_r0 : BitVec 32 := 3#32
  let v423_r0 : BitVec 32 := Scalar.remui arg17_r0 c3_i32_271_r0
  ![v423_r0.toNat]
def k0_cond7 (k0_t1 : Fin k0_t1_loop.trips) (arg25_r0 : BitVec 32) : BitVec 1 :=
  let true_127_r0 : BitVec 1 := 1#1
  let c1_i32_126_r0 : BitVec 32 := 1#32
  let v129_r0 : BitVec 32 := Scalar.addi arg25_r0 c1_i32_126_r0
  let v130_r0 : BitVec 32 := Scalar.select true_127_r0 v129_r0 arg25_r0
  let c128_i32_128_r0 : BitVec 32 := 128#32
  let v131_r0 : BitVec 1 := Scalar.cmpi .eq v130_r0 c128_i32_128_r0
  let c0_i32_129_r0 : BitVec 32 := 0#32
  let v132_r0 : BitVec 32 := Scalar.select v131_r0 c0_i32_129_r0 v130_r0
  let c0_i32_130_r0 : BitVec 32 := 0#32
  let v133_r0 : BitVec 32 := Scalar.addi v132_r0 c0_i32_130_r0
  let true_132_r0 : BitVec 1 := 1#1
  let c1_i32_131_r0 : BitVec 32 := 1#32
  let v134_r0 : BitVec 32 := Scalar.addi v132_r0 c1_i32_131_r0
  let v135_r0 : BitVec 32 := Scalar.select true_132_r0 v134_r0 v132_r0
  let c128_i32_133_r0 : BitVec 32 := 128#32
  let v136_r0 : BitVec 1 := Scalar.cmpi .eq v135_r0 c128_i32_133_r0
  let c0_i32_134_r0 : BitVec 32 := 0#32
  let v137_r0 : BitVec 32 := Scalar.select v136_r0 c0_i32_134_r0 v135_r0
  let c0_i32_135_r0 : BitVec 32 := 0#32
  let v138_r0 : BitVec 32 := Scalar.addi v137_r0 c0_i32_135_r0
  let v164_r0 : BitVec 1 := Scalar.cmpi .ne v133_r0 v138_r0
  let c0_i32_81_r0 : BitVec 32 := 0#32
  let c1_i32_83_r0 : BitVec 32 := 1#32
  let arg12_r0 : BitVec 32 := Scf.iv c0_i32_81_r0 c1_i32_83_r0 k0_t1
  let c126_i32_152_r0 : BitVec 32 := 126#32
  let v165_r0 : BitVec 1 := Scalar.cmpi .sge arg12_r0 c126_i32_152_r0
  let true_153_r0 : BitVec 1 := 1#1
  let v166_r0 : BitVec 1 := Scalar.xori v165_r0 true_153_r0
  let v167_r0 : BitVec 1 := Scalar.andi v164_r0 v166_r0
  let true_154_r0 : BitVec 1 := 1#1
  let v168_r0 : BitVec 1 := Scalar.andi v167_r0 true_154_r0
  let v169_r0 : BitVec 32 := Scalar.extui v168_r0
  let c0_i32_155_r0 : BitVec 32 := 0#32
  let v170_r0 : BitVec 1 := Scalar.cmpi .ne v169_r0 c0_i32_155_r0
  v170_r0

def k0_off23 (arg17_r0 : BitVec 32) : Fin 3 → Nat :=
  let c3_i32_271_r0 : BitVec 32 := 3#32
  let v423_r0 : BitVec 32 := Scalar.remui arg17_r0 c3_i32_271_r0
  let c0_i32_273_r0 : BitVec 32 := 0#32
  let c0_i32_274_r0 : BitVec 32 := 0#32
  ![v423_r0.toNat, 0, 0]
def k0_off24 (arg25_r0 : BitVec 32) : Fin 2 → Nat :=
  let c256_i32_272_r0 : BitVec 32 := 256#32
  let true_132_r0 : BitVec 1 := 1#1
  let true_127_r0 : BitVec 1 := 1#1
  let c1_i32_126_r0 : BitVec 32 := 1#32
  let v129_r0 : BitVec 32 := Scalar.addi arg25_r0 c1_i32_126_r0
  let v130_r0 : BitVec 32 := Scalar.select true_127_r0 v129_r0 arg25_r0
  let c128_i32_128_r0 : BitVec 32 := 128#32
  let v131_r0 : BitVec 1 := Scalar.cmpi .eq v130_r0 c128_i32_128_r0
  let c0_i32_129_r0 : BitVec 32 := 0#32
  let v132_r0 : BitVec 32 := Scalar.select v131_r0 c0_i32_129_r0 v130_r0
  let c1_i32_131_r0 : BitVec 32 := 1#32
  let v134_r0 : BitVec 32 := Scalar.addi v132_r0 c1_i32_131_r0
  let v135_r0 : BitVec 32 := Scalar.select true_132_r0 v134_r0 v132_r0
  let c128_i32_133_r0 : BitVec 32 := 128#32
  let v136_r0 : BitVec 1 := Scalar.cmpi .eq v135_r0 c128_i32_133_r0
  let c0_i32_134_r0 : BitVec 32 := 0#32
  let v137_r0 : BitVec 32 := Scalar.select v136_r0 c0_i32_134_r0 v135_r0
  let c0_i32_135_r0 : BitVec 32 := 0#32
  let v138_r0 : BitVec 32 := Scalar.addi v137_r0 c0_i32_135_r0
  let v424_r0 : BitVec 32 := Scalar.muli c256_i32_272_r0 v138_r0
  let c0_i32_275_r0 : BitVec 32 := 0#32
  ![v424_r0.toNat, 0]
def k0_off25 (arg19_r0 : BitVec 32) : Fin 1 → Nat :=
  let c3_i32_271_r0 : BitVec 32 := 3#32
  let v423_r0 : BitVec 32 := Scalar.remui arg19_r0 c3_i32_271_r0
  ![v423_r0.toNat]
def k0_cond8 (k0_t1 : Fin k0_t1_loop.trips) (arg25_r0 : BitVec 32) : BitVec 1 :=
  let true_127_r0 : BitVec 1 := 1#1
  let c1_i32_126_r0 : BitVec 32 := 1#32
  let v129_r0 : BitVec 32 := Scalar.addi arg25_r0 c1_i32_126_r0
  let v130_r0 : BitVec 32 := Scalar.select true_127_r0 v129_r0 arg25_r0
  let c128_i32_128_r0 : BitVec 32 := 128#32
  let v131_r0 : BitVec 1 := Scalar.cmpi .eq v130_r0 c128_i32_128_r0
  let c0_i32_129_r0 : BitVec 32 := 0#32
  let v132_r0 : BitVec 32 := Scalar.select v131_r0 c0_i32_129_r0 v130_r0
  let c0_i32_130_r0 : BitVec 32 := 0#32
  let v133_r0 : BitVec 32 := Scalar.addi v132_r0 c0_i32_130_r0
  let true_132_r0 : BitVec 1 := 1#1
  let c1_i32_131_r0 : BitVec 32 := 1#32
  let v134_r0 : BitVec 32 := Scalar.addi v132_r0 c1_i32_131_r0
  let v135_r0 : BitVec 32 := Scalar.select true_132_r0 v134_r0 v132_r0
  let c128_i32_133_r0 : BitVec 32 := 128#32
  let v136_r0 : BitVec 1 := Scalar.cmpi .eq v135_r0 c128_i32_133_r0
  let c0_i32_134_r0 : BitVec 32 := 0#32
  let v137_r0 : BitVec 32 := Scalar.select v136_r0 c0_i32_134_r0 v135_r0
  let c0_i32_135_r0 : BitVec 32 := 0#32
  let v138_r0 : BitVec 32 := Scalar.addi v137_r0 c0_i32_135_r0
  let v174_r0 : BitVec 1 := Scalar.cmpi .ne v133_r0 v138_r0
  let c0_i32_81_r0 : BitVec 32 := 0#32
  let c1_i32_83_r0 : BitVec 32 := 1#32
  let arg12_r0 : BitVec 32 := Scf.iv c0_i32_81_r0 c1_i32_83_r0 k0_t1
  let c126_i32_158_r0 : BitVec 32 := 126#32
  let v175_r0 : BitVec 1 := Scalar.cmpi .sge arg12_r0 c126_i32_158_r0
  let true_159_r0 : BitVec 1 := 1#1
  let v176_r0 : BitVec 1 := Scalar.xori v175_r0 true_159_r0
  let v177_r0 : BitVec 1 := Scalar.andi v174_r0 v176_r0
  let true_160_r0 : BitVec 1 := 1#1
  let v178_r0 : BitVec 1 := Scalar.andi v177_r0 true_160_r0
  let v179_r0 : BitVec 32 := Scalar.extui v178_r0
  let c0_i32_161_r0 : BitVec 32 := 0#32
  let v180_r0 : BitVec 1 := Scalar.cmpi .ne v179_r0 c0_i32_161_r0
  v180_r0

def k0_off26 (arg19_r0 : BitVec 32) : Fin 3 → Nat :=
  let c3_i32_271_r0 : BitVec 32 := 3#32
  let v423_r0 : BitVec 32 := Scalar.remui arg19_r0 c3_i32_271_r0
  let c0_i32_273_r0 : BitVec 32 := 0#32
  let c0_i32_274_r0 : BitVec 32 := 0#32
  ![v423_r0.toNat, 0, 0]
def k0_off27 (arg25_r0 : BitVec 32) : Fin 2 → Nat :=
  let c256_i32_272_r0 : BitVec 32 := 256#32
  let true_132_r0 : BitVec 1 := 1#1
  let true_127_r0 : BitVec 1 := 1#1
  let c1_i32_126_r0 : BitVec 32 := 1#32
  let v129_r0 : BitVec 32 := Scalar.addi arg25_r0 c1_i32_126_r0
  let v130_r0 : BitVec 32 := Scalar.select true_127_r0 v129_r0 arg25_r0
  let c128_i32_128_r0 : BitVec 32 := 128#32
  let v131_r0 : BitVec 1 := Scalar.cmpi .eq v130_r0 c128_i32_128_r0
  let c0_i32_129_r0 : BitVec 32 := 0#32
  let v132_r0 : BitVec 32 := Scalar.select v131_r0 c0_i32_129_r0 v130_r0
  let c1_i32_131_r0 : BitVec 32 := 1#32
  let v134_r0 : BitVec 32 := Scalar.addi v132_r0 c1_i32_131_r0
  let v135_r0 : BitVec 32 := Scalar.select true_132_r0 v134_r0 v132_r0
  let c128_i32_133_r0 : BitVec 32 := 128#32
  let v136_r0 : BitVec 1 := Scalar.cmpi .eq v135_r0 c128_i32_133_r0
  let c0_i32_134_r0 : BitVec 32 := 0#32
  let v137_r0 : BitVec 32 := Scalar.select v136_r0 c0_i32_134_r0 v135_r0
  let c0_i32_135_r0 : BitVec 32 := 0#32
  let v138_r0 : BitVec 32 := Scalar.addi v137_r0 c0_i32_135_r0
  let v424_r0 : BitVec 32 := Scalar.muli c256_i32_272_r0 v138_r0
  let c0_i32_275_r0 : BitVec 32 := 0#32
  ![v424_r0.toNat, 0]
def k0_off28 (arg14_r0 : BitVec 32) : Fin 1 → Nat :=
  let c3_i32_272_r0 : BitVec 32 := 3#32
  let v424_r0 : BitVec 32 := Scalar.remui arg14_r0 c3_i32_272_r0
  ![v424_r0.toNat]
def k0_cond9 (k0_t1 : Fin k0_t1_loop.trips) (arg25_r0 : BitVec 32) : BitVec 1 :=
  let c0_i32_120_r0 : BitVec 32 := 0#32
  let v123_r0 : BitVec 32 := Scalar.addi arg25_r0 c0_i32_120_r0
  let true_122_r0 : BitVec 1 := 1#1
  let c1_i32_121_r0 : BitVec 32 := 1#32
  let v124_r0 : BitVec 32 := Scalar.subi arg25_r0 c1_i32_121_r0
  let v125_r0 : BitVec 32 := Scalar.select true_122_r0 v124_r0 arg25_r0
  let c_m1_i32_123_r0 : BitVec 32 := 4294967295#32
  let v126_r0 : BitVec 1 := Scalar.cmpi .eq v125_r0 c_m1_i32_123_r0
  let c127_i32_124_r0 : BitVec 32 := 127#32
  let v127_r0 : BitVec 32 := Scalar.select v126_r0 c127_i32_124_r0 v125_r0
  let c0_i32_125_r0 : BitVec 32 := 0#32
  let v128_r0 : BitVec 32 := Scalar.addi v127_r0 c0_i32_125_r0
  let v192_r0 : BitVec 1 := Scalar.cmpi .ne v123_r0 v128_r0
  let c0_i32_81_r0 : BitVec 32 := 0#32
  let c1_i32_83_r0 : BitVec 32 := 1#32
  let arg12_r0 : BitVec 32 := Scf.iv c0_i32_81_r0 c1_i32_83_r0 k0_t1
  let c0_i32_118_r0 : BitVec 32 := 0#32
  let v121_r0 : BitVec 1 := Scalar.cmpi .eq arg12_r0 c0_i32_118_r0
  let v193_r0 : BitVec 1 := Scalar.ori v192_r0 v121_r0
  let c0_i32_168_r0 : BitVec 32 := 0#32
  let v194_r0 : BitVec 1 := Scalar.cmpi .sge arg12_r0 c0_i32_168_r0
  let v195_r0 : BitVec 1 := Scalar.andi v193_r0 v194_r0
  let v196_r0 : BitVec 32 := Scalar.extui v195_r0
  let c0_i32_169_r0 : BitVec 32 := 0#32
  let v197_r0 : BitVec 1 := Scalar.cmpi .ne v196_r0 c0_i32_169_r0
  v197_r0

def k0_off29 (arg14_r0 : BitVec 32) : Fin 3 → Nat :=
  let c3_i32_272_r0 : BitVec 32 := 3#32
  let v424_r0 : BitVec 32 := Scalar.remui arg14_r0 c3_i32_272_r0
  let c0_i32_273_r0 : BitVec 32 := 0#32
  let c0_i32_274_r0 : BitVec 32 := 0#32
  ![v424_r0.toNat, 0, 0]
def k0_off30 (arg25_r0 : BitVec 32) : Fin 2 → Nat :=
  let c256_i32_271_r0 : BitVec 32 := 256#32
  let c0_i32_120_r0 : BitVec 32 := 0#32
  let v123_r0 : BitVec 32 := Scalar.addi arg25_r0 c0_i32_120_r0
  let v423_r0 : BitVec 32 := Scalar.muli c256_i32_271_r0 v123_r0
  let c0_i32_275_r0 : BitVec 32 := 0#32
  ![v423_r0.toNat, 0]
def k0_off31 (arg16_r0 : BitVec 32) : Fin 1 → Nat :=
  let c3_i32_272_r0 : BitVec 32 := 3#32
  let v424_r0 : BitVec 32 := Scalar.remui arg16_r0 c3_i32_272_r0
  ![v424_r0.toNat]
def k0_cond10 (k0_t1 : Fin k0_t1_loop.trips) (arg25_r0 : BitVec 32) : BitVec 1 :=
  let c0_i32_120_r0 : BitVec 32 := 0#32
  let v123_r0 : BitVec 32 := Scalar.addi arg25_r0 c0_i32_120_r0
  let true_122_r0 : BitVec 1 := 1#1
  let c1_i32_121_r0 : BitVec 32 := 1#32
  let v124_r0 : BitVec 32 := Scalar.subi arg25_r0 c1_i32_121_r0
  let v125_r0 : BitVec 32 := Scalar.select true_122_r0 v124_r0 arg25_r0
  let c_m1_i32_123_r0 : BitVec 32 := 4294967295#32
  let v126_r0 : BitVec 1 := Scalar.cmpi .eq v125_r0 c_m1_i32_123_r0
  let c127_i32_124_r0 : BitVec 32 := 127#32
  let v127_r0 : BitVec 32 := Scalar.select v126_r0 c127_i32_124_r0 v125_r0
  let c0_i32_125_r0 : BitVec 32 := 0#32
  let v128_r0 : BitVec 32 := Scalar.addi v127_r0 c0_i32_125_r0
  let v198_r0 : BitVec 1 := Scalar.cmpi .ne v123_r0 v128_r0
  let c0_i32_81_r0 : BitVec 32 := 0#32
  let c1_i32_83_r0 : BitVec 32 := 1#32
  let arg12_r0 : BitVec 32 := Scf.iv c0_i32_81_r0 c1_i32_83_r0 k0_t1
  let c0_i32_118_r0 : BitVec 32 := 0#32
  let v121_r0 : BitVec 1 := Scalar.cmpi .eq arg12_r0 c0_i32_118_r0
  let v199_r0 : BitVec 1 := Scalar.ori v198_r0 v121_r0
  let c0_i32_170_r0 : BitVec 32 := 0#32
  let v200_r0 : BitVec 1 := Scalar.cmpi .sge arg12_r0 c0_i32_170_r0
  let v201_r0 : BitVec 1 := Scalar.andi v199_r0 v200_r0
  let v202_r0 : BitVec 32 := Scalar.extui v201_r0
  let c0_i32_171_r0 : BitVec 32 := 0#32
  let v203_r0 : BitVec 1 := Scalar.cmpi .ne v202_r0 c0_i32_171_r0
  v203_r0

def k0_off32 (arg16_r0 : BitVec 32) : Fin 3 → Nat :=
  let c3_i32_272_r0 : BitVec 32 := 3#32
  let v424_r0 : BitVec 32 := Scalar.remui arg16_r0 c3_i32_272_r0
  let c0_i32_273_r0 : BitVec 32 := 0#32
  let c0_i32_274_r0 : BitVec 32 := 0#32
  ![v424_r0.toNat, 0, 0]
def k0_off33 (arg25_r0 : BitVec 32) : Fin 2 → Nat :=
  let c256_i32_271_r0 : BitVec 32 := 256#32
  let c0_i32_120_r0 : BitVec 32 := 0#32
  let v123_r0 : BitVec 32 := Scalar.addi arg25_r0 c0_i32_120_r0
  let v423_r0 : BitVec 32 := Scalar.muli c256_i32_271_r0 v123_r0
  let c0_i32_275_r0 : BitVec 32 := 0#32
  ![v423_r0.toNat, 0]
def k0_off34 (arg18_r0 : BitVec 32) : Fin 1 → Nat :=
  let c3_i32_272_r0 : BitVec 32 := 3#32
  let v424_r0 : BitVec 32 := Scalar.remui arg18_r0 c3_i32_272_r0
  ![v424_r0.toNat]
def k0_cond11 (k0_t1 : Fin k0_t1_loop.trips) (arg25_r0 : BitVec 32) : BitVec 1 :=
  let c0_i32_120_r0 : BitVec 32 := 0#32
  let v123_r0 : BitVec 32 := Scalar.addi arg25_r0 c0_i32_120_r0
  let true_122_r0 : BitVec 1 := 1#1
  let c1_i32_121_r0 : BitVec 32 := 1#32
  let v124_r0 : BitVec 32 := Scalar.subi arg25_r0 c1_i32_121_r0
  let v125_r0 : BitVec 32 := Scalar.select true_122_r0 v124_r0 arg25_r0
  let c_m1_i32_123_r0 : BitVec 32 := 4294967295#32
  let v126_r0 : BitVec 1 := Scalar.cmpi .eq v125_r0 c_m1_i32_123_r0
  let c127_i32_124_r0 : BitVec 32 := 127#32
  let v127_r0 : BitVec 32 := Scalar.select v126_r0 c127_i32_124_r0 v125_r0
  let c0_i32_125_r0 : BitVec 32 := 0#32
  let v128_r0 : BitVec 32 := Scalar.addi v127_r0 c0_i32_125_r0
  let v204_r0 : BitVec 1 := Scalar.cmpi .ne v123_r0 v128_r0
  let c0_i32_81_r0 : BitVec 32 := 0#32
  let c1_i32_83_r0 : BitVec 32 := 1#32
  let arg12_r0 : BitVec 32 := Scf.iv c0_i32_81_r0 c1_i32_83_r0 k0_t1
  let c0_i32_118_r0 : BitVec 32 := 0#32
  let v121_r0 : BitVec 1 := Scalar.cmpi .eq arg12_r0 c0_i32_118_r0
  let v205_r0 : BitVec 1 := Scalar.ori v204_r0 v121_r0
  let c0_i32_172_r0 : BitVec 32 := 0#32
  let v206_r0 : BitVec 1 := Scalar.cmpi .sge arg12_r0 c0_i32_172_r0
  let v207_r0 : BitVec 1 := Scalar.andi v205_r0 v206_r0
  let v208_r0 : BitVec 32 := Scalar.extui v207_r0
  let c0_i32_173_r0 : BitVec 32 := 0#32
  let v209_r0 : BitVec 1 := Scalar.cmpi .ne v208_r0 c0_i32_173_r0
  v209_r0

def k0_off35 (arg18_r0 : BitVec 32) : Fin 3 → Nat :=
  let c3_i32_272_r0 : BitVec 32 := 3#32
  let v424_r0 : BitVec 32 := Scalar.remui arg18_r0 c3_i32_272_r0
  let c0_i32_273_r0 : BitVec 32 := 0#32
  let c0_i32_274_r0 : BitVec 32 := 0#32
  ![v424_r0.toNat, 0, 0]
def k0_off36 (arg25_r0 : BitVec 32) : Fin 2 → Nat :=
  let c256_i32_271_r0 : BitVec 32 := 256#32
  let c0_i32_120_r0 : BitVec 32 := 0#32
  let v123_r0 : BitVec 32 := Scalar.addi arg25_r0 c0_i32_120_r0
  let v423_r0 : BitVec 32 := Scalar.muli c256_i32_271_r0 v123_r0
  let c0_i32_275_r0 : BitVec 32 := 0#32
  ![v423_r0.toNat, 0]
def k0_off37 (arg20_r0 : BitVec 32) : Fin 1 → Nat :=
  let c3_i32_272_r0 : BitVec 32 := 3#32
  let v424_r0 : BitVec 32 := Scalar.remui arg20_r0 c3_i32_272_r0
  ![v424_r0.toNat]
def k0_cond12 (k0_t1 : Fin k0_t1_loop.trips) (arg25_r0 : BitVec 32) : BitVec 1 :=
  let c0_i32_120_r0 : BitVec 32 := 0#32
  let v123_r0 : BitVec 32 := Scalar.addi arg25_r0 c0_i32_120_r0
  let true_122_r0 : BitVec 1 := 1#1
  let c1_i32_121_r0 : BitVec 32 := 1#32
  let v124_r0 : BitVec 32 := Scalar.subi arg25_r0 c1_i32_121_r0
  let v125_r0 : BitVec 32 := Scalar.select true_122_r0 v124_r0 arg25_r0
  let c_m1_i32_123_r0 : BitVec 32 := 4294967295#32
  let v126_r0 : BitVec 1 := Scalar.cmpi .eq v125_r0 c_m1_i32_123_r0
  let c127_i32_124_r0 : BitVec 32 := 127#32
  let v127_r0 : BitVec 32 := Scalar.select v126_r0 c127_i32_124_r0 v125_r0
  let c0_i32_125_r0 : BitVec 32 := 0#32
  let v128_r0 : BitVec 32 := Scalar.addi v127_r0 c0_i32_125_r0
  let v210_r0 : BitVec 1 := Scalar.cmpi .ne v123_r0 v128_r0
  let c0_i32_81_r0 : BitVec 32 := 0#32
  let c1_i32_83_r0 : BitVec 32 := 1#32
  let arg12_r0 : BitVec 32 := Scf.iv c0_i32_81_r0 c1_i32_83_r0 k0_t1
  let c0_i32_118_r0 : BitVec 32 := 0#32
  let v121_r0 : BitVec 1 := Scalar.cmpi .eq arg12_r0 c0_i32_118_r0
  let v211_r0 : BitVec 1 := Scalar.ori v210_r0 v121_r0
  let c0_i32_174_r0 : BitVec 32 := 0#32
  let v212_r0 : BitVec 1 := Scalar.cmpi .sge arg12_r0 c0_i32_174_r0
  let v213_r0 : BitVec 1 := Scalar.andi v211_r0 v212_r0
  let v214_r0 : BitVec 32 := Scalar.extui v213_r0
  let c0_i32_175_r0 : BitVec 32 := 0#32
  let v215_r0 : BitVec 1 := Scalar.cmpi .ne v214_r0 c0_i32_175_r0
  v215_r0

def k0_off38 (arg20_r0 : BitVec 32) : Fin 3 → Nat :=
  let c3_i32_272_r0 : BitVec 32 := 3#32
  let v424_r0 : BitVec 32 := Scalar.remui arg20_r0 c3_i32_272_r0
  let c0_i32_273_r0 : BitVec 32 := 0#32
  let c0_i32_274_r0 : BitVec 32 := 0#32
  ![v424_r0.toNat, 0, 0]
def k0_off39 (arg25_r0 : BitVec 32) : Fin 2 → Nat :=
  let c256_i32_271_r0 : BitVec 32 := 256#32
  let c0_i32_120_r0 : BitVec 32 := 0#32
  let v123_r0 : BitVec 32 := Scalar.addi arg25_r0 c0_i32_120_r0
  let v423_r0 : BitVec 32 := Scalar.muli c256_i32_271_r0 v123_r0
  let c0_i32_275_r0 : BitVec 32 := 0#32
  ![v423_r0.toNat, 0]
def k0_off40 (arg14_r0 : BitVec 32) : Fin 3 → Nat :=
  let c3_i32_180_r0 : BitVec 32 := 3#32
  let v228_r0 : BitVec 32 := Scalar.remui arg14_r0 c3_i32_180_r0
  let v234_r0 : Index := Scalar.indexCast v228_r0
  let c0_r0 : Index := 0#32
  let c0_186_r0 : Index := 0#32
  ![v234_r0.toNat, 0, 0]

def k0_chk2 (arg14_r0 : BitVec 32) : Prop :=
  (∀ a, (k0_off40 arg14_r0) a + S1x256x1024.size a ≤ S3x256x1024.size a)
theorem k0_off40_inb : ∀ (arg14_r0 : BitVec 32) (k0_hw2 : k0_chk2 arg14_r0), ∀ a, (k0_off40 arg14_r0) a + S1x256x1024.size a ≤ S3x256x1024.size a := fun arg14_r0 k0_hw2 => k0_hw2

def k0_off41 (arg16_r0 : BitVec 32) : Fin 3 → Nat :=
  let c3_i32_181_r0 : BitVec 32 := 3#32
  let v229_r0 : BitVec 32 := Scalar.remui arg16_r0 c3_i32_181_r0
  let v237_r0 : Index := Scalar.indexCast v229_r0
  let c0_187_r0 : Index := 0#32
  let c0_188_r0 : Index := 0#32
  ![v237_r0.toNat, 0, 0]

def k0_chk3 (arg16_r0 : BitVec 32) : Prop :=
  (∀ a, (k0_off41 arg16_r0) a + S1x256x512.size a ≤ S3x256x512.size a)
theorem k0_off41_inb : ∀ (arg16_r0 : BitVec 32) (k0_hw3 : k0_chk3 arg16_r0), ∀ a, (k0_off41 arg16_r0) a + S1x256x512.size a ≤ S3x256x512.size a := fun arg16_r0 k0_hw3 => k0_hw3

def k0_off42 (arg18_r0 : BitVec 32) : Fin 3 → Nat :=
  let c3_i32_182_r0 : BitVec 32 := 3#32
  let v230_r0 : BitVec 32 := Scalar.remui arg18_r0 c3_i32_182_r0
  let v243_r0 : Index := Scalar.indexCast v230_r0
  let c0_192_r0 : Index := 0#32
  let c0_193_r0 : Index := 0#32
  ![v243_r0.toNat, 0, 0]

def k0_chk4 (arg18_r0 : BitVec 32) : Prop :=
  (∀ a, (k0_off42 arg18_r0) a + S1x256x512.size a ≤ S3x256x512.size a)
theorem k0_off42_inb : ∀ (arg18_r0 : BitVec 32) (k0_hw4 : k0_chk4 arg18_r0), ∀ a, (k0_off42 arg18_r0) a + S1x256x512.size a ≤ S3x256x512.size a := fun arg18_r0 k0_hw4 => k0_hw4

def k0_off43 (arg20_r0 : BitVec 32) : Fin 3 → Nat :=
  let c3_i32_183_r0 : BitVec 32 := 3#32
  let v231_r0 : BitVec 32 := Scalar.remui arg20_r0 c3_i32_183_r0
  let v249_r0 : Index := Scalar.indexCast v231_r0
  let c0_197_r0 : Index := 0#32
  let c0_198_r0 : Index := 0#32
  ![v249_r0.toNat, 0, 0]

def k0_chk5 (arg20_r0 : BitVec 32) : Prop :=
  (∀ a, (k0_off43 arg20_r0) a + S1x256x512.size a ≤ S3x256x512.size a)
theorem k0_off43_inb : ∀ (arg20_r0 : BitVec 32) (k0_hw5 : k0_chk5 arg20_r0), ∀ a, (k0_off43 arg20_r0) a + S1x256x512.size a ≤ S3x256x512.size a := fun arg20_r0 k0_hw5 => k0_hw5

def k0_off44 (arg21_r0 : BitVec 32) : Fin 3 → Nat :=
  let c2_i32_184_r0 : BitVec 32 := 2#32
  let v232_r0 : BitVec 32 := Scalar.remui arg21_r0 c2_i32_184_r0
  let v306_r0 : Index := Scalar.indexCast v232_r0
  let c0_221_r0 : Index := 0#32
  let c0_222_r0 : Index := 0#32
  ![v306_r0.toNat, 0, 0]

def k0_chk6 (arg21_r0 : BitVec 32) : Prop :=
  (∀ a, (k0_off44 arg21_r0) a + S1x256x1024.size a ≤ S2x256x1024.size a)
theorem k0_off44_inb : ∀ (arg21_r0 : BitVec 32) (k0_hw6 : k0_chk6 arg21_r0), ∀ a, (k0_off44 arg21_r0) a + S1x256x1024.size a ≤ S2x256x1024.size a := fun arg21_r0 k0_hw6 => k0_hw6

def k0_off45 (arg23_r0 : BitVec 32) : Fin 3 → Nat :=
  let c2_i32_185_r0 : BitVec 32 := 2#32
  let v233_r0 : BitVec 32 := Scalar.remui arg23_r0 c2_i32_185_r0
  let v325_r0 : Index := Scalar.indexCast v233_r0
  let c0_228_r0 : Index := 0#32
  let c0_229_r0 : Index := 0#32
  ![v325_r0.toNat, 0, 0]

def k0_chk7 (arg23_r0 : BitVec 32) : Prop :=
  (∀ a, (k0_off45 arg23_r0) a + S1x256x1024.size a ≤ S2x256x1024.size a) ∧
  (∀ (hinb : ∀ a, (k0_off45 arg23_r0) a + S1x256x1024.size a ≤ S2x256x1024.size a), (Rect.unit (s := S2x256x1024) (k0_off45 arg23_r0) S1x256x1024.size hinb).PackedRows (EltTy.packing .bf16))
theorem k0_off45_inb : ∀ (arg23_r0 : BitVec 32) (k0_hw7 : k0_chk7 arg23_r0), ∀ a, (k0_off45 arg23_r0) a + S1x256x1024.size a ≤ S2x256x1024.size a := fun arg23_r0 k0_hw7 => k0_hw7.1
theorem k0_off45_packedbf16 : ∀ (arg23_r0 : BitVec 32) (k0_hw7 : k0_chk7 arg23_r0), (Rect.unit (s := S2x256x1024) (k0_off45 arg23_r0) S1x256x1024.size (k0_off45_inb arg23_r0 k0_hw7)).PackedRows (EltTy.packing .bf16) := fun arg23_r0 k0_hw7 => k0_hw7.2 (k0_off45_inb arg23_r0 k0_hw7)

def k0_off46 (arg21_r0 : BitVec 32) : Fin 1 → Nat :=
  let c2_i32_271_r0 : BitVec 32 := 2#32
  let v423_r0 : BitVec 32 := Scalar.remui arg21_r0 c2_i32_271_r0
  ![v423_r0.toNat]
def k0_cond19 (k0_t1 : Fin k0_t1_loop.trips) (arg25_r0 : BitVec 32) : BitVec 1 :=
  let c0_i32_120_r0 : BitVec 32 := 0#32
  let v123_r0 : BitVec 32 := Scalar.addi arg25_r0 c0_i32_120_r0
  let true_127_r0 : BitVec 1 := 1#1
  let c1_i32_126_r0 : BitVec 32 := 1#32
  let v129_r0 : BitVec 32 := Scalar.addi arg25_r0 c1_i32_126_r0
  let v130_r0 : BitVec 32 := Scalar.select true_127_r0 v129_r0 arg25_r0
  let c128_i32_128_r0 : BitVec 32 := 128#32
  let v131_r0 : BitVec 1 := Scalar.cmpi .eq v130_r0 c128_i32_128_r0
  let c0_i32_129_r0 : BitVec 32 := 0#32
  let v132_r0 : BitVec 32 := Scalar.select v131_r0 c0_i32_129_r0 v130_r0
  let c0_i32_130_r0 : BitVec 32 := 0#32
  let v133_r0 : BitVec 32 := Scalar.addi v132_r0 c0_i32_130_r0
  let v349_r0 : BitVec 1 := Scalar.cmpi .ne v123_r0 v133_r0
  let c0_i32_81_r0 : BitVec 32 := 0#32
  let c1_i32_83_r0 : BitVec 32 := 1#32
  let arg12_r0 : BitVec 32 := Scf.iv c0_i32_81_r0 c1_i32_83_r0 k0_t1
  let c127_i32_119_r0 : BitVec 32 := 127#32
  let v122_r0 : BitVec 1 := Scalar.cmpi .eq arg12_r0 c127_i32_119_r0
  let v350_r0 : BitVec 1 := Scalar.ori v349_r0 v122_r0
  let v351_r0 : BitVec 32 := Scalar.extui v350_r0
  let c0_i32_237_r0 : BitVec 32 := 0#32
  let v352_r0 : BitVec 1 := Scalar.cmpi .ne v351_r0 c0_i32_237_r0
  v352_r0

def k0_off47 (arg25_r0 : BitVec 32) : Fin 2 → Nat :=
  let c256_i32_272_r0 : BitVec 32 := 256#32
  let c0_i32_120_r0 : BitVec 32 := 0#32
  let v123_r0 : BitVec 32 := Scalar.addi arg25_r0 c0_i32_120_r0
  let v424_r0 : BitVec 32 := Scalar.muli c256_i32_272_r0 v123_r0
  let c0_i32_273_r0 : BitVec 32 := 0#32
  ![v424_r0.toNat, 0]
def k0_off48 (arg21_r0 : BitVec 32) : Fin 3 → Nat :=
  let c2_i32_271_r0 : BitVec 32 := 2#32
  let v423_r0 : BitVec 32 := Scalar.remui arg21_r0 c2_i32_271_r0
  let c0_i32_274_r0 : BitVec 32 := 0#32
  let c0_i32_275_r0 : BitVec 32 := 0#32
  ![v423_r0.toNat, 0, 0]
def k0_off49 (arg23_r0 : BitVec 32) : Fin 1 → Nat :=
  let c2_i32_271_r0 : BitVec 32 := 2#32
  let v423_r0 : BitVec 32 := Scalar.remui arg23_r0 c2_i32_271_r0
  ![v423_r0.toNat]
def k0_cond20 (k0_t1 : Fin k0_t1_loop.trips) (arg25_r0 : BitVec 32) : BitVec 1 :=
  let c0_i32_120_r0 : BitVec 32 := 0#32
  let v123_r0 : BitVec 32 := Scalar.addi arg25_r0 c0_i32_120_r0
  let true_127_r0 : BitVec 1 := 1#1
  let c1_i32_126_r0 : BitVec 32 := 1#32
  let v129_r0 : BitVec 32 := Scalar.addi arg25_r0 c1_i32_126_r0
  let v130_r0 : BitVec 32 := Scalar.select true_127_r0 v129_r0 arg25_r0
  let c128_i32_128_r0 : BitVec 32 := 128#32
  let v131_r0 : BitVec 1 := Scalar.cmpi .eq v130_r0 c128_i32_128_r0
  let c0_i32_129_r0 : BitVec 32 := 0#32
  let v132_r0 : BitVec 32 := Scalar.select v131_r0 c0_i32_129_r0 v130_r0
  let c0_i32_130_r0 : BitVec 32 := 0#32
  let v133_r0 : BitVec 32 := Scalar.addi v132_r0 c0_i32_130_r0
  let v356_r0 : BitVec 1 := Scalar.cmpi .ne v123_r0 v133_r0
  let c0_i32_81_r0 : BitVec 32 := 0#32
  let c1_i32_83_r0 : BitVec 32 := 1#32
  let arg12_r0 : BitVec 32 := Scf.iv c0_i32_81_r0 c1_i32_83_r0 k0_t1
  let c127_i32_119_r0 : BitVec 32 := 127#32
  let v122_r0 : BitVec 1 := Scalar.cmpi .eq arg12_r0 c127_i32_119_r0
  let v357_r0 : BitVec 1 := Scalar.ori v356_r0 v122_r0
  let v358_r0 : BitVec 32 := Scalar.extui v357_r0
  let c0_i32_240_r0 : BitVec 32 := 0#32
  let v359_r0 : BitVec 1 := Scalar.cmpi .ne v358_r0 c0_i32_240_r0
  v359_r0

def k0_off50 (arg25_r0 : BitVec 32) : Fin 2 → Nat :=
  let c256_i32_272_r0 : BitVec 32 := 256#32
  let c0_i32_120_r0 : BitVec 32 := 0#32
  let v123_r0 : BitVec 32 := Scalar.addi arg25_r0 c0_i32_120_r0
  let v424_r0 : BitVec 32 := Scalar.muli c256_i32_272_r0 v123_r0
  let c0_i32_273_r0 : BitVec 32 := 0#32
  ![v424_r0.toNat, 0]
def k0_off51 (arg23_r0 : BitVec 32) : Fin 3 → Nat :=
  let c2_i32_271_r0 : BitVec 32 := 2#32
  let v423_r0 : BitVec 32 := Scalar.remui arg23_r0 c2_i32_271_r0
  let c0_i32_274_r0 : BitVec 32 := 0#32
  let c0_i32_275_r0 : BitVec 32 := 0#32
  ![v423_r0.toNat, 0, 0]
def k0_off52 (arg22_r0 : BitVec 32) : Fin 1 → Nat :=
  let c2_i32_271_r0 : BitVec 32 := 2#32
  let v423_r0 : BitVec 32 := Scalar.remui arg22_r0 c2_i32_271_r0
  ![v423_r0.toNat]
def k0_cond25 (k0_t1 : Fin k0_t1_loop.trips) (arg25_r0 : BitVec 32) : BitVec 1 :=
  let c0_i32_120_r0 : BitVec 32 := 0#32
  let v123_r0 : BitVec 32 := Scalar.addi arg25_r0 c0_i32_120_r0
  let true_122_r0 : BitVec 1 := 1#1
  let c1_i32_121_r0 : BitVec 32 := 1#32
  let v124_r0 : BitVec 32 := Scalar.subi arg25_r0 c1_i32_121_r0
  let v125_r0 : BitVec 32 := Scalar.select true_122_r0 v124_r0 arg25_r0
  let c_m1_i32_123_r0 : BitVec 32 := 4294967295#32
  let v126_r0 : BitVec 1 := Scalar.cmpi .eq v125_r0 c_m1_i32_123_r0
  let c127_i32_124_r0 : BitVec 32 := 127#32
  let v127_r0 : BitVec 32 := Scalar.select v126_r0 c127_i32_124_r0 v125_r0
  let c0_i32_125_r0 : BitVec 32 := 0#32
  let v128_r0 : BitVec 32 := Scalar.addi v127_r0 c0_i32_125_r0
  let v387_r0 : BitVec 1 := Scalar.cmpi .ne v123_r0 v128_r0
  let c0_i32_81_r0 : BitVec 32 := 0#32
  let c1_i32_83_r0 : BitVec 32 := 1#32
  let arg12_r0 : BitVec 32 := Scf.iv c0_i32_81_r0 c1_i32_83_r0 k0_t1
  let c0_i32_118_r0 : BitVec 32 := 0#32
  let v121_r0 : BitVec 1 := Scalar.cmpi .eq arg12_r0 c0_i32_118_r0
  let true_255_r0 : BitVec 1 := 1#1
  let v388_r0 : BitVec 1 := Scalar.xori v121_r0 true_255_r0
  let v389_r0 : BitVec 1 := Scalar.andi v387_r0 v388_r0
  let v390_r0 : BitVec 32 := Scalar.extui v389_r0
  let c0_i32_256_r0 : BitVec 32 := 0#32
  let v391_r0 : BitVec 1 := Scalar.cmpi .ne v390_r0 c0_i32_256_r0
  v391_r0

def k0_off53 (arg25_r0 : BitVec 32) : Fin 2 → Nat :=
  let c256_i32_272_r0 : BitVec 32 := 256#32
  let true_122_r0 : BitVec 1 := 1#1
  let c1_i32_121_r0 : BitVec 32 := 1#32
  let v124_r0 : BitVec 32 := Scalar.subi arg25_r0 c1_i32_121_r0
  let v125_r0 : BitVec 32 := Scalar.select true_122_r0 v124_r0 arg25_r0
  let c_m1_i32_123_r0 : BitVec 32 := 4294967295#32
  let v126_r0 : BitVec 1 := Scalar.cmpi .eq v125_r0 c_m1_i32_123_r0
  let c127_i32_124_r0 : BitVec 32 := 127#32
  let v127_r0 : BitVec 32 := Scalar.select v126_r0 c127_i32_124_r0 v125_r0
  let c0_i32_125_r0 : BitVec 32 := 0#32
  let v128_r0 : BitVec 32 := Scalar.addi v127_r0 c0_i32_125_r0
  let v424_r0 : BitVec 32 := Scalar.muli c256_i32_272_r0 v128_r0
  let c0_i32_273_r0 : BitVec 32 := 0#32
  ![v424_r0.toNat, 0]
def k0_off54 (arg22_r0 : BitVec 32) : Fin 3 → Nat :=
  let c2_i32_271_r0 : BitVec 32 := 2#32
  let v423_r0 : BitVec 32 := Scalar.remui arg22_r0 c2_i32_271_r0
  let c0_i32_274_r0 : BitVec 32 := 0#32
  let c0_i32_275_r0 : BitVec 32 := 0#32
  ![v423_r0.toNat, 0, 0]
def k0_off55 (arg24_r0 : BitVec 32) : Fin 1 → Nat :=
  let c2_i32_271_r0 : BitVec 32 := 2#32
  let v423_r0 : BitVec 32 := Scalar.remui arg24_r0 c2_i32_271_r0
  ![v423_r0.toNat]
def k0_cond26 (k0_t1 : Fin k0_t1_loop.trips) (arg25_r0 : BitVec 32) : BitVec 1 :=
  let c0_i32_120_r0 : BitVec 32 := 0#32
  let v123_r0 : BitVec 32 := Scalar.addi arg25_r0 c0_i32_120_r0
  let true_122_r0 : BitVec 1 := 1#1
  let c1_i32_121_r0 : BitVec 32 := 1#32
  let v124_r0 : BitVec 32 := Scalar.subi arg25_r0 c1_i32_121_r0
  let v125_r0 : BitVec 32 := Scalar.select true_122_r0 v124_r0 arg25_r0
  let c_m1_i32_123_r0 : BitVec 32 := 4294967295#32
  let v126_r0 : BitVec 1 := Scalar.cmpi .eq v125_r0 c_m1_i32_123_r0
  let c127_i32_124_r0 : BitVec 32 := 127#32
  let v127_r0 : BitVec 32 := Scalar.select v126_r0 c127_i32_124_r0 v125_r0
  let c0_i32_125_r0 : BitVec 32 := 0#32
  let v128_r0 : BitVec 32 := Scalar.addi v127_r0 c0_i32_125_r0
  let v395_r0 : BitVec 1 := Scalar.cmpi .ne v123_r0 v128_r0
  let c0_i32_81_r0 : BitVec 32 := 0#32
  let c1_i32_83_r0 : BitVec 32 := 1#32
  let arg12_r0 : BitVec 32 := Scf.iv c0_i32_81_r0 c1_i32_83_r0 k0_t1
  let c0_i32_118_r0 : BitVec 32 := 0#32
  let v121_r0 : BitVec 1 := Scalar.cmpi .eq arg12_r0 c0_i32_118_r0
  let true_259_r0 : BitVec 1 := 1#1
  let v396_r0 : BitVec 1 := Scalar.xori v121_r0 true_259_r0
  let v397_r0 : BitVec 1 := Scalar.andi v395_r0 v396_r0
  let v398_r0 : BitVec 32 := Scalar.extui v397_r0
  let c0_i32_260_r0 : BitVec 32 := 0#32
  let v399_r0 : BitVec 1 := Scalar.cmpi .ne v398_r0 c0_i32_260_r0
  v399_r0

def k0_off56 (arg25_r0 : BitVec 32) : Fin 2 → Nat :=
  let c256_i32_272_r0 : BitVec 32 := 256#32
  let true_122_r0 : BitVec 1 := 1#1
  let c1_i32_121_r0 : BitVec 32 := 1#32
  let v124_r0 : BitVec 32 := Scalar.subi arg25_r0 c1_i32_121_r0
  let v125_r0 : BitVec 32 := Scalar.select true_122_r0 v124_r0 arg25_r0
  let c_m1_i32_123_r0 : BitVec 32 := 4294967295#32
  let v126_r0 : BitVec 1 := Scalar.cmpi .eq v125_r0 c_m1_i32_123_r0
  let c127_i32_124_r0 : BitVec 32 := 127#32
  let v127_r0 : BitVec 32 := Scalar.select v126_r0 c127_i32_124_r0 v125_r0
  let c0_i32_125_r0 : BitVec 32 := 0#32
  let v128_r0 : BitVec 32 := Scalar.addi v127_r0 c0_i32_125_r0
  let v424_r0 : BitVec 32 := Scalar.muli c256_i32_272_r0 v128_r0
  let c0_i32_273_r0 : BitVec 32 := 0#32
  ![v424_r0.toNat, 0]
def k0_off57 (arg24_r0 : BitVec 32) : Fin 3 → Nat :=
  let c2_i32_271_r0 : BitVec 32 := 2#32
  let v423_r0 : BitVec 32 := Scalar.remui arg24_r0 c2_i32_271_r0
  let c0_i32_274_r0 : BitVec 32 := 0#32
  let c0_i32_275_r0 : BitVec 32 := 0#32
  ![v423_r0.toNat, 0, 0]

def k0_chk1_0 (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) : Prop :=
  (∀ (k0_h5 : k0_cond5 k0_t1 arg25_r0 = 1#1), ∀ a, (k0_off16 arg13_r0) a + S1.size a ≤ S3.size a) ∧
  (∀ (k0_h5 : k0_cond5 k0_t1 arg25_r0 = 1#1), ∀ a, (k0_off17 arg13_r0) a + S1x256x1024.size a ≤ S3x256x1024.size a) ∧
  (∀ (k0_h5 : k0_cond5 k0_t1 arg25_r0 = 1#1), ∀ a, (k0_off18 arg25_r0) a + S256x1024.size a ≤ S32768x1024.size a) ∧
  (∀ (k0_h6 : k0_cond6 k0_t1 arg25_r0 = 1#1), ∀ a, (k0_off19 arg15_r0) a + S1.size a ≤ S3.size a) ∧
  (∀ (k0_h6 : k0_cond6 k0_t1 arg25_r0 = 1#1), ∀ a, (k0_off20 arg15_r0) a + S1x256x512.size a ≤ S3x256x512.size a) ∧
  (∀ (k0_h6 : k0_cond6 k0_t1 arg25_r0 = 1#1), ∀ a, (k0_off21 arg25_r0) a + S256x512.size a ≤ S32768x512.size a) ∧
  (∀ (k0_h6 : k0_cond6 k0_t1 arg25_r0 = 1#1), ∀ (hinb : ∀ a, (k0_off21 arg25_r0) a + S256x512.size a ≤ S32768x512.size a), (Rect.unit (s := S32768x512) (k0_off21 arg25_r0) S256x512.size hinb).WholeWords (EltTy.packing .bf16)) ∧
  (∀ (k0_h6 : k0_cond6 k0_t1 arg25_r0 = 1#1), ∀ (hinb : ∀ a, (k0_off20 arg15_r0) a + S1x256x512.size a ≤ S3x256x512.size a), (Rect.unit (s := S3x256x512) (k0_off20 arg15_r0) S1x256x512.size hinb).WholeWords (EltTy.packing .bf16)) ∧
  (∀ (k0_h7 : k0_cond7 k0_t1 arg25_r0 = 1#1), ∀ a, (k0_off22 arg17_r0) a + S1.size a ≤ S3.size a) ∧
  (∀ (k0_h7 : k0_cond7 k0_t1 arg25_r0 = 1#1), ∀ a, (k0_off23 arg17_r0) a + S1x256x512.size a ≤ S3x256x512.size a) ∧
  (∀ (k0_h7 : k0_cond7 k0_t1 arg25_r0 = 1#1), ∀ a, (k0_off24 arg25_r0) a + S256x512.size a ≤ S32768x512.size a) ∧
  (∀ (k0_h7 : k0_cond7 k0_t1 arg25_r0 = 1#1), ∀ (hinb : ∀ a, (k0_off24 arg25_r0) a + S256x512.size a ≤ S32768x512.size a), (Rect.unit (s := S32768x512) (k0_off24 arg25_r0) S256x512.size hinb).WholeWords (EltTy.packing .bf16)) ∧
  (∀ (k0_h7 : k0_cond7 k0_t1 arg25_r0 = 1#1), ∀ (hinb : ∀ a, (k0_off23 arg17_r0) a + S1x256x512.size a ≤ S3x256x512.size a), (Rect.unit (s := S3x256x512) (k0_off23 arg17_r0) S1x256x512.size hinb).WholeWords (EltTy.packing .bf16)) ∧
  (∀ (k0_h8 : k0_cond8 k0_t1 arg25_r0 = 1#1), ∀ a, (k0_off25 arg19_r0) a + S1.size a ≤ S3.size a) ∧
  (∀ (k0_h8 : k0_cond8 k0_t1 arg25_r0 = 1#1), ∀ a, (k0_off26 arg19_r0) a + S1x256x512.size a ≤ S3x256x512.size a) ∧
  (∀ (k0_h8 : k0_cond8 k0_t1 arg25_r0 = 1#1), ∀ a, (k0_off27 arg25_r0) a + S256x512.size a ≤ S32768x512.size a) ∧
  (∀ (k0_h8 : k0_cond8 k0_t1 arg25_r0 = 1#1), ∀ (hinb : ∀ a, (k0_off27 arg25_r0) a + S256x512.size a ≤ S32768x512.size a), (Rect.unit (s := S32768x512) (k0_off27 arg25_r0) S256x512.size hinb).WholeWords (EltTy.packing .bf16)) ∧
  (∀ (k0_h8 : k0_cond8 k0_t1 arg25_r0 = 1#1), ∀ (hinb : ∀ a, (k0_off26 arg19_r0) a + S1x256x512.size a ≤ S3x256x512.size a), (Rect.unit (s := S3x256x512) (k0_off26 arg19_r0) S1x256x512.size hinb).WholeWords (EltTy.packing .bf16)) ∧
  (∀ (k0_h9 : k0_cond9 k0_t1 arg25_r0 = 1#1), ∀ a, (k0_off28 arg14_r0) a + S1.size a ≤ S3.size a) ∧
  (∀ (k0_h9 : k0_cond9 k0_t1 arg25_r0 = 1#1), ∀ a, (k0_off29 arg14_r0) a + S1x256x1024.size a ≤ S3x256x1024.size a) ∧
  (∀ (k0_h9 : k0_cond9 k0_t1 arg25_r0 = 1#1), ∀ a, (k0_off30 arg25_r0) a + S256x1024.size a ≤ S32768x1024.size a) ∧
  (∀ (k0_h10 : k0_cond10 k0_t1 arg25_r0 = 1#1), ∀ a, (k0_off31 arg16_r0) a + S1.size a ≤ S3.size a) ∧
  (∀ (k0_h10 : k0_cond10 k0_t1 arg25_r0 = 1#1), ∀ a, (k0_off32 arg16_r0) a + S1x256x512.size a ≤ S3x256x512.size a) ∧
  (∀ (k0_h10 : k0_cond10 k0_t1 arg25_r0 = 1#1), ∀ a, (k0_off33 arg25_r0) a + S256x512.size a ≤ S32768x512.size a) ∧
  (∀ (k0_h10 : k0_cond10 k0_t1 arg25_r0 = 1#1), ∀ (hinb : ∀ a, (k0_off33 arg25_r0) a + S256x512.size a ≤ S32768x512.size a), (Rect.unit (s := S32768x512) (k0_off33 arg25_r0) S256x512.size hinb).WholeWords (EltTy.packing .bf16)) ∧
  (∀ (k0_h10 : k0_cond10 k0_t1 arg25_r0 = 1#1), ∀ (hinb : ∀ a, (k0_off32 arg16_r0) a + S1x256x512.size a ≤ S3x256x512.size a), (Rect.unit (s := S3x256x512) (k0_off32 arg16_r0) S1x256x512.size hinb).WholeWords (EltTy.packing .bf16)) ∧
  (∀ (k0_h11 : k0_cond11 k0_t1 arg25_r0 = 1#1), ∀ a, (k0_off34 arg18_r0) a + S1.size a ≤ S3.size a) ∧
  (∀ (k0_h11 : k0_cond11 k0_t1 arg25_r0 = 1#1), ∀ a, (k0_off35 arg18_r0) a + S1x256x512.size a ≤ S3x256x512.size a) ∧
  (∀ (k0_h11 : k0_cond11 k0_t1 arg25_r0 = 1#1), ∀ a, (k0_off36 arg25_r0) a + S256x512.size a ≤ S32768x512.size a) ∧
  (∀ (k0_h11 : k0_cond11 k0_t1 arg25_r0 = 1#1), ∀ (hinb : ∀ a, (k0_off36 arg25_r0) a + S256x512.size a ≤ S32768x512.size a), (Rect.unit (s := S32768x512) (k0_off36 arg25_r0) S256x512.size hinb).WholeWords (EltTy.packing .bf16)) ∧
  (∀ (k0_h11 : k0_cond11 k0_t1 arg25_r0 = 1#1), ∀ (hinb : ∀ a, (k0_off35 arg18_r0) a + S1x256x512.size a ≤ S3x256x512.size a), (Rect.unit (s := S3x256x512) (k0_off35 arg18_r0) S1x256x512.size hinb).WholeWords (EltTy.packing .bf16)) ∧
  (∀ (k0_h12 : k0_cond12 k0_t1 arg25_r0 = 1#1), ∀ a, (k0_off37 arg20_r0) a + S1.size a ≤ S3.size a)
def k0_chk1_1 (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) : Prop :=
  (∀ (k0_h12 : k0_cond12 k0_t1 arg25_r0 = 1#1), ∀ a, (k0_off38 arg20_r0) a + S1x256x512.size a ≤ S3x256x512.size a) ∧
  (∀ (k0_h12 : k0_cond12 k0_t1 arg25_r0 = 1#1), ∀ a, (k0_off39 arg25_r0) a + S256x512.size a ≤ S32768x512.size a) ∧
  (∀ (k0_h12 : k0_cond12 k0_t1 arg25_r0 = 1#1), ∀ (hinb : ∀ a, (k0_off39 arg25_r0) a + S256x512.size a ≤ S32768x512.size a), (Rect.unit (s := S32768x512) (k0_off39 arg25_r0) S256x512.size hinb).WholeWords (EltTy.packing .bf16)) ∧
  (∀ (k0_h12 : k0_cond12 k0_t1 arg25_r0 = 1#1), ∀ (hinb : ∀ a, (k0_off38 arg20_r0) a + S1x256x512.size a ≤ S3x256x512.size a), (Rect.unit (s := S3x256x512) (k0_off38 arg20_r0) S1x256x512.size hinb).WholeWords (EltTy.packing .bf16)) ∧
  (∀ (k0_h19 : k0_cond19 k0_t1 arg25_r0 = 1#1), ∀ a, (k0_off46 arg21_r0) a + S1.size a ≤ S2.size a) ∧
  (∀ (k0_h19 : k0_cond19 k0_t1 arg25_r0 = 1#1), ∀ a, (k0_off47 arg25_r0) a + S256x1024.size a ≤ S32768x1024.size a) ∧
  (∀ (k0_h19 : k0_cond19 k0_t1 arg25_r0 = 1#1), ∀ a, (k0_off48 arg21_r0) a + S1x256x1024.size a ≤ S2x256x1024.size a) ∧
  (∀ (k0_h20 : k0_cond20 k0_t1 arg25_r0 = 1#1), ∀ a, (k0_off49 arg23_r0) a + S1.size a ≤ S2.size a) ∧
  (∀ (k0_h20 : k0_cond20 k0_t1 arg25_r0 = 1#1), ∀ a, (k0_off50 arg25_r0) a + S256x1024.size a ≤ S32768x1024.size a) ∧
  (∀ (k0_h20 : k0_cond20 k0_t1 arg25_r0 = 1#1), ∀ a, (k0_off51 arg23_r0) a + S1x256x1024.size a ≤ S2x256x1024.size a) ∧
  (∀ (k0_h20 : k0_cond20 k0_t1 arg25_r0 = 1#1), ∀ (hinb : ∀ a, (k0_off51 arg23_r0) a + S1x256x1024.size a ≤ S2x256x1024.size a), (Rect.unit (s := S2x256x1024) (k0_off51 arg23_r0) S1x256x1024.size hinb).WholeWords (EltTy.packing .bf16)) ∧
  (∀ (k0_h20 : k0_cond20 k0_t1 arg25_r0 = 1#1), ∀ (hinb : ∀ a, (k0_off50 arg25_r0) a + S256x1024.size a ≤ S32768x1024.size a), (Rect.unit (s := S32768x1024) (k0_off50 arg25_r0) S256x1024.size hinb).WholeWords (EltTy.packing .bf16)) ∧
  (∀ (k0_h25 : k0_cond25 k0_t1 arg25_r0 = 1#1), ∀ a, (k0_off52 arg22_r0) a + S1.size a ≤ S2.size a) ∧
  (∀ (k0_h25 : k0_cond25 k0_t1 arg25_r0 = 1#1), ∀ a, (k0_off53 arg25_r0) a + S256x1024.size a ≤ S32768x1024.size a) ∧
  (∀ (k0_h25 : k0_cond25 k0_t1 arg25_r0 = 1#1), ∀ a, (k0_off54 arg22_r0) a + S1x256x1024.size a ≤ S2x256x1024.size a) ∧
  (∀ (k0_h26 : k0_cond26 k0_t1 arg25_r0 = 1#1), ∀ a, (k0_off55 arg24_r0) a + S1.size a ≤ S2.size a) ∧
  (∀ (k0_h26 : k0_cond26 k0_t1 arg25_r0 = 1#1), ∀ a, (k0_off56 arg25_r0) a + S256x1024.size a ≤ S32768x1024.size a) ∧
  (∀ (k0_h26 : k0_cond26 k0_t1 arg25_r0 = 1#1), ∀ a, (k0_off57 arg24_r0) a + S1x256x1024.size a ≤ S2x256x1024.size a) ∧
  (∀ (k0_h26 : k0_cond26 k0_t1 arg25_r0 = 1#1), ∀ (hinb : ∀ a, (k0_off57 arg24_r0) a + S1x256x1024.size a ≤ S2x256x1024.size a), (Rect.unit (s := S2x256x1024) (k0_off57 arg24_r0) S1x256x1024.size hinb).WholeWords (EltTy.packing .bf16)) ∧
  (∀ (k0_h26 : k0_cond26 k0_t1 arg25_r0 = 1#1), ∀ (hinb : ∀ a, (k0_off56 arg25_r0) a + S256x1024.size a ≤ S32768x1024.size a), (Rect.unit (s := S32768x1024) (k0_off56 arg25_r0) S256x1024.size hinb).WholeWords (EltTy.packing .bf16))
def k0_chk1 (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) : Prop :=
  k0_chk1_0 k0_t1 arg13_r0 arg14_r0 arg15_r0 arg16_r0 arg17_r0 arg18_r0 arg19_r0 arg20_r0 arg21_r0 arg22_r0 arg23_r0 arg24_r0 arg25_r0 ∧
  k0_chk1_1 k0_t1 arg13_r0 arg14_r0 arg15_r0 arg16_r0 arg17_r0 arg18_r0 arg19_r0 arg20_r0 arg21_r0 arg22_r0 arg23_r0 arg24_r0 arg25_r0
theorem k0_off16_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h5 : k0_cond5 k0_t1 arg25_r0 = 1#1), ∀ a, (k0_off16 arg13_r0) a + S1.size a ≤ S3.size a := fun k0_t1 arg13_r0 arg14_r0 arg15_r0 arg16_r0 arg17_r0 arg18_r0 arg19_r0 arg20_r0 arg21_r0 arg22_r0 arg23_r0 arg24_r0 arg25_r0 k0_hw1 k0_h5 => k0_hw1.1.1 k0_h5
theorem k0_off17_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h5 : k0_cond5 k0_t1 arg25_r0 = 1#1), ∀ a, (k0_off17 arg13_r0) a + S1x256x1024.size a ≤ S3x256x1024.size a := fun k0_t1 arg13_r0 arg14_r0 arg15_r0 arg16_r0 arg17_r0 arg18_r0 arg19_r0 arg20_r0 arg21_r0 arg22_r0 arg23_r0 arg24_r0 arg25_r0 k0_hw1 k0_h5 => k0_hw1.1.2.1 k0_h5
theorem k0_off18_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h5 : k0_cond5 k0_t1 arg25_r0 = 1#1), ∀ a, (k0_off18 arg25_r0) a + S256x1024.size a ≤ S32768x1024.size a := fun k0_t1 arg13_r0 arg14_r0 arg15_r0 arg16_r0 arg17_r0 arg18_r0 arg19_r0 arg20_r0 arg21_r0 arg22_r0 arg23_r0 arg24_r0 arg25_r0 k0_hw1 k0_h5 => k0_hw1.1.2.2.1 k0_h5
theorem k0_off19_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h6 : k0_cond6 k0_t1 arg25_r0 = 1#1), ∀ a, (k0_off19 arg15_r0) a + S1.size a ≤ S3.size a := fun k0_t1 arg13_r0 arg14_r0 arg15_r0 arg16_r0 arg17_r0 arg18_r0 arg19_r0 arg20_r0 arg21_r0 arg22_r0 arg23_r0 arg24_r0 arg25_r0 k0_hw1 k0_h6 => k0_hw1.1.2.2.2.1 k0_h6
theorem k0_off20_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h6 : k0_cond6 k0_t1 arg25_r0 = 1#1), ∀ a, (k0_off20 arg15_r0) a + S1x256x512.size a ≤ S3x256x512.size a := fun k0_t1 arg13_r0 arg14_r0 arg15_r0 arg16_r0 arg17_r0 arg18_r0 arg19_r0 arg20_r0 arg21_r0 arg22_r0 arg23_r0 arg24_r0 arg25_r0 k0_hw1 k0_h6 => k0_hw1.1.2.2.2.2.1 k0_h6
theorem k0_off21_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h6 : k0_cond6 k0_t1 arg25_r0 = 1#1), ∀ a, (k0_off21 arg25_r0) a + S256x512.size a ≤ S32768x512.size a := fun k0_t1 arg13_r0 arg14_r0 arg15_r0 arg16_r0 arg17_r0 arg18_r0 arg19_r0 arg20_r0 arg21_r0 arg22_r0 arg23_r0 arg24_r0 arg25_r0 k0_hw1 k0_h6 => k0_hw1.1.2.2.2.2.2.1 k0_h6
theorem k0_off21_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h6 : k0_cond6 k0_t1 arg25_r0 = 1#1), (Rect.unit (s := S32768x512) (k0_off21 arg25_r0) S256x512.size (k0_off21_inb k0_t1 arg13_r0 arg14_r0 arg15_r0 arg16_r0 arg17_r0 arg18_r0 arg19_r0 arg20_r0 arg21_r0 arg22_r0 arg23_r0 arg24_r0 arg25_r0 k0_hw1 k0_h6)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h6 => k0_hw1.1.2.2.2.2.2.2.1 k0_h6 (k0_off21_inb k0_t1 arg13_r0 arg14_r0 arg15_r0 arg16_r0 arg17_r0 arg18_r0 arg19_r0 arg20_r0 arg21_r0 arg22_r0 arg23_r0 arg24_r0 arg25_r0 k0_hw1 k0_h6)
theorem k0_off20_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h6 : k0_cond6 k0_t1 arg25_r0 = 1#1), (Rect.unit (s := S3x256x512) (k0_off20 arg15_r0) S1x256x512.size (k0_off20_inb k0_t1 arg13_r0 arg14_r0 arg15_r0 arg16_r0 arg17_r0 arg18_r0 arg19_r0 arg20_r0 arg21_r0 arg22_r0 arg23_r0 arg24_r0 arg25_r0 k0_hw1 k0_h6)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h6 => k0_hw1.1.2.2.2.2.2.2.2.1 k0_h6 (k0_off20_inb k0_t1 arg13_r0 arg14_r0 arg15_r0 arg16_r0 arg17_r0 arg18_r0 arg19_r0 arg20_r0 arg21_r0 arg22_r0 arg23_r0 arg24_r0 arg25_r0 k0_hw1 k0_h6)
theorem k0_off22_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h7 : k0_cond7 k0_t1 arg25_r0 = 1#1), ∀ a, (k0_off22 arg17_r0) a + S1.size a ≤ S3.size a := fun k0_t1 arg13_r0 arg14_r0 arg15_r0 arg16_r0 arg17_r0 arg18_r0 arg19_r0 arg20_r0 arg21_r0 arg22_r0 arg23_r0 arg24_r0 arg25_r0 k0_hw1 k0_h7 => k0_hw1.1.2.2.2.2.2.2.2.2.1 k0_h7
theorem k0_off23_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h7 : k0_cond7 k0_t1 arg25_r0 = 1#1), ∀ a, (k0_off23 arg17_r0) a + S1x256x512.size a ≤ S3x256x512.size a := fun k0_t1 arg13_r0 arg14_r0 arg15_r0 arg16_r0 arg17_r0 arg18_r0 arg19_r0 arg20_r0 arg21_r0 arg22_r0 arg23_r0 arg24_r0 arg25_r0 k0_hw1 k0_h7 => k0_hw1.1.2.2.2.2.2.2.2.2.2.1 k0_h7
theorem k0_off24_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h7 : k0_cond7 k0_t1 arg25_r0 = 1#1), ∀ a, (k0_off24 arg25_r0) a + S256x512.size a ≤ S32768x512.size a := fun k0_t1 arg13_r0 arg14_r0 arg15_r0 arg16_r0 arg17_r0 arg18_r0 arg19_r0 arg20_r0 arg21_r0 arg22_r0 arg23_r0 arg24_r0 arg25_r0 k0_hw1 k0_h7 => k0_hw1.1.2.2.2.2.2.2.2.2.2.2.1 k0_h7
theorem k0_off24_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h7 : k0_cond7 k0_t1 arg25_r0 = 1#1), (Rect.unit (s := S32768x512) (k0_off24 arg25_r0) S256x512.size (k0_off24_inb k0_t1 arg13_r0 arg14_r0 arg15_r0 arg16_r0 arg17_r0 arg18_r0 arg19_r0 arg20_r0 arg21_r0 arg22_r0 arg23_r0 arg24_r0 arg25_r0 k0_hw1 k0_h7)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h7 => k0_hw1.1.2.2.2.2.2.2.2.2.2.2.2.1 k0_h7 (k0_off24_inb k0_t1 arg13_r0 arg14_r0 arg15_r0 arg16_r0 arg17_r0 arg18_r0 arg19_r0 arg20_r0 arg21_r0 arg22_r0 arg23_r0 arg24_r0 arg25_r0 k0_hw1 k0_h7)
theorem k0_off23_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h7 : k0_cond7 k0_t1 arg25_r0 = 1#1), (Rect.unit (s := S3x256x512) (k0_off23 arg17_r0) S1x256x512.size (k0_off23_inb k0_t1 arg13_r0 arg14_r0 arg15_r0 arg16_r0 arg17_r0 arg18_r0 arg19_r0 arg20_r0 arg21_r0 arg22_r0 arg23_r0 arg24_r0 arg25_r0 k0_hw1 k0_h7)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h7 => k0_hw1.1.2.2.2.2.2.2.2.2.2.2.2.2.1 k0_h7 (k0_off23_inb k0_t1 arg13_r0 arg14_r0 arg15_r0 arg16_r0 arg17_r0 arg18_r0 arg19_r0 arg20_r0 arg21_r0 arg22_r0 arg23_r0 arg24_r0 arg25_r0 k0_hw1 k0_h7)
theorem k0_off25_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h8 : k0_cond8 k0_t1 arg25_r0 = 1#1), ∀ a, (k0_off25 arg19_r0) a + S1.size a ≤ S3.size a := fun k0_t1 arg13_r0 arg14_r0 arg15_r0 arg16_r0 arg17_r0 arg18_r0 arg19_r0 arg20_r0 arg21_r0 arg22_r0 arg23_r0 arg24_r0 arg25_r0 k0_hw1 k0_h8 => k0_hw1.1.2.2.2.2.2.2.2.2.2.2.2.2.2.1 k0_h8
theorem k0_off26_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h8 : k0_cond8 k0_t1 arg25_r0 = 1#1), ∀ a, (k0_off26 arg19_r0) a + S1x256x512.size a ≤ S3x256x512.size a := fun k0_t1 arg13_r0 arg14_r0 arg15_r0 arg16_r0 arg17_r0 arg18_r0 arg19_r0 arg20_r0 arg21_r0 arg22_r0 arg23_r0 arg24_r0 arg25_r0 k0_hw1 k0_h8 => k0_hw1.1.2.2.2.2.2.2.2.2.2.2.2.2.2.2.1 k0_h8
theorem k0_off27_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h8 : k0_cond8 k0_t1 arg25_r0 = 1#1), ∀ a, (k0_off27 arg25_r0) a + S256x512.size a ≤ S32768x512.size a := fun k0_t1 arg13_r0 arg14_r0 arg15_r0 arg16_r0 arg17_r0 arg18_r0 arg19_r0 arg20_r0 arg21_r0 arg22_r0 arg23_r0 arg24_r0 arg25_r0 k0_hw1 k0_h8 => k0_hw1.1.2.2.2.2.2.2.2.2.2.2.2.2.2.2.2.1 k0_h8
theorem k0_off27_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h8 : k0_cond8 k0_t1 arg25_r0 = 1#1), (Rect.unit (s := S32768x512) (k0_off27 arg25_r0) S256x512.size (k0_off27_inb k0_t1 arg13_r0 arg14_r0 arg15_r0 arg16_r0 arg17_r0 arg18_r0 arg19_r0 arg20_r0 arg21_r0 arg22_r0 arg23_r0 arg24_r0 arg25_r0 k0_hw1 k0_h8)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h8 => k0_hw1.1.2.2.2.2.2.2.2.2.2.2.2.2.2.2.2.2.1 k0_h8 (k0_off27_inb k0_t1 arg13_r0 arg14_r0 arg15_r0 arg16_r0 arg17_r0 arg18_r0 arg19_r0 arg20_r0 arg21_r0 arg22_r0 arg23_r0 arg24_r0 arg25_r0 k0_hw1 k0_h8)
theorem k0_off26_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h8 : k0_cond8 k0_t1 arg25_r0 = 1#1), (Rect.unit (s := S3x256x512) (k0_off26 arg19_r0) S1x256x512.size (k0_off26_inb k0_t1 arg13_r0 arg14_r0 arg15_r0 arg16_r0 arg17_r0 arg18_r0 arg19_r0 arg20_r0 arg21_r0 arg22_r0 arg23_r0 arg24_r0 arg25_r0 k0_hw1 k0_h8)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h8 => k0_hw1.1.2.2.2.2.2.2.2.2.2.2.2.2.2.2.2.2.2.1 k0_h8 (k0_off26_inb k0_t1 arg13_r0 arg14_r0 arg15_r0 arg16_r0 arg17_r0 arg18_r0 arg19_r0 arg20_r0 arg21_r0 arg22_r0 arg23_r0 arg24_r0 arg25_r0 k0_hw1 k0_h8)
theorem k0_off28_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h9 : k0_cond9 k0_t1 arg25_r0 = 1#1), ∀ a, (k0_off28 arg14_r0) a + S1.size a ≤ S3.size a := fun k0_t1 arg13_r0 arg14_r0 arg15_r0 arg16_r0 arg17_r0 arg18_r0 arg19_r0 arg20_r0 arg21_r0 arg22_r0 arg23_r0 arg24_r0 arg25_r0 k0_hw1 k0_h9 => k0_hw1.1.2.2.2.2.2.2.2.2.2.2.2.2.2.2.2.2.2.2.1 k0_h9
theorem k0_off29_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h9 : k0_cond9 k0_t1 arg25_r0 = 1#1), ∀ a, (k0_off29 arg14_r0) a + S1x256x1024.size a ≤ S3x256x1024.size a := fun k0_t1 arg13_r0 arg14_r0 arg15_r0 arg16_r0 arg17_r0 arg18_r0 arg19_r0 arg20_r0 arg21_r0 arg22_r0 arg23_r0 arg24_r0 arg25_r0 k0_hw1 k0_h9 => k0_hw1.1.2.2.2.2.2.2.2.2.2.2.2.2.2.2.2.2.2.2.2.1 k0_h9
theorem k0_off30_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h9 : k0_cond9 k0_t1 arg25_r0 = 1#1), ∀ a, (k0_off30 arg25_r0) a + S256x1024.size a ≤ S32768x1024.size a := fun k0_t1 arg13_r0 arg14_r0 arg15_r0 arg16_r0 arg17_r0 arg18_r0 arg19_r0 arg20_r0 arg21_r0 arg22_r0 arg23_r0 arg24_r0 arg25_r0 k0_hw1 k0_h9 => k0_hw1.1.2.2.2.2.2.2.2.2.2.2.2.2.2.2.2.2.2.2.2.2.1 k0_h9
theorem k0_off31_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h10 : k0_cond10 k0_t1 arg25_r0 = 1#1), ∀ a, (k0_off31 arg16_r0) a + S1.size a ≤ S3.size a := fun k0_t1 arg13_r0 arg14_r0 arg15_r0 arg16_r0 arg17_r0 arg18_r0 arg19_r0 arg20_r0 arg21_r0 arg22_r0 arg23_r0 arg24_r0 arg25_r0 k0_hw1 k0_h10 => k0_hw1.1.2.2.2.2.2.2.2.2.2.2.2.2.2.2.2.2.2.2.2.2.2.1 k0_h10
theorem k0_off32_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h10 : k0_cond10 k0_t1 arg25_r0 = 1#1), ∀ a, (k0_off32 arg16_r0) a + S1x256x512.size a ≤ S3x256x512.size a := fun k0_t1 arg13_r0 arg14_r0 arg15_r0 arg16_r0 arg17_r0 arg18_r0 arg19_r0 arg20_r0 arg21_r0 arg22_r0 arg23_r0 arg24_r0 arg25_r0 k0_hw1 k0_h10 => k0_hw1.1.2.2.2.2.2.2.2.2.2.2.2.2.2.2.2.2.2.2.2.2.2.2.1 k0_h10
theorem k0_off33_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h10 : k0_cond10 k0_t1 arg25_r0 = 1#1), ∀ a, (k0_off33 arg25_r0) a + S256x512.size a ≤ S32768x512.size a := fun k0_t1 arg13_r0 arg14_r0 arg15_r0 arg16_r0 arg17_r0 arg18_r0 arg19_r0 arg20_r0 arg21_r0 arg22_r0 arg23_r0 arg24_r0 arg25_r0 k0_hw1 k0_h10 => k0_hw1.1.2.2.2.2.2.2.2.2.2.2.2.2.2.2.2.2.2.2.2.2.2.2.2.1 k0_h10
theorem k0_off33_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h10 : k0_cond10 k0_t1 arg25_r0 = 1#1), (Rect.unit (s := S32768x512) (k0_off33 arg25_r0) S256x512.size (k0_off33_inb k0_t1 arg13_r0 arg14_r0 arg15_r0 arg16_r0 arg17_r0 arg18_r0 arg19_r0 arg20_r0 arg21_r0 arg22_r0 arg23_r0 arg24_r0 arg25_r0 k0_hw1 k0_h10)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h10 => k0_hw1.1.2.2.2.2.2.2.2.2.2.2.2.2.2.2.2.2.2.2.2.2.2.2.2.2.1 k0_h10 (k0_off33_inb k0_t1 arg13_r0 arg14_r0 arg15_r0 arg16_r0 arg17_r0 arg18_r0 arg19_r0 arg20_r0 arg21_r0 arg22_r0 arg23_r0 arg24_r0 arg25_r0 k0_hw1 k0_h10)
theorem k0_off32_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h10 : k0_cond10 k0_t1 arg25_r0 = 1#1), (Rect.unit (s := S3x256x512) (k0_off32 arg16_r0) S1x256x512.size (k0_off32_inb k0_t1 arg13_r0 arg14_r0 arg15_r0 arg16_r0 arg17_r0 arg18_r0 arg19_r0 arg20_r0 arg21_r0 arg22_r0 arg23_r0 arg24_r0 arg25_r0 k0_hw1 k0_h10)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h10 => k0_hw1.1.2.2.2.2.2.2.2.2.2.2.2.2.2.2.2.2.2.2.2.2.2.2.2.2.2.1 k0_h10 (k0_off32_inb k0_t1 arg13_r0 arg14_r0 arg15_r0 arg16_r0 arg17_r0 arg18_r0 arg19_r0 arg20_r0 arg21_r0 arg22_r0 arg23_r0 arg24_r0 arg25_r0 k0_hw1 k0_h10)
theorem k0_off34_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h11 : k0_cond11 k0_t1 arg25_r0 = 1#1), ∀ a, (k0_off34 arg18_r0) a + S1.size a ≤ S3.size a := fun k0_t1 arg13_r0 arg14_r0 arg15_r0 arg16_r0 arg17_r0 arg18_r0 arg19_r0 arg20_r0 arg21_r0 arg22_r0 arg23_r0 arg24_r0 arg25_r0 k0_hw1 k0_h11 => k0_hw1.1.2.2.2.2.2.2.2.2.2.2.2.2.2.2.2.2.2.2.2.2.2.2.2.2.2.2.1 k0_h11
theorem k0_off35_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h11 : k0_cond11 k0_t1 arg25_r0 = 1#1), ∀ a, (k0_off35 arg18_r0) a + S1x256x512.size a ≤ S3x256x512.size a := fun k0_t1 arg13_r0 arg14_r0 arg15_r0 arg16_r0 arg17_r0 arg18_r0 arg19_r0 arg20_r0 arg21_r0 arg22_r0 arg23_r0 arg24_r0 arg25_r0 k0_hw1 k0_h11 => k0_hw1.1.2.2.2.2.2.2.2.2.2.2.2.2.2.2.2.2.2.2.2.2.2.2.2.2.2.2.2.1 k0_h11
theorem k0_off36_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h11 : k0_cond11 k0_t1 arg25_r0 = 1#1), ∀ a, (k0_off36 arg25_r0) a + S256x512.size a ≤ S32768x512.size a := fun k0_t1 arg13_r0 arg14_r0 arg15_r0 arg16_r0 arg17_r0 arg18_r0 arg19_r0 arg20_r0 arg21_r0 arg22_r0 arg23_r0 arg24_r0 arg25_r0 k0_hw1 k0_h11 => k0_hw1.1.2.2.2.2.2.2.2.2.2.2.2.2.2.2.2.2.2.2.2.2.2.2.2.2.2.2.2.2.1 k0_h11
theorem k0_off36_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h11 : k0_cond11 k0_t1 arg25_r0 = 1#1), (Rect.unit (s := S32768x512) (k0_off36 arg25_r0) S256x512.size (k0_off36_inb k0_t1 arg13_r0 arg14_r0 arg15_r0 arg16_r0 arg17_r0 arg18_r0 arg19_r0 arg20_r0 arg21_r0 arg22_r0 arg23_r0 arg24_r0 arg25_r0 k0_hw1 k0_h11)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h11 => k0_hw1.1.2.2.2.2.2.2.2.2.2.2.2.2.2.2.2.2.2.2.2.2.2.2.2.2.2.2.2.2.2.1 k0_h11 (k0_off36_inb k0_t1 arg13_r0 arg14_r0 arg15_r0 arg16_r0 arg17_r0 arg18_r0 arg19_r0 arg20_r0 arg21_r0 arg22_r0 arg23_r0 arg24_r0 arg25_r0 k0_hw1 k0_h11)
theorem k0_off35_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h11 : k0_cond11 k0_t1 arg25_r0 = 1#1), (Rect.unit (s := S3x256x512) (k0_off35 arg18_r0) S1x256x512.size (k0_off35_inb k0_t1 arg13_r0 arg14_r0 arg15_r0 arg16_r0 arg17_r0 arg18_r0 arg19_r0 arg20_r0 arg21_r0 arg22_r0 arg23_r0 arg24_r0 arg25_r0 k0_hw1 k0_h11)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h11 => k0_hw1.1.2.2.2.2.2.2.2.2.2.2.2.2.2.2.2.2.2.2.2.2.2.2.2.2.2.2.2.2.2.2.1 k0_h11 (k0_off35_inb k0_t1 arg13_r0 arg14_r0 arg15_r0 arg16_r0 arg17_r0 arg18_r0 arg19_r0 arg20_r0 arg21_r0 arg22_r0 arg23_r0 arg24_r0 arg25_r0 k0_hw1 k0_h11)
theorem k0_off37_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h12 : k0_cond12 k0_t1 arg25_r0 = 1#1), ∀ a, (k0_off37 arg20_r0) a + S1.size a ≤ S3.size a := fun k0_t1 arg13_r0 arg14_r0 arg15_r0 arg16_r0 arg17_r0 arg18_r0 arg19_r0 arg20_r0 arg21_r0 arg22_r0 arg23_r0 arg24_r0 arg25_r0 k0_hw1 k0_h12 => k0_hw1.1.2.2.2.2.2.2.2.2.2.2.2.2.2.2.2.2.2.2.2.2.2.2.2.2.2.2.2.2.2.2.2 k0_h12
theorem k0_off38_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h12 : k0_cond12 k0_t1 arg25_r0 = 1#1), ∀ a, (k0_off38 arg20_r0) a + S1x256x512.size a ≤ S3x256x512.size a := fun k0_t1 arg13_r0 arg14_r0 arg15_r0 arg16_r0 arg17_r0 arg18_r0 arg19_r0 arg20_r0 arg21_r0 arg22_r0 arg23_r0 arg24_r0 arg25_r0 k0_hw1 k0_h12 => k0_hw1.2.1 k0_h12
theorem k0_off39_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h12 : k0_cond12 k0_t1 arg25_r0 = 1#1), ∀ a, (k0_off39 arg25_r0) a + S256x512.size a ≤ S32768x512.size a := fun k0_t1 arg13_r0 arg14_r0 arg15_r0 arg16_r0 arg17_r0 arg18_r0 arg19_r0 arg20_r0 arg21_r0 arg22_r0 arg23_r0 arg24_r0 arg25_r0 k0_hw1 k0_h12 => k0_hw1.2.2.1 k0_h12
theorem k0_off39_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h12 : k0_cond12 k0_t1 arg25_r0 = 1#1), (Rect.unit (s := S32768x512) (k0_off39 arg25_r0) S256x512.size (k0_off39_inb k0_t1 arg13_r0 arg14_r0 arg15_r0 arg16_r0 arg17_r0 arg18_r0 arg19_r0 arg20_r0 arg21_r0 arg22_r0 arg23_r0 arg24_r0 arg25_r0 k0_hw1 k0_h12)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h12 => k0_hw1.2.2.2.1 k0_h12 (k0_off39_inb k0_t1 arg13_r0 arg14_r0 arg15_r0 arg16_r0 arg17_r0 arg18_r0 arg19_r0 arg20_r0 arg21_r0 arg22_r0 arg23_r0 arg24_r0 arg25_r0 k0_hw1 k0_h12)
theorem k0_off38_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h12 : k0_cond12 k0_t1 arg25_r0 = 1#1), (Rect.unit (s := S3x256x512) (k0_off38 arg20_r0) S1x256x512.size (k0_off38_inb k0_t1 arg13_r0 arg14_r0 arg15_r0 arg16_r0 arg17_r0 arg18_r0 arg19_r0 arg20_r0 arg21_r0 arg22_r0 arg23_r0 arg24_r0 arg25_r0 k0_hw1 k0_h12)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h12 => k0_hw1.2.2.2.2.1 k0_h12 (k0_off38_inb k0_t1 arg13_r0 arg14_r0 arg15_r0 arg16_r0 arg17_r0 arg18_r0 arg19_r0 arg20_r0 arg21_r0 arg22_r0 arg23_r0 arg24_r0 arg25_r0 k0_hw1 k0_h12)
theorem k0_off46_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h19 : k0_cond19 k0_t1 arg25_r0 = 1#1), ∀ a, (k0_off46 arg21_r0) a + S1.size a ≤ S2.size a := fun k0_t1 arg13_r0 arg14_r0 arg15_r0 arg16_r0 arg17_r0 arg18_r0 arg19_r0 arg20_r0 arg21_r0 arg22_r0 arg23_r0 arg24_r0 arg25_r0 k0_hw1 k0_h19 => k0_hw1.2.2.2.2.2.1 k0_h19
theorem k0_off47_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h19 : k0_cond19 k0_t1 arg25_r0 = 1#1), ∀ a, (k0_off47 arg25_r0) a + S256x1024.size a ≤ S32768x1024.size a := fun k0_t1 arg13_r0 arg14_r0 arg15_r0 arg16_r0 arg17_r0 arg18_r0 arg19_r0 arg20_r0 arg21_r0 arg22_r0 arg23_r0 arg24_r0 arg25_r0 k0_hw1 k0_h19 => k0_hw1.2.2.2.2.2.2.1 k0_h19
theorem k0_off48_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h19 : k0_cond19 k0_t1 arg25_r0 = 1#1), ∀ a, (k0_off48 arg21_r0) a + S1x256x1024.size a ≤ S2x256x1024.size a := fun k0_t1 arg13_r0 arg14_r0 arg15_r0 arg16_r0 arg17_r0 arg18_r0 arg19_r0 arg20_r0 arg21_r0 arg22_r0 arg23_r0 arg24_r0 arg25_r0 k0_hw1 k0_h19 => k0_hw1.2.2.2.2.2.2.2.1 k0_h19
theorem k0_off49_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h20 : k0_cond20 k0_t1 arg25_r0 = 1#1), ∀ a, (k0_off49 arg23_r0) a + S1.size a ≤ S2.size a := fun k0_t1 arg13_r0 arg14_r0 arg15_r0 arg16_r0 arg17_r0 arg18_r0 arg19_r0 arg20_r0 arg21_r0 arg22_r0 arg23_r0 arg24_r0 arg25_r0 k0_hw1 k0_h20 => k0_hw1.2.2.2.2.2.2.2.2.1 k0_h20
theorem k0_off50_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h20 : k0_cond20 k0_t1 arg25_r0 = 1#1), ∀ a, (k0_off50 arg25_r0) a + S256x1024.size a ≤ S32768x1024.size a := fun k0_t1 arg13_r0 arg14_r0 arg15_r0 arg16_r0 arg17_r0 arg18_r0 arg19_r0 arg20_r0 arg21_r0 arg22_r0 arg23_r0 arg24_r0 arg25_r0 k0_hw1 k0_h20 => k0_hw1.2.2.2.2.2.2.2.2.2.1 k0_h20
theorem k0_off51_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h20 : k0_cond20 k0_t1 arg25_r0 = 1#1), ∀ a, (k0_off51 arg23_r0) a + S1x256x1024.size a ≤ S2x256x1024.size a := fun k0_t1 arg13_r0 arg14_r0 arg15_r0 arg16_r0 arg17_r0 arg18_r0 arg19_r0 arg20_r0 arg21_r0 arg22_r0 arg23_r0 arg24_r0 arg25_r0 k0_hw1 k0_h20 => k0_hw1.2.2.2.2.2.2.2.2.2.2.1 k0_h20
theorem k0_off51_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h20 : k0_cond20 k0_t1 arg25_r0 = 1#1), (Rect.unit (s := S2x256x1024) (k0_off51 arg23_r0) S1x256x1024.size (k0_off51_inb k0_t1 arg13_r0 arg14_r0 arg15_r0 arg16_r0 arg17_r0 arg18_r0 arg19_r0 arg20_r0 arg21_r0 arg22_r0 arg23_r0 arg24_r0 arg25_r0 k0_hw1 k0_h20)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h20 => k0_hw1.2.2.2.2.2.2.2.2.2.2.2.1 k0_h20 (k0_off51_inb k0_t1 arg13_r0 arg14_r0 arg15_r0 arg16_r0 arg17_r0 arg18_r0 arg19_r0 arg20_r0 arg21_r0 arg22_r0 arg23_r0 arg24_r0 arg25_r0 k0_hw1 k0_h20)
theorem k0_off50_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h20 : k0_cond20 k0_t1 arg25_r0 = 1#1), (Rect.unit (s := S32768x1024) (k0_off50 arg25_r0) S256x1024.size (k0_off50_inb k0_t1 arg13_r0 arg14_r0 arg15_r0 arg16_r0 arg17_r0 arg18_r0 arg19_r0 arg20_r0 arg21_r0 arg22_r0 arg23_r0 arg24_r0 arg25_r0 k0_hw1 k0_h20)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h20 => k0_hw1.2.2.2.2.2.2.2.2.2.2.2.2.1 k0_h20 (k0_off50_inb k0_t1 arg13_r0 arg14_r0 arg15_r0 arg16_r0 arg17_r0 arg18_r0 arg19_r0 arg20_r0 arg21_r0 arg22_r0 arg23_r0 arg24_r0 arg25_r0 k0_hw1 k0_h20)
theorem k0_off52_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h25 : k0_cond25 k0_t1 arg25_r0 = 1#1), ∀ a, (k0_off52 arg22_r0) a + S1.size a ≤ S2.size a := fun k0_t1 arg13_r0 arg14_r0 arg15_r0 arg16_r0 arg17_r0 arg18_r0 arg19_r0 arg20_r0 arg21_r0 arg22_r0 arg23_r0 arg24_r0 arg25_r0 k0_hw1 k0_h25 => k0_hw1.2.2.2.2.2.2.2.2.2.2.2.2.2.1 k0_h25
theorem k0_off53_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h25 : k0_cond25 k0_t1 arg25_r0 = 1#1), ∀ a, (k0_off53 arg25_r0) a + S256x1024.size a ≤ S32768x1024.size a := fun k0_t1 arg13_r0 arg14_r0 arg15_r0 arg16_r0 arg17_r0 arg18_r0 arg19_r0 arg20_r0 arg21_r0 arg22_r0 arg23_r0 arg24_r0 arg25_r0 k0_hw1 k0_h25 => k0_hw1.2.2.2.2.2.2.2.2.2.2.2.2.2.2.1 k0_h25
theorem k0_off54_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h25 : k0_cond25 k0_t1 arg25_r0 = 1#1), ∀ a, (k0_off54 arg22_r0) a + S1x256x1024.size a ≤ S2x256x1024.size a := fun k0_t1 arg13_r0 arg14_r0 arg15_r0 arg16_r0 arg17_r0 arg18_r0 arg19_r0 arg20_r0 arg21_r0 arg22_r0 arg23_r0 arg24_r0 arg25_r0 k0_hw1 k0_h25 => k0_hw1.2.2.2.2.2.2.2.2.2.2.2.2.2.2.2.1 k0_h25
theorem k0_off55_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h26 : k0_cond26 k0_t1 arg25_r0 = 1#1), ∀ a, (k0_off55 arg24_r0) a + S1.size a ≤ S2.size a := fun k0_t1 arg13_r0 arg14_r0 arg15_r0 arg16_r0 arg17_r0 arg18_r0 arg19_r0 arg20_r0 arg21_r0 arg22_r0 arg23_r0 arg24_r0 arg25_r0 k0_hw1 k0_h26 => k0_hw1.2.2.2.2.2.2.2.2.2.2.2.2.2.2.2.2.1 k0_h26
theorem k0_off56_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h26 : k0_cond26 k0_t1 arg25_r0 = 1#1), ∀ a, (k0_off56 arg25_r0) a + S256x1024.size a ≤ S32768x1024.size a := fun k0_t1 arg13_r0 arg14_r0 arg15_r0 arg16_r0 arg17_r0 arg18_r0 arg19_r0 arg20_r0 arg21_r0 arg22_r0 arg23_r0 arg24_r0 arg25_r0 k0_hw1 k0_h26 => k0_hw1.2.2.2.2.2.2.2.2.2.2.2.2.2.2.2.2.2.1 k0_h26
theorem k0_off57_inb : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h26 : k0_cond26 k0_t1 arg25_r0 = 1#1), ∀ a, (k0_off57 arg24_r0) a + S1x256x1024.size a ≤ S2x256x1024.size a := fun k0_t1 arg13_r0 arg14_r0 arg15_r0 arg16_r0 arg17_r0 arg18_r0 arg19_r0 arg20_r0 arg21_r0 arg22_r0 arg23_r0 arg24_r0 arg25_r0 k0_hw1 k0_h26 => k0_hw1.2.2.2.2.2.2.2.2.2.2.2.2.2.2.2.2.2.2.1 k0_h26
theorem k0_off57_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h26 : k0_cond26 k0_t1 arg25_r0 = 1#1), (Rect.unit (s := S2x256x1024) (k0_off57 arg24_r0) S1x256x1024.size (k0_off57_inb k0_t1 arg13_r0 arg14_r0 arg15_r0 arg16_r0 arg17_r0 arg18_r0 arg19_r0 arg20_r0 arg21_r0 arg22_r0 arg23_r0 arg24_r0 arg25_r0 k0_hw1 k0_h26)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h26 => k0_hw1.2.2.2.2.2.2.2.2.2.2.2.2.2.2.2.2.2.2.2.1 k0_h26 (k0_off57_inb k0_t1 arg13_r0 arg14_r0 arg15_r0 arg16_r0 arg17_r0 arg18_r0 arg19_r0 arg20_r0 arg21_r0 arg22_r0 arg23_r0 arg24_r0 arg25_r0 k0_hw1 k0_h26)
theorem k0_off56_wordsbf16 : ∀ (k0_t1 : Fin k0_t1_loop.trips) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (k0_hw1 : k0_chk1 k0_t1 arg13_r0 arg14_r0 arg15_r0 arg16_r0 arg17_r0 arg18_r0 arg19_r0 arg20_r0 arg21_r0 arg22_r0 arg23_r0 arg24_r0 arg25_r0), ∀ (k0_h26 : k0_cond26 k0_t1 arg25_r0 = 1#1), (Rect.unit (s := S32768x1024) (k0_off56 arg25_r0) S256x1024.size (k0_off56_inb k0_t1 arg13_r0 arg14_r0 arg15_r0 arg16_r0 arg17_r0 arg18_r0 arg19_r0 arg20_r0 arg21_r0 arg22_r0 arg23_r0 arg24_r0 arg25_r0 k0_hw1 k0_h26)).WholeWords (EltTy.packing .bf16) := fun k0_t1 arg13_r0 arg14_r0 arg15_r0 arg16_r0 arg17_r0 arg18_r0 arg19_r0 arg20_r0 arg21_r0 arg22_r0 arg23_r0 arg24_r0 arg25_r0 k0_hw1 k0_h26 => k0_hw1.2.2.2.2.2.2.2.2.2.2.2.2.2.2.2.2.2.2.2.2 k0_h26 (k0_off56_inb k0_t1 arg13_r0 arg14_r0 arg15_r0 arg16_r0 arg17_r0 arg18_r0 arg19_r0 arg20_r0 arg21_r0 arg22_r0 arg23_r0 arg24_r0 arg25_r0 k0_hw1 k0_h26)

def k0_off58 (v81_9_r0 : BitVec 32) : Fin 1 → Nat :=
  let c2_i32_r0 : BitVec 32 := 2#32
  let v107_r0 : BitVec 32 := Scalar.remui v81_9_r0 c2_i32_r0
  ![v107_r0.toNat]

def k0_off59 (v81_12_r0 : BitVec 32) : Fin 2 → Nat :=
  let c256_i32_r0 : BitVec 32 := 256#32
  let true_86_r0 : BitVec 1 := 1#1
  let c1_i32_85_r0 : BitVec 32 := 1#32
  let v82_r0 : BitVec 32 := Scalar.subi v81_12_r0 c1_i32_85_r0
  let v83_r0 : BitVec 32 := Scalar.select true_86_r0 v82_r0 v81_12_r0
  let c_m1_i32_87_r0 : BitVec 32 := 4294967295#32
  let v84_r0 : BitVec 1 := Scalar.cmpi .eq v83_r0 c_m1_i32_87_r0
  let c127_i32_88_r0 : BitVec 32 := 127#32
  let v85_r0 : BitVec 32 := Scalar.select v84_r0 c127_i32_88_r0 v83_r0
  let c0_i32_89_r0 : BitVec 32 := 0#32
  let v86_r0 : BitVec 32 := Scalar.addi v85_r0 c0_i32_89_r0
  let v108_r0 : BitVec 32 := Scalar.muli c256_i32_r0 v86_r0
  let c0_i32_110_r0 : BitVec 32 := 0#32
  ![v108_r0.toNat, 0]

def k0_off60 (v81_9_r0 : BitVec 32) : Fin 3 → Nat :=
  let c2_i32_r0 : BitVec 32 := 2#32
  let v107_r0 : BitVec 32 := Scalar.remui v81_9_r0 c2_i32_r0
  let c0_i32_111_r0 : BitVec 32 := 0#32
  let c0_i32_112_r0 : BitVec 32 := 0#32
  ![v107_r0.toNat, 0, 0]

def k0_chk8 (v81_9_r0 : BitVec 32) : Prop :=
  (∀ a, (k0_off58 v81_9_r0) a + S1.size a ≤ S2.size a) ∧
  (∀ a, (k0_off60 v81_9_r0) a + S1x256x1024.size a ≤ S2x256x1024.size a)
theorem k0_off58_inb : ∀ (v81_9_r0 : BitVec 32) (k0_hw8 : k0_chk8 v81_9_r0), ∀ a, (k0_off58 v81_9_r0) a + S1.size a ≤ S2.size a := fun v81_9_r0 k0_hw8 => k0_hw8.1
theorem k0_off60_inb : ∀ (v81_9_r0 : BitVec 32) (k0_hw8 : k0_chk8 v81_9_r0), ∀ a, (k0_off60 v81_9_r0) a + S1x256x1024.size a ≤ S2x256x1024.size a := fun v81_9_r0 k0_hw8 => k0_hw8.2

def k0_off61 (v81_11_r0 : BitVec 32) : Fin 1 → Nat :=
  let c2_i32_113_r0 : BitVec 32 := 2#32
  let v114_r0 : BitVec 32 := Scalar.remui v81_11_r0 c2_i32_113_r0
  ![v114_r0.toNat]

def k0_off62 (v81_12_r0 : BitVec 32) : Fin 2 → Nat :=
  let c256_i32_114_r0 : BitVec 32 := 256#32
  let true_86_r0 : BitVec 1 := 1#1
  let c1_i32_85_r0 : BitVec 32 := 1#32
  let v82_r0 : BitVec 32 := Scalar.subi v81_12_r0 c1_i32_85_r0
  let v83_r0 : BitVec 32 := Scalar.select true_86_r0 v82_r0 v81_12_r0
  let c_m1_i32_87_r0 : BitVec 32 := 4294967295#32
  let v84_r0 : BitVec 1 := Scalar.cmpi .eq v83_r0 c_m1_i32_87_r0
  let c127_i32_88_r0 : BitVec 32 := 127#32
  let v85_r0 : BitVec 32 := Scalar.select v84_r0 c127_i32_88_r0 v83_r0
  let c0_i32_89_r0 : BitVec 32 := 0#32
  let v86_r0 : BitVec 32 := Scalar.addi v85_r0 c0_i32_89_r0
  let v115_r0 : BitVec 32 := Scalar.muli c256_i32_114_r0 v86_r0
  let c0_i32_115_r0 : BitVec 32 := 0#32
  ![v115_r0.toNat, 0]
def k0_off63 (v81_11_r0 : BitVec 32) : Fin 3 → Nat :=
  let c2_i32_113_r0 : BitVec 32 := 2#32
  let v114_r0 : BitVec 32 := Scalar.remui v81_11_r0 c2_i32_113_r0
  let c0_i32_116_r0 : BitVec 32 := 0#32
  let c0_i32_117_r0 : BitVec 32 := 0#32
  ![v114_r0.toNat, 0, 0]

def k0_chk10 (v81_11_r0 : BitVec 32) : Prop :=
  (∀ a, (k0_off61 v81_11_r0) a + S1.size a ≤ S2.size a) ∧
  (∀ a, (k0_off63 v81_11_r0) a + S1x256x1024.size a ≤ S2x256x1024.size a) ∧
  (∀ (hinb : ∀ a, (k0_off63 v81_11_r0) a + S1x256x1024.size a ≤ S2x256x1024.size a), (Rect.unit (s := S2x256x1024) (k0_off63 v81_11_r0) S1x256x1024.size hinb).WholeWords (EltTy.packing .bf16))
theorem k0_off61_inb : ∀ (v81_11_r0 : BitVec 32) (k0_hw10 : k0_chk10 v81_11_r0), ∀ a, (k0_off61 v81_11_r0) a + S1.size a ≤ S2.size a := fun v81_11_r0 k0_hw10 => k0_hw10.1
theorem k0_off63_inb : ∀ (v81_11_r0 : BitVec 32) (k0_hw10 : k0_chk10 v81_11_r0), ∀ a, (k0_off63 v81_11_r0) a + S1x256x1024.size a ≤ S2x256x1024.size a := fun v81_11_r0 k0_hw10 => k0_hw10.2.1
theorem k0_off63_wordsbf16 : ∀ (v81_11_r0 : BitVec 32) (k0_hw10 : k0_chk10 v81_11_r0), (Rect.unit (s := S2x256x1024) (k0_off63 v81_11_r0) S1x256x1024.size (k0_off63_inb v81_11_r0 k0_hw10)).WholeWords (EltTy.packing .bf16) := fun v81_11_r0 k0_hw10 => k0_hw10.2.2 (k0_off63_inb v81_11_r0 k0_hw10)

def k0_chk9 (v81_12_r0 : BitVec 32) : Prop :=
  (∀ a, (k0_off59 v81_12_r0) a + S256x1024.size a ≤ S32768x1024.size a) ∧
  (∀ a, (k0_off62 v81_12_r0) a + S256x1024.size a ≤ S32768x1024.size a) ∧
  (∀ (hinb : ∀ a, (k0_off62 v81_12_r0) a + S256x1024.size a ≤ S32768x1024.size a), (Rect.unit (s := S32768x1024) (k0_off62 v81_12_r0) S256x1024.size hinb).WholeWords (EltTy.packing .bf16))
theorem k0_off59_inb : ∀ (v81_12_r0 : BitVec 32) (k0_hw9 : k0_chk9 v81_12_r0), ∀ a, (k0_off59 v81_12_r0) a + S256x1024.size a ≤ S32768x1024.size a := fun v81_12_r0 k0_hw9 => k0_hw9.1
theorem k0_off62_inb : ∀ (v81_12_r0 : BitVec 32) (k0_hw9 : k0_chk9 v81_12_r0), ∀ a, (k0_off62 v81_12_r0) a + S256x1024.size a ≤ S32768x1024.size a := fun v81_12_r0 k0_hw9 => k0_hw9.2.1
theorem k0_off62_wordsbf16 : ∀ (v81_12_r0 : BitVec 32) (k0_hw9 : k0_chk9 v81_12_r0), (Rect.unit (s := S32768x1024) (k0_off62 v81_12_r0) S256x1024.size (k0_off62_inb v81_12_r0 k0_hw9)).WholeWords (EltTy.packing .bf16) := fun v81_12_r0 k0_hw9 => k0_hw9.2.2 (k0_off62_inb v81_12_r0 k0_hw9)

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x8192x1024 : Shape := ⟨3, ![4, 8192, 1024]⟩
abbrev S32768x512 : Shape := ⟨2, ![32768, 512]⟩
abbrev S4x8192x512 : Shape := ⟨3, ![4, 8192, 512]⟩
abbrev S1024 : Shape := ⟨1, ![1024]⟩
abbrev S1024x6408 : Shape := ⟨2, ![1024, 6408]⟩
abbrev S3x512x1024 : Shape := ⟨3, ![3, 512, 1024]⟩
abbrev S1024x1024 : Shape := ⟨2, ![1024, 1024]⟩
abbrev S4x8192x4x2x64 : Shape := ⟨5, ![4, 8192, 4, 2, 64]⟩
abbrev S4x8192x2x4x64 : Shape := ⟨5, ![4, 8192, 2, 4, 64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x3072 : Shape := ⟨2, ![1024, 3072]⟩
abbrev S4x8192x3072 : Shape := ⟨3, ![4, 8192, 3072]⟩
abbrev S4x8192x1x512 : Shape := ⟨4, ![4, 8192, 1, 512]⟩
abbrev S4x8192x3x512 : Shape := ⟨4, ![4, 8192, 3, 512]⟩
abbrev S3x1024x4x8192 : Shape := ⟨4, ![3, 1024, 4, 8192]⟩
abbrev S4x8192x3x1024 : Shape := ⟨4, ![4, 8192, 3, 1024]⟩
abbrev S32768x1024 : Shape := ⟨2, ![32768, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S32768x512, .bf16⟩
  | .hbm, ⟨2, _⟩ => ⟨S4x8192x512, .bf16⟩
  | .hbm, ⟨3, _⟩ => ⟨S32768x512, .bf16⟩
  | .hbm, ⟨4, _⟩ => ⟨S1024, .f32⟩
  | .hbm, ⟨5, _⟩ => ⟨S1024x6408, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S32768x512, .f32⟩
  | .hbm, ⟨11, _⟩ => ⟨S4x8192x4x2x64, .f32⟩
  | .hbm, ⟨12, _⟩ => ⟨S4x8192x2x4x64, .f32⟩
  | .hbm, ⟨13, _⟩ => ⟨S4x8192x512, .f32⟩
  | .hbm, ⟨14, _⟩ => ⟨S4x8192x512, .f32⟩
  | .hbm, ⟨15, _⟩ => ⟨S32768x512, .f32⟩
  | .hbm, ⟨16, _⟩ => ⟨S4x8192x512, .f32⟩
  | .hbm, ⟨17, _⟩ => ⟨S4x8192x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S1024x3072, .f32⟩
  | .hbm, ⟨34, _⟩ => ⟨S4x8192x3072, .f32⟩
  | .hbm, ⟨35, _⟩ => ⟨S4x8192x1x512, .f32⟩
  | .hbm, ⟨36, _⟩ => ⟨S4x8192x1x512, .f32⟩
  | .hbm, ⟨37, _⟩ => ⟨S4x8192x1x512, .f32⟩
  | .hbm, ⟨38, _⟩ => ⟨S4x8192x3x512, .f32⟩
  | .hbm, ⟨39, _⟩ => ⟨S3x1024x4x8192, .f32⟩
  | .hbm, ⟨40, _⟩ => ⟨S4x8192x3x1024, .f32⟩
  | .hbm, ⟨41, _⟩ => ⟨S4x8192x3x1024, .f32⟩
  | .hbm, ⟨42, _⟩ => ⟨S4x8192x3x1024, .f32⟩
  | .hbm, ⟨43, _⟩ => ⟨S4x8192x3x1024, .f32⟩
  | .hbm, ⟨44, _⟩ => ⟨S_, .f32⟩
  | .hbm, ⟨45, _⟩ => ⟨S4x8192x3x1024, .f32⟩
  | .hbm, ⟨46, _⟩ => ⟨S4x8192x3x1024, .f32⟩
  | .hbm, ⟨47, _⟩ => ⟨S_, .f32⟩
  | .hbm, ⟨48, _⟩ => ⟨S4x8192x3x1024, .f32⟩
  | .hbm, ⟨49, _⟩ => ⟨S4x8192x3x1024, .f32⟩
  | .hbm, ⟨50, _⟩ => ⟨S4x8192x3x1024, .f32⟩
  | .hbm, ⟨51, _⟩ => ⟨S_, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S_, .f32⟩
  | .hbm, ⟨62, _⟩ => ⟨S4x8192x1, .f32⟩
  | .hbm, ⟨63, _⟩ => ⟨S4x8192x1, .f32⟩
  | .hbm, ⟨64, _⟩ => ⟨S4x8192x1, .f32⟩
  | .hbm, ⟨65, _⟩ => ⟨S4x8192x1024, .f32⟩
  | .hbm, ⟨66, _⟩ => ⟨S4x8192x1024, .f32⟩
  | .hbm, ⟨67, _⟩ => ⟨S1x1x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S4x8192x1024, .f32⟩
  | .hbm, ⟨72, _⟩ => ⟨S_, .f32⟩
  | .hbm, ⟨73, _⟩ => ⟨S4x8192, .f32⟩
  | .hbm, ⟨74, _⟩ => ⟨S4x8192x1, .f32⟩
  | .hbm, ⟨75, _⟩ => ⟨S_, .f32⟩
  | .hbm, ⟨76, _⟩ => ⟨S4x8192x1, .f32⟩
  | .hbm, ⟨77, _⟩ => ⟨S4x8192x1, .f32⟩
  | .hbm, ⟨78, _⟩ => ⟨S_, .f32⟩
  | .hbm, ⟨79, _⟩ => ⟨S4x8192x1, .f32⟩
  | .hbm, ⟨80, _⟩ => ⟨S4x8192x1, .f32⟩
  | .hbm, ⟨81, _⟩ => ⟨S4x8192x1, .f32⟩
  | .hbm, ⟨82, _⟩ => ⟨S4x8192x1024, .f32⟩
  | .hbm, ⟨83, _⟩ => ⟨S4x8192x1024, .f32⟩
  | .hbm, ⟨84, _⟩ => ⟨S1x1x1024, .f32⟩
  | .hbm, ⟨85, _⟩ => ⟨S4x8192x1024, .f32⟩
  | .hbm, ⟨86, _⟩ => ⟨S4x8192x1024, .f32⟩
  | .hbm, ⟨87, _⟩ => ⟨S32768x1024, .f32⟩
  | .hbm, ⟨88, _⟩ => ⟨S32768x1024, .f32⟩
  | .hbm, ⟨89, _⟩ => ⟨S32768x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Kernel2.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S1024x1024 : Shape := ⟨2, ![1024, 1024]⟩
abbrev S1024x1536 : Shape := ⟨2, ![1024, 1536]⟩
abbrev S1024x1280 : Shape := ⟨2, ![1024, 1280]⟩
abbrev S1536x1024 : Shape := ⟨2, ![1536, 1024]⟩
abbrev S1280x1024 : Shape := ⟨2, ![1280, 1024]⟩
abbrev S1024x1 : Shape := ⟨2, ![1024, 1]⟩

abbrev nBuf : Space → Nat
  | .hbm => 9
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S32768x5632 : Shape := ⟨2, ![32768, 5632]⟩
abbrev S32768x2816 : Shape := ⟨2, ![32768, 2816]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32768x1024, .f32⟩
  | .hbm, ⟨6, _⟩ => ⟨S32768x5632, .f32⟩
  | .hbm, ⟨7, _⟩ => ⟨S32768x2816, .f32⟩
  | .hbm, ⟨8, _⟩ => ⟨S32768x2816, .f32⟩
  | .hbm, ⟨9, _⟩ => ⟨S32768x2816, .f32⟩
  | .hbm, ⟨10, _⟩ => ⟨S32768x2816, .f32⟩
  | .hbm, ⟨11, _⟩ => ⟨S_, .f32⟩
  | .hbm, ⟨12, _⟩ => ⟨S32768x2816, .f32⟩
  | .hbm, ⟨13, _⟩ => ⟨S32768x2816, .f32⟩
  | .hbm, ⟨14, _⟩ => ⟨S_, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S1x1024, .f32⟩
  | .hbm, ⟨34, _⟩ => ⟨S32768x1024, .f32⟩
  | .hbm, ⟨35, _⟩ => ⟨S32768x1024, .f32⟩
  | .hbm, ⟨36, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Kernel3.lean ====
abbrev S4x256x1024 : Shape := ⟨3, ![4, 256, 1024]⟩
abbrev S1024 : Shape := ⟨1, ![1024]⟩
abbrev S1024x1024 : Shape := ⟨2, ![1024, 1024]⟩
abbrev S1x1024 : Shape := ⟨2, ![1, 1024]⟩
abbrev S1024x512 : Shape := ⟨2, ![1024, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S1x1024, .f32⟩
  | .hbm, ⟨6, _⟩ => ⟨S1024x512, .f32⟩
  | .hbm, ⟨7, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4x256x1024 : Shape := ⟨3, ![4, 256, 1024]⟩
abbrev S1024 : Shape := ⟨1, ![1024]⟩
abbrev S1024x1024 : Shape := ⟨2, ![1024, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S1024x512 : Shape := ⟨2, ![1024, 512]⟩

abbrev nBuf : Space → Nat
  | .hbm => 24
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x1024, .f32⟩
  | .hbm, ⟨20, _⟩ => ⟨S4x256x512, .f32⟩
  | .hbm, ⟨21, _⟩ => ⟨S4x256x512, .f32⟩
  | .hbm, ⟨22, _⟩ => ⟨S1024x512, .f32⟩
  | .hbm, ⟨23, _⟩ => ⟨S1024x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024 : Shape := ⟨1, ![1024]⟩
abbrev S1024x6408 : Shape := ⟨2, ![1024, 6408]⟩
abbrev S4x1536 : Shape := ⟨2, ![4, 1536]⟩
abbrev S512 : Shape := ⟨1, ![512]⟩
abbrev S_ : Shape := ⟨0, ![]⟩
abbrev S512x1 : Shape := ⟨2, ![512, 1]⟩
abbrev S1024x512 : Shape := ⟨2, ![1024, 512]⟩
abbrev S1024x1792 : Shape := ⟨2, ![1024, 1792]⟩
abbrev S1024x4096 : Shape := ⟨2, ![1024, 4096]⟩
abbrev S1024x8 : Shape := ⟨2, ![1024, 8]⟩
abbrev S1024x128 : Shape := ⟨2, ![1024, 128]⟩
abbrev S32768x1024 : Shape := ⟨2, ![32768, 1024]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S32768x512 : Shape := ⟨2, ![32768, 512]⟩
abbrev S32768x128 : Shape := ⟨2, ![32768, 128]⟩
abbrev S4x8x1536 : Shape := ⟨3, ![4, 8, 1536]⟩
abbrev S1024x1024 : Shape := ⟨2, ![1024, 1024]⟩
abbrev S1x8x1536 : Shape := ⟨3, ![1, 8, 1536]⟩
abbrev S1032x1536 : Shape := ⟨2, ![1032, 1536]⟩
abbrev S8x1536 : Shape := ⟨2, ![8, 1536]⟩
abbrev S1024x1 : Shape := ⟨2, ![1024, 1]⟩
abbrev S1024x256 : Shape := ⟨2, ![1024, 256]⟩
abbrev S8x256 : Shape := ⟨2, ![8, 256]⟩
abbrev S1x8x256 : Shape := ⟨3, ![1, 8, 256]⟩
abbrev S1032x256 : Shape := ⟨2, ![1032, 256]⟩
abbrev S1x256 : Shape := ⟨2, ![1, 256]⟩

abbrev nBuf : Space → Nat
  | .hbm => 60
  | .vmem => 33
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6408, .f32⟩
  | .hbm, ⟨3, _⟩ => ⟨S4x1536, .f32⟩
  | .hbm, ⟨4, _⟩ => ⟨S512, .i32⟩
  | .hbm, ⟨5, _⟩ => ⟨S512, .i1⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S512x1, .i32⟩
  | .hbm, ⟨11, _⟩ => ⟨S1024x512, .f32⟩
  | .hbm, ⟨12, _⟩ => ⟨S1024x512, .bf16⟩
  | .hbm, ⟨13, _⟩ => ⟨S1024x1792, .f32⟩
  | .hbm, ⟨14, _⟩ => ⟨S1024x1792, .bf16⟩
  | .hbm, ⟨15, _⟩ => ⟨S1024x4096, .f32⟩
  | .hbm, ⟨16, _⟩ => ⟨S1024x4096, .bf16⟩
  | .hbm, ⟨17, _⟩ => ⟨S1024x8, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x128, .bf16⟩
  | .hbm, ⟨22, _⟩ => ⟨S32768x1024, .f32⟩
  | .hbm, ⟨23, _⟩ => ⟨S8192, .i32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S8192, .f32⟩
  | .hbm, ⟨33, _⟩ => ⟨S8192x1, .f32⟩
  | .hbm, ⟨34, _⟩ => ⟨S1x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S8192x64, .f32⟩
  | .hbm, ⟨41, _⟩ => ⟨S8192x32, .f32⟩
  | .hbm, ⟨42, _⟩ => ⟨S8192x64, .f32⟩
  | .hbm, ⟨43, _⟩ => ⟨S1x8192x1x64, .f32⟩
  | .hbm, ⟨44, _⟩ => ⟨S1x8192x2x64, .f32⟩
  | .hbm, ⟨45, _⟩ => ⟨S8192x128, .f32⟩
  | .hbm, ⟨46, _⟩ => ⟨S1x8192x1x64, .f32⟩
  | .hbm, ⟨47, _⟩ => ⟨S1x8192x2x64, .f32⟩
  | .hbm, ⟨48, _⟩ => ⟨S8192x128, .f32⟩
  | .hbm, ⟨49, _⟩ => ⟨S1x1024, .f32⟩
  | .hbm, ⟨50, _⟩ => ⟨S32768x512, .bf16⟩
  | .hbm, ⟨51, _⟩ => ⟨S32768x128, .f32⟩
  | .hbm, ⟨52, _⟩ => ⟨S32768x128, .f32⟩
  | .hbm, ⟨53, _⟩ => ⟨S32768x512, .f32⟩
  | .hbm, ⟨54, _⟩ => ⟨S32768x512, .bf16⟩
  | .hbm, ⟨55, _⟩ => ⟨S32768x128, .f32⟩
  | .hbm, ⟨56, _⟩ => ⟨S32768x512, .f32⟩
  | .hbm, ⟨57, _⟩ => ⟨S32768x512, .f32⟩
  | .hbm, ⟨58, _⟩ => ⟨S32768x512, .f32⟩
  | .hbm, ⟨59, _⟩ => ⟨S4x8x1536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x1792, .bf16⟩
  | .local _ .vmem, ⟨5, _⟩ => ⟨S1024x1024, .bf16⟩
  | .local _ .vmem, ⟨6, _⟩ => ⟨S1024x128, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S4x1536, .f32⟩
  | .local _ .vmem, ⟨12, _⟩ => ⟨S1024x512, .bf16⟩
  | .local _ .vmem, ⟨13, _⟩ => ⟨S1024x512, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x512, .f32⟩
  | .local _ .vmem, ⟨19, _⟩ => ⟨S1024x512, .f32⟩
  | .local _ .vmem, ⟨20, _⟩ => ⟨S1024x512, .bf16⟩
  | .local _ .vmem, ⟨21, _⟩ => ⟨S1024x512, .bf16⟩
  | .local _ .vmem, ⟨22, _⟩ => ⟨S1024x128, .f32⟩
  | .local _ .vmem, ⟨23, _⟩ => ⟨S1024x128, .f32⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | .local _ .vmem, ⟨30, _⟩ => ⟨S1x8x1536, .f32⟩
  | .local _ .vmem, ⟨31, _⟩ => ⟨S1x8x1536, .f32⟩
  | .local _ .vmem, ⟨32, _⟩ => ⟨S1032x1536, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39_0 : Ref sig .tc := ⟨.hbm, 50, rfl⟩
abbrev main_v39_1 : Ref sig .tc := ⟨.hbm, 51, rfl⟩
abbrev main_v39_2 : Ref sig .tc := ⟨.hbm, 52, rfl⟩
abbrev main_v39_3 : Ref sig .tc := ⟨.hbm, 53, rfl⟩
abbrev main_v39_4 : Ref sig .tc := ⟨.hbm, 54, rfl⟩
abbrev main_v39_5 : Ref sig .tc := ⟨.hbm, 55, rfl⟩
abbrev main_v39_6 : Ref sig .tc := ⟨.hbm, 56, rfl⟩
abbrev main_v39_7 : Ref sig .tc := ⟨.hbm, 57, rfl⟩
abbrev main_v39_8 : Ref sig .tc := ⟨.hbm, 58, rfl⟩
abbrev main_v39_9 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x1536 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S4x8192x1024 : Shape := ⟨3, ![4, 8192, 1024]⟩
abbrev S1024 : Shape := ⟨1, ![1024]⟩
abbrev S1024x6408 : Shape := ⟨2, ![1024, 6408]⟩
abbrev S4x1536 : Shape := ⟨2, ![4, 1536]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6408 : Shape := ⟨3, ![4, 8192, 6408]⟩
abbrev S4x8192x512 : Shape := ⟨3, ![4, 8192, 512]⟩
abbrev S4x8192x128 : Shape := ⟨3, ![4, 8192, 128]⟩
abbrev S4x8192x1536 : Shape := ⟨3, ![4, 8192, 1536]⟩
abbrev S4x8192x4 : Shape := ⟨3, ![4, 8192, 4]⟩
abbrev S4x8192x3072 : Shape := ⟨3, ![4, 8192, 3072]⟩
abbrev S8192 : Shape := ⟨1, ![8192]⟩
abbrev S4x8192x8x64 : Shape := ⟨4, ![4, 8192, 8, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S4x8192x8x32 : Shape := ⟨4, ![4, 8192, 8, 32]⟩
abbrev S1x8192x1x32 : Shape := ⟨4, ![1, 8192, 1, 32]⟩
abbrev S4x8192x2x64 : Shape := ⟨4, ![4, 8192, 2, 64]⟩
abbrev S4x8192x2x32 : Shape := ⟨4, ![4, 8192, 2, 32]⟩
abbrev S4x3x1536 : Shape := ⟨3, ![4, 3, 1536]⟩
abbrev S4x8195x1536 : Shape := ⟨3, ![4, 8195, 1536]⟩
abbrev S1x1536 : Shape := ⟨2, ![1, 1536]⟩
abbrev S1536 : Shape := ⟨1, ![1536]⟩
abbrev S1x1x1536 : Shape := ⟨3, ![1, 1, 1536]⟩
abbrev S4x8192x4x128 : Shape := ⟨4, ![4, 8192, 4, 128]⟩
abbrev S4x8192x4x1 : Shape := ⟨4, ![4, 8192, 4, 1]⟩
abbrev S4x8192x2x4x64 : Shape := ⟨5, ![4, 8192, 2, 4, 64]⟩
abbrev S4x8192x4x2x64 : Shape := ⟨5, ![4, 8192, 4, 2, 64]⟩
abbrev S4x8192x8 : Shape := ⟨3, ![4, 8192, 8]⟩
abbrev S32768x512 : Shape := ⟨2, ![32768, 512]⟩
abbrev S32768x128 : Shape := ⟨2, ![32768, 128]⟩
abbrev S4x8x1536 : Shape := ⟨3, ![4, 8, 1536]⟩

abbrev nBuf : Space → Nat
  | .hbm => 194
  | .vmem => 0
  | .smem => 0
  | _ => 0

abbrev hbmTy0_0 (i : Nat) : BufTy := match i % 128 with
  | 0 => ⟨S4x8192x1024, .f32⟩
  | 1 => ⟨S1024, .f32⟩
  | 2 => ⟨S1024x6408, .f32⟩
  | 3 => ⟨S4x1536, .f32⟩
  | 4 => ⟨S4x8192x1024, .f32⟩
  | 5 => ⟨S_, .f32⟩
  | 6 => ⟨S4x8192, .f32⟩
  | 7 => ⟨S4x8192x1, .f32⟩
  | 8 => ⟨S_, .f32⟩
  | 9 => ⟨S4x8192x1, .f32⟩
  | 10 => ⟨S4x8192x1, .f32⟩
  | 11 => ⟨S_, .f32⟩
  | 12 => ⟨S4x8192x1, .f32⟩
  | 13 => ⟨S4x8192x1, .f32⟩
  | 14 => ⟨S4x8192x1, .f32⟩
  | 15 => ⟨S4x8192x1024, .f32⟩
  | 16 => ⟨S4x8192x1024, .f32⟩
  | 17 => ⟨S1x1x1024, .f32⟩
  | 18 => ⟨S4x8192x1024, .f32⟩
  | 19 => ⟨S4x8192x1024, .f32⟩
  | 20 => ⟨S4x8192x6408, .f32⟩
  | 21 => ⟨S4x8192x512, .f32⟩
  | 22 => ⟨S4x8192x128, .f32⟩
  | 23 => ⟨S4x8192x128, .f32⟩
  | 24 => ⟨S4x8192x1536, .f32⟩
  | 25 => ⟨S4x8192x4, .f32⟩
  | 26 => ⟨S4x8192x4, .f32⟩
  | 27 => ⟨S4x8192x512, .f32⟩
  | 28 => ⟨S4x8192x512, .f32⟩
  | 29 => ⟨S4x8192x3072, .f32⟩
  | 30 => ⟨S8192, .i32⟩
  | 31 => ⟨S4x8192x8x64, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S8192, .f32⟩
  | 41 => ⟨S8192x1, .f32⟩
  | 42 => ⟨S1x32, .f32⟩
  | 43 => ⟨S8192x32, .f32⟩
  | 44 => ⟨S8192x32, .f32⟩
  | 45 => ⟨S8192x32, .f32⟩
  | 46 => ⟨S8192x32, .f32⟩
  | 47 => ⟨S8192x1x32, .f32⟩
  | 48 => ⟨S8192x32, .f32⟩
  | 49 => ⟨S8192x1x32, .f32⟩
  | 50 => ⟨S4x8192x8x32, .f32⟩
  | 51 => ⟨S4x8192x8x32, .f32⟩
  | 52 => ⟨S1x8192x1x32, .f32⟩
  | 53 => ⟨S4x8192x8x32, .f32⟩
  | 54 => ⟨S4x8192x8x32, .f32⟩
  | 55 => ⟨S1x8192x1x32, .f32⟩
  | 56 => ⟨S4x8192x8x32, .f32⟩
  | 57 => ⟨S4x8192x8x32, .f32⟩
  | 58 => ⟨S4x8192x8x32, .f32⟩
  | 59 => ⟨S1x8192x1x32, .f32⟩
  | 60 => ⟨S4x8192x8x32, .f32⟩
  | 61 => ⟨S4x8192x8x32, .f32⟩
  | 62 => ⟨S1x8192x1x32, .f32⟩
  | 63 => ⟨S4x8192x8x32, .f32⟩
  | 64 => ⟨S4x8192x8x32, .f32⟩
  | 65 => ⟨S4x8192x8x32, .f32⟩
  | 66 => ⟨S4x8192x8x64, .f32⟩
  | 67 => ⟨S_, .f32⟩
  | 68 => ⟨S4x8192x8x64, .f32⟩
  | 69 => ⟨S4x8192x8x64, .f32⟩
  | 70 => ⟨S4x8192x2x64, .f32⟩
  | 71 => ⟨S32, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S8192, .f32⟩
  | 80 => ⟨S8192x1, .f32⟩
  | 81 => ⟨S1x32, .f32⟩
  | 82 => ⟨S8192x32, .f32⟩
  | 83 => ⟨S8192x32, .f32⟩
  | 84 => ⟨S8192x32, .f32⟩
  | 85 => ⟨S8192x32, .f32⟩
  | 86 => ⟨S8192x1x32, .f32⟩
  | 87 => ⟨S8192x32, .f32⟩
  | 88 => ⟨S8192x1x32, .f32⟩
  | 89 => ⟨S4x8192x2x32, .f32⟩
  | 90 => ⟨S4x8192x2x32, .f32⟩
  | 91 => ⟨S1x8192x1x32, .f32⟩
  | 92 => ⟨S4x8192x2x32, .f32⟩
  | 93 => ⟨S4x8192x2x32, .f32⟩
  | 94 => ⟨S1x8192x1x32, .f32⟩
  | 95 => ⟨S4x8192x2x32, .f32⟩
  | 96 => ⟨S4x8192x2x32, .f32⟩
  | 97 => ⟨S4x8192x2x32, .f32⟩
  | 98 => ⟨S1x8192x1x32, .f32⟩
  | 99 => ⟨S4x8192x2x32, .f32⟩
  | 100 => ⟨S4x8192x2x32, .f32⟩
  | 101 => ⟨S1x8192x1x32, .f32⟩
  | 102 => ⟨S4x8192x2x32, .f32⟩
  | 103 => ⟨S4x8192x2x32, .f32⟩
  | 104 => ⟨S4x8192x2x32, .f32⟩
  | 105 => ⟨S4x8192x2x64, .f32⟩
  | 106 => ⟨S_, .f32⟩
  | 107 => ⟨S4x3x1536, .f32⟩
  | 108 => ⟨S4x8195x1536, .f32⟩
  | 109 => ⟨S4x8192x1536, .f32⟩
  | 110 => ⟨S1x1536, .f32⟩
  | 111 => ⟨S1536, .f32⟩
  | 112 => ⟨S1x1x1536, .f32⟩
  | 113 => ⟨S4x8192x1536, .f32⟩
  | 114 => ⟨S4x8192x1536, .f32⟩
  | 115 => ⟨S_, .f32⟩
  | 116 => ⟨S4x8192x1536, .f32⟩
  | 117 => ⟨S4x8192x1536, .f32⟩
  | 118 => ⟨S4x8192x1536, .f32⟩
  | 119 => ⟨S1x1536, .f32⟩
  | 120 => ⟨S1536, .f32⟩
  | 121 => ⟨S1x1x1536, .f32⟩
  | 122 => ⟨S4x8192x1536, .f32⟩
  | 123 => ⟨S4x8192x1536, .f32⟩
  | 124 => ⟨S4x8192x1536, .f32⟩
  | 125 => ⟨S4x8192x1536, .f32⟩
  | 126 => ⟨S1x1536, .f32⟩
  | 127 => ⟨S1536, .f32⟩
  | _ => ⟨S4x8192x1024, .f32⟩

abbrev hbmTy0_1 (i : Nat) : BufTy := match i % 128 with
  | 0 => ⟨S1x1x1536, .f32⟩
  | 1 => ⟨S4x8192x1536, .f32⟩
  | 2 => ⟨S4x8192x1536, .f32⟩
  | 3 => ⟨S4x8192x1536, .f32⟩
  | 4 => ⟨S4x8192x1536, .f32⟩
  | 5 => ⟨S1x1536, .f32⟩
  | 6 => ⟨S1536, .f32⟩
  | 7 => ⟨S1x1x1536, .f32⟩
  | 8 => ⟨S4x8192x1536, .f32⟩
  | 9 => ⟨S4x8192x1536, .f32⟩
  | 10 => ⟨S4x8192x1536, .f32⟩
  | 11 => ⟨S4x8192x1536, .f32⟩
  | 12 => ⟨S4x8192x1536, .f32⟩
  | 13 => ⟨S_, .f32⟩
  | 14 => ⟨S4x8192x1536, .f32⟩
  | 15 => ⟨S4x8192x1536, .f32⟩
  | 16 => ⟨S_, .f32⟩
  | 17 => ⟨S4x8192x1536, .f32⟩
  | 18 => ⟨S4x8192x1536, .f32⟩
  | 19 => ⟨S4x8192x1536, .f32⟩
  | 20 => ⟨S4x8192x512, .f32⟩
  | 21 => ⟨S4x8192x512, .f32⟩
  | 22 => ⟨S4x8192x512, .f32⟩
  | 23 => ⟨S4x8192x4x128, .f32⟩
  | 24 => ⟨S4x8192x4x128, .f32⟩
  | 25 => ⟨S_, .f32⟩
  | 26 => ⟨S4x8192x4, .f32⟩
  | 27 => ⟨S4x8192x4x1, .f32⟩
  | 28 => ⟨S_, .f32⟩
  | 29 => ⟨S4x8192x4x1, .f32⟩
  | 30 => ⟨S4x8192x4x1, .f32⟩
  | 31 => ⟨S4x8192x4x1, .f32⟩
  | 32 => ⟨S4x8192x4x128, .f32⟩
  | 33 => ⟨S4x8192x4x128, .f32⟩
  | 34 => ⟨S_, .f32⟩
  | 35 => ⟨S4x8192x4x128, .f32⟩
  | 36 => ⟨S4x8192x4x128, .f32⟩
  | 37 => ⟨S4x8192x4x128, .f32⟩
  | 38 => ⟨S4x8192x4x128, .f32⟩
  | 39 => ⟨S_, .f32⟩
  | 40 => ⟨S4x8192x4, .f32⟩
  | 41 => ⟨S4x8192x4x1, .f32⟩
  | 42 => ⟨S_, .f32⟩
  | 43 => ⟨S4x8192x4x1, .f32⟩
  | 44 => ⟨S4x8192x4x1, .f32⟩
  | 45 => ⟨S4x8192x4x1, .f32⟩
  | 46 => ⟨S4x8192x4x128, .f32⟩
  | 47 => ⟨S4x8192x4x128, .f32⟩
  | 48 => ⟨S4x8192x2x4x64, .f32⟩
  | 49 => ⟨S4x8192x4x2x64, .f32⟩
  | 50 => ⟨S4x8192x8, .f32⟩
  | 51 => ⟨S_, .i32⟩
  | 52 => ⟨S_, .f32⟩
  | 53 => ⟨S4x8192x128, .f32⟩
  | 54 => ⟨S32768x512, .f32⟩
  | 55 => ⟨S32768x512, .bf16⟩
  | 56 => ⟨S32768x128, .f32⟩
  | 57 => ⟨S32768x128, .f32⟩
  | 58 => ⟨S32768x512, .f32⟩
  | 59 => ⟨S32768x512, .f32⟩
  | 60 => ⟨S32768x512, .bf16⟩
  | 61 => ⟨S32768x128, .f32⟩
  | 62 => ⟨S32768x512, .f32⟩
  | 63 => ⟨S32768x512, .f32⟩
  | 64 => ⟨S32768x512, .f32⟩
  | 65 => ⟨S4x8x1536, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_4 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_v64 : Ref sig .tc := ⟨.hbm, 75, rfl⟩
abbrev main_cst_6 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_cst_7 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_cst_8 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_call0_v0 : Ref sig .tc := ⟨.hbm, 139, rfl⟩
abbrev main_call0_v1 : Ref sig .tc := ⟨.hbm, 140, rfl⟩
abbrev main_call0_cst : Ref sig .tc := ⟨.hbm, 141, rfl⟩
abbrev main_call0_v2 : Ref sig .tc := ⟨.hbm, 142, rfl⟩
abbrev main_call0_v3 : Ref sig .tc := ⟨.hbm, 143, rfl⟩
abbrev main_call0_cst_0 : Ref sig .tc := ⟨.hbm, 144, rfl⟩
abbrev main_call0_v4 : Ref sig .tc := ⟨.hbm, 145, rfl⟩
abbrev main_call0_v5 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_cst_9 : Ref sig .tc := ⟨.hbm, 153, rfl⟩
abbrev main_v131 : Ref sig .tc := ⟨.hbm, 154, rfl⟩
abbrev main_v132 : Ref sig .tc := ⟨.hbm, 155, rfl⟩
abbrev main_cst_10 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_cst_11 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_cst_12 : Ref sig .tc := ⟨.hbm, 167, rfl⟩
abbrev main_v142 : Ref sig .tc := ⟨.hbm, 168, rfl⟩
abbrev main_v143 : Ref sig .tc := ⟨.hbm, 169, rfl⟩
abbrev main_cst_13 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_c : Ref sig .tc := ⟨.hbm, 179, rfl⟩
abbrev main_call1_v0 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩

abbrev nD : Nat := 1
abbrev τ : Topo := Topo.v7x

variable {F : FTy → Type} [FloatOps F]
-- ==== Proof.Words.lean ====
/-
  The pipeline's counters in closed form. The kernel carries thirteen 32-bit counters from one trip of its block loop
  to the next; before trip `k` they are the four words below. Here: every check, branch condition and slice offset the
  trip computes from them, as a function of `k`.
-/
module

public import proofs.«01_k».proof.Defs
public import Idealize.ShloMosaic.Lib.Ring.Trips

@[expose] public section

set_option maxRecDepth 16384

noncomputable section

namespace Cert.Proof.Words

open Cert.KernelIdeal
open Idealize.ShloMosaic

/-- The counter of blocks started, before trip `k`: two ahead of `k`, never past the last block. -/
def wN (k : ℕ) : BitVec 32 := BitVec.ofNat 32 (min (k + 2) 128)
/-- The counter of blocks waited, and of results issued: `k`. -/
def wK (k : ℕ) : BitVec 32 := BitVec.ofNat 32 k
/-- The counter of results waited: one behind `k` (zero before the first two trips). -/
def wP (k : ℕ) : BitVec 32 := BitVec.ofNat 32 (k - 1)
/-- The grid coordinate: `k`, back at zero after the last trip. -/
def wB (k : ℕ) : BitVec 32 := BitVec.ofNat 32 (k % 128)

/-- The thirteen carried counters before trip `k`. -/
def accAt (k : ℕ) : BitVec 32 × BitVec 32 × BitVec 32 × BitVec 32 × BitVec 32 × BitVec 32 × BitVec 32 × BitVec 32 × BitVec 32 × BitVec 32 × BitVec 32 × BitVec 32 × BitVec 32 :=
  (wN k, wK k, wN k, wK k, wN k, wK k, wN k, wK k, wK k, wP k, wK k, wP k, wB k)

/-- Block `b`'s offset in an array of 128 blocks of 256 rows. -/
abbrev blkOff (b : Fin 128) : Fin 2 → Nat := ![256 * b.val, 0]
/-- Slot `s`'s offset in a buffer of `n` slots. -/
abbrev slotOff {n : ℕ} (s : Fin n) : Fin 3 → Nat := ![s.val, 0, 0]
/-- Slot `s`'s offset in an array of `n` semaphores. -/
abbrev semOff {n : ℕ} (s : Fin n) : Fin 1 → Nat := ![s.val]

abbrev K := Fin k0_t1_loop.trips

theorem trips_eq : k0_t1_loop.trips = 128 := by decide +kernel
theorem klt (k : K) : k.val < 128 := Nat.lt_of_lt_of_eq k.isLt trips_eq

/-! ## The checks -/

theorem chk1 : ∀ k : K, k0_chk1 k (wN k) (wK k) (wN k) (wK k) (wN k) (wK k) (wN k) (wK k) (wK k) (wP k) (wK k) (wP k) (wB k) := by decide +kernel
theorem chk2 : ∀ k : K, k0_chk2 (wK k) := by decide +kernel
theorem chk3 : ∀ k : K, k0_chk3 (wK k) := by decide +kernel
theorem chk4 : ∀ k : K, k0_chk4 (wK k) := by decide +kernel
theorem chk5 : ∀ k : K, k0_chk5 (wK k) := by decide +kernel
theorem chk6 : ∀ k : K, k0_chk6 (wK k) := by decide +kernel
theorem chk7 : ∀ k : K, k0_chk7 (wK k) := by decide +kernel
theorem chk8 : k0_chk8 (wP 128) := by decide +kernel
theorem chk9 : k0_chk9 (wB 128) := by decide +kernel
theorem chk10 : k0_chk10 (wP 128) := by decide +kernel

/-! ## The branch conditions -/

theorem cond5 : ∀ k : K, k0_cond5 k (wB k) = 1#1 ↔ k.val < 126 := by decide +kernel
theorem cond6 : ∀ k : K, k0_cond6 k (wB k) = 1#1 ↔ k.val < 126 := by decide +kernel
theorem cond7 : ∀ k : K, k0_cond7 k (wB k) = 1#1 ↔ k.val < 126 := by decide +kernel
theorem cond8 : ∀ k : K, k0_cond8 k (wB k) = 1#1 ↔ k.val < 126 := by decide +kernel
theorem cond9 : ∀ k : K, k0_cond9 k (wB k) = 1#1 := by decide +kernel
theorem cond10 : ∀ k : K, k0_cond10 k (wB k) = 1#1 := by decide +kernel
theorem cond11 : ∀ k : K, k0_cond11 k (wB k) = 1#1 := by decide +kernel
theorem cond12 : ∀ k : K, k0_cond12 k (wB k) = 1#1 := by decide +kernel
theorem cond19 : ∀ k : K, k0_cond19 k (wB k) = 1#1 := by decide +kernel
theorem cond20 : ∀ k : K, k0_cond20 k (wB k) = 1#1 := by decide +kernel
theorem cond25 : ∀ k : K, k0_cond25 k (wB k) = 1#1 ↔ 1 ≤ k.val := by decide +kernel
theorem cond26 : ∀ k : K, k0_cond26 k (wB k) = 1#1 ↔ 1 ≤ k.val := by decide +kernel

/-! ## The offsets of the blocks started -/

open Idealize.ShloMosaic.Ring (sl bk)

theorem off16 : ∀ k : K, k.val < 126 → k0_off16 (wN k) = semOff (sl 3 (k.val + 2)) := by decide +kernel
theorem off17 : ∀ k : K, k.val < 126 → k0_off17 (wN k) = slotOff (sl 3 (k.val + 2)) := by decide +kernel
theorem off18 : ∀ k : K, k.val < 126 → k0_off18 (wB k) = blkOff (bk 128 (k.val + 2)) := by decide +kernel
theorem off19 : ∀ k : K, k.val < 126 → k0_off19 (wN k) = semOff (sl 3 (k.val + 2)) := by decide +kernel
theorem off20 : ∀ k : K, k.val < 126 → k0_off20 (wN k) = slotOff (sl 3 (k.val + 2)) := by decide +kernel
theorem off21 : ∀ k : K, k.val < 126 → k0_off21 (wB k) = blkOff (bk 128 (k.val + 2)) := by decide +kernel
theorem off22 : ∀ k : K, k.val < 126 → k0_off22 (wN k) = semOff (sl 3 (k.val + 2)) := by decide +kernel
theorem off23 : ∀ k : K, k.val < 126 → k0_off23 (wN k) = slotOff (sl 3 (k.val + 2)) := by decide +kernel
theorem off24 : ∀ k : K, k.val < 126 → k0_off24 (wB k) = blkOff (bk 128 (k.val + 2)) := by decide +kernel
theorem off25 : ∀ k : K, k.val < 126 → k0_off25 (wN k) = semOff (sl 3 (k.val + 2)) := by decide +kernel
theorem off26 : ∀ k : K, k.val < 126 → k0_off26 (wN k) = slotOff (sl 3 (k.val + 2)) := by decide +kernel
theorem off27 : ∀ k : K, k.val < 126 → k0_off27 (wB k) = blkOff (bk 128 (k.val + 2)) := by decide +kernel

/-! ## The offsets of the blocks waited and read -/

theorem off28 : ∀ k : K, k0_off28 (wK k) = semOff (sl 3 k.val) := by decide +kernel
theorem off29 : ∀ k : K, k0_off29 (wK k) = slotOff (sl 3 k.val) := by decide +kernel
theorem off30 : ∀ k : K, k0_off30 (wB k) = blkOff (bk 128 k.val) := by decide +kernel
theorem off31 : ∀ k : K, k0_off31 (wK k) = semOff (sl 3 k.val) := by decide +kernel
theorem off32 : ∀ k : K, k0_off32 (wK k) = slotOff (sl 3 k.val) := by decide +kernel
theorem off33 : ∀ k : K, k0_off33 (wB k) = blkOff (bk 128 k.val) := by decide +kernel
theorem off34 : ∀ k : K, k0_off34 (wK k) = semOff (sl 3 k.val) := by decide +kernel
theorem off35 : ∀ k : K, k0_off35 (wK k) = slotOff (sl 3 k.val) := by decide +kernel
theorem off36 : ∀ k : K, k0_off36 (wB k) = blkOff (bk 128 k.val) := by decide +kernel
theorem off37 : ∀ k : K, k0_off37 (wK k) = semOff (sl 3 k.val) := by decide +kernel
theorem off38 : ∀ k : K, k0_off38 (wK k) = slotOff (sl 3 k.val) := by decide +kernel
theorem off39 : ∀ k : K, k0_off39 (wB k) = blkOff (bk 128 k.val) := by decide +kernel
theorem off40 : ∀ k : K, k0_off40 (wK k) = slotOff (sl 3 k.val) := by decide +kernel
theorem off41 : ∀ k : K, k0_off41 (wK k) = slotOff (sl 3 k.val) := by decide +kernel
theorem off42 : ∀ k : K, k0_off42 (wK k) = slotOff (sl 3 k.val) := by decide +kernel
theorem off43 : ∀ k : K, k0_off43 (wK k) = slotOff (sl 3 k.val) := by decide +kernel

/-! ## The offsets of the results stored, issued and waited -/

theorem off44 : ∀ k : K, k0_off44 (wK k) = slotOff (sl 2 k.val) := by decide +kernel
theorem off45 : ∀ k : K, k0_off45 (wK k) = slotOff (sl 2 k.val) := by decide +kernel
theorem off46 : ∀ k : K, k0_off46 (wK k) = semOff (sl 2 k.val) := by decide +kernel
theorem off47 : ∀ k : K, k0_off47 (wB k) = blkOff (bk 128 k.val) := by decide +kernel
theorem off48 : ∀ k : K, k0_off48 (wK k) = slotOff (sl 2 k.val) := by decide +kernel
theorem off49 : ∀ k : K, k0_off49 (wK k) = semOff (sl 2 k.val) := by decide +kernel
theorem off50 : ∀ k : K, k0_off50 (wB k) = blkOff (bk 128 k.val) := by decide +kernel
theorem off51 : ∀ k : K, k0_off51 (wK k) = slotOff (sl 2 k.val) := by decide +kernel
theorem off52 : ∀ k : K, 1 ≤ k.val → k0_off52 (wP k) = semOff (sl 2 (k.val + 1)) := by decide +kernel
theorem off53 : ∀ k : K, 1 ≤ k.val → k0_off53 (wB k) = blkOff (bk 128 (k.val - 1)) := by decide +kernel
theorem off54 : ∀ k : K, 1 ≤ k.val → k0_off54 (wP k) = slotOff (sl 2 (k.val + 1)) := by decide +kernel
theorem off55 : ∀ k : K, 1 ≤ k.val → k0_off55 (wP k) = semOff (sl 2 (k.val + 1)) := by decide +kernel
theorem off56 : ∀ k : K, 1 ≤ k.val → k0_off56 (wB k) = blkOff (bk 128 (k.val - 1)) := by decide +kernel
theorem off57 : ∀ k : K, 1 ≤ k.val → k0_off57 (wP k) = slotOff (sl 2 (k.val + 1)) := by decide +kernel

/-! ## The offsets before the loop and after it -/

theorem off1 : k0_off1 = semOff (0 : Fin 3) := by decide +kernel
theorem off2 : k0_off2 = slotOff (0 : Fin 3) := by decide +kernel
theorem off3 : k0_off3 = slotOff (0 : Fin 3) := by decide +kernel
theorem off4 : k0_off4 = semOff (1 : Fin 3) := by decide +kernel
theorem off5 : k0_off5 = slotOff (1 : Fin 3) := by decide +kernel
theorem off6 : k0_off6 = blkOff 1 := by decide +kernel
theorem off7 : k0_off7 = semOff (1 : Fin 3) := by decide +kernel
theorem off8 : k0_off8 = slotOff (1 : Fin 3) := by decide +kernel
theorem off9 : k0_off9 = blkOff 1 := by decide +kernel
theorem off10 : k0_off10 = semOff (1 : Fin 3) := by decide +kernel
theorem off11 : k0_off11 = slotOff (1 : Fin 3) := by decide +kernel
theorem off12 : k0_off12 = blkOff 1 := by decide +kernel
theorem off13 : k0_off13 = semOff (1 : Fin 3) := by decide +kernel
theorem off14 : k0_off14 = slotOff (1 : Fin 3) := by decide +kernel
theorem off15 : k0_off15 = blkOff 1 := by decide +kernel
theorem off58 : k0_off58 (wP 128) = semOff (1 : Fin 2) := by decide +kernel
theorem off59 : k0_off59 (wB 128) = blkOff 127 := by decide +kernel
theorem off60 : k0_off60 (wP 128) = slotOff (1 : Fin 2) := by decide +kernel
theorem off61 : k0_off61 (wP 128) = semOff (1 : Fin 2) := by decide +kernel
theorem off62 : k0_off62 (wB 128) = blkOff 127 := by decide +kernel
theorem off63 : k0_off63 (wP 128) = slotOff (1 : Fin 2) := by decide +kernel

theorem cond1 : k0_cond1 = 1#1 := by decide +kernel
theorem cond2 : k0_cond2 = 1#1 := by decide +kernel
theorem cond3 : k0_cond3 = 1#1 := by decide +kernel
theorem cond4 : k0_cond4 = 1#1 := by decide +kernel

end Cert.Proof.Words

end
-- ==== Proof.Names.lean ====
/-
  Names for the places the pipeline moves data between: block `b` of an array of 128 blocks, slot `s` of a staging buffer,
  semaphore `s` of a staging buffer. The body spells each slice by offsets it computes from its counters; here every such
  slice is equal to the place it names.
-/
module

public import proofs.«01_k».proof.Defs
public import proofs.«01_k».proof.Proof.Words
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.WriteBehind
public import Idealize.ShloMosaic.Lib.Ring.Trips
public import Idealize.ShloMosaic.Lib.Affine
public import Idealize.ShloMosaic.Lib.Tactic

@[expose] public section

set_option maxRecDepth 16384

noncomputable section

namespace Cert.Proof.Names

open Cert.KernelIdeal Cert.KernelIdeal.Gen Cert.Proof.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring (sl bk)

/-! ## The arrays, the buffers, the semaphores -/

abbrev xM : Memref sig .tc .hbm S32768x1024 .f32 := Memref.whole main_v15
abbrev aM : Memref sig .tc .hbm S32768x512 .bf16 := Memref.whole main_arg1
abbrev bM : Memref sig .tc .hbm S32768x512 .bf16 := Memref.whole main_v16
abbrev cM : Memref sig .tc .hbm S32768x512 .bf16 := Memref.whole main_arg3
abbrev yM : Memref sig .tc .hbm S32768x1024 .f32 := Memref.whole main_v17_0
abbrev hM : Memref sig .tc .hbm S32768x1024 .bf16 := Memref.whole main_v17_1
abbrev xR : Memref sig .tc .vmem S3x256x1024 .f32 := Memref.whole cc0_scoped0
abbrev aR : Memref sig .tc .vmem S3x256x512 .bf16 := Memref.whole cc0_scoped2
abbrev bR : Memref sig .tc .vmem S3x256x512 .bf16 := Memref.whole cc0_scoped4
abbrev cR : Memref sig .tc .vmem S3x256x512 .bf16 := Memref.whole cc0_scoped6
abbrev yR : Memref sig .tc .vmem S2x256x1024 .f32 := Memref.whole cc0_scoped8
abbrev hR : Memref sig .tc .vmem S2x256x1024 .bf16 := Memref.whole cc0_scoped10

/-! ## Blocks, slots, cells -/

theorem blkOff_inb (b : Fin 128) : ∀ a, blkOff b a + S256x1024.size a ≤ S32768x1024.size a := by
  have := b.isLt; intro a; fin_cases a
  · show 256 * b.val + 256 ≤ 32768; omega
  · show 0 + 1024 ≤ 1024; omega
theorem hblkOff_inb (b : Fin 128) : ∀ a, blkOff b a + S256x512.size a ≤ S32768x512.size a := by
  have := b.isLt; intro a; fin_cases a
  · show 256 * b.val + 256 ≤ 32768; omega
  · show 0 + 512 ≤ 512; omega
theorem slot3_inb (s : Fin 3) : ∀ a, slotOff s a + S1x256x1024.size a ≤ S3x256x1024.size a := by
  have := s.isLt; intro a; fin_cases a
  · show s.val + 1 ≤ 3; omega
  · show 0 + 256 ≤ 256; omega
  · show 0 + 1024 ≤ 1024; omega
theorem hslot3_inb (s : Fin 3) : ∀ a, slotOff s a + S1x256x512.size a ≤ S3x256x512.size a := by
  have := s.isLt; intro a; fin_cases a
  · show s.val + 1 ≤ 3; omega
  · show 0 + 256 ≤ 256; omega
  · show 0 + 512 ≤ 512; omega
theorem slot2_inb (s : Fin 2) : ∀ a, slotOff s a + S1x256x1024.size a ≤ S2x256x1024.size a := by
  have := s.isLt; intro a; fin_cases a
  · show s.val + 1 ≤ 2; omega
  · show 0 + 256 ≤ 256; omega
  · show 0 + 1024 ≤ 1024; omega
theorem sem3_inb (s : Fin 3) : ∀ a, semOff s a + S1.size a ≤ S3.size a := by
  have := s.isLt; intro a; fin_cases a; show s.val + 1 ≤ 3; omega
theorem sem2_inb (s : Fin 2) : ∀ a, semOff s a + S1.size a ≤ S2.size a := by
  have := s.isLt; intro a; fin_cases a; show s.val + 1 ≤ 2; omega

section Places
variable {e : EltTy}

/-- Block `b` of an array 1024 wide. -/
def blk (M : Memref sig .tc .hbm S32768x1024 e) (b : Fin 128) : Memref sig .tc .hbm S256x1024 e :=
  M.slice (Rect.unit (s := S32768x1024) (blkOff b) S256x1024.size (blkOff_inb b)) (fun _ => rfl)
/-- Block `b` of an array 512 wide. -/
def hblk (M : Memref sig .tc .hbm S32768x512 e) (b : Fin 128) : Memref sig .tc .hbm S256x512 e :=
  M.slice (Rect.unit (s := S32768x512) (blkOff b) S256x512.size (hblkOff_inb b)) (fun _ => rfl)
/-- Slot `s` of a buffer of three, 1024 wide. -/
def slot3 (R : Memref sig .tc .vmem S3x256x1024 e) (s : Fin 3) : Memref sig .tc .vmem S256x1024 e :=
  (R.slice (Rect.unit (s := S3x256x1024) (slotOff s) S1x256x1024.size (slot3_inb s)) (fun _ => rfl)).squeeze S256x1024 squeezes_S1x256x1024_S256x1024
/-- Slot `s` of a buffer of three, 512 wide. -/
def hslot3 (R : Memref sig .tc .vmem S3x256x512 e) (s : Fin 3) : Memref sig .tc .vmem S256x512 e :=
  (R.slice (Rect.unit (s := S3x256x512) (slotOff s) S1x256x512.size (hslot3_inb s)) (fun _ => rfl)).squeeze S256x512 squeezes_S1x256x512_S256x512
/-- Slot `s` of a buffer of two. -/
def slot2 (R : Memref sig .tc .vmem S2x256x1024 e) (s : Fin 2) : Memref sig .tc .vmem S256x1024 e :=
  (R.slice (Rect.unit (s := S2x256x1024) (slotOff s) S1x256x1024.size (slot2_inb s)) (fun _ => rfl)).squeeze S256x1024 squeezes_S1x256x1024_S256x1024
/-- Semaphore `s` of three. -/
def cell3 (A : DmaSems sig S3) (s : Fin 3) : DmaSems sig S_ :=
  (A.slice (Rect.unit (s := S3) (semOff s) S1.size (sem3_inb s))).squeeze S_ squeezes_S1_S_
/-- Semaphore `s` of two. -/
def cell2 (A : DmaSems sig S2) (s : Fin 2) : DmaSems sig S_ :=
  (A.slice (Rect.unit (s := S2) (semOff s) S1.size (sem2_inb s))).squeeze S_ squeezes_S1_S_

theorem blk_congr (M : Memref sig .tc .hbm S32768x1024 e) {off : Fin 2 → Nat} {b : Fin 128} (h : off = blkOff b) (hh hs) :
    M.slice (Rect.unit (s := S32768x1024) off S256x1024.size hh) hs = blk M b :=
  Memref.slice_unit_congr _ h _ _ _ (fun _ => rfl)
theorem hblk_congr (M : Memref sig .tc .hbm S32768x512 e) {off : Fin 2 → Nat} {b : Fin 128} (h : off = blkOff b) (hh hs) :
    M.slice (Rect.unit (s := S32768x512) off S256x512.size hh) hs = hblk M b :=
  Memref.slice_unit_congr _ h _ _ _ (fun _ => rfl)
theorem slot3_congr (R : Memref sig .tc .vmem S3x256x1024 e) {off : Fin 3 → Nat} {s : Fin 3} (h : off = slotOff s) (hh hs) :
    (R.slice (Rect.unit (s := S3x256x1024) off S1x256x1024.size hh) hs).squeeze S256x1024 squeezes_S1x256x1024_S256x1024 = slot3 R s :=
  congrArg (fun M : Memref sig .tc .vmem S1x256x1024 e => M.squeeze S256x1024 squeezes_S1x256x1024_S256x1024) (Memref.slice_unit_congr _ h _ _ _ _)
theorem hslot3_congr (R : Memref sig .tc .vmem S3x256x512 e) {off : Fin 3 → Nat} {s : Fin 3} (h : off = slotOff s) (hh hs) :
    (R.slice (Rect.unit (s := S3x256x512) off S1x256x512.size hh) hs).squeeze S256x512 squeezes_S1x256x512_S256x512 = hslot3 R s :=
  congrArg (fun M : Memref sig .tc .vmem S1x256x512 e => M.squeeze S256x512 squeezes_S1x256x512_S256x512) (Memref.slice_unit_congr _ h _ _ _ _)
theorem slot2_congr (R : Memref sig .tc .vmem S2x256x1024 e) {off : Fin 3 → Nat} {s : Fin 2} (h : off = slotOff s) (hh hs) :
    (R.slice (Rect.unit (s := S2x256x1024) off S1x256x1024.size hh) hs).squeeze S256x1024 squeezes_S1x256x1024_S256x1024 = slot2 R s :=
  congrArg (fun M : Memref sig .tc .vmem S1x256x1024 e => M.squeeze S256x1024 squeezes_S1x256x1024_S256x1024) (Memref.slice_unit_congr _ h _ _ _ _)
theorem cell3_congr (A : DmaSems sig S3) {off : Fin 1 → Nat} {s : Fin 3} (h : off = semOff s) (hh) :
    (A.slice (Rect.unit (s := S3) off S1.size hh)).squeeze S_ squeezes_S1_S_ = cell3 A s :=
  congrArg (fun B : DmaSems sig S1 => B.squeeze S_ squeezes_S1_S_) (SemArray.slice_unit_congr _ h _ _)
theorem cell2_congr (A : DmaSems sig S2) {off : Fin 1 → Nat} {s : Fin 2} (h : off = semOff s) (hh) :
    (A.slice (Rect.unit (s := S2) off S1.size hh)).squeeze S_ squeezes_S1_S_ = cell2 A s :=
  congrArg (fun B : DmaSems sig S1 => B.squeeze S_ squeezes_S1_S_) (SemArray.slice_unit_congr _ h _ _)

end Places

instance {n : ℕ} (s : Fin n) : ClosedOff (slotOff s) := ⟨slotOff s, rfl⟩
instance (b : Fin 128) : ClosedOff (blkOff b) := ⟨blkOff b, rfl⟩

/-! ## A trip's places: block `k + 2` started into slot `k + 2` -/

@[sl_canon] theorem at16_cell3 (A : DmaSems sig S3) (k : K) (hk : k.val < 126) (hh) :
    (A.slice (Rect.unit (s := S3) (k0_off16 (wN k.val)) S1.size hh)).squeeze S_ squeezes_S1_S_ = cell3 A (sl 3 (k.val + 2)) := cell3_congr A (off16 k hk) _
@[sl_canon] theorem at17_slot3 {e : EltTy} (R : Memref sig .tc .vmem S3x256x1024 e) (k : K) (hk : k.val < 126) (hh hs) :
    (R.slice (Rect.unit (s := S3x256x1024) (k0_off17 (wN k.val)) S1x256x1024.size hh) hs).squeeze S256x1024 squeezes_S1x256x1024_S256x1024 = slot3 R (sl 3 (k.val + 2)) := slot3_congr R (off17 k hk) _ _
@[sl_canon] theorem at18_blk {e : EltTy} (M : Memref sig .tc .hbm S32768x1024 e) (k : K) (hk : k.val < 126) (hh hs) :
    M.slice (Rect.unit (s := S32768x1024) (k0_off18 (wB k.val)) S256x1024.size hh) hs = blk M (bk 128 (k.val + 2)) := blk_congr M (off18 k hk) _ _
@[sl_canon] theorem at19_cell3 (A : DmaSems sig S3) (k : K) (hk : k.val < 126) (hh) :
    (A.slice (Rect.unit (s := S3) (k0_off19 (wN k.val)) S1.size hh)).squeeze S_ squeezes_S1_S_ = cell3 A (sl 3 (k.val + 2)) := cell3_congr A (off19 k hk) _
@[sl_canon] theorem at20_hslot3 {e : EltTy} (R : Memref sig .tc .vmem S3x256x512 e) (k : K) (hk : k.val < 126) (hh hs) :
    (R.slice (Rect.unit (s := S3x256x512) (k0_off20 (wN k.val)) S1x256x512.size hh) hs).squeeze S256x512 squeezes_S1x256x512_S256x512 = hslot3 R (sl 3 (k.val + 2)) := hslot3_congr R (off20 k hk) _ _
@[sl_canon] theorem at21_hblk {e : EltTy} (M : Memref sig .tc .hbm S32768x512 e) (k : K) (hk : k.val < 126) (hh hs) :
    M.slice (Rect.unit (s := S32768x512) (k0_off21 (wB k.val)) S256x512.size hh) hs = hblk M (bk 128 (k.val + 2)) := hblk_congr M (off21 k hk) _ _
@[sl_canon] theorem at22_cell3 (A : DmaSems sig S3) (k : K) (hk : k.val < 126) (hh) :
    (A.slice (Rect.unit (s := S3) (k0_off22 (wN k.val)) S1.size hh)).squeeze S_ squeezes_S1_S_ = cell3 A (sl 3 (k.val + 2)) := cell3_congr A (off22 k hk) _
@[sl_canon] theorem at23_hslot3 {e : EltTy} (R : Memref sig .tc .vmem S3x256x512 e) (k : K) (hk : k.val < 126) (hh hs) :
    (R.slice (Rect.unit (s := S3x256x512) (k0_off23 (wN k.val)) S1x256x512.size hh) hs).squeeze S256x512 squeezes_S1x256x512_S256x512 = hslot3 R (sl 3 (k.val + 2)) := hslot3_congr R (off23 k hk) _ _
@[sl_canon] theorem at24_hblk {e : EltTy} (M : Memref sig .tc .hbm S32768x512 e) (k : K) (hk : k.val < 126) (hh hs) :
    M.slice (Rect.unit (s := S32768x512) (k0_off24 (wB k.val)) S256x512.size hh) hs = hblk M (bk 128 (k.val + 2)) := hblk_congr M (off24 k hk) _ _
@[sl_canon] theorem at25_cell3 (A : DmaSems sig S3) (k : K) (hk : k.val < 126) (hh) :
    (A.slice (Rect.unit (s := S3) (k0_off25 (wN k.val)) S1.size hh)).squeeze S_ squeezes_S1_S_ = cell3 A (sl 3 (k.val + 2)) := cell3_congr A (off25 k hk) _
@[sl_canon] theorem at26_hslot3 {e : EltTy} (R : Memref sig .tc .vmem S3x256x512 e) (k : K) (hk : k.val < 126) (hh hs) :
    (R.slice (Rect.unit (s := S3x256x512) (k0_off26 (wN k.val)) S1x256x512.size hh) hs).squeeze S256x512 squeezes_S1x256x512_S256x512 = hslot3 R (sl 3 (k.val + 2)) := hslot3_congr R (off26 k hk) _ _
@[sl_canon] theorem at27_hblk {e : EltTy} (M : Memref sig .tc .hbm S32768x512 e) (k : K) (hk : k.val < 126) (hh hs) :
    M.slice (Rect.unit (s := S32768x512) (k0_off27 (wB k.val)) S256x512.size hh) hs = hblk M (bk 128 (k.val + 2)) := hblk_congr M (off27 k hk) _ _

/-! ## Block `k` waited in slot `k` -/

@[sl_canon] theorem at28_cell3 (A : DmaSems sig S3) (k : K) (hh) :
    (A.slice (Rect.unit (s := S3) (k0_off28 (wK k.val)) S1.size hh)).squeeze S_ squeezes_S1_S_ = cell3 A (sl 3 k.val) := cell3_congr A (off28 k) _
@[sl_canon] theorem at29_slot3 {e : EltTy} (R : Memref sig .tc .vmem S3x256x1024 e) (k : K) (hh hs) :
    (R.slice (Rect.unit (s := S3x256x1024) (k0_off29 (wK k.val)) S1x256x1024.size hh) hs).squeeze S256x1024 squeezes_S1x256x1024_S256x1024 = slot3 R (sl 3 k.val) := slot3_congr R (off29 k) _ _
@[sl_canon] theorem at30_blk {e : EltTy} (M : Memref sig .tc .hbm S32768x1024 e) (k : K) (hh hs) :
    M.slice (Rect.unit (s := S32768x1024) (k0_off30 (wB k.val)) S256x1024.size hh) hs = blk M (bk 128 k.val) := blk_congr M (off30 k) _ _
@[sl_canon] theorem at31_cell3 (A : DmaSems sig S3) (k : K) (hh) :
    (A.slice (Rect.unit (s := S3) (k0_off31 (wK k.val)) S1.size hh)).squeeze S_ squeezes_S1_S_ = cell3 A (sl 3 k.val) := cell3_congr A (off31 k) _
@[sl_canon] theorem at32_hslot3 {e : EltTy} (R : Memref sig .tc .vmem S3x256x512 e) (k : K) (hh hs) :
    (R.slice (Rect.unit (s := S3x256x512) (k0_off32 (wK k.val)) S1x256x512.size hh) hs).squeeze S256x512 squeezes_S1x256x512_S256x512 = hslot3 R (sl 3 k.val) := hslot3_congr R (off32 k) _ _
@[sl_canon] theorem at33_hblk {e : EltTy} (M : Memref sig .tc .hbm S32768x512 e) (k : K) (hh hs) :
    M.slice (Rect.unit (s := S32768x512) (k0_off33 (wB k.val)) S256x512.size hh) hs = hblk M (bk 128 k.val) := hblk_congr M (off33 k) _ _
@[sl_canon] theorem at34_cell3 (A : DmaSems sig S3) (k : K) (hh) :
    (A.slice (Rect.unit (s := S3) (k0_off34 (wK k.val)) S1.size hh)).squeeze S_ squeezes_S1_S_ = cell3 A (sl 3 k.val) := cell3_congr A (off34 k) _
@[sl_canon] theorem at35_hslot3 {e : EltTy} (R : Memref sig .tc .vmem S3x256x512 e) (k : K) (hh hs) :
    (R.slice (Rect.unit (s := S3x256x512) (k0_off35 (wK k.val)) S1x256x512.size hh) hs).squeeze S256x512 squeezes_S1x256x512_S256x512 = hslot3 R (sl 3 k.val) := hslot3_congr R (off35 k) _ _
@[sl_canon] theorem at36_hblk {e : EltTy} (M : Memref sig .tc .hbm S32768x512 e) (k : K) (hh hs) :
    M.slice (Rect.unit (s := S32768x512) (k0_off36 (wB k.val)) S256x512.size hh) hs = hblk M (bk 128 k.val) := hblk_congr M (off36 k) _ _
@[sl_canon] theorem at37_cell3 (A : DmaSems sig S3) (k : K) (hh) :
    (A.slice (Rect.unit (s := S3) (k0_off37 (wK k.val)) S1.size hh)).squeeze S_ squeezes_S1_S_ = cell3 A (sl 3 k.val) := cell3_congr A (off37 k) _
@[sl_canon] theorem at38_hslot3 {e : EltTy} (R : Memref sig .tc .vmem S3x256x512 e) (k : K) (hh hs) :
    (R.slice (Rect.unit (s := S3x256x512) (k0_off38 (wK k.val)) S1x256x512.size hh) hs).squeeze S256x512 squeezes_S1x256x512_S256x512 = hslot3 R (sl 3 k.val) := hslot3_congr R (off38 k) _ _
@[sl_canon] theorem at39_hblk {e : EltTy} (M : Memref sig .tc .hbm S32768x512 e) (k : K) (hh hs) :
    M.slice (Rect.unit (s := S32768x512) (k0_off39 (wB k.val)) S256x512.size hh) hs = hblk M (bk 128 k.val) := hblk_congr M (off39 k) _ _

/-! ## Result block `k` issued from slot `k`, result block `k - 1` waited -/

@[sl_canon] theorem at46_cell2 (A : DmaSems sig S2) (k : K) (hh) :
    (A.slice (Rect.unit (s := S2) (k0_off46 (wK k.val)) S1.size hh)).squeeze S_ squeezes_S1_S_ = cell2 A (sl 2 k.val) := cell2_congr A (off46 k) _
@[sl_canon] theorem at47_blk {e : EltTy} (M : Memref sig .tc .hbm S32768x1024 e) (k : K) (hh hs) :
    M.slice (Rect.unit (s := S32768x1024) (k0_off47 (wB k.val)) S256x1024.size hh) hs = blk M (bk 128 k.val) := blk_congr M (off47 k) _ _
@[sl_canon] theorem at48_slot2 {e : EltTy} (R : Memref sig .tc .vmem S2x256x1024 e) (k : K) (hh hs) :
    (R.slice (Rect.unit (s := S2x256x1024) (k0_off48 (wK k.val)) S1x256x1024.size hh) hs).squeeze S256x1024 squeezes_S1x256x1024_S256x1024 = slot2 R (sl 2 k.val) := slot2_congr R (off48 k) _ _
@[sl_canon] theorem at49_cell2 (A : DmaSems sig S2) (k : K) (hh) :
    (A.slice (Rect.unit (s := S2) (k0_off49 (wK k.val)) S1.size hh)).squeeze S_ squeezes_S1_S_ = cell2 A (sl 2 k.val) := cell2_congr A (off49 k) _
@[sl_canon] theorem at50_blk {e : EltTy} (M : Memref sig .tc .hbm S32768x1024 e) (k : K) (hh hs) :
    M.slice (Rect.unit (s := S32768x1024) (k0_off50 (wB k.val)) S256x1024.size hh) hs = blk M (bk 128 k.val) := blk_congr M (off50 k) _ _
@[sl_canon] theorem at51_slot2 {e : EltTy} (R : Memref sig .tc .vmem S2x256x1024 e) (k : K) (hh hs) :
    (R.slice (Rect.unit (s := S2x256x1024) (k0_off51 (wK k.val)) S1x256x1024.size hh) hs).squeeze S256x1024 squeezes_S1x256x1024_S256x1024 = slot2 R (sl 2 k.val) := slot2_congr R (off51 k) _ _
@[sl_canon] theorem at52_cell2 (A : DmaSems sig S2) (k : K) (h1 : 1 ≤ k.val) (hh) :
    (A.slice (Rect.unit (s := S2) (k0_off52 (wP k.val)) S1.size hh)).squeeze S_ squeezes_S1_S_ = cell2 A (sl 2 (k.val + 1)) := cell2_congr A (off52 k h1) _
@[sl_canon] theorem at53_blk {e : EltTy} (M : Memref sig .tc .hbm S32768x1024 e) (k : K) (h1 : 1 ≤ k.val) (hh hs) :
    M.slice (Rect.unit (s := S32768x1024) (k0_off53 (wB k.val)) S256x1024.size hh) hs = blk M (bk 128 (k.val - 1)) := blk_congr M (off53 k h1) _ _
@[sl_canon] theorem at54_slot2 {e : EltTy} (R : Memref sig .tc .vmem S2x256x1024 e) (k : K) (h1 : 1 ≤ k.val) (hh hs) :
    (R.slice (Rect.unit (s := S2x256x1024) (k0_off54 (wP k.val)) S1x256x1024.size hh) hs).squeeze S256x1024 squeezes_S1x256x1024_S256x1024 = slot2 R (sl 2 (k.val + 1)) := slot2_congr R (off54 k h1) _ _
@[sl_canon] theorem at55_cell2 (A : DmaSems sig S2) (k : K) (h1 : 1 ≤ k.val) (hh) :
    (A.slice (Rect.unit (s := S2) (k0_off55 (wP k.val)) S1.size hh)).squeeze S_ squeezes_S1_S_ = cell2 A (sl 2 (k.val + 1)) := cell2_congr A (off55 k h1) _
@[sl_canon] theorem at56_blk {e : EltTy} (M : Memref sig .tc .hbm S32768x1024 e) (k : K) (h1 : 1 ≤ k.val) (hh hs) :
    M.slice (Rect.unit (s := S32768x1024) (k0_off56 (wB k.val)) S256x1024.size hh) hs = blk M (bk 128 (k.val - 1)) := blk_congr M (off56 k h1) _ _
@[sl_canon] theorem at57_slot2 {e : EltTy} (R : Memref sig .tc .vmem S2x256x1024 e) (k : K) (h1 : 1 ≤ k.val) (hh hs) :
    (R.slice (Rect.unit (s := S2x256x1024) (k0_off57 (wP k.val)) S1x256x1024.size hh) hs).squeeze S256x1024 squeezes_S1x256x1024_S256x1024 = slot2 R (sl 2 (k.val + 1)) := slot2_congr R (off57 k h1) _ _

/-! ## The slots the trip loads and stores through the whole buffer -/

instance (k : K) : ClosedOff (k0_off40 (wK k.val)) := ⟨slotOff (sl 3 k.val), off40 k⟩
instance (k : K) : ClosedOff (k0_off41 (wK k.val)) := ⟨slotOff (sl 3 k.val), off41 k⟩
instance (k : K) : ClosedOff (k0_off42 (wK k.val)) := ⟨slotOff (sl 3 k.val), off42 k⟩
instance (k : K) : ClosedOff (k0_off43 (wK k.val)) := ⟨slotOff (sl 3 k.val), off43 k⟩
instance (k : K) : ClosedOff (k0_off44 (wK k.val)) := ⟨slotOff (sl 2 k.val), off44 k⟩
instance (k : K) : ClosedOff (k0_off45 (wK k.val)) := ⟨slotOff (sl 2 k.val), off45 k⟩

/-! ## Before the loop: blocks 0 and 1 started into slots 0 and 1 -/

@[sl_canon] theorem at1_cell3 (A : DmaSems sig S3) (hh) :
    (A.slice (Rect.unit (s := S3) (k0_off1) S1.size hh)).squeeze S_ squeezes_S1_S_ = cell3 A 0 := cell3_congr A (off1) _
@[sl_canon] theorem at2_slot3 {e : EltTy} (R : Memref sig .tc .vmem S3x256x1024 e) (hh hs) :
    (R.slice (Rect.unit (s := S3x256x1024) (k0_off2) S1x256x1024.size hh) hs).squeeze S256x1024 squeezes_S1x256x1024_S256x1024 = slot3 R 0 := slot3_congr R (off2) _ _
@[sl_canon] theorem at3_hslot3 {e : EltTy} (R : Memref sig .tc .vmem S3x256x512 e) (hh hs) :
    (R.slice (Rect.unit (s := S3x256x512) (k0_off3) S1x256x512.size hh) hs).squeeze S256x512 squeezes_S1x256x512_S256x512 = hslot3 R 0 := hslot3_congr R (off3) _ _
@[sl_canon] theorem at0_blk {e : EltTy} (M : Memref sig .tc .hbm S32768x1024 e) (hh hs) :
    M.slice (Rect.unit (s := S32768x1024) ![0, 0] S256x1024.size hh) hs = blk M 0 := blk_congr M (by decide +kernel) _ _
@[sl_canon] theorem at0_hblk {e : EltTy} (M : Memref sig .tc .hbm S32768x512 e) (hh hs) :
    M.slice (Rect.unit (s := S32768x512) ![0, 0] S256x512.size hh) hs = hblk M 0 := hblk_congr M (by decide +kernel) _ _
@[sl_canon] theorem at4_cell3 (A : DmaSems sig S3) (hh) :
    (A.slice (Rect.unit (s := S3) (k0_off4) S1.size hh)).squeeze S_ squeezes_S1_S_ = cell3 A 1 := cell3_congr A (off4) _
@[sl_canon] theorem at5_slot3 {e : EltTy} (R : Memref sig .tc .vmem S3x256x1024 e) (hh hs) :
    (R.slice (Rect.unit (s := S3x256x1024) (k0_off5) S1x256x1024.size hh) hs).squeeze S256x1024 squeezes_S1x256x1024_S256x1024 = slot3 R 1 := slot3_congr R (off5) _ _
@[sl_canon] theorem at6_blk {e : EltTy} (M : Memref sig .tc .hbm S32768x1024 e) (hh hs) :
    M.slice (Rect.unit (s := S32768x1024) (k0_off6) S256x1024.size hh) hs = blk M 1 := blk_congr M (off6) _ _
@[sl_canon] theorem at7_cell3 (A : DmaSems sig S3) (hh) :
    (A.slice (Rect.unit (s := S3) (k0_off7) S1.size hh)).squeeze S_ squeezes_S1_S_ = cell3 A 1 := cell3_congr A (off7) _
@[sl_canon] theorem at8_hslot3 {e : EltTy} (R : Memref sig .tc .vmem S3x256x512 e) (hh hs) :
    (R.slice (Rect.unit (s := S3x256x512) (k0_off8) S1x256x512.size hh) hs).squeeze S256x512 squeezes_S1x256x512_S256x512 = hslot3 R 1 := hslot3_congr R (off8) _ _
@[sl_canon] theorem at9_hblk {e : EltTy} (M : Memref sig .tc .hbm S32768x512 e) (hh hs) :
    M.slice (Rect.unit (s := S32768x512) (k0_off9) S256x512.size hh) hs = hblk M 1 := hblk_congr M (off9) _ _
@[sl_canon] theorem at10_cell3 (A : DmaSems sig S3) (hh) :
    (A.slice (Rect.unit (s := S3) (k0_off10) S1.size hh)).squeeze S_ squeezes_S1_S_ = cell3 A 1 := cell3_congr A (off10) _
@[sl_canon] theorem at11_hslot3 {e : EltTy} (R : Memref sig .tc .vmem S3x256x512 e) (hh hs) :
    (R.slice (Rect.unit (s := S3x256x512) (k0_off11) S1x256x512.size hh) hs).squeeze S256x512 squeezes_S1x256x512_S256x512 = hslot3 R 1 := hslot3_congr R (off11) _ _
@[sl_canon] theorem at12_hblk {e : EltTy} (M : Memref sig .tc .hbm S32768x512 e) (hh hs) :
    M.slice (Rect.unit (s := S32768x512) (k0_off12) S256x512.size hh) hs = hblk M 1 := hblk_congr M (off12) _ _
@[sl_canon] theorem at13_cell3 (A : DmaSems sig S3) (hh) :
    (A.slice (Rect.unit (s := S3) (k0_off13) S1.size hh)).squeeze S_ squeezes_S1_S_ = cell3 A 1 := cell3_congr A (off13) _
@[sl_canon] theorem at14_hslot3 {e : EltTy} (R : Memref sig .tc .vmem S3x256x512 e) (hh hs) :
    (R.slice (Rect.unit (s := S3x256x512) (k0_off14) S1x256x512.size hh) hs).squeeze S256x512 squeezes_S1x256x512_S256x512 = hslot3 R 1 := hslot3_congr R (off14) _ _
@[sl_canon] theorem at15_hblk {e : EltTy} (M : Memref sig .tc .hbm S32768x512 e) (hh hs) :
    M.slice (Rect.unit (s := S32768x512) (k0_off15) S256x512.size hh) hs = hblk M 1 := hblk_congr M (off15) _ _

/-! ## After the loop: the last result block waited -/

@[sl_canon] theorem at58_cell2 (A : DmaSems sig S2) (hh) :
    (A.slice (Rect.unit (s := S2) (k0_off58 (wP 128)) S1.size hh)).squeeze S_ squeezes_S1_S_ = cell2 A 1 := cell2_congr A (off58) _
@[sl_canon] theorem at59_blk {e : EltTy} (M : Memref sig .tc .hbm S32768x1024 e) (hh hs) :
    M.slice (Rect.unit (s := S32768x1024) (k0_off59 (wB 128)) S256x1024.size hh) hs = blk M 127 := blk_congr M (off59) _ _
@[sl_canon] theorem at60_slot2 {e : EltTy} (R : Memref sig .tc .vmem S2x256x1024 e) (hh hs) :
    (R.slice (Rect.unit (s := S2x256x1024) (k0_off60 (wP 128)) S1x256x1024.size hh) hs).squeeze S256x1024 squeezes_S1x256x1024_S256x1024 = slot2 R 1 := slot2_congr R (off60) _ _
@[sl_canon] theorem at61_cell2 (A : DmaSems sig S2) (hh) :
    (A.slice (Rect.unit (s := S2) (k0_off61 (wP 128)) S1.size hh)).squeeze S_ squeezes_S1_S_ = cell2 A 1 := cell2_congr A (off61) _
@[sl_canon] theorem at62_blk {e : EltTy} (M : Memref sig .tc .hbm S32768x1024 e) (hh hs) :
    M.slice (Rect.unit (s := S32768x1024) (k0_off62 (wB 128)) S256x1024.size hh) hs = blk M 127 := blk_congr M (off62) _ _
@[sl_canon] theorem at63_slot2 {e : EltTy} (R : Memref sig .tc .vmem S2x256x1024 e) (hh hs) :
    (R.slice (Rect.unit (s := S2x256x1024) (k0_off63 (wP 128)) S1x256x1024.size hh) hs).squeeze S256x1024 squeezes_S1x256x1024_S256x1024 = slot2 R 1 := slot2_congr R (off63) _ _

end Cert.Proof.Names

end
-- ==== Proof.Pieces.lean ====
/-
  What the pipeline owns between two trips: a block of an array at home, a slot of a staging buffer held with its
  semaphore at zero, a slot in flight with a block.
-/
module

public import proofs.«01_k».proof.Proof.Names

@[expose] public section

set_option maxRecDepth 16384

noncomputable section

namespace Cert.Proof.Pieces

open Cert.KernelIdeal Cert.KernelIdeal.Gen Cert.Proof.Words Cert.Proof.Names
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

/-- The pipeline library's resources, beside the counters the body's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

section Generic

variable (c : Dev nD)

/-- The elements `M` addresses, owned at the contents `f`. -/
abbrev held {sp : Space} {s : Shape} {e : EltTy} (M : Memref sig .tc sp s e) (f : Buf (Elt F) (M.view.loc (c : Thread nD τ))) : sProp 𝕄 :=
  M.view.loc (c : Thread nD τ) ↦[M.view.set]{fullShare} f
/-- A semaphore of the body's own, at zero. -/
abbrev cellP (A : DmaSems sig S_) : sProp 𝕄 := semVal ((c : Thread nD τ), SemLoc.dma A.sem) 0
/-- What copying all of `src` (contents `g`) leaves in `dst` (contents `f`). -/
abbrev landed {sp sp' : Space} {s : Shape} {e : EltTy} (src : Memref sig .tc sp s e) (dst : Memref sig .tc sp' s e)
    (g : Buf (Elt F) (src.view.loc (c : Thread nD τ))) (f : Buf (Elt F) (dst.view.loc (c : Thread nD τ))) : Buf (Elt F) (dst.view.loc (c : Thread nD τ)) :=
  dst.view.writes (Elt F) f [⟨Rect.whole s, ReadAs.same.apply (src.view.read (Elt F) g)⟩]
/-- A transfer of `n` units in flight on the semaphore `A`: it hands over `P` when waited. -/
abbrev flying (A : DmaSems sig S_) (n : ℕ) (P : sProp 𝕄) : sProp 𝕄 :=
  Transfers.Flight countersEmb (c : Thread nD τ) (SemLoc.dma A.sem) () n P

end Generic

/-! ## A ring that reads: 128 blocks through three slots, two blocks ahead -/

section Read

variable (c : Dev nD) {e : EltTy}

section Wide
variable (A : DmaSems sig S3) (R : Memref sig .tc .vmem S3x256x1024 e) (M : Memref sig .tc .hbm S32768x1024 e) (n : ℕ)
  (X : (b : Fin 128) → Buf (Elt F) ((blk M b).view.loc (c : Thread nD τ)))

abbrev wHome (b : Fin 128) : sProp 𝕄 := held c (blk M b) (X b)
abbrev wSlot (s : Fin 3) (f : Buf (Elt F) ((slot3 R s).view.loc (c : Thread nD τ))) : sProp 𝕄 := held c (slot3 R s) f
abbrev wFlight (s : Fin 3) (b : Fin 128) (f : Buf (Elt F) ((slot3 R s).view.loc (c : Thread nD τ))) : sProp 𝕄 :=
  flying c (cell3 A s) n iprop(held c (slot3 R s) (landed c (blk M b) (slot3 R s) (X b) f) ∗ held c (blk M b) (X b))
/-- The ring before trip `k`. -/
abbrev wRing (k : ℕ) : sProp 𝕄 := Ring.At 2 (fun s => cellP c (cell3 A s)) (wSlot c R) (wHome c M X) (wFlight c A R M n X) k
end Wide

section Narrow
variable (A : DmaSems sig S3) (R : Memref sig .tc .vmem S3x256x512 e) (M : Memref sig .tc .hbm S32768x512 e) (n : ℕ)
  (X : (b : Fin 128) → Buf (Elt F) ((hblk M b).view.loc (c : Thread nD τ)))

abbrev nHome (b : Fin 128) : sProp 𝕄 := held c (hblk M b) (X b)
abbrev nSlot (s : Fin 3) (f : Buf (Elt F) ((hslot3 R s).view.loc (c : Thread nD τ))) : sProp 𝕄 := held c (hslot3 R s) f
abbrev nFlight (s : Fin 3) (b : Fin 128) (f : Buf (Elt F) ((hslot3 R s).view.loc (c : Thread nD τ))) : sProp 𝕄 :=
  flying c (cell3 A s) n iprop(held c (hslot3 R s) (landed c (hblk M b) (hslot3 R s) (X b) f) ∗ held c (hblk M b) (X b))
abbrev nRing (k : ℕ) : sProp 𝕄 := Ring.At 2 (fun s => cellP c (cell3 A s)) (nSlot c R) (nHome c M X) (nFlight c A R M n X) k
end Narrow

end Read

/-! ## A ring that writes: 128 blocks through two slots, the previous block's copy waited a trip later -/

section Write

variable (c : Dev nD) {e : EltTy} (A : DmaSems sig S2) (R : Memref sig .tc .vmem S2x256x1024 e) (M : Memref sig .tc .hbm S32768x1024 e) (n : ℕ)
  (rows : Fin 128 → S256x1024.Idx → Elt F e)

/-- A block of the result not yet written: at anything. -/
abbrev oAhead (b : Fin 128) : sProp 𝕄 := iprop(∃ f, held c (blk M b) f)
/-- A block of the result written: it reads what its trip computed. -/
abbrev oBehind (b : Fin 128) : sProp 𝕄 := iprop(∃ f, ⌜(blk M b).view.read (Elt F) f = rows b⌝ ∗ held c (blk M b) f)
abbrev oFree (s : Fin 2) : sProp 𝕄 := iprop(cellP c (cell2 A s) ∗ ∃ f, held c (slot2 R s) f)
/-- A slot whose copy out to block `b` is in flight: it hands over the block, which will read what its trip computed. -/
abbrev oFlight (s : Fin 2) (b : Fin 128) : sProp 𝕄 :=
  iprop(∃ f g, ⌜(blk M b).view.read (Elt F) f = rows b⌝ ∗ flying c (cell2 A s) n iprop(held c (blk M b) f ∗ held c (slot2 R s) g))
/-- The ring before trip `k`. -/
abbrev oRing (k : ℕ) : sProp 𝕄 := Ring.AtB 1 (oFree c A R) (oFlight c A R M n rows) (oAhead c M) (oBehind c M rows) k

end Write

end Cert.Proof.Pieces

end
-- ==== Proof.Block.lean ====
/-
  One block's computation: the 256 rows of the two results a trip stores, as functions of the block's rows of the four
  activations and of the weights as they were loaded.
-/
module

public import proofs.«01_k».proof.Proof.Pieces
public import Idealize.ShloMosaic.Lib.Pipeline.Value

@[expose] public section

set_option maxRecDepth 16384

noncomputable section

namespace Cert.Proof.Block

open Cert.KernelIdeal Cert.KernelIdeal.Gen Cert.Proof.Words Cert.Proof.Names Cert.Proof.Pieces
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

/-! ## A block in a slot of a buffer of three, as it is loaded -/

/-- A block as the load of a slot has it: one leading axis of extent one. -/
abbrev up {e : EltTy} (v : S256x1024.Idx → Elt F e) : S1x256x1024.Idx → Elt F e := shapeCast S1x256x1024 v shapeCasts_S256x1024_S1x256x1024
abbrev hup {e : EltTy} (v : S256x512.Idx → Elt F e) : S1x256x512.Idx → Elt F e := shapeCast S1x256x512 v (by decide)
/-- A stored vector as the slot holds it: the leading axis dropped. -/
abbrev down {e : EltTy} (v : S1x256x1024.Idx → Elt F e) : S256x1024.Idx → Elt F e := shapeCast S256x1024 v shapeCasts_S1x256x1024_S256x1024

/-- The load of a slot just filled with `v` has `v`. -/
theorem load_slot3 {e : EltTy} (R : Memref sig .tc .vmem S3x256x1024 e) {off : Fin 3 → ℕ} {s : Fin 3} (h : off = slotOff s) (hh)
    (f : (slot3 R s).view.ty.Contents (Elt F)) (v : S256x1024.Idx → Elt F e) :
    R.view.readAt (Elt F) (Rect.unit (s := S3x256x1024) off S1x256x1024.size hh).toLoadRect ((slot3 R s).view.writes (Elt F) f [⟨Rect.whole S256x1024, v⟩]) = up v := by
  subst h
  have e1 : down (F := F) (R.view.readAt (Elt F) (Rect.unit (s := S3x256x1024) (slotOff s) S1x256x1024.size hh).toLoadRect ((slot3 R s).view.writes (Elt F) f [⟨Rect.whole S256x1024, v⟩])) = v :=
    View.read_writes_whole (slot3 R s).view f v
  exact (shapeCast_shapeCast _ _ _).symm.trans (congrArg (fun w => up (F := F) w) e1)
theorem load_hslot3 {e : EltTy} (R : Memref sig .tc .vmem S3x256x512 e) {off : Fin 3 → ℕ} {s : Fin 3} (h : off = slotOff s) (hh)
    (f : (hslot3 R s).view.ty.Contents (Elt F)) (v : S256x512.Idx → Elt F e) :
    R.view.readAt (Elt F) (Rect.unit (s := S3x256x512) off S1x256x512.size hh).toLoadRect ((hslot3 R s).view.writes (Elt F) f [⟨Rect.whole S256x512, v⟩]) = hup v := by
  subst h
  have e1 : shapeCast S256x512 (R.view.readAt (Elt F) (Rect.unit (s := S3x256x512) (slotOff s) S1x256x512.size hh).toLoadRect ((hslot3 R s).view.writes (Elt F) f [⟨Rect.whole S256x512, v⟩])) shapeCasts_S1x256x512_S256x512 = v :=
    View.read_writes_whole (hslot3 R s).view f v
  exact (shapeCast_shapeCast _ _ _).symm.trans (congrArg (fun w => hup (F := F) w) e1)
/-- The slot of a buffer of two read after a store of `w` at it has `w`. -/
theorem read_slot2 {e : EltTy} (R : Memref sig .tc .vmem S2x256x1024 e) {off : Fin 3 → ℕ} {s : Fin 2} (h : off = slotOff s) (hh)
    (f : (R.access (Rect.unit (s := S2x256x1024) off S1x256x1024.size hh)).ty.Contents (Elt F)) (w : S1x256x1024.Idx → Elt F e) :
    (slot2 R s).view.read (Elt F) ((R.access (Rect.unit (s := S2x256x1024) off S1x256x1024.size hh)).write (Elt F) f w Finset.univ) = down w := by
  subst h
  unfold slot2
  refine (Memref.read_squeeze_slice R _ _ _ shapeCasts_S1x256x1024_S256x1024 _).trans ?_
  refine congrArg (fun v => shapeCast S256x1024 v shapeCasts_S1x256x1024_S256x1024) ?_
  exact View.read_write_univ (v := R.access (Rect.unit (s := S2x256x1024) (slotOff s) S1x256x1024.size hh)) f w

/-! ## The rows a trip stores -/

/-- The weights as a trip has them loaded: the gain before the mixer, the three gates' columns of the input projection,
    the three branches' output projections, the mixer's output projection, the gains after the mixer and before the
    feed-forward. -/
structure Wts (F : FTy → Type) where
  g0 : Vec F S1x1024 .f32
  u1 : Vec F S1024x1024 .bf16
  u2 : Vec F S1024x1024 .bf16
  u3 : Vec F S1024x1024 .bf16
  p1 : Vec F S1x512x1024 .bf16
  p2 : Vec F S1x512x1024 .bf16
  p3 : Vec F S1x512x1024 .bf16
  wo : Vec F S1024x1024 .bf16
  g1 : Vec F S1x1024 .f32
  g2 : Vec F S1x1024 .f32

/-- The mixer's output before its norm, of a block's rows `x` of the stream and `a`, `b`, `d` of the branches. -/
def mixed (w : Wts F) (x : Vec F S1x256x1024 .f32) (a b d : Vec F S1x256x512 .bf16) : FVec F S256x1024 .f32 :=
  k0_pay6 (k0_pay1 x) (k0_pay2 a w.p1) (k0_pay3 b w.p2) (k0_pay4 d) (k0_pay5 w.p3) (constant S256x1024 .f32 0x00000000#32) w.g0 w.u1 w.u2 w.u3 w.wo
/-- Its squares. -/
def mixedSq (w : Wts F) (x : Vec F S1x256x1024 .f32) (a b d : Vec F S1x256x512 .bf16) : FVec F S256x1024 .f32 :=
  k0_pay8 (k0_pay1 x) (k0_pay2 a w.p1) (k0_pay3 b w.p2) (k0_pay4 d) (k0_pay5 w.p3) (constant S256x1024 .f32 0x00000000#32) w.g0 w.u1 w.u2 w.u3 w.wo
/-- The stream's rows after the mixer. -/
def yRows (w : Wts F) (x : S256x1024.Idx → Elt F .f32) (a b d : S256x512.Idx → Elt F .bf16) : S256x1024.Idx → Elt F .f32 :=
  down (k0_pay10 (k0_pay1 (up x)) (mixed w (up x) (hup a) (hup b) (hup d)) (k0_pay7 w.g1) (mixedSq w (up x) (hup a) (hup b) (hup d)))
/-- The feed-forward's input rows. -/
def hRows (w : Wts F) (x : S256x1024.Idx → Elt F .f32) (a b d : S256x512.Idx → Elt F .bf16) : S256x1024.Idx → Elt F .bf16 :=
  down (k0_pay11 (k0_pay1 (up x)) (mixed w (up x) (hup a) (hup b) (hup d)) (k0_pay7 w.g1) (mixedSq w (up x) (hup a) (hup b) (hup d)) w.g2)

/-- The slot of the first result after the trip's store, read: `yRows` of the blocks loaded. -/
theorem stored_y (w : Wts F) {s3 : Fin 3} {s2 : Fin 2} {o1 o2 o3 o4 o5 : Fin 3 → ℕ} (h1 : o1 = slotOff s3) (h2 : o2 = slotOff s3) (h3 : o3 = slotOff s3)
    (h4 : o4 = slotOff s3) (h5 : o5 = slotOff s2) (q1 q2 q3 q4 q5) (f1 f2 f3 f4 f5) (x : S256x1024.Idx → Elt F .f32) (a b d : S256x512.Idx → Elt F .bf16) :
    (slot2 yR s2).view.read (Elt F) ((yR.access (Rect.unit (s := S2x256x1024) o5 S1x256x1024.size q5)).write (Elt F) f5
      (k0_pay10 (k0_pay1 (xR.view.readAt (Elt F) (Rect.unit (s := S3x256x1024) o1 S1x256x1024.size q1).toLoadRect ((slot3 xR s3).view.writes (Elt F) f1 [⟨Rect.whole S256x1024, x⟩])))
        (mixed w (xR.view.readAt (Elt F) (Rect.unit (s := S3x256x1024) o1 S1x256x1024.size q1).toLoadRect ((slot3 xR s3).view.writes (Elt F) f1 [⟨Rect.whole S256x1024, x⟩]))
          (aR.view.readAt (Elt F) (Rect.unit (s := S3x256x512) o2 S1x256x512.size q2).toLoadRect ((hslot3 aR s3).view.writes (Elt F) f2 [⟨Rect.whole S256x512, a⟩]))
          (bR.view.readAt (Elt F) (Rect.unit (s := S3x256x512) o3 S1x256x512.size q3).toLoadRect ((hslot3 bR s3).view.writes (Elt F) f3 [⟨Rect.whole S256x512, b⟩]))
          (cR.view.readAt (Elt F) (Rect.unit (s := S3x256x512) o4 S1x256x512.size q4).toLoadRect ((hslot3 cR s3).view.writes (Elt F) f4 [⟨Rect.whole S256x512, d⟩])))
        (k0_pay7 w.g1)
        (mixedSq w (xR.view.readAt (Elt F) (Rect.unit (s := S3x256x1024) o1 S1x256x1024.size q1).toLoadRect ((slot3 xR s3).view.writes (Elt F) f1 [⟨Rect.whole S256x1024, x⟩]))
          (aR.view.readAt (Elt F) (Rect.unit (s := S3x256x512) o2 S1x256x512.size q2).toLoadRect ((hslot3 aR s3).view.writes (Elt F) f2 [⟨Rect.whole S256x512, a⟩]))
          (bR.view.readAt (Elt F) (Rect.unit (s := S3x256x512) o3 S1x256x512.size q3).toLoadRect ((hslot3 bR s3).view.writes (Elt F) f3 [⟨Rect.whole S256x512, b⟩]))
          (cR.view.readAt (Elt F) (Rect.unit (s := S3x256x512) o4 S1x256x512.size q4).toLoadRect ((hslot3 cR s3).view.writes (Elt F) f4 [⟨Rect.whole S256x512, d⟩]))))
      Finset.univ) = yRows w x a b d := by
  rw [read_slot2 yR h5, load_slot3 xR h1, load_hslot3 aR h2, load_hslot3 bR h3, load_hslot3 cR h4]; rfl
/-- The slot of the second result after the trip's store, read: `hRows` of the blocks loaded. -/
theorem stored_h (w : Wts F) {s3 : Fin 3} {s2 : Fin 2} {o1 o2 o3 o4 o5 : Fin 3 → ℕ} (h1 : o1 = slotOff s3) (h2 : o2 = slotOff s3) (h3 : o3 = slotOff s3)
    (h4 : o4 = slotOff s3) (h5 : o5 = slotOff s2) (q1 q2 q3 q4 q5) (f1 f2 f3 f4 f5) (x : S256x1024.Idx → Elt F .f32) (a b d : S256x512.Idx → Elt F .bf16) :
    (slot2 hR s2).view.read (Elt F) ((hR.access (Rect.unit (s := S2x256x1024) o5 S1x256x1024.size q5)).write (Elt F) f5
      (k0_pay11 (k0_pay1 (xR.view.readAt (Elt F) (Rect.unit (s := S3x256x1024) o1 S1x256x1024.size q1).toLoadRect ((slot3 xR s3).view.writes (Elt F) f1 [⟨Rect.whole S256x1024, x⟩])))
        (mixed w (xR.view.readAt (Elt F) (Rect.unit (s := S3x256x1024) o1 S1x256x1024.size q1).toLoadRect ((slot3 xR s3).view.writes (Elt F) f1 [⟨Rect.whole S256x1024, x⟩]))
          (aR.view.readAt (Elt F) (Rect.unit (s := S3x256x512) o2 S1x256x512.size q2).toLoadRect ((hslot3 aR s3).view.writes (Elt F) f2 [⟨Rect.whole S256x512, a⟩]))
          (bR.view.readAt (Elt F) (Rect.unit (s := S3x256x512) o3 S1x256x512.size q3).toLoadRect ((hslot3 bR s3).view.writes (Elt F) f3 [⟨Rect.whole S256x512, b⟩]))
          (cR.view.readAt (Elt F) (Rect.unit (s := S3x256x512) o4 S1x256x512.size q4).toLoadRect ((hslot3 cR s3).view.writes (Elt F) f4 [⟨Rect.whole S256x512, d⟩])))
        (k0_pay7 w.g1)
        (mixedSq w (xR.view.readAt (Elt F) (Rect.unit (s := S3x256x1024) o1 S1x256x1024.size q1).toLoadRect ((slot3 xR s3).view.writes (Elt F) f1 [⟨Rect.whole S256x1024, x⟩]))
          (aR.view.readAt (Elt F) (Rect.unit (s := S3x256x512) o2 S1x256x512.size q2).toLoadRect ((hslot3 aR s3).view.writes (Elt F) f2 [⟨Rect.whole S256x512, a⟩]))
          (bR.view.readAt (Elt F) (Rect.unit (s := S3x256x512) o3 S1x256x512.size q3).toLoadRect ((hslot3 bR s3).view.writes (Elt F) f3 [⟨Rect.whole S256x512, b⟩]))
          (cR.view.readAt (Elt F) (Rect.unit (s := S3x256x512) o4 S1x256x512.size q4).toLoadRect ((hslot3 cR s3).view.writes (Elt F) f4 [⟨Rect.whole S256x512, d⟩])))
        w.g2)
      Finset.univ) = hRows w x a b d := by
  rw [read_slot2 hR h5, load_slot3 xR h1, load_hslot3 aR h2, load_hslot3 bR h3, load_hslot3 cR h4]; rfl

end Cert.Proof.Block

end
-- ==== Proof.Trip.lean ====
/-
  One trip of the pipeline's loop: it sends for the blocks two ahead, waits for its own block of the four activations,
  computes the block's rows of the two results, sends them out, and waits for the previous trip's rows to be out.
  One theorem per role: the first trip, a trip in the middle, one of the last two.
-/
module

public import proofs.«01_k».proof.Proof.Block

@[expose] public section

set_option maxRecDepth 16384

noncomputable section

namespace Cert.Proof.Trip

open Cert.KernelIdeal Cert.KernelIdeal.Gen Cert.Proof.Words Cert.Proof.Names Cert.Proof.Pieces Cert.Proof.Block
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

section Trip

variable {F : FTy → Type} [FloatOps F]
local notation "𝕄" => MT nD τ sig Unit (Elt F) ℕ (UU nD τ) ℕ

variable (c : Dev nD)
  (X : Buf (Elt F) (xM.view.loc (c : Thread nD τ))) (OA : Buf (Elt F) (aM.view.loc (c : Thread nD τ)))
  (OB : Buf (Elt F) (bM.view.loc (c : Thread nD τ))) (OC : Buf (Elt F) (cM.view.loc (c : Thread nD τ)))
  (arg4 : Memref sig .tc .vmem S1x1024 .f32) (harg4 : arg4.IsWhole) (arg5 : Memref sig .tc .vmem S1024x4096 .bf16) (harg5 : arg5.IsWhole) (arg6 : Memref sig .tc .vmem S3x512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole)
  (v13 v37 v44 v51 v58 : BitVec 32) (v59 t58 : BitVec 1)

abbrev bodyAt (k : K) (acc : BitVec 32 × BitVec 32 × BitVec 32 × BitVec 32 × BitVec 32 × BitVec 32 × BitVec 32 × BitVec 32 × BitVec 32 × BitVec 32 × BitVec 32 × BitVec 32 × BitVec 32) :=
  k0_t1_body (F := F) xM (Memref.isWhole_whole _) aM (Memref.isWhole_whole _) bM (Memref.isWhole_whole _) cM (Memref.isWhole_whole _) arg4 harg4 arg5 harg5 arg6 harg6 arg7 harg7 arg8 harg8 arg9 harg9 yM (Memref.isWhole_whole _) hM (Memref.isWhole_whole _)
    xR (Memref.isWhole_whole _) cc0_scoped1 aR (Memref.isWhole_whole _) cc0_scoped3 bR (Memref.isWhole_whole _) cc0_scoped5 cR (Memref.isWhole_whole _) cc0_scoped7 yR (Memref.isWhole_whole _) cc0_scoped9 hR (Memref.isWhole_whole _) cc0_scoped11 v13 v37 v44 v51 v58 v59 t58 k acc

variable (g4 : Buf (Elt F) (arg4.view.loc (c : Thread nD τ))) (g5 : Buf (Elt F) (arg5.view.loc (c : Thread nD τ))) (g6 : Buf (Elt F) (arg6.view.loc (c : Thread nD τ))) (g7 : Buf (Elt F) (arg7.view.loc (c : Thread nD τ))) (g8 : Buf (Elt F) (arg8.view.loc (c : Thread nD τ))) (g9 : Buf (Elt F) (arg9.view.loc (c : Thread nD τ)))

/-- The weights as the trip loads them from their buffers. -/
def wts : Wts F where
  g0 := View.readAt (Elt F) arg4.view (Rect.unit (s := S1x1024) ![0, 0] S1x1024.size inb_S1x1024_S1x1024_0_0).toLoadRect g4
  u1 := View.readAt (Elt F) arg5.view (Rect.unit (s := S1024x4096) ![0, 1024] S1024x1024.size inb_S1024x4096_S1024x1024_0_1024).toLoadRect g5
  u2 := View.readAt (Elt F) arg5.view (Rect.unit (s := S1024x4096) ![0, 2048] S1024x1024.size inb_S1024x4096_S1024x1024_0_2048).toLoadRect g5
  u3 := View.readAt (Elt F) arg5.view (Rect.unit (s := S1024x4096) ![0, 3072] S1024x1024.size inb_S1024x4096_S1024x1024_0_3072).toLoadRect g5
  p1 := View.readAt (Elt F) arg6.view (Rect.unit (s := S3x512x1024) ![0, 0, 0] S1x512x1024.size inb_S3x512x1024_S1x512x1024_0_0_0).toLoadRect g6
  p2 := View.readAt (Elt F) arg6.view (Rect.unit (s := S3x512x1024) ![1, 0, 0] S1x512x1024.size inb_S3x512x1024_S1x512x1024_1_0_0).toLoadRect g6
  p3 := View.readAt (Elt F) arg6.view (Rect.unit (s := S3x512x1024) ![2, 0, 0] S1x512x1024.size inb_S3x512x1024_S1x512x1024_2_0_0).toLoadRect g6
  wo := View.readAt (Elt F) arg7.view (Rect.unit (s := S1024x1024) ![0, 0] S1024x1024.size inb_S1024x1024_S1024x1024_0_0).toLoadRect g7
  g1 := View.readAt (Elt F) arg8.view (Rect.unit (s := S1x1024) ![0, 0] S1x1024.size inb_S1x1024_S1x1024_0_0).toLoadRect g8
  g2 := View.readAt (Elt F) arg9.view (Rect.unit (s := S1x1024) ![0, 0] S1x1024.size inb_S1x1024_S1x1024_0_0).toLoadRect g9

/-- Block `b` of the first result, and of the second. -/
def yBlk (b : Fin 128) : S256x1024.Idx → Elt F .f32 :=
  yRows (wts c arg4 arg5 arg6 arg7 arg8 arg9 g4 g5 g6 g7 g8 g9) ((blk xM b).view.read (Elt F) X) ((hblk aM b).view.read (Elt F) OA) ((hblk bM b).view.read (Elt F) OB) ((hblk cM b).view.read (Elt F) OC)
def hBlk (b : Fin 128) : S256x1024.Idx → Elt F .bf16 :=
  hRows (wts c arg4 arg5 arg6 arg7 arg8 arg9 g4 g5 g6 g7 g8 g9) ((blk xM b).view.read (Elt F) X) ((hblk aM b).view.read (Elt F) OA) ((hblk bM b).view.read (Elt F) OB) ((hblk cM b).view.read (Elt F) OC)

/-- The six weight buffers, held. -/
abbrev winP : sProp 𝕄 := iprop(held c arg4 g4 ∗ held c arg5 g5 ∗ held c arg6 g6 ∗ held c arg7 g7 ∗ held c arg8 g8 ∗ held c arg9 g9)
abbrev xRing (k : ℕ) : sProp 𝕄 := wRing c cc0_scoped1 xR xM 32768 (fun _ => X) k
abbrev aRing (k : ℕ) : sProp 𝕄 := nRing c cc0_scoped3 aR aM 8192 (fun _ => OA) k
abbrev bRing (k : ℕ) : sProp 𝕄 := nRing c cc0_scoped5 bR bM 8192 (fun _ => OB) k
abbrev cRing (k : ℕ) : sProp 𝕄 := nRing c cc0_scoped7 cR cM 8192 (fun _ => OC) k
abbrev yRing (k : ℕ) : sProp 𝕄 := oRing c cc0_scoped9 yR yM 32768 (yBlk c X OA OB OC arg4 arg5 arg6 arg7 arg8 arg9 g4 g5 g6 g7 g8 g9) k
abbrev hRing (k : ℕ) : sProp 𝕄 := oRing c cc0_scoped11 hR hM 16384 (hBlk c X OA OB OC arg4 arg5 arg6 arg7 arg8 arg9 g4 g5 g6 g7 g8 g9) k
/-- Everything the loop owns before trip `k`. -/
def resAt (k : ℕ) : sProp 𝕄 :=
  iprop(winP c arg4 arg5 arg6 arg7 arg8 arg9 g4 g5 g6 g7 g8 g9 ∗ (∃ W, owes (c : Thread nD τ) 0 W)
    ∗ xRing c X k ∗ aRing c OA k ∗ bRing c OB k ∗ cRing c OC k ∗ yRing c X OA OB OC arg4 arg5 arg6 arg7 arg8 arg9 g4 g5 g6 g7 g8 g9 k ∗ hRing c X OA OB OC arg4 arg5 arg6 arg7 arg8 arg9 g4 g5 g6 g7 g8 g9 k)

set_option backward.proofsInPublic true in
set_option maxHeartbeats 4000000 in
/-- The first trip. -/
theorem trip_first (k : K) (hk : k.val < 126) (h1 : ¬ 1 ≤ k.val) :
    resAt c X OA OB OC arg4 arg5 arg6 arg7 arg8 arg9 g4 g5 g6 g7 g8 g9 k
      ⊢ wp frame (wpE (defs₀ (F := F)) 𝒱₀ (c : Thread nD τ) none) Set.univ (bodyAt (F := F) arg4 harg4 arg5 harg5 arg6 harg6 arg7 harg7 arg8 harg8 arg9 harg9 v13 v37 v44 v51 v58 v59 t58 k (accAt k))
        (fun acc => iprop(⌜acc = accAt (k.val + 1)⌝ ∗ resAt c X OA OB OC arg4 arg5 arg6 arg7 arg8 arg9 g4 g5 g6 g7 g8 g9 (k.val + 1))) := by
  have hlt : k.val < 128 := klt k
  have hk2 : k.val + 2 < 128 := by omega
  have h0 : k.val = 0 := by omega
  have c1 := chk1 k
  have c2 := chk2 k
  have c3 := chk3 k
  have c4 := chk4 k
  have c5 := chk5 k
  have c6 := chk6 k
  have c7 := chk7 k
  have b5 := (cond5 k).2 hk
  have b6 := (cond6 k).2 hk
  have b7 := (cond7 k).2 hk
  have b8 := (cond8 k).2 hk
  have b9 := cond9 k
  have b10 := cond10 k
  have b11 := cond11 k
  have b12 := cond12 k
  have b19 := cond19 k
  have b20 := cond20 k
  have b25 := mt (cond25 k).1 h1
  have b26 := mt (cond26 k).1 h1
  unfold resAt
  simp only [Ring.At3_here _ _ _ _ k.val hk2, Ring.AtB2_zero' _ _ _ _ _ k.val h0]
  iintro ⟨⟨H4, H5, H6, H7, H8, H9⟩, ⟨%W, HW⟩,
    ⟨⟨Hxg, Hxh⟩, ⟨%fx0, HX0⟩, HX1, ⟨HXc, %fx2, HXs⟩⟩,
    ⟨⟨Hag, Hah⟩, ⟨%fa0, HA0⟩, HA1, ⟨HAc, %fa2, HAs⟩⟩,
    ⟨⟨Hbg, Hbh⟩, ⟨%fb0, HB0⟩, HB1, ⟨HBc, %fb2, HBs⟩⟩,
    ⟨⟨Hcg, Hch⟩, ⟨%fc0, HC0⟩, HC1, ⟨HCc, %fc2, HCs⟩⟩,
    ⟨⟨⟨%fy, Hyg⟩, Hyh⟩, ⟨HYc, %fy0, HYs⟩, HY1⟩,
    ⟨⟨⟨%fh, Hhg⟩, Hhh⟩, ⟨HHc, %fh0, HHs⟩, HH1⟩⟩
  dsimp only [bodyAt]
  sl_unfold [k0_t1_body]
  dsimp only [accAt]
  sl_exec
  sl_step
  isplitr
  · ipureintro
    clear * - hk h1
    simp only [Prod.mk.injEq]
    revert k
    decide +kernel
  simp only [Ring.At3_next _ _ _ _ k.val hk2, Ring.slotAt3_next0 _ _ _ k.val (by omega : k.val + 1 < 128), Ring.slotAt3_next1 _ _ _ k.val hk2, Ring.AtB21_next_zero' _ _ _ _ k.val h0]
  isplitl [H4 H5 H6 H7 H8 H9]
  · isplitl [H4]
    · iexact H4
    isplitl [H5]
    · iexact H5
    isplitl [H6]
    · iexact H6
    isplitl [H7]
    · iexact H7
    isplitl [H8]
    · iexact H8
    iexact H9
  isplitl [HW]
  · iexists _; iexact HW
  isplitl [HX0_src Hxh HX1 HXc HX0 HX0_dst]
  · isplitl [HX0_src Hxh]
    · isplitl [HX0_src]
      · iexact HX0_src
      iexact Hxh
    isplitl [HX1]
    · iexact HX1
    isplitl [HXc]
    · iexists fx2; iexact HXc
    isplitl [HX0]
    · iexact HX0
    iexists _; iexact HX0_dst
  isplitl [HA0_src Hah HA1 HAc HA0 HA0_dst]
  · isplitl [HA0_src Hah]
    · isplitl [HA0_src]
      · iexact HA0_src
      iexact Hah
    isplitl [HA1]
    · iexact HA1
    isplitl [HAc]
    · iexists fa2; iexact HAc
    isplitl [HA0]
    · iexact HA0
    iexists _; iexact HA0_dst
  isplitl [HB0_src Hbh HB1 HBc HB0 HB0_dst]
  · isplitl [HB0_src Hbh]
    · isplitl [HB0_src]
      · iexact HB0_src
      iexact Hbh
    isplitl [HB1]
    · iexact HB1
    isplitl [HBc]
    · iexists fb2; iexact HBc
    isplitl [HB0]
    · iexact HB0
    iexists _; iexact HB0_dst
  isplitl [HC0_src Hch HC1 HCc HC0 HC0_dst]
  · isplitl [HC0_src Hch]
    · isplitl [HC0_src]
      · iexact HC0_src
      iexact Hch
    isplitl [HC1]
    · iexact HC1
    isplitl [HCc]
    · iexists fc2; iexact HCc
    isplitl [HC0]
    · iexact HC0
    iexists _; iexact HC0_dst
  isplitl [Hyh HY1 HYc]
  · isplitl [Hyh]
    · iexact Hyh
    isplitl [HY1]
    · iexact HY1
    iexists _, _
    isplitr
    swap
    · iexact HYc
    ipureintro
    refine (View.read_writes_whole _ _ _).trans ?_
    exact stored_y (wts c arg4 arg5 arg6 arg7 arg8 arg9 g4 g5 g6 g7 g8 g9) (s3 := sl 3 k.val) (s2 := sl 2 k.val) (off40 k) (off41 k) (off42 k) (off43 k) (off44 k) _ _ _ _ _ _ _ _ _ _ _ _ _ _
  isplitl [Hhh]
  · iexact Hhh
  isplitl [HH1]
  · iexact HH1
  iexists _, _
  isplitr
  swap
  · iexact HHc
  ipureintro
  refine (View.read_writes_whole _ _ _).trans ?_
  exact stored_h (wts c arg4 arg5 arg6 arg7 arg8 arg9 g4 g5 g6 g7 g8 g9) (s3 := sl 3 k.val) (s2 := sl 2 k.val) (off40 k) (off41 k) (off42 k) (off43 k) (off45 k) _ _ _ _ _ _ _ _ _ _ _ _ _ _

set_option backward.proofsInPublic true in
set_option maxHeartbeats 4000000 in
/-- A trip in the middle. -/
theorem trip_mid (k : K) (hk : k.val < 126) (h1 : 1 ≤ k.val) :
    resAt c X OA OB OC arg4 arg5 arg6 arg7 arg8 arg9 g4 g5 g6 g7 g8 g9 k
      ⊢ wp frame (wpE (defs₀ (F := F)) 𝒱₀ (c : Thread nD τ) none) Set.univ (bodyAt (F := F) arg4 harg4 arg5 harg5 arg6 harg6 arg7 harg7 arg8 harg8 arg9 harg9 v13 v37 v44 v51 v58 v59 t58 k (accAt k))
        (fun acc => iprop(⌜acc = accAt (k.val + 1)⌝ ∗ resAt c X OA OB OC arg4 arg5 arg6 arg7 arg8 arg9 g4 g5 g6 g7 g8 g9 (k.val + 1))) := by
  have hlt : k.val < 128 := klt k
  have hk2 : k.val + 2 < 128 := by omega
  have c1 := chk1 k
  have c2 := chk2 k
  have c3 := chk3 k
  have c4 := chk4 k
  have c5 := chk5 k
  have c6 := chk6 k
  have c7 := chk7 k
  have b5 := (cond5 k).2 hk
  have b6 := (cond6 k).2 hk
  have b7 := (cond7 k).2 hk
  have b8 := (cond8 k).2 hk
  have b9 := cond9 k
  have b10 := cond10 k
  have b11 := cond11 k
  have b12 := cond12 k
  have b19 := cond19 k
  have b20 := cond20 k
  have b25 := (cond25 k).2 h1
  have b26 := (cond26 k).2 h1
  unfold resAt
  simp only [Ring.At3_here _ _ _ _ k.val hk2, Ring.AtB21_here _ _ _ _ k.val h1 hlt]
  iintro ⟨⟨H4, H5, H6, H7, H8, H9⟩, ⟨%W, HW⟩,
    ⟨⟨Hxg, Hxh⟩, ⟨%fx0, HX0⟩, HX1, ⟨HXc, %fx2, HXs⟩⟩,
    ⟨⟨Hag, Hah⟩, ⟨%fa0, HA0⟩, HA1, ⟨HAc, %fa2, HAs⟩⟩,
    ⟨⟨Hbg, Hbh⟩, ⟨%fb0, HB0⟩, HB1, ⟨HBc, %fb2, HBs⟩⟩,
    ⟨⟨Hcg, Hch⟩, ⟨%fc0, HC0⟩, HC1, ⟨HCc, %fc2, HCs⟩⟩,
    ⟨⟨⟨%fy, Hyg⟩, Hyh⟩, Hyb, ⟨HYc, %fy0, HYs⟩, ⟨%fy1, %gy1, %ey1, HY1⟩⟩,
    ⟨⟨⟨%fh, Hhg⟩, Hhh⟩, Hhb, ⟨HHc, %fh0, HHs⟩, ⟨%fh1, %gh1, %eh1, HH1⟩⟩⟩
  dsimp only [bodyAt]
  sl_unfold [k0_t1_body]
  dsimp only [accAt]
  sl_exec
  sl_step
  isplitr
  · ipureintro
    clear * - hk h1
    simp only [Prod.mk.injEq]
    revert k
    decide +kernel
  simp only [Ring.At3_next _ _ _ _ k.val hk2, Ring.slotAt3_next0 _ _ _ k.val (by omega : k.val + 1 < 128), Ring.slotAt3_next1 _ _ _ k.val hk2, Ring.AtB21_next _ _ _ _ k.val h1 hlt]
  isplitl [H4 H5 H6 H7 H8 H9]
  · isplitl [H4]
    · iexact H4
    isplitl [H5]
    · iexact H5
    isplitl [H6]
    · iexact H6
    isplitl [H7]
    · iexact H7
    isplitl [H8]
    · iexact H8
    iexact H9
  isplitl [HW]
  · iexists _; iexact HW
  isplitl [HX0_src Hxh HX1 HXc HX0 HX0_dst]
  · isplitl [HX0_src Hxh]
    · isplitl [HX0_src]
      · iexact HX0_src
      iexact Hxh
    isplitl [HX1]
    · iexact HX1
    isplitl [HXc]
    · iexists fx2; iexact HXc
    isplitl [HX0]
    · iexact HX0
    iexists _; iexact HX0_dst
  isplitl [HA0_src Hah HA1 HAc HA0 HA0_dst]
  · isplitl [HA0_src Hah]
    · isplitl [HA0_src]
      · iexact HA0_src
      iexact Hah
    isplitl [HA1]
    · iexact HA1
    isplitl [HAc]
    · iexists fa2; iexact HAc
    isplitl [HA0]
    · iexact HA0
    iexists _; iexact HA0_dst
  isplitl [HB0_src Hbh HB1 HBc HB0 HB0_dst]
  · isplitl [HB0_src Hbh]
    · isplitl [HB0_src]
      · iexact HB0_src
      iexact Hbh
    isplitl [HB1]
    · iexact HB1
    isplitl [HBc]
    · iexists fb2; iexact HBc
    isplitl [HB0]
    · iexact HB0
    iexists _; iexact HB0_dst
  isplitl [HC0_src Hch HC1 HCc HC0 HC0_dst]
  · isplitl [HC0_src Hch]
    · isplitl [HC0_src]
      · iexact HC0_src
      iexact Hch
    isplitl [HC1]
    · iexact HC1
    isplitl [HCc]
    · iexists fc2; iexact HCc
    isplitl [HC0]
    · iexact HC0
    iexists _; iexact HC0_dst
  isplitl [Hyh HY1_dst Hyb HY1 HY1_src HYc]
  · isplitl [Hyh]
    · iexact Hyh
    isplitl [HY1_dst Hyb]
    · isplitl [HY1_dst]
      · iexists _
        isplitr
        · ipureintro; exact ey1
        · iexact HY1_dst
      iexact Hyb
    isplitl [HY1 HY1_src]
    · isplitl [HY1]
      · iexact HY1
      iexists _; iexact HY1_src
    iexists _, _
    isplitr
    swap
    · iexact HYc
    ipureintro
    refine (View.read_writes_whole _ _ _).trans ?_
    exact stored_y (wts c arg4 arg5 arg6 arg7 arg8 arg9 g4 g5 g6 g7 g8 g9) (s3 := sl 3 k.val) (s2 := sl 2 k.val) (off40 k) (off41 k) (off42 k) (off43 k) (off44 k) _ _ _ _ _ _ _ _ _ _ _ _ _ _
  isplitl [Hhh]
  · iexact Hhh
  isplitl [HH1_dst Hhb]
  · isplitl [HH1_dst]
    · iexists _
      isplitr
      · ipureintro; exact eh1
      · iexact HH1_dst
    iexact Hhb
  isplitl [HH1 HH1_src]
  · isplitl [HH1]
    · iexact HH1
    iexists _; iexact HH1_src
  iexists _, _
  isplitr
  swap
  · iexact HHc
  ipureintro
  refine (View.read_writes_whole _ _ _).trans ?_
  exact stored_h (wts c arg4 arg5 arg6 arg7 arg8 arg9 g4 g5 g6 g7 g8 g9) (s3 := sl 3 k.val) (s2 := sl 2 k.val) (off40 k) (off41 k) (off42 k) (off43 k) (off45 k) _ _ _ _ _ _ _ _ _ _ _ _ _ _

set_option backward.proofsInPublic true in
set_option maxHeartbeats 4000000 in
/-- One of the last two trips. -/
theorem trip_tail (k : K) (hk : ¬ k.val < 126) :
    resAt c X OA OB OC arg4 arg5 arg6 arg7 arg8 arg9 g4 g5 g6 g7 g8 g9 k
      ⊢ wp frame (wpE (defs₀ (F := F)) 𝒱₀ (c : Thread nD τ) none) Set.univ (bodyAt (F := F) arg4 harg4 arg5 harg5 arg6 harg6 arg7 harg7 arg8 harg8 arg9 harg9 v13 v37 v44 v51 v58 v59 t58 k (accAt k))
        (fun acc => iprop(⌜acc = accAt (k.val + 1)⌝ ∗ resAt c X OA OB OC arg4 arg5 arg6 arg7 arg8 arg9 g4 g5 g6 g7 g8 g9 (k.val + 1))) := by
  have hlt : k.val < 128 := klt k
  have hk2 : 128 ≤ k.val + 2 := by omega
  have h1 : 1 ≤ k.val := by omega
  have c1 := chk1 k
  have c2 := chk2 k
  have c3 := chk3 k
  have c4 := chk4 k
  have c5 := chk5 k
  have c6 := chk6 k
  have c7 := chk7 k
  have b5 := mt (cond5 k).1 hk
  have b6 := mt (cond6 k).1 hk
  have b7 := mt (cond7 k).1 hk
  have b8 := mt (cond8 k).1 hk
  have b9 := cond9 k
  have b10 := cond10 k
  have b11 := cond11 k
  have b12 := cond12 k
  have b19 := cond19 k
  have b20 := cond20 k
  have b25 := (cond25 k).2 h1
  have b26 := (cond26 k).2 h1
  unfold resAt
  simp only [Ring.At3_here_tail _ _ _ _ k.val hlt, Ring.AtB21_here _ _ _ _ k.val h1 hlt]
  iintro ⟨⟨H4, H5, H6, H7, H8, H9⟩, ⟨%W, HW⟩,
    ⟨Hxh, ⟨%fx0, HX0⟩, HX1, ⟨HXc, %fx2, HXs⟩⟩,
    ⟨Hah, ⟨%fa0, HA0⟩, HA1, ⟨HAc, %fa2, HAs⟩⟩,
    ⟨Hbh, ⟨%fb0, HB0⟩, HB1, ⟨HBc, %fb2, HBs⟩⟩,
    ⟨Hch, ⟨%fc0, HC0⟩, HC1, ⟨HCc, %fc2, HCs⟩⟩,
    ⟨⟨⟨%fy, Hyg⟩, Hyh⟩, Hyb, ⟨HYc, %fy0, HYs⟩, ⟨%fy1, %gy1, %ey1, HY1⟩⟩,
    ⟨⟨⟨%fh, Hhg⟩, Hhh⟩, Hhb, ⟨HHc, %fh0, HHs⟩, ⟨%fh1, %gh1, %eh1, HH1⟩⟩⟩
  dsimp only [bodyAt]
  sl_unfold [k0_t1_body]
  dsimp only [accAt]
  sl_exec
  sl_step
  isplitr
  · ipureintro
    clear * - hk h1
    simp only [Prod.mk.injEq]
    revert k
    decide +kernel
  simp only [Ring.At3_next_tail _ _ _ _ k.val hk2 hlt, Ring.slotAt3_tail_role _ _ _ k.val, Ring.AtB21_next _ _ _ _ k.val h1 hlt]
  isplitl [H4 H5 H6 H7 H8 H9]
  · isplitl [H4]
    · iexact H4
    isplitl [H5]
    · iexact H5
    isplitl [H6]
    · iexact H6
    isplitl [H7]
    · iexact H7
    isplitl [H8]
    · iexact H8
    iexact H9
  isplitl [HW]
  · iexists _; iexact HW
  isplitl [HX0_src Hxh HX1 HXc HXs HX0 HX0_dst]
  · isplitl [HX0_src Hxh]
    · isplitl [HX0_src]
      · iexact HX0_src
      iexact Hxh
    isplitl [HX1]
    · iexact HX1
    isplitl [HXc HXs]
    · isplitl [HXc]
      · iexact HXc
      iexists _; iexact HXs
    isplitl [HX0]
    · iexact HX0
    iexists _; iexact HX0_dst
  isplitl [HA0_src Hah HA1 HAc HAs HA0 HA0_dst]
  · isplitl [HA0_src Hah]
    · isplitl [HA0_src]
      · iexact HA0_src
      iexact Hah
    isplitl [HA1]
    · iexact HA1
    isplitl [HAc HAs]
    · isplitl [HAc]
      · iexact HAc
      iexists _; iexact HAs
    isplitl [HA0]
    · iexact HA0
    iexists _; iexact HA0_dst
  isplitl [HB0_src Hbh HB1 HBc HBs HB0 HB0_dst]
  · isplitl [HB0_src Hbh]
    · isplitl [HB0_src]
      · iexact HB0_src
      iexact Hbh
    isplitl [HB1]
    · iexact HB1
    isplitl [HBc HBs]
    · isplitl [HBc]
      · iexact HBc
      iexists _; iexact HBs
    isplitl [HB0]
    · iexact HB0
    iexists _; iexact HB0_dst
  isplitl [HC0_src Hch HC1 HCc HCs HC0 HC0_dst]
  · isplitl [HC0_src Hch]
    · isplitl [HC0_src]
      · iexact HC0_src
      iexact Hch
    isplitl [HC1]
    · iexact HC1
    isplitl [HCc HCs]
    · isplitl [HCc]
      · iexact HCc
      iexists _; iexact HCs
    isplitl [HC0]
    · iexact HC0
    iexists _; iexact HC0_dst
  isplitl [Hyh HY1_dst Hyb HY1 HY1_src HYc]
  · isplitl [Hyh]
    · iexact Hyh
    isplitl [HY1_dst Hyb]
    · isplitl [HY1_dst]
      · iexists _
        isplitr
        · ipureintro; exact ey1
        · iexact HY1_dst
      iexact Hyb
    isplitl [HY1 HY1_src]
    · isplitl [HY1]
      · iexact HY1
      iexists _; iexact HY1_src
    iexists _, _
    isplitr
    swap
    · iexact HYc
    ipureintro
    refine (View.read_writes_whole _ _ _).trans ?_
    exact stored_y (wts c arg4 arg5 arg6 arg7 arg8 arg9 g4 g5 g6 g7 g8 g9) (s3 := sl 3 k.val) (s2 := sl 2 k.val) (off40 k) (off41 k) (off42 k) (off43 k) (off44 k) _ _ _ _ _ _ _ _ _ _ _ _ _ _
  isplitl [Hhh]
  · iexact Hhh
  isplitl [HH1_dst Hhb]
  · isplitl [HH1_dst]
    · iexists _
      isplitr
      · ipureintro; exact eh1
      · iexact HH1_dst
    iexact Hhb
  isplitl [HH1 HH1_src]
  · isplitl [HH1]
    · iexact HH1
    iexists _; iexact HH1_src
  iexists _, _
  isplitr
  swap
  · iexact HHc
  ipureintro
  refine (View.read_writes_whole _ _ _).trans ?_
  exact stored_h (wts c arg4 arg5 arg6 arg7 arg8 arg9 g4 g5 g6 g7 g8 g9) (s3 := sl 3 k.val) (s2 := sl 2 k.val) (off40 k) (off41 k) (off42 k) (off43 k) (off45 k) _ _ _ _ _ _ _ _ _ _ _ _ _ _

end Trip

end Cert.Proof.Trip

end
-- ==== Proof.Body.lean ====
/-
  The kernel's body: the first two blocks of each activation sent for, the loop by one theorem per trip, the last block's
  rows waited for.
-/
module

public import proofs.«01_k».proof.Proof.Trip

@[expose] public section

set_option maxRecDepth 16384

noncomputable section

namespace Cert.Proof.Body

open Cert.KernelIdeal Cert.KernelIdeal.Gen Cert.Proof.Words Cert.Proof.Names Cert.Proof.Pieces Cert.Proof.Block Cert.Proof.Trip
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

section Body

variable {F : FTy → Type} [FloatOps F]
local notation "𝕄" => MT nD τ sig Unit (Elt F) ℕ (UU nD τ) ℕ

variable (c : Dev nD)
  (X : Buf (Elt F) (xM.view.loc (c : Thread nD τ))) (OA : Buf (Elt F) (aM.view.loc (c : Thread nD τ)))
  (OB : Buf (Elt F) (bM.view.loc (c : Thread nD τ))) (OC : Buf (Elt F) (cM.view.loc (c : Thread nD τ)))
  (arg4 : Memref sig .tc .vmem S1x1024 .f32) (harg4 : arg4.IsWhole) (arg5 : Memref sig .tc .vmem S1024x4096 .bf16) (harg5 : arg5.IsWhole) (arg6 : Memref sig .tc .vmem S3x512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole)
variable (g4 : Buf (Elt F) (arg4.view.loc (c : Thread nD τ))) (g5 : Buf (Elt F) (arg5.view.loc (c : Thread nD τ))) (g6 : Buf (Elt F) (arg6.view.loc (c : Thread nD τ))) (g7 : Buf (Elt F) (arg7.view.loc (c : Thread nD τ))) (g8 : Buf (Elt F) (arg8.view.loc (c : Thread nD τ))) (g9 : Buf (Elt F) (arg9.view.loc (c : Thread nD τ)))

/-- One trip, whichever its role. -/
theorem trip (v13 v37 v44 v51 v58 : BitVec 32) (v59 t58 : BitVec 1) (k : K) :
    resAt c X OA OB OC arg4 arg5 arg6 arg7 arg8 arg9 g4 g5 g6 g7 g8 g9 k
      ⊢ wp frame (wpE (defs₀ (F := F)) 𝒱₀ (c : Thread nD τ) none) Set.univ (bodyAt (F := F) arg4 harg4 arg5 harg5 arg6 harg6 arg7 harg7 arg8 harg8 arg9 harg9 v13 v37 v44 v51 v58 v59 t58 k (accAt k))
        (fun acc => iprop(⌜acc = accAt (k.val + 1)⌝ ∗ resAt c X OA OB OC arg4 arg5 arg6 arg7 arg8 arg9 g4 g5 g6 g7 g8 g9 (k.val + 1))) := by
  by_cases hk : k.val < 126
  · by_cases h1 : 1 ≤ k.val
    · exact trip_mid c X OA OB OC arg4 harg4 arg5 harg5 arg6 harg6 arg7 harg7 arg8 harg8 arg9 harg9 v13 v37 v44 v51 v58 v59 t58 g4 g5 g6 g7 g8 g9 k hk h1
    · exact trip_first c X OA OB OC arg4 harg4 arg5 harg5 arg6 harg6 arg7 harg7 arg8 harg8 arg9 harg9 v13 v37 v44 v51 v58 v59 t58 g4 g5 g6 g7 g8 g9 k hk h1
  · exact trip_tail c X OA OB OC arg4 harg4 arg5 harg5 arg6 harg6 arg7 harg7 arg8 harg8 arg9 harg9 v13 v37 v44 v51 v58 v59 t58 g4 g5 g6 g7 g8 g9 k hk

/-- What the loop owns before trip `k`, with the values it carries. -/
def inv (k : ℕ) (acc : BitVec 32 × BitVec 32 × BitVec 32 × BitVec 32 × BitVec 32 × BitVec 32 × BitVec 32 × BitVec 32 × BitVec 32 × BitVec 32 × BitVec 32 × BitVec 32 × BitVec 32) : sProp 𝕄 :=
  iprop(⌜acc = accAt k⌝ ∗ resAt c X OA OB OC arg4 arg5 arg6 arg7 arg8 arg9 g4 g5 g6 g7 g8 g9 k)

/-- The body on the given staging memrefs. -/
abbrev bodyG : Prog (TpuEff nD τ sig (Elt F) Λ₀ .tc) PUnit :=
  cc0_merge_streamed xM (Memref.isWhole_whole _) aM (Memref.isWhole_whole _) bM (Memref.isWhole_whole _) cM (Memref.isWhole_whole _) arg4 harg4 arg5 harg5 arg6 harg6 arg7 harg7 arg8 harg8 arg9 harg9 yM (Memref.isWhole_whole _) hM (Memref.isWhole_whole _)
    xR (Memref.isWhole_whole _) cc0_scoped1 aR (Memref.isWhole_whole _) cc0_scoped3 bR (Memref.isWhole_whole _) cc0_scoped5 cR (Memref.isWhole_whole _) cc0_scoped7 yR (Memref.isWhole_whole _) cc0_scoped9 hR (Memref.isWhole_whole _) cc0_scoped11

/-- Equal resources entail each other. -/
theorem ofEq {P Q : sProp 𝕄} (e : P = Q) : P ⊢ Q := by rw [e]

/-- What a read ring starts from: blocks 0, 1, 2 and the rest at home, the three slots free. -/
abbrev xIn : sProp 𝕄 := iprop((held c (blk xM 0) X ∗ held c (blk xM 1) X ∗ held c (blk xM 2) X ∗ bigSep ((Ring.homeSet 2 0).erase (bk 128 2)) (wHome c xM fun _ => X))
  ∗ Ring.free (fun s => cellP c (cell3 cc0_scoped1 s)) (wSlot c xR) 0 ∗ Ring.free (fun s => cellP c (cell3 cc0_scoped1 s)) (wSlot c xR) 1 ∗ Ring.free (fun s => cellP c (cell3 cc0_scoped1 s)) (wSlot c xR) 2)
abbrev aIn : sProp 𝕄 := iprop((held c (hblk aM 0) OA ∗ held c (hblk aM 1) OA ∗ held c (hblk aM 2) OA ∗ bigSep ((Ring.homeSet 2 0).erase (bk 128 2)) (nHome c aM fun _ => OA))
  ∗ Ring.free (fun s => cellP c (cell3 cc0_scoped3 s)) (nSlot c aR) 0 ∗ Ring.free (fun s => cellP c (cell3 cc0_scoped3 s)) (nSlot c aR) 1 ∗ Ring.free (fun s => cellP c (cell3 cc0_scoped3 s)) (nSlot c aR) 2)
abbrev bIn : sProp 𝕄 := iprop((held c (hblk bM 0) OB ∗ held c (hblk bM 1) OB ∗ held c (hblk bM 2) OB ∗ bigSep ((Ring.homeSet 2 0).erase (bk 128 2)) (nHome c bM fun _ => OB))
  ∗ Ring.free (fun s => cellP c (cell3 cc0_scoped5 s)) (nSlot c bR) 0 ∗ Ring.free (fun s => cellP c (cell3 cc0_scoped5 s)) (nSlot c bR) 1 ∗ Ring.free (fun s => cellP c (cell3 cc0_scoped5 s)) (nSlot c bR) 2)
abbrev cIn : sProp 𝕄 := iprop((held c (hblk cM 0) OC ∗ held c (hblk cM 1) OC ∗ held c (hblk cM 2) OC ∗ bigSep ((Ring.homeSet 2 0).erase (bk 128 2)) (nHome c cM fun _ => OC))
  ∗ Ring.free (fun s => cellP c (cell3 cc0_scoped7 s)) (nSlot c cR) 0 ∗ Ring.free (fun s => cellP c (cell3 cc0_scoped7 s)) (nSlot c cR) 1 ∗ Ring.free (fun s => cellP c (cell3 cc0_scoped7 s)) (nSlot c cR) 2)
/-- What a read ring ends at: every block at home, the three slots free. -/
abbrev xOut : sProp 𝕄 := iprop(bigSep Finset.univ (wHome c xM fun _ => X)
  ∗ Ring.free (fun s => cellP c (cell3 cc0_scoped1 s)) (wSlot c xR) 0 ∗ Ring.free (fun s => cellP c (cell3 cc0_scoped1 s)) (wSlot c xR) 1 ∗ Ring.free (fun s => cellP c (cell3 cc0_scoped1 s)) (wSlot c xR) 2)
abbrev aOut : sProp 𝕄 := iprop(bigSep Finset.univ (nHome c aM fun _ => OA)
  ∗ Ring.free (fun s => cellP c (cell3 cc0_scoped3 s)) (nSlot c aR) 0 ∗ Ring.free (fun s => cellP c (cell3 cc0_scoped3 s)) (nSlot c aR) 1 ∗ Ring.free (fun s => cellP c (cell3 cc0_scoped3 s)) (nSlot c aR) 2)
abbrev bOut : sProp 𝕄 := iprop(bigSep Finset.univ (nHome c bM fun _ => OB)
  ∗ Ring.free (fun s => cellP c (cell3 cc0_scoped5 s)) (nSlot c bR) 0 ∗ Ring.free (fun s => cellP c (cell3 cc0_scoped5 s)) (nSlot c bR) 1 ∗ Ring.free (fun s => cellP c (cell3 cc0_scoped5 s)) (nSlot c bR) 2)
abbrev cOut : sProp 𝕄 := iprop(bigSep Finset.univ (nHome c cM fun _ => OC)
  ∗ Ring.free (fun s => cellP c (cell3 cc0_scoped7 s)) (nSlot c cR) 0 ∗ Ring.free (fun s => cellP c (cell3 cc0_scoped7 s)) (nSlot c cR) 1 ∗ Ring.free (fun s => cellP c (cell3 cc0_scoped7 s)) (nSlot c cR) 2)
/-- What a write ring ends at: every block written, the two slots free. -/
abbrev yOut : sProp 𝕄 := Ring.AtBEnd (oFree c cc0_scoped9 yR) (oBehind c yM (yBlk c X OA OB OC arg4 arg5 arg6 arg7 arg8 arg9 g4 g5 g6 g7 g8 g9))
abbrev hOut : sProp 𝕄 := Ring.AtBEnd (oFree c cc0_scoped11 hR) (oBehind c hM (hBlk c X OA OB OC arg4 arg5 arg6 arg7 arg8 arg9 g4 g5 g6 g7 g8 g9))

/-- What the body is handed, and what it hands back. -/
abbrev PRE : sProp 𝕄 :=
  iprop(winP c arg4 arg5 arg6 arg7 arg8 arg9 g4 g5 g6 g7 g8 g9 ∗ (∃ W, owes (c : Thread nD τ) 0 W) ∗ xIn c X ∗ aIn c OA ∗ bIn c OB ∗ cIn c OC ∗ yRing c X OA OB OC arg4 arg5 arg6 arg7 arg8 arg9 g4 g5 g6 g7 g8 g9 0 ∗ hRing c X OA OB OC arg4 arg5 arg6 arg7 arg8 arg9 g4 g5 g6 g7 g8 g9 0)
abbrev POST : sProp 𝕄 :=
  iprop(winP c arg4 arg5 arg6 arg7 arg8 arg9 g4 g5 g6 g7 g8 g9 ∗ (∃ W, owes (c : Thread nD τ) 0 W) ∗ xOut c X ∗ aOut c OA ∗ bOut c OB ∗ cOut c OC ∗ yOut c X OA OB OC arg4 arg5 arg6 arg7 arg8 arg9 g4 g5 g6 g7 g8 g9 ∗ hOut c X OA OB OC arg4 arg5 arg6 arg7 arg8 arg9 g4 g5 g6 g7 g8 g9)

theorem sl2_129 : sl 2 (128 + 1) = 1 := rfl
theorem bk_127 : bk 128 (128 - 1) = 127 := rfl

/-- After the last trip: every block of the activations landed, the last block's rows still in flight from slot 1. -/
theorem inv_end (n : ℕ) (hn : n = 128) (acc) :
    inv c X OA OB OC arg4 arg5 arg6 arg7 arg8 arg9 g4 g5 g6 g7 g8 g9 n acc
      ⊢ iprop(⌜acc = accAt 128⌝ ∗ winP c arg4 arg5 arg6 arg7 arg8 arg9 g4 g5 g6 g7 g8 g9 ∗ (∃ W, owes (c : Thread nD τ) 0 W) ∗ xRing c X 128 ∗ aRing c OA 128 ∗ bRing c OB 128 ∗ cRing c OC 128
        ∗ (bigSep (Ring.behindSet 1 128) (oBehind c yM (yBlk c X OA OB OC arg4 arg5 arg6 arg7 arg8 arg9 g4 g5 g6 g7 g8 g9)) ∗ oFree c cc0_scoped9 yR (sl 2 128) ∗ oFlight c cc0_scoped9 yR yM 32768 (yBlk c X OA OB OC arg4 arg5 arg6 arg7 arg8 arg9 g4 g5 g6 g7 g8 g9) 1 127)
        ∗ (bigSep (Ring.behindSet 1 128) (oBehind c hM (hBlk c X OA OB OC arg4 arg5 arg6 arg7 arg8 arg9 g4 g5 g6 g7 g8 g9)) ∗ oFree c cc0_scoped11 hR (sl 2 128) ∗ oFlight c cc0_scoped11 hR hM 16384 (hBlk c X OA OB OC arg4 arg5 arg6 arg7 arg8 arg9 g4 g5 g6 g7 g8 g9) 1 127)) := by
  subst hn
  unfold inv resAt
  simp only [yRing, hRing, oRing, Ring.AtB21_end' _ _ _ _ 128 rfl (by omega), sl2_129, bk_127]
  exact BI.Entails.refl _

set_option backward.proofsInPublic true in
set_option maxHeartbeats 4000000 in
/-- The body: from what it is handed, what it hands back. -/
theorem bodyRun (Q : PUnit → sProp 𝕄) :
    iprop(PRE c X OA OB OC arg4 arg5 arg6 arg7 arg8 arg9 g4 g5 g6 g7 g8 g9 ∗ (POST c X OA OB OC arg4 arg5 arg6 arg7 arg8 arg9 g4 g5 g6 g7 g8 g9 -∗ Q ⟨⟩))
      ⊢ wp frame (wpE (defs₀ (F := F)) 𝒱₀ (c : Thread nD τ) none) Set.univ (bodyG (F := F) arg4 harg4 arg5 harg5 arg6 harg6 arg7 harg7 arg8 harg8 arg9 harg9) Q := by
  have c8 := chk8
  have c9 := chk9
  have c10 := chk10
  have b1 := cond1
  have b2 := cond2
  have b3 := cond3
  have b4 := cond4
  iintro ⟨⟨⟨H4, H5, H6, H7, H8, H9⟩,
    ⟨%W, HW⟩,
    ⟨⟨Hx0, Hx1, Hx2, Hxh⟩, ⟨HX0, %fx0, HX0s⟩, ⟨HX1, %fx1, HX1s⟩, HX2⟩,
    ⟨⟨Ha0, Ha1, Ha2, Hah⟩, ⟨HA0, %fa0, HA0s⟩, ⟨HA1, %fa1, HA1s⟩, HA2⟩,
    ⟨⟨Hb0, Hb1, Hb2, Hbh⟩, ⟨HB0, %fb0, HB0s⟩, ⟨HB1, %fb1, HB1s⟩, HB2⟩,
    ⟨⟨Hc0, Hc1, Hc2, Hch⟩, ⟨HC0, %fc0, HC0s⟩, ⟨HC1, %fc1, HC1s⟩, HC2⟩,
    HYR,
    HHR⟩, Hk⟩
  sl_exec
  sl_for (inv c X OA OB OC arg4 arg5 arg6 arg7 arg8 arg9 g4 g5 g6 g7 g8 g9) $$ [H4 H5 H6 H7 H8 H9 HW Hx2 Hxh HX0 HX1 HX2 Ha2 Hah HA0 HA1 HA2 Hb2 Hbh HB0 HB1 HB2 Hc2 Hch HC0 HC1 HC2 HYR HHR]
  case region =>
    intro k acc
    unfold inv
    iintro ⟨%e, H⟩
    subst e
    iapply (trip c X OA OB OC arg4 harg4 arg5 harg5 arg6 harg6 arg7 harg7 arg8 harg8 arg9 harg9 g4 g5 g6 g7 g8 g9 _ _ _ _ _ _ _ k)
    iexact H
  · unfold inv
    isplitr
    · ipureintro; exact (show (2#32, 0#32, 2#32, 0#32, 2#32, 0#32, 2#32, 0#32, 0#32, 0#32, 0#32, 0#32, 0#32) = accAt 0 from rfl)
    unfold resAt
    simp only [xRing, aRing, bRing, cRing, wRing, nRing]
    irw [Ring.At3_here _ _ _ _ 0 (by omega), Ring.At3_here _ _ _ _ 0 (by omega), Ring.At3_here _ _ _ _ 0 (by omega), Ring.At3_here _ _ _ _ 0 (by omega)]
    isplitl [H4 H5 H6 H7 H8 H9]
    · isplitl [H4]
      · iexact H4
      isplitl [H5]
      · iexact H5
      isplitl [H6]
      · iexact H6
      isplitl [H7]
      · iexact H7
      isplitl [H8]
      · iexact H8
      iexact H9
    isplitl [HW]
    · iexists _; iexact HW
    isplitl [Hx2 Hxh HX0 HX1 HX2]
    · isplitl [Hx2 Hxh]
      · isplitl [Hx2]
        · iexact Hx2
        iexact Hxh
      isplitl [HX0]
      · iexists fx0; iexact HX0
      isplitl [HX1]
      · iexists fx1; iexact HX1
      iexact HX2
    isplitl [Ha2 Hah HA0 HA1 HA2]
    · isplitl [Ha2 Hah]
      · isplitl [Ha2]
        · iexact Ha2
        iexact Hah
      isplitl [HA0]
      · iexists fa0; iexact HA0
      isplitl [HA1]
      · iexists fa1; iexact HA1
      iexact HA2
    isplitl [Hb2 Hbh HB0 HB1 HB2]
    · isplitl [Hb2 Hbh]
      · isplitl [Hb2]
        · iexact Hb2
        iexact Hbh
      isplitl [HB0]
      · iexists fb0; iexact HB0
      isplitl [HB1]
      · iexists fb1; iexact HB1
      iexact HB2
    isplitl [Hc2 Hch HC0 HC1 HC2]
    · isplitl [Hc2 Hch]
      · isplitl [Hc2]
        · iexact Hc2
        iexact Hch
      isplitl [HC0]
      · iexists fc0; iexact HC0
      isplitl [HC1]
      · iexists fc1; iexact HC1
      iexact HC2
    isplitl [HYR]
    · iexact HYR
    iexact HHR
  iintro %acc HI
  ihave HI' := (inv_end c X OA OB OC arg4 arg5 arg6 arg7 arg8 arg9 g4 g5 g6 g7 g8 g9 _ trips_eq acc) $$ HI
  icases HI' with ⟨%e, HW', ⟨%W', HW⟩, HX, HA, HB, HC, ⟨Hyb, HYf, ⟨%fy1, %gy1, %ey1, HY1⟩⟩, ⟨Hhb, HHf, ⟨%fh1, %gh1, %eh1, HH1⟩⟩⟩
  subst e
  sl_exec
  sl_step
  iapply Hk
  isplitl [HW']
  · iexact HW'
  isplitl [HW]
  · iexists _; iexact HW
  isplitl [HX]
  · iapply (Ring.free3_of_At_last _ _ _ _)
    iexact HX
  isplitl [HA]
  · iapply (Ring.free3_of_At_last _ _ _ _)
    iexact HA
  isplitl [HB]
  · iapply (Ring.free3_of_At_last _ _ _ _)
    iexact HB
  isplitl [HC]
  · iapply (Ring.free3_of_At_last _ _ _ _)
    iexact HC
  isplitl [HY1_dst Hyb HYf HY1 HY1_src]
  · iapply (show _ ⊢ yOut c X OA OB OC arg4 arg5 arg6 arg7 arg8 arg9 g4 g5 g6 g7 g8 g9 from ofEq (Ring.AtB21_epilogue' _ _ 128 rfl (by omega)).symm)
    isplitl [HY1_dst Hyb]
    · isplitl [HY1_dst]
      · iexists _
        isplitr
        · ipureintro; exact ey1
        · iexact HY1_dst
      iexact Hyb
    isplitl [HYf]
    · iexact HYf
    isplitl [HY1]
    · iexact HY1
    iexists _; iexact HY1_src
  iapply (show _ ⊢ hOut c X OA OB OC arg4 arg5 arg6 arg7 arg8 arg9 g4 g5 g6 g7 g8 g9 from ofEq (Ring.AtB21_epilogue' _ _ 128 rfl (by omega)).symm)
  isplitl [HH1_dst Hhb]
  · isplitl [HH1_dst]
    · iexists _
      isplitr
      · ipureintro; exact eh1
      · iexact HH1_dst
    iexact Hhb
  isplitl [HHf]
  · iexact HHf
  isplitl [HH1]
  · iexact HH1
  iexists _; iexact HH1_src

end Body

end Cert.Proof.Body

end
-- ==== Proof.Split.lean ====
/-
  An array as its 128 blocks, a staging buffer as its slots, and back.
-/
module

public import proofs.«01_k».proof.Proof.Body

@[expose] public section

set_option maxRecDepth 16384

noncomputable section

namespace Cert.Proof.Split

open Cert.KernelIdeal Cert.KernelIdeal.Gen Cert.Proof.Words Cert.Proof.Names Cert.Proof.Pieces Cert.Proof.Block Cert.Proof.Trip Cert.Proof.Body
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

/-! ## The element sets -/

abbrev G (b : Fin 128) : Finset S32768x1024.Idx := (Rect.unit (s := S32768x1024) (blkOff b) S256x1024.size (blkOff_inb b)).set
abbrev Gn (b : Fin 128) : Finset S32768x512.Idx := (Rect.unit (s := S32768x512) (blkOff b) S256x512.size (hblkOff_inb b)).set
abbrev T3 (s : Fin 3) : Finset S3x256x1024.Idx := (Rect.unit (s := S3x256x1024) (slotOff s) S1x256x1024.size (slot3_inb s)).set
abbrev T3n (s : Fin 3) : Finset S3x256x512.Idx := (Rect.unit (s := S3x256x512) (slotOff s) S1x256x512.size (hslot3_inb s)).set
abbrev T2 (s : Fin 2) : Finset S2x256x1024.Idx := (Rect.unit (s := S2x256x1024) (slotOff s) S1x256x1024.size (slot2_inb s)).set

theorem mem_G (b : Fin 128) (y : S32768x1024.Idx) : y ∈ G b ↔ (y 0).val / 256 = b.val := by
  rw [Rect.mem_set_unit]
  have h0 : (y 0).val < 32768 := (y 0).isLt
  have h1 : (y 1).val < 1024 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 1024; omega
theorem G_disjoint : ∀ b b' : Fin 128, b ≠ b' → Disjoint (G b) (G b') := by
  intro b b' hne; rw [Finset.disjoint_left]; intro y h h'; rw [mem_G] at h h'; exact hne (Fin.ext (h.symm.trans h'))
theorem G_cover : (Finset.univ : Finset (Fin 128)).biUnion G = Finset.univ := by
  ext y; simp only [Finset.mem_biUnion, Finset.mem_univ, true_and, iff_true]
  exact ⟨⟨(y 0).val / 256, by have h : (y 0).val < 32768 := (y 0).isLt; omega⟩, (mem_G _ _).2 rfl⟩
theorem mem_Gn (b : Fin 128) (y : S32768x512.Idx) : y ∈ Gn b ↔ (y 0).val / 256 = b.val := by
  rw [Rect.mem_set_unit]
  have h0 : (y 0).val < 32768 := (y 0).isLt
  have h1 : (y 1).val < 512 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 512; omega
theorem Gn_disjoint : ∀ b b' : Fin 128, b ≠ b' → Disjoint (Gn b) (Gn b') := by
  intro b b' hne; rw [Finset.disjoint_left]; intro y h h'; rw [mem_Gn] at h h'; exact hne (Fin.ext (h.symm.trans h'))
theorem Gn_cover : (Finset.univ : Finset (Fin 128)).biUnion Gn = Finset.univ := by
  ext y; simp only [Finset.mem_biUnion, Finset.mem_univ, true_and, iff_true]
  exact ⟨⟨(y 0).val / 256, by have h : (y 0).val < 32768 := (y 0).isLt; omega⟩, (mem_Gn _ _).2 rfl⟩
theorem mem_T3 (b : Fin 3) (y : S3x256x1024.Idx) : y ∈ T3 b ↔ (y 0).val = b.val := by
  rw [Rect.mem_set_unit]
  have h0 : (y 1).val < 256 := (y 1).isLt
  have h1 : (y 2).val < 1024 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 256; omega
    · show 0 ≤ (y 2).val ∧ (y 2).val < 0 + 1024; omega
theorem T3_disjoint : ∀ b b' : Fin 3, b ≠ b' → Disjoint (T3 b) (T3 b') := by
  intro b b' hne; rw [Finset.disjoint_left]; intro y h h'; rw [mem_T3] at h h'; exact hne (Fin.ext (h.symm.trans h'))
theorem T3_cover : (Finset.univ : Finset (Fin 3)).biUnion T3 = Finset.univ := by
  ext y; simp only [Finset.mem_biUnion, Finset.mem_univ, true_and, iff_true]
  exact ⟨⟨(y 0).val, (y 0).isLt⟩, (mem_T3 _ _).2 rfl⟩
theorem mem_T3n (b : Fin 3) (y : S3x256x512.Idx) : y ∈ T3n b ↔ (y 0).val = b.val := by
  rw [Rect.mem_set_unit]
  have h0 : (y 1).val < 256 := (y 1).isLt
  have h1 : (y 2).val < 512 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 256; omega
    · show 0 ≤ (y 2).val ∧ (y 2).val < 0 + 512; omega
theorem T3n_disjoint : ∀ b b' : Fin 3, b ≠ b' → Disjoint (T3n b) (T3n b') := by
  intro b b' hne; rw [Finset.disjoint_left]; intro y h h'; rw [mem_T3n] at h h'; exact hne (Fin.ext (h.symm.trans h'))
theorem T3n_cover : (Finset.univ : Finset (Fin 3)).biUnion T3n = Finset.univ := by
  ext y; simp only [Finset.mem_biUnion, Finset.mem_univ, true_and, iff_true]
  exact ⟨⟨(y 0).val, (y 0).isLt⟩, (mem_T3n _ _).2 rfl⟩
theorem mem_T2 (b : Fin 2) (y : S2x256x1024.Idx) : y ∈ T2 b ↔ (y 0).val = b.val := by
  rw [Rect.mem_set_unit]
  have h0 : (y 1).val < 256 := (y 1).isLt
  have h1 : (y 2).val < 1024 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 256; omega
    · show 0 ≤ (y 2).val ∧ (y 2).val < 0 + 1024; omega
theorem T2_disjoint : ∀ b b' : Fin 2, b ≠ b' → Disjoint (T2 b) (T2 b') := by
  intro b b' hne; rw [Finset.disjoint_left]; intro y h h'; rw [mem_T2] at h h'; exact hne (Fin.ext (h.symm.trans h'))
theorem T2_cover : (Finset.univ : Finset (Fin 2)).biUnion T2 = Finset.univ := by
  ext y; simp only [Finset.mem_biUnion, Finset.mem_univ, true_and, iff_true]
  exact ⟨⟨(y 0).val, (y 0).isLt⟩, (mem_T2 _ _).2 rfl⟩

theorem fin3_sep (Ψ : Fin 3 → sProp 𝕄) : bigSep Finset.univ Ψ = iprop(Ψ 0 ∗ Ψ 1 ∗ Ψ 2) :=
  bigSep_univ_eq_bigSepL [(0 : Fin 3), (1 : Fin 3), (2 : Fin 3)] (by decide) (by decide) Ψ
theorem fin2_sep (Ψ : Fin 2 → sProp 𝕄) : bigSep Finset.univ Ψ = iprop(Ψ 0 ∗ Ψ 1) :=
  bigSep_univ_eq_bigSepL [(0 : Fin 2), (1 : Fin 2)] (by decide) (by decide) Ψ

/-! ## The arrays the pipeline reads -/

section Arrays
variable (c : Dev nD)

theorem x_set (b : Fin 128) : (blk xM b).view.set = G b := View.set_slice_whole _ _
theorem x_slot_set (s : Fin 3) : (slot3 xR s).view.set = T3 s := (View.set_reshape _ _).trans (View.set_slice_whole _ _)
theorem x_blocks (f : Buf (Elt F) ((c : Thread nD τ).loc main_v15)) :
    (((c : Thread nD τ).loc main_v15) ↦{fullShare} f : sProp 𝕄) = bigSep Finset.univ (wHome c xM fun _ => f) := by
  rw [Ring.pointsTo_blocks (ℓ := (c : Thread nD τ).loc main_v15) G G_disjoint G_cover]
  exact bigSep_congr fun b _ => by rw [← x_set]; rfl
theorem x_slot_eq (s : Fin 3) (f) : held c (slot3 xR s) f = (((c : Thread nD τ).loc cc0_scoped0) ↦[T3 s]{fullShare} f : sProp 𝕄) :=
  congrArg (fun S => (_ ↦[S]{fullShare} f : sProp 𝕄)) (x_slot_set s)
/-- The array whole, its staging buffer and the buffer's semaphores are the ring before the body; -/
theorem x_enter (f : Buf (Elt F) ((c : Thread nD τ).loc main_v15)) :
    iprop((((c : Thread nD τ).loc main_v15) ↦{fullShare} f) ∗ (∃ g : Buf (Elt F) ((c : Thread nD τ).loc cc0_scoped0), ((c : Thread nD τ).loc cc0_scoped0) ↦{fullShare} g)
      ∗ cellP c (cell3 cc0_scoped1 0) ∗ cellP c (cell3 cc0_scoped1 1) ∗ cellP c (cell3 cc0_scoped1 2)) ⊢ xIn c f := by
  iintro ⟨HX, ⟨%g, Hg⟩, C0, C1, C2⟩
  ihave Hs := (ofEq ((Ring.pointsTo_blocks (Ix := Unit) (Name := ℕ) (U := UU nD τ) (Lvl := ℕ) (q := fullShare) (ℓ := (c : Thread nD τ).loc cc0_scoped0) T3 T3_disjoint T3_cover g).trans (fin3_sep _))) $$ Hg
  icases Hs with ⟨S0, S1, S2⟩
  iapply (ofEq (Ring.At₀_eq3 (wHome c xM fun _ => f) (fun s => cellP c (cell3 cc0_scoped1 s)) (wSlot c xR) (by omega)))
  unfold Ring.At₀
  isplitl [HX]
  · iapply (ofEq (x_blocks c f)); iexact HX
  irw [fin3_sep]
  isplitl [C0 S0]
  · isplitl [C0]
    · iexact C0
    iexists g; iapply (ofEq (x_slot_eq c 0 g).symm); iexact S0
  isplitl [C1 S1]
  · isplitl [C1]
    · iexact C1
    iexists g; iapply (ofEq (x_slot_eq c 1 g).symm); iexact S1
  isplitl [C2]
  · iexact C2
  iexists g; iapply (ofEq (x_slot_eq c 2 g).symm); iexact S2
/-- and after it the other way. -/
theorem x_leave (f : Buf (Elt F) ((c : Thread nD τ).loc main_v15)) :
    xOut c f ⊢ iprop((((c : Thread nD τ).loc main_v15) ↦{fullShare} f) ∗ (∃ g : Buf (Elt F) ((c : Thread nD τ).loc cc0_scoped0), ((c : Thread nD τ).loc cc0_scoped0) ↦{fullShare} g)
      ∗ cellP c (cell3 cc0_scoped1 0) ∗ cellP c (cell3 cc0_scoped1 1) ∗ cellP c (cell3 cc0_scoped1 2)) := by
  iintro ⟨HX, ⟨C0, %g0, S0⟩, ⟨C1, %g1, S1⟩, C2, %g2, S2⟩
  isplitl [HX]
  · iapply (ofEq (x_blocks c f).symm); iexact HX
  isplitl [S0 S1 S2]
  · iapply (Ring.pointsTo_blocks_join_exists (ℓ := (c : Thread nD τ).loc cc0_scoped0) T3 T3_disjoint T3_cover g0)
    irw [fin3_sep]
    isplitl [S0]
    · iexists g0; iapply (ofEq (x_slot_eq c 0 g0)); iexact S0
    isplitl [S1]
    · iexists g1; iapply (ofEq (x_slot_eq c 1 g1)); iexact S1
    iexists g2; iapply (ofEq (x_slot_eq c 2 g2)); iexact S2
  isplitl [C0]
  · iexact C0
  isplitl [C1]
  · iexact C1
  iexact C2

theorem a_set (b : Fin 128) : (hblk aM b).view.set = Gn b := View.set_slice_whole _ _
theorem a_slot_set (s : Fin 3) : (hslot3 aR s).view.set = T3n s := (View.set_reshape _ _).trans (View.set_slice_whole _ _)
theorem a_blocks (f : Buf (Elt F) ((c : Thread nD τ).loc main_arg1)) :
    (((c : Thread nD τ).loc main_arg1) ↦{fullShare} f : sProp 𝕄) = bigSep Finset.univ (nHome c aM fun _ => f) := by
  rw [Ring.pointsTo_blocks (ℓ := (c : Thread nD τ).loc main_arg1) Gn Gn_disjoint Gn_cover]
  exact bigSep_congr fun b _ => by rw [← a_set]; rfl
theorem a_slot_eq (s : Fin 3) (f) : held c (hslot3 aR s) f = (((c : Thread nD τ).loc cc0_scoped2) ↦[T3n s]{fullShare} f : sProp 𝕄) :=
  congrArg (fun S => (_ ↦[S]{fullShare} f : sProp 𝕄)) (a_slot_set s)
/-- The array whole, its staging buffer and the buffer's semaphores are the ring before the body; -/
theorem a_enter (f : Buf (Elt F) ((c : Thread nD τ).loc main_arg1)) :
    iprop((((c : Thread nD τ).loc main_arg1) ↦{fullShare} f) ∗ (∃ g : Buf (Elt F) ((c : Thread nD τ).loc cc0_scoped2), ((c : Thread nD τ).loc cc0_scoped2) ↦{fullShare} g)
      ∗ cellP c (cell3 cc0_scoped3 0) ∗ cellP c (cell3 cc0_scoped3 1) ∗ cellP c (cell3 cc0_scoped3 2)) ⊢ aIn c f := by
  iintro ⟨HX, ⟨%g, Hg⟩, C0, C1, C2⟩
  ihave Hs := (ofEq ((Ring.pointsTo_blocks (Ix := Unit) (Name := ℕ) (U := UU nD τ) (Lvl := ℕ) (q := fullShare) (ℓ := (c : Thread nD τ).loc cc0_scoped2) T3n T3n_disjoint T3n_cover g).trans (fin3_sep _))) $$ Hg
  icases Hs with ⟨S0, S1, S2⟩
  iapply (ofEq (Ring.At₀_eq3 (nHome c aM fun _ => f) (fun s => cellP c (cell3 cc0_scoped3 s)) (nSlot c aR) (by omega)))
  unfold Ring.At₀
  isplitl [HX]
  · iapply (ofEq (a_blocks c f)); iexact HX
  irw [fin3_sep]
  isplitl [C0 S0]
  · isplitl [C0]
    · iexact C0
    iexists g; iapply (ofEq (a_slot_eq c 0 g).symm); iexact S0
  isplitl [C1 S1]
  · isplitl [C1]
    · iexact C1
    iexists g; iapply (ofEq (a_slot_eq c 1 g).symm); iexact S1
  isplitl [C2]
  · iexact C2
  iexists g; iapply (ofEq (a_slot_eq c 2 g).symm); iexact S2
/-- and after it the other way. -/
theorem a_leave (f : Buf (Elt F) ((c : Thread nD τ).loc main_arg1)) :
    aOut c f ⊢ iprop((((c : Thread nD τ).loc main_arg1) ↦{fullShare} f) ∗ (∃ g : Buf (Elt F) ((c : Thread nD τ).loc cc0_scoped2), ((c : Thread nD τ).loc cc0_scoped2) ↦{fullShare} g)
      ∗ cellP c (cell3 cc0_scoped3 0) ∗ cellP c (cell3 cc0_scoped3 1) ∗ cellP c (cell3 cc0_scoped3 2)) := by
  iintro ⟨HX, ⟨C0, %g0, S0⟩, ⟨C1, %g1, S1⟩, C2, %g2, S2⟩
  isplitl [HX]
  · iapply (ofEq (a_blocks c f).symm); iexact HX
  isplitl [S0 S1 S2]
  · iapply (Ring.pointsTo_blocks_join_exists (ℓ := (c : Thread nD τ).loc cc0_scoped2) T3n T3n_disjoint T3n_cover g0)
    irw [fin3_sep]
    isplitl [S0]
    · iexists g0; iapply (ofEq (a_slot_eq c 0 g0)); iexact S0
    isplitl [S1]
    · iexists g1; iapply (ofEq (a_slot_eq c 1 g1)); iexact S1
    iexists g2; iapply (ofEq (a_slot_eq c 2 g2)); iexact S2
  isplitl [C0]
  · iexact C0
  isplitl [C1]
  · iexact C1
  iexact C2

theorem b_set (b : Fin 128) : (hblk bM b).view.set = Gn b := View.set_slice_whole _ _
theorem b_slot_set (s : Fin 3) : (hslot3 bR s).view.set = T3n s := (View.set_reshape _ _).trans (View.set_slice_whole _ _)
theorem b_blocks (f : Buf (Elt F) ((c : Thread nD τ).loc main_v16)) :
    (((c : Thread nD τ).loc main_v16) ↦{fullShare} f : sProp 𝕄) = bigSep Finset.univ (nHome c bM fun _ => f) := by
  rw [Ring.pointsTo_blocks (ℓ := (c : Thread nD τ).loc main_v16) Gn Gn_disjoint Gn_cover]
  exact bigSep_congr fun b _ => by rw [← b_set]; rfl
theorem b_slot_eq (s : Fin 3) (f) : held c (hslot3 bR s) f = (((c : Thread nD τ).loc cc0_scoped4) ↦[T3n s]{fullShare} f : sProp 𝕄) :=
  congrArg (fun S => (_ ↦[S]{fullShare} f : sProp 𝕄)) (b_slot_set s)
/-- The array whole, its staging buffer and the buffer's semaphores are the ring before the body; -/
theorem b_enter (f : Buf (Elt F) ((c : Thread nD τ).loc main_v16)) :
    iprop((((c : Thread nD τ).loc main_v16) ↦{fullShare} f) ∗ (∃ g : Buf (Elt F) ((c : Thread nD τ).loc cc0_scoped4), ((c : Thread nD τ).loc cc0_scoped4) ↦{fullShare} g)
      ∗ cellP c (cell3 cc0_scoped5 0) ∗ cellP c (cell3 cc0_scoped5 1) ∗ cellP c (cell3 cc0_scoped5 2)) ⊢ bIn c f := by
  iintro ⟨HX, ⟨%g, Hg⟩, C0, C1, C2⟩
  ihave Hs := (ofEq ((Ring.pointsTo_blocks (Ix := Unit) (Name := ℕ) (U := UU nD τ) (Lvl := ℕ) (q := fullShare) (ℓ := (c : Thread nD τ).loc cc0_scoped4) T3n T3n_disjoint T3n_cover g).trans (fin3_sep _))) $$ Hg
  icases Hs with ⟨S0, S1, S2⟩
  iapply (ofEq (Ring.At₀_eq3 (nHome c bM fun _ => f) (fun s => cellP c (cell3 cc0_scoped5 s)) (nSlot c bR) (by omega)))
  unfold Ring.At₀
  isplitl [HX]
  · iapply (ofEq (b_blocks c f)); iexact HX
  irw [fin3_sep]
  isplitl [C0 S0]
  · isplitl [C0]
    · iexact C0
    iexists g; iapply (ofEq (b_slot_eq c 0 g).symm); iexact S0
  isplitl [C1 S1]
  · isplitl [C1]
    · iexact C1
    iexists g; iapply (ofEq (b_slot_eq c 1 g).symm); iexact S1
  isplitl [C2]
  · iexact C2
  iexists g; iapply (ofEq (b_slot_eq c 2 g).symm); iexact S2
/-- and after it the other way. -/
theorem b_leave (f : Buf (Elt F) ((c : Thread nD τ).loc main_v16)) :
    bOut c f ⊢ iprop((((c : Thread nD τ).loc main_v16) ↦{fullShare} f) ∗ (∃ g : Buf (Elt F) ((c : Thread nD τ).loc cc0_scoped4), ((c : Thread nD τ).loc cc0_scoped4) ↦{fullShare} g)
      ∗ cellP c (cell3 cc0_scoped5 0) ∗ cellP c (cell3 cc0_scoped5 1) ∗ cellP c (cell3 cc0_scoped5 2)) := by
  iintro ⟨HX, ⟨C0, %g0, S0⟩, ⟨C1, %g1, S1⟩, C2, %g2, S2⟩
  isplitl [HX]
  · iapply (ofEq (b_blocks c f).symm); iexact HX
  isplitl [S0 S1 S2]
  · iapply (Ring.pointsTo_blocks_join_exists (ℓ := (c : Thread nD τ).loc cc0_scoped4) T3n T3n_disjoint T3n_cover g0)
    irw [fin3_sep]
    isplitl [S0]
    · iexists g0; iapply (ofEq (b_slot_eq c 0 g0)); iexact S0
    isplitl [S1]
    · iexists g1; iapply (ofEq (b_slot_eq c 1 g1)); iexact S1
    iexists g2; iapply (ofEq (b_slot_eq c 2 g2)); iexact S2
  isplitl [C0]
  · iexact C0
  isplitl [C1]
  · iexact C1
  iexact C2

theorem c_set (b : Fin 128) : (hblk cM b).view.set = Gn b := View.set_slice_whole _ _
theorem c_slot_set (s : Fin 3) : (hslot3 cR s).view.set = T3n s := (View.set_reshape _ _).trans (View.set_slice_whole _ _)
theorem c_blocks (f : Buf (Elt F) ((c : Thread nD τ).loc main_arg3)) :
    (((c : Thread nD τ).loc main_arg3) ↦{fullShare} f : sProp 𝕄) = bigSep Finset.univ (nHome c cM fun _ => f) := by
  rw [Ring.pointsTo_blocks (ℓ := (c : Thread nD τ).loc main_arg3) Gn Gn_disjoint Gn_cover]
  exact bigSep_congr fun b _ => by rw [← c_set]; rfl
theorem c_slot_eq (s : Fin 3) (f) : held c (hslot3 cR s) f = (((c : Thread nD τ).loc cc0_scoped6) ↦[T3n s]{fullShare} f : sProp 𝕄) :=
  congrArg (fun S => (_ ↦[S]{fullShare} f : sProp 𝕄)) (c_slot_set s)
/-- The array whole, its staging buffer and the buffer's semaphores are the ring before the body; -/
theorem c_enter (f : Buf (Elt F) ((c : Thread nD τ).loc main_arg3)) :
    iprop((((c : Thread nD τ).loc main_arg3) ↦{fullShare} f) ∗ (∃ g : Buf (Elt F) ((c : Thread nD τ).loc cc0_scoped6), ((c : Thread nD τ).loc cc0_scoped6) ↦{fullShare} g)
      ∗ cellP c (cell3 cc0_scoped7 0) ∗ cellP c (cell3 cc0_scoped7 1) ∗ cellP c (cell3 cc0_scoped7 2)) ⊢ cIn c f := by
  iintro ⟨HX, ⟨%g, Hg⟩, C0, C1, C2⟩
  ihave Hs := (ofEq ((Ring.pointsTo_blocks (Ix := Unit) (Name := ℕ) (U := UU nD τ) (Lvl := ℕ) (q := fullShare) (ℓ := (c : Thread nD τ).loc cc0_scoped6) T3n T3n_disjoint T3n_cover g).trans (fin3_sep _))) $$ Hg
  icases Hs with ⟨S0, S1, S2⟩
  iapply (ofEq (Ring.At₀_eq3 (nHome c cM fun _ => f) (fun s => cellP c (cell3 cc0_scoped7 s)) (nSlot c cR) (by omega)))
  unfold Ring.At₀
  isplitl [HX]
  · iapply (ofEq (c_blocks c f)); iexact HX
  irw [fin3_sep]
  isplitl [C0 S0]
  · isplitl [C0]
    · iexact C0
    iexists g; iapply (ofEq (c_slot_eq c 0 g).symm); iexact S0
  isplitl [C1 S1]
  · isplitl [C1]
    · iexact C1
    iexists g; iapply (ofEq (c_slot_eq c 1 g).symm); iexact S1
  isplitl [C2]
  · iexact C2
  iexists g; iapply (ofEq (c_slot_eq c 2 g).symm); iexact S2
/-- and after it the other way. -/
theorem c_leave (f : Buf (Elt F) ((c : Thread nD τ).loc main_arg3)) :
    cOut c f ⊢ iprop((((c : Thread nD τ).loc main_arg3) ↦{fullShare} f) ∗ (∃ g : Buf (Elt F) ((c : Thread nD τ).loc cc0_scoped6), ((c : Thread nD τ).loc cc0_scoped6) ↦{fullShare} g)
      ∗ cellP c (cell3 cc0_scoped7 0) ∗ cellP c (cell3 cc0_scoped7 1) ∗ cellP c (cell3 cc0_scoped7 2)) := by
  iintro ⟨HX, ⟨C0, %g0, S0⟩, ⟨C1, %g1, S1⟩, C2, %g2, S2⟩
  isplitl [HX]
  · iapply (ofEq (c_blocks c f).symm); iexact HX
  isplitl [S0 S1 S2]
  · iapply (Ring.pointsTo_blocks_join_exists (ℓ := (c : Thread nD τ).loc cc0_scoped6) T3n T3n_disjoint T3n_cover g0)
    irw [fin3_sep]
    isplitl [S0]
    · iexists g0; iapply (ofEq (c_slot_eq c 0 g0)); iexact S0
    isplitl [S1]
    · iexists g1; iapply (ofEq (c_slot_eq c 1 g1)); iexact S1
    iexists g2; iapply (ofEq (c_slot_eq c 2 g2)); iexact S2
  isplitl [C0]
  · iexact C0
  isplitl [C1]
  · iexact C1
  iexact C2

/-! ## The arrays the pipeline writes -/

theorem y_set (b : Fin 128) : (blk yM b).view.set = G b := View.set_slice_whole _ _
theorem y_slot_set (s : Fin 2) : (slot2 yR s).view.set = T2 s := (View.set_reshape _ _).trans (View.set_slice_whole _ _)
theorem y_blk_eq (b : Fin 128) (f) : held c (blk yM b) f = (((c : Thread nD τ).loc main_v17_0) ↦[G b]{fullShare} f : sProp 𝕄) :=
  congrArg (fun S => (_ ↦[S]{fullShare} f : sProp 𝕄)) (y_set b)
theorem y_slot_eq (s : Fin 2) (f) : held c (slot2 yR s) f = (((c : Thread nD τ).loc cc0_scoped8) ↦[T2 s]{fullShare} f : sProp 𝕄) :=
  congrArg (fun S => (_ ↦[S]{fullShare} f : sProp 𝕄)) (y_slot_set s)
theorem y_ahead (f : Buf (Elt F) ((c : Thread nD τ).loc main_v17_0)) :
    (((c : Thread nD τ).loc main_v17_0) ↦{fullShare} f : sProp 𝕄) ⊢ bigSep Finset.univ (oAhead (F := F) c yM) := by
  rw [Ring.pointsTo_blocks (ℓ := (c : Thread nD τ).loc main_v17_0) G G_disjoint G_cover]
  refine bigSep_mono fun b _ => ?_
  rw [← y_set]
  exact exists_intro (Φ := fun f => (held c (blk yM b) f : sProp 𝕄)) f
/-- A block read at contents equal on it. -/
theorem y_read (b : Fin 128) (f g : Buf (Elt F) ((c : Thread nD τ).loc main_v17_0)) (h : ∀ i ∈ G b, f i = g i) :
    (blk yM b).view.read (Elt F) f = (blk yM b).view.read (Elt F) g := by
  funext j
  exact h _ (by rw [← y_set]; exact Finset.mem_map_of_mem _ (Finset.mem_univ _))
theorem y_behind (rows : Fin 128 → S256x1024.Idx → Elt F .f32) :
    bigSep Finset.univ (oBehind (F := F) c yM rows)
      ⊢ (iprop(∃ f : Buf (Elt F) ((c : Thread nD τ).loc main_v17_0), ⌜∀ b, (blk yM b).view.read (Elt F) f = rows b⌝ ∗ ((c : Thread nD τ).loc main_v17_0) ↦{fullShare} f) : sProp 𝕄) := by
  have : Nonempty (Buf (Elt F) ((c : Thread nD τ).loc main_v17_0)) := ⟨fun _ => default⟩
  refine (show bigSep Finset.univ (oBehind (F := F) c yM rows)
    ⊢ bigSep Finset.univ (fun b => iprop(∃ f : Buf (Elt F) ((c : Thread nD τ).loc main_v17_0), ⌜(blk yM b).view.read (Elt F) f = rows b⌝ ∗ (((c : Thread nD τ).loc main_v17_0) ↦[G b]{fullShare} f))) from
      bigSep_mono fun b _ => by rw [← y_set]; exact BI.Entails.refl _).trans ?_
  refine (bigSep_exists_pi Finset.univ _).trans ?_
  iintro ⟨%fs, H⟩
  ihave H := (bigSep_pure_sep Finset.univ (fun b => (blk yM b).view.read (Elt F) (fs b) = rows b) fun b => (((c : Thread nD τ).loc main_v17_0) ↦[G b]{fullShare} fs b : sProp 𝕄)) $$ H
  icases H with ⟨%hr, H⟩
  ihave H := (pointsTo_biUnion_join (ℓ := (c : Thread nD τ).loc main_v17_0) Finset.univ G fs (fs 0) fun b _ b' _ h => G_disjoint b b' h) $$ H
  icases H with ⟨%f, %hf, H⟩
  ihave H := (ofEq (congrArg (fun S => (((c : Thread nD τ).loc main_v17_0) ↦[S]{fullShare} f : sProp 𝕄)) G_cover)) $$ H
  iexists f
  isplitr
  · ipureintro
    intro b
    rw [← hr b (Finset.mem_univ b)]
    exact y_read c b _ _ (hf b (Finset.mem_univ b))
  iexact H
/-- The result at anything, its staging buffer and semaphores are the ring before the body; -/
theorem y_enter (rows : Fin 128 → S256x1024.Idx → Elt F .f32) (f : Buf (Elt F) ((c : Thread nD τ).loc main_v17_0)) :
    iprop((((c : Thread nD τ).loc main_v17_0) ↦{fullShare} f) ∗ (∃ g : Buf (Elt F) ((c : Thread nD τ).loc cc0_scoped8), ((c : Thread nD τ).loc cc0_scoped8) ↦{fullShare} g)
      ∗ cellP c (cell2 cc0_scoped9 0) ∗ cellP c (cell2 cc0_scoped9 1)) ⊢ oRing c cc0_scoped9 yR yM 32768 rows 0 := by
  iintro ⟨HX, ⟨%g, Hg⟩, C0, C1⟩
  ihave Hs := (ofEq ((Ring.pointsTo_blocks (Ix := Unit) (Name := ℕ) (U := UU nD τ) (Lvl := ℕ) (q := fullShare) (ℓ := (c : Thread nD τ).loc cc0_scoped8) T2 T2_disjoint T2_cover g).trans (fin2_sep _))) $$ Hg
  icases Hs with ⟨S0, S1⟩
  unfold oRing
  rw [Ring.AtB_zero]
  unfold Ring.AtB₀
  isplitl [HX]
  · iapply (y_ahead c f); iexact HX
  irw [fin2_sep]
  isplitl [C0 S0]
  · isplitl [C0]
    · iexact C0
    iexists g; iapply (ofEq (y_slot_eq c 0 g).symm); iexact S0
  isplitl [C1]
  · iexact C1
  iexists g; iapply (ofEq (y_slot_eq c 1 g).symm); iexact S1
/-- after it the result is whole, each block reading the rows of its trip. -/
theorem y_leave (rows : Fin 128 → S256x1024.Idx → Elt F .f32) :
    Ring.AtBEnd (oFree c cc0_scoped9 yR) (oBehind c yM rows)
      ⊢ iprop((∃ f : Buf (Elt F) ((c : Thread nD τ).loc main_v17_0), ⌜∀ b, (blk yM b).view.read (Elt F) f = rows b⌝ ∗ ((c : Thread nD τ).loc main_v17_0) ↦{fullShare} f) ∗ (∃ g : Buf (Elt F) ((c : Thread nD τ).loc cc0_scoped8), ((c : Thread nD τ).loc cc0_scoped8) ↦{fullShare} g)
      ∗ cellP c (cell2 cc0_scoped9 0) ∗ cellP c (cell2 cc0_scoped9 1) : sProp 𝕄) := by
  unfold Ring.AtBEnd
  rw [fin2_sep]
  iintro ⟨HX, ⟨C0, %g0, S0⟩, C1, %g1, S1⟩
  isplitl [HX]
  · iapply (y_behind c rows); iexact HX
  isplitl [S0 S1]
  · iapply (Ring.pointsTo_blocks_join_exists (ℓ := (c : Thread nD τ).loc cc0_scoped8) T2 T2_disjoint T2_cover g0)
    irw [fin2_sep]
    isplitl [S0]
    · iexists g0; iapply (ofEq (y_slot_eq c 0 g0)); iexact S0
    iexists g1; iapply (ofEq (y_slot_eq c 1 g1)); iexact S1
  isplitl [C0]
  · iexact C0
  iexact C1

theorem h_set (b : Fin 128) : (blk hM b).view.set = G b := View.set_slice_whole _ _
theorem h_slot_set (s : Fin 2) : (slot2 hR s).view.set = T2 s := (View.set_reshape _ _).trans (View.set_slice_whole _ _)
theorem h_blk_eq (b : Fin 128) (f) : held c (blk hM b) f = (((c : Thread nD τ).loc main_v17_1) ↦[G b]{fullShare} f : sProp 𝕄) :=
  congrArg (fun S => (_ ↦[S]{fullShare} f : sProp 𝕄)) (h_set b)
theorem h_slot_eq (s : Fin 2) (f) : held c (slot2 hR s) f = (((c : Thread nD τ).loc cc0_scoped10) ↦[T2 s]{fullShare} f : sProp 𝕄) :=
  congrArg (fun S => (_ ↦[S]{fullShare} f : sProp 𝕄)) (h_slot_set s)
theorem h_ahead (f : Buf (Elt F) ((c : Thread nD τ).loc main_v17_1)) :
    (((c : Thread nD τ).loc main_v17_1) ↦{fullShare} f : sProp 𝕄) ⊢ bigSep Finset.univ (oAhead (F := F) c hM) := by
  rw [Ring.pointsTo_blocks (ℓ := (c : Thread nD τ).loc main_v17_1) G G_disjoint G_cover]
  refine bigSep_mono fun b _ => ?_
  rw [← h_set]
  exact exists_intro (Φ := fun f => (held c (blk hM b) f : sProp 𝕄)) f
/-- A block read at contents equal on it. -/
theorem h_read (b : Fin 128) (f g : Buf (Elt F) ((c : Thread nD τ).loc main_v17_1)) (h : ∀ i ∈ G b, f i = g i) :
    (blk hM b).view.read (Elt F) f = (blk hM b).view.read (Elt F) g := by
  funext j
  exact h _ (by rw [← h_set]; exact Finset.mem_map_of_mem _ (Finset.mem_univ _))
theorem h_behind (rows : Fin 128 → S256x1024.Idx → Elt F .bf16) :
    bigSep Finset.univ (oBehind (F := F) c hM rows)
      ⊢ (iprop(∃ f : Buf (Elt F) ((c : Thread nD τ).loc main_v17_1), ⌜∀ b, (blk hM b).view.read (Elt F) f = rows b⌝ ∗ ((c : Thread nD τ).loc main_v17_1) ↦{fullShare} f) : sProp 𝕄) := by
  have : Nonempty (Buf (Elt F) ((c : Thread nD τ).loc main_v17_1)) := ⟨fun _ => default⟩
  refine (show bigSep Finset.univ (oBehind (F := F) c hM rows)
    ⊢ bigSep Finset.univ (fun b => iprop(∃ f : Buf (Elt F) ((c : Thread nD τ).loc main_v17_1), ⌜(blk hM b).view.read (Elt F) f = rows b⌝ ∗ (((c : Thread nD τ).loc main_v17_1) ↦[G b]{fullShare} f))) from
      bigSep_mono fun b _ => by rw [← h_set]; exact BI.Entails.refl _).trans ?_
  refine (bigSep_exists_pi Finset.univ _).trans ?_
  iintro ⟨%fs, H⟩
  ihave H := (bigSep_pure_sep Finset.univ (fun b => (blk hM b).view.read (Elt F) (fs b) = rows b) fun b => (((c : Thread nD τ).loc main_v17_1) ↦[G b]{fullShare} fs b : sProp 𝕄)) $$ H
  icases H with ⟨%hr, H⟩
  ihave H := (pointsTo_biUnion_join (ℓ := (c : Thread nD τ).loc main_v17_1) Finset.univ G fs (fs 0) fun b _ b' _ h => G_disjoint b b' h) $$ H
  icases H with ⟨%f, %hf, H⟩
  ihave H := (ofEq (congrArg (fun S => (((c : Thread nD τ).loc main_v17_1) ↦[S]{fullShare} f : sProp 𝕄)) G_cover)) $$ H
  iexists f
  isplitr
  · ipureintro
    intro b
    rw [← hr b (Finset.mem_univ b)]
    exact h_read c b _ _ (hf b (Finset.mem_univ b))
  iexact H
/-- The result at anything, its staging buffer and semaphores are the ring before the body; -/
theorem h_enter (rows : Fin 128 → S256x1024.Idx → Elt F .bf16) (f : Buf (Elt F) ((c : Thread nD τ).loc main_v17_1)) :
    iprop((((c : Thread nD τ).loc main_v17_1) ↦{fullShare} f) ∗ (∃ g : Buf (Elt F) ((c : Thread nD τ).loc cc0_scoped10), ((c : Thread nD τ).loc cc0_scoped10) ↦{fullShare} g)
      ∗ cellP c (cell2 cc0_scoped11 0) ∗ cellP c (cell2 cc0_scoped11 1)) ⊢ oRing c cc0_scoped11 hR hM 16384 rows 0 := by
  iintro ⟨HX, ⟨%g, Hg⟩, C0, C1⟩
  ihave Hs := (ofEq ((Ring.pointsTo_blocks (Ix := Unit) (Name := ℕ) (U := UU nD τ) (Lvl := ℕ) (q := fullShare) (ℓ := (c : Thread nD τ).loc cc0_scoped10) T2 T2_disjoint T2_cover g).trans (fin2_sep _))) $$ Hg
  icases Hs with ⟨S0, S1⟩
  unfold oRing
  rw [Ring.AtB_zero]
  unfold Ring.AtB₀
  isplitl [HX]
  · iapply (h_ahead c f); iexact HX
  irw [fin2_sep]
  isplitl [C0 S0]
  · isplitl [C0]
    · iexact C0
    iexists g; iapply (ofEq (h_slot_eq c 0 g).symm); iexact S0
  isplitl [C1]
  · iexact C1
  iexists g; iapply (ofEq (h_slot_eq c 1 g).symm); iexact S1
/-- after it the result is whole, each block reading the rows of its trip. -/
theorem h_leave (rows : Fin 128 → S256x1024.Idx → Elt F .bf16) :
    Ring.AtBEnd (oFree c cc0_scoped11 hR) (oBehind c hM rows)
      ⊢ iprop((∃ f : Buf (Elt F) ((c : Thread nD τ).loc main_v17_1), ⌜∀ b, (blk hM b).view.read (Elt F) f = rows b⌝ ∗ ((c : Thread nD τ).loc main_v17_1) ↦{fullShare} f) ∗ (∃ g : Buf (Elt F) ((c : Thread nD τ).loc cc0_scoped10), ((c : Thread nD τ).loc cc0_scoped10) ↦{fullShare} g)
      ∗ cellP c (cell2 cc0_scoped11 0) ∗ cellP c (cell2 cc0_scoped11 1) : sProp 𝕄) := by
  unfold Ring.AtBEnd
  rw [fin2_sep]
  iintro ⟨HX, ⟨C0, %g0, S0⟩, C1, %g1, S1⟩
  isplitl [HX]
  · iapply (h_behind c rows); iexact HX
  isplitl [S0 S1]
  · iapply (Ring.pointsTo_blocks_join_exists (ℓ := (c : Thread nD τ).loc cc0_scoped10) T2 T2_disjoint T2_cover g0)
    irw [fin2_sep]
    isplitl [S0]
    · iexists g0; iapply (ofEq (h_slot_eq c 0 g0)); iexact S0
    iexists g1; iapply (ofEq (h_slot_eq c 1 g1)); iexact S1
  isplitl [C0]
  · iexact C0
  iexact C1

end Arrays

end Cert.Proof.Split

end
-- ==== Proof.Launch.lean ====
/-
  The launch: the six weight windows staged, the four activations and the two results split into their blocks, the body
  run once, the results joined; what every execution ends with.
-/
module

public import proofs.«01_k».proof.Proof.Split
public import proofs.«01_k».proof.Proof.Gen.KernelIdeal.Frame

@[expose] public section

set_option maxRecDepth 16384

noncomputable section

namespace Cert.Proof.Launch

open Cert.KernelIdeal Cert.KernelIdeal.Gen Cert.Proof.Words Cert.Proof.Names Cert.Proof.Pieces Cert.Proof.Block Cert.Proof.Trip Cert.Proof.Body Cert.Proof.Split
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (sl bk)

variable {F : FTy → Type} [FloatOps F]
local notation "𝕄" => MT nD τ sig Unit (Elt F) ℕ (UU nD τ) ℕ
variable (m : (ℓ : Loc nD τ sig) → Buf (Elt F) ℓ) (ρ : Dev nD → PrngReg)

/-! ## The body's own semaphores -/

abbrev osem : Fin 16 → SemLoc sig :=
  ![.dma (cell3 cc0_scoped1 0).sem, .dma (cell3 cc0_scoped1 1).sem, .dma (cell3 cc0_scoped1 2).sem, .dma (cell3 cc0_scoped3 0).sem, .dma (cell3 cc0_scoped3 1).sem, .dma (cell3 cc0_scoped3 2).sem, .dma (cell3 cc0_scoped5 0).sem, .dma (cell3 cc0_scoped5 1).sem, .dma (cell3 cc0_scoped5 2).sem, .dma (cell3 cc0_scoped7 0).sem, .dma (cell3 cc0_scoped7 1).sem, .dma (cell3 cc0_scoped7 2).sem, .dma (cell2 cc0_scoped9 0).sem, .dma (cell2 cc0_scoped9 1).sem, .dma (cell2 cc0_scoped11 0).sem, .dma (cell2 cc0_scoped11 1).sem]
theorem ownSemFacts : Pipeline.OwnSemFacts spec0 osem := by decide +kernel
theorem ownSems0_eq (c : Dev nD) : (Pipeline.ownSems0 (Ix := Unit) (Name := ℕ) (U := UU nD τ) (Lvl := ℕ) (Val := Elt F) (τ := τ) osem c : sProp 𝕄)
    = iprop(cellP c (cell3 cc0_scoped1 0) ∗ cellP c (cell3 cc0_scoped1 1) ∗ cellP c (cell3 cc0_scoped1 2) ∗ cellP c (cell3 cc0_scoped3 0) ∗ cellP c (cell3 cc0_scoped3 1) ∗ cellP c (cell3 cc0_scoped3 2) ∗ cellP c (cell3 cc0_scoped5 0) ∗ cellP c (cell3 cc0_scoped5 1) ∗ cellP c (cell3 cc0_scoped5 2) ∗ cellP c (cell3 cc0_scoped7 0) ∗ cellP c (cell3 cc0_scoped7 1) ∗ cellP c (cell3 cc0_scoped7 2) ∗ cellP c (cell2 cc0_scoped9 0) ∗ cellP c (cell2 cc0_scoped9 1) ∗ cellP c (cell2 cc0_scoped11 0) ∗ cellP c (cell2 cc0_scoped11 1)) := by
  unfold Pipeline.ownSems0
  exact bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) _

/-! ## The windows -/

abbrev st0 (t : Fin cfg0.N) : Memref sig .tc .vmem S1x1024 .f32 := win0_0.stage (cfg0.slots t 0)
abbrev hst0 (t : Fin cfg0.N) : (st0 t).IsWhole := hstage0_0 0
abbrev st1 (t : Fin cfg0.N) : Memref sig .tc .vmem S1024x4096 .bf16 := win0_1.stage (cfg0.slots t 1)
abbrev hst1 (t : Fin cfg0.N) : (st1 t).IsWhole := hstage0_1 0
abbrev st2 (t : Fin cfg0.N) : Memref sig .tc .vmem S3x512x1024 .bf16 := win0_2.stage (cfg0.slots t 2)
abbrev hst2 (t : Fin cfg0.N) : (st2 t).IsWhole := hstage0_2 0
abbrev st3 (t : Fin cfg0.N) : Memref sig .tc .vmem S1024x1024 .bf16 := win0_3.stage (cfg0.slots t 3)
abbrev hst3 (t : Fin cfg0.N) : (st3 t).IsWhole := hstage0_3 0
abbrev st4 (t : Fin cfg0.N) : Memref sig .tc .vmem S1x1024 .f32 := win0_4.stage (cfg0.slots t 4)
abbrev hst4 (t : Fin cfg0.N) : (st4 t).IsWhole := hstage0_4 0
abbrev st5 (t : Fin cfg0.N) : Memref sig .tc .vmem S1x1024 .f32 := win0_5.stage (cfg0.slots t 5)
abbrev hst5 (t : Fin cfg0.N) : (st5 t).IsWhole := hstage0_5 0

/-- Block `b` of the first result as the body computes it, and of the second. -/
abbrev yAt (c : Dev nD) : Fin 128 → S256x1024.Idx → Elt F .f32 := yBlk c (V m c main_v15) (V m c main_arg1) (V m c main_v16) (V m c main_arg3) (st0 t0_0) (st1 t0_0) (st2 t0_0) (st3 t0_0) (st4 t0_0) (st5 t0_0) ((st0 t0_0).view.rep (iblk m c 0 t0_0)) ((st1 t0_0).view.rep (iblk m c 1 t0_0)) ((st2 t0_0).view.rep (iblk m c 2 t0_0)) ((st3 t0_0).view.rep (iblk m c 3 t0_0)) ((st4 t0_0).view.rep (iblk m c 4 t0_0)) ((st5 t0_0).view.rep (iblk m c 5 t0_0))
abbrev hAt (c : Dev nD) : Fin 128 → S256x1024.Idx → Elt F .bf16 := hBlk c (V m c main_v15) (V m c main_arg1) (V m c main_v16) (V m c main_arg3) (st0 t0_0) (st1 t0_0) (st2 t0_0) (st3 t0_0) (st4 t0_0) (st5 t0_0) ((st0 t0_0).view.rep (iblk m c 0 t0_0)) ((st1 t0_0).view.rep (iblk m c 1 t0_0)) ((st2 t0_0).view.rep (iblk m c 2 t0_0)) ((st3 t0_0).view.rep (iblk m c 3 t0_0)) ((st4 t0_0).view.rep (iblk m c 4 t0_0)) ((st5 t0_0).view.rep (iblk m c 5 t0_0))

/-- What the body is handed beside the weights, before the point and after it. -/
def ΦIn (c : Dev nD) : sProp 𝕄 :=
  iprop(xIn c (V m c main_v15) ∗ aIn c (V m c main_arg1) ∗ bIn c (V m c main_v16) ∗ cIn c (V m c main_arg3)
    ∗ oRing c cc0_scoped9 yR yM 32768 (yAt m c) 0 ∗ oRing c cc0_scoped11 hR hM 16384 (hAt m c) 0)
def ΦOut (c : Dev nD) : sProp 𝕄 :=
  iprop(xOut c (V m c main_v15) ∗ aOut c (V m c main_arg1) ∗ bOut c (V m c main_v16) ∗ cOut c (V m c main_arg3)
    ∗ Ring.AtBEnd (oFree c cc0_scoped9 yR) (oBehind c yM (yAt m c)) ∗ Ring.AtBEnd (oFree c cc0_scoped11 hR) (oBehind c hM (hAt m c)))

/-- The pipeline's data: every window keeps its block. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := if t.val = 0 then ΦIn m c else ΦOut m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem after_w1 (c : Dev nD) (t : Fin cfg0.N) : (dats m 0 c).after 1 t = iblk m c 1 t := by dsimp only [dats]
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w2 (c : Dev nD) (t : Fin cfg0.N) : (dats m 0 c).after 2 t = iblk m c 2 t := by dsimp only [dats]
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_w3 (c : Dev nD) (t : Fin cfg0.N) : (dats m 0 c).after 3 t = iblk m c 3 t := by dsimp only [dats]
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem after_w4 (c : Dev nD) (t : Fin cfg0.N) : (dats m 0 c).after 4 t = iblk m c 4 t := by dsimp only [dats]
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
theorem after_w5 (c : Dev nD) (t : Fin cfg0.N) : (dats m 0 c).after 5 t = iblk m c 5 t := by dsimp only [dats]
theorem Φ_first (c : Dev nD) : (dats m 0 c).Φ t0_0.castSucc = ΦIn m c := by
  dsimp only [dats]; rw [if_pos (by decide)]
theorem Φ_last (c : Dev nD) : (dats m 0 c).Φ t0_0.succ = ΦOut m c := by
  dsimp only [dats]; rw [if_neg (by decide)]

/-! ## The body obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) := rfl
theorem prog_eq (t : Fin cfg0.N) : (defs₀ (F := F)) .tc cfg0.body (cfg0.bodyArgs t (cfg0.slots t)) = bodyG (st0 t) (hst0 t) (st1 t) (hst1 t) (st2 t) (hst2 t) (st3 t) (hst3 t) (st4 t) (hst4 t) (st5 t) (hst5 t) :=
  (congrFun defs_tc _).trans rfl

set_option maxHeartbeats 2000000 in
set_option backward.isDefEq.respectTransparency.types false in
/-- The body keeps the pipeline's data. -/
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, after_w0, before_w1, after_w1, before_w2, after_w2, before_w3, after_w3, before_w4, after_w4, before_w5, after_w5]
  rw [Φ_first, Φ_last]
  unfold Dat.owesAt Pipeline.owesWithin
  rw [show (dats m 0 c).owed t0_0.castSucc = 0 from rfl, show (dats m 0 c).owed t0_0.succ = 0 from rfl]
  unfold owns ΦIn ΦOut
  iintro ⟨⟨RX, RA, RB, RC, RY, RH⟩, ⟨%W, -, HW⟩, ⟨%d0, %g0, %hg0, G0⟩, ⟨%d1, %g1, %hg1, G1⟩, ⟨%d2, %g2, %hg2, G2⟩, ⟨%d3, %g3, %hg3, G3⟩, ⟨%d4, %g4, %hg4, G4⟩, ⟨%d5, %g5, %hg5, G5⟩⟩
  ihave G0' := (pointsTo_rep_entails (c : Thread nD τ) (st0 t0_0) g0 fullShare) $$ G0
  rw [hg0]
  ihave G1' := (pointsTo_rep_entails (c : Thread nD τ) (st1 t0_0) g1 fullShare) $$ G1
  rw [hg1]
  ihave G2' := (pointsTo_rep_entails (c : Thread nD τ) (st2 t0_0) g2 fullShare) $$ G2
  rw [hg2]
  ihave G3' := (pointsTo_rep_entails (c : Thread nD τ) (st3 t0_0) g3 fullShare) $$ G3
  rw [hg3]
  ihave G4' := (pointsTo_rep_entails (c : Thread nD τ) (st4 t0_0) g4 fullShare) $$ G4
  rw [hg4]
  ihave G5' := (pointsTo_rep_entails (c : Thread nD τ) (st5 t0_0) g5 fullShare) $$ G5
  rw [hg5]
  sl_rw [prog_eq t0_0]
  iapply (bodyRun c (V m c main_v15) (V m c main_arg1) (V m c main_v16) (V m c main_arg3) (st0 t0_0) (hst0 t0_0) (st1 t0_0) (hst1 t0_0) (st2 t0_0) (hst2 t0_0) (st3 t0_0) (hst3 t0_0) (st4 t0_0) (hst4 t0_0) (st5 t0_0) (hst5 t0_0) ((st0 t0_0).view.rep (iblk m c 0 t0_0)) ((st1 t0_0).view.rep (iblk m c 1 t0_0)) ((st2 t0_0).view.rep (iblk m c 2 t0_0)) ((st3 t0_0).view.rep (iblk m c 3 t0_0)) ((st4 t0_0).view.rep (iblk m c 4 t0_0)) ((st5 t0_0).view.rep (iblk m c 5 t0_0)))
  isplitl [RX RA RB RC RY RH HW G0' G1' G2' G3' G4' G5']
  · isplitl [G0' G1' G2' G3' G4' G5']
    · isplitl [G0']
      · iexact G0'
      isplitl [G1']
      · iexact G1'
      isplitl [G2']
      · iexact G2'
      isplitl [G3']
      · iexact G3'
      isplitl [G4']
      · iexact G4'
      iexact G5'
    isplitl [HW]
    · iexists W; iexact HW
    isplitl [RX]
    · iexact RX
    isplitl [RA]
    · iexact RA
    isplitl [RB]
    · iexact RB
    isplitl [RC]
    · iexact RC
    isplitl [RY]
    · iexact RY
    iexact RH
  · iintro ⟨⟨G0, G1, G2, G3, G4, G5⟩, ⟨%W', HW⟩, RX, RA, RB, RC, RY, RH⟩
    isplitl [RX RA RB RC RY RH]
    · isplitl [RX]
      · iexact RX
      isplitl [RA]
      · iexact RA
      isplitl [RB]
      · iexact RB
      isplitl [RC]
      · iexact RC
      isplitl [RY]
      · iexact RY
      iexact RH
    isplitl [HW]
    · iexists W'
      isplitr
      · ipureintro; exact fun _ _ => Or.inl trivial
      iexact HW
    isplitl [G0]
    · iexists _
      isplitr
      · ipureintro; exact View.read_rep _ _
      iexact G0
    isplitl [G1]
    · iexists _
      isplitr
      · ipureintro; exact View.read_rep _ _
      iexact G1
    isplitl [G2]
    · iexists _
      isplitr
      · ipureintro; exact View.read_rep _ _
      iexact G2
    isplitl [G3]
    · iexists _
      isplitr
      · ipureintro; exact View.read_rep _ _
      iexact G3
    isplitl [G4]
    · iexists _
      isplitr
      · ipureintro; exact View.read_rep _ _
      iexact G4
    iexists _
    isplitr
    · ipureintro; exact View.read_rep _ _
    iexact G5

/-! ## The buffers the body addresses itself -/

/-- The four activations, and with them the two results. -/
abbrev ins : Finset (Ref sig .tc) := {main_v15, main_arg1, main_v16, main_arg3}
abbrev outs : Finset (Ref sig .tc) := {main_v17_0, main_v17_1}
abbrev own6 : Finset (Ref sig .tc) := {main_v15, main_arg1, main_v16, main_arg3, main_v17_0, main_v17_1}

theorem own6_sub : own6 ⊆ Pipeline.restRefs sig spec0 := by
  intro b hb
  simp only [Finset.mem_insert, Finset.mem_singleton] at hb
  rcases hb with rfl | rfl | rfl | rfl | rfl | rfl <;> exact Pipeline.mem_restRefs_of _ (by decide) (by decide)
theorem own6_sep (Ψ : Ref sig .tc → sProp 𝕄) :
    bigSep own6 Ψ = iprop(Ψ main_v15 ∗ Ψ main_arg1 ∗ Ψ main_v16 ∗ Ψ main_arg3 ∗ Ψ main_v17_0 ∗ Ψ main_v17_1) := by
  rw [bigSep_insert (by decide), bigSep_insert (by decide), bigSep_insert (by decide), bigSep_insert (by decide), bigSep_insert (by decide), bigSep_singleton]
  rfl

abbrev whole (c : Dev nD) (b : Ref sig .tc) (f : Buf (Elt F) ((c : Thread nD τ).loc b)) : sProp 𝕄 := ((c : Thread nD τ).loc b) ↦{fullShare} f

/-- The rest of the unscoped buffers. -/
def Zr (c : Dev nD) : sProp 𝕄 := bigSep (Pipeline.restRefs sig spec0 \ own6) fun b => whole c b (V m c b)
theorem rest_eq (c : Dev nD) : (Pipeline.unscopedRest (Ix := Unit) (Name := ℕ) (U := UU nD τ) (Lvl := ℕ) spec0 c (V m c) : sProp 𝕄)
    = iprop((whole c main_v15 (V m c main_v15) ∗ whole c main_arg1 (V m c main_arg1) ∗ whole c main_v16 (V m c main_v16) ∗ whole c main_arg3 (V m c main_arg3)
        ∗ whole c main_v17_0 (V m c main_v17_0) ∗ whole c main_v17_1 (V m c main_v17_1)) ∗ Zr m c) := by
  unfold Pipeline.unscopedRest Zr
  rw [← own6_sep (fun b => whole c b (V m c b))]
  exact bigSep_sdiff_split own6_sub

/-- What enters the region beside the windows, and what leaves it. -/
def Xr (c : Dev nD) : sProp 𝕄 :=
  iprop((whole c main_v15 (V m c main_v15) ∗ whole c main_arg1 (V m c main_arg1) ∗ whole c main_v16 (V m c main_v16) ∗ whole c main_arg3 (V m c main_arg3)
        ∗ whole c main_v17_0 (V m c main_v17_0) ∗ whole c main_v17_1 (V m c main_v17_1)) ∗ Pipeline.ownSems0 osem c)
def Yr (c : Dev nD) : sProp 𝕄 :=
  iprop(whole c main_v15 (V m c main_v15) ∗ whole c main_arg1 (V m c main_arg1) ∗ whole c main_v16 (V m c main_v16) ∗ whole c main_arg3 (V m c main_arg3)
        ∗ (∃ f : Buf (Elt F) ((c : Thread nD τ).loc main_v17_0), ⌜∀ b, (blk yM b).view.read (Elt F) f = yAt m c b⌝ ∗ whole c main_v17_0 f)
        ∗ (∃ f : Buf (Elt F) ((c : Thread nD τ).loc main_v17_1), ⌜∀ b, (blk hM b).view.read (Elt F) f = hAt m c b⌝ ∗ whole c main_v17_1 f))

/-- What core `c`'s memory holds at the end: both results block by block, every other unscoped buffer the pipeline
    does not stage as the region found it. -/
structure Ends (c : Dev nD) (s : MemSt nD τ sig (Elt F)) : Prop where
  y : ∀ b, (blk yM b).view.read (Elt F) (s.mem ((c : Thread nD τ).loc main_v17_0)) = yAt m c b
  h : ∀ b, (blk hM b).view.read (Elt F) (s.mem ((c : Thread nD τ).loc main_v17_1)) = hAt m c b
  a1 : s.mem ((c : Thread nD τ).loc main_arg1) = V m c main_arg1
  a3 : s.mem ((c : Thread nD τ).loc main_arg3) = V m c main_arg3
  rest : ∀ b ∈ Pipeline.restRefs sig spec0 \ own6, s.mem ((c : Thread nD τ).loc b) = V m c b

theorem enter (c : Dev nD) : iprop(Xr m c ∗ Pipeline.scopedRest (Ix := Unit) (Name := ℕ) (U := UU nD τ) (Lvl := ℕ) (Val := Elt F) spec0 c) ⊢ ΦIn m c := by
  rw [scopedRest0_eq]
  unfold Xr ΦIn
  rw [ownSems0_eq]
  iintro ⟨⟨⟨PX, PA, PB, PC, PY, PH⟩, C1_0, C1_1, C1_2, C3_0, C3_1, C3_2, C5_0, C5_1, C5_2, C7_0, C7_1, C7_2, C9_0, C9_1, C11_0, C11_1⟩, BX, BA, BB, BC, BY, BH⟩
  isplitl [PX BX C1_0 C1_1 C1_2]
  · iapply (x_enter c (V m c main_v15))
    isplitl [PX]
    · iexact PX
    isplitl [BX]
    · iexact BX
    isplitl [C1_0]
    · iexact C1_0
    isplitl [C1_1]
    · iexact C1_1
    iexact C1_2
  isplitl [PA BA C3_0 C3_1 C3_2]
  · iapply (a_enter c (V m c main_arg1))
    isplitl [PA]
    · iexact PA
    isplitl [BA]
    · iexact BA
    isplitl [C3_0]
    · iexact C3_0
    isplitl [C3_1]
    · iexact C3_1
    iexact C3_2
  isplitl [PB BB C5_0 C5_1 C5_2]
  · iapply (b_enter c (V m c main_v16))
    isplitl [PB]
    · iexact PB
    isplitl [BB]
    · iexact BB
    isplitl [C5_0]
    · iexact C5_0
    isplitl [C5_1]
    · iexact C5_1
    iexact C5_2
  isplitl [PC BC C7_0 C7_1 C7_2]
  · iapply (c_enter c (V m c main_arg3))
    isplitl [PC]
    · iexact PC
    isplitl [BC]
    · iexact BC
    isplitl [C7_0]
    · iexact C7_0
    isplitl [C7_1]
    · iexact C7_1
    iexact C7_2
  isplitl [PY BY C9_0 C9_1]
  · iapply (y_enter c (yAt m c) (V m c main_v17_0))
    isplitl [PY]
    · iexact PY
    isplitl [BY]
    · iexact BY
    isplitl [C9_0]
    · iexact C9_0
    iexact C9_1
  iapply (h_enter c (hAt m c) (V m c main_v17_1))
  isplitl [PH]
  · iexact PH
  isplitl [BH]
  · iexact BH
  isplitl [C11_0]
  · iexact C11_0
  iexact C11_1

theorem leave (c : Dev nD) : ΦOut m c ⊢ iprop(Yr m c ∗ Pipeline.ownSems0 osem c ∗ Pipeline.scopedRest (Ix := Unit) (Name := ℕ) (U := UU nD τ) (Lvl := ℕ) (Val := Elt F) spec0 c) := by
  rw [scopedRest0_eq]
  unfold Yr ΦOut
  rw [ownSems0_eq]
  iintro ⟨RX, RA, RB, RC, RY, RH⟩
  ihave RX := (x_leave c (V m c main_v15)) $$ RX
  icases RX with ⟨PX, BX, C1_0, C1_1, C1_2⟩
  ihave RA := (a_leave c (V m c main_arg1)) $$ RA
  icases RA with ⟨PA, BA, C3_0, C3_1, C3_2⟩
  ihave RB := (b_leave c (V m c main_v16)) $$ RB
  icases RB with ⟨PB, BB, C5_0, C5_1, C5_2⟩
  ihave RC := (c_leave c (V m c main_arg3)) $$ RC
  icases RC with ⟨PC, BC, C7_0, C7_1, C7_2⟩
  ihave RY := (y_leave c (yAt m c)) $$ RY
  icases RY with ⟨PY, BY, C9_0, C9_1⟩
  ihave RH := (h_leave c (hAt m c)) $$ RH
  icases RH with ⟨PH, BH, C11_0, C11_1⟩
  isplitl [PX PA PB PC PY PH]
  · isplitl [PX]
    · iexact PX
    isplitl [PA]
    · iexact PA
    isplitl [PB]
    · iexact PB
    isplitl [PC]
    · iexact PC
    isplitl [PY]
    · iexact PY
    iexact PH
  isplitl [C1_0 C1_1 C1_2 C3_0 C3_1 C3_2 C5_0 C5_1 C5_2 C7_0 C7_1 C7_2 C9_0 C9_1 C11_0 C11_1]
  · isplitl [C1_0]
    · iexact C1_0
    isplitl [C1_1]
    · iexact C1_1
    isplitl [C1_2]
    · iexact C1_2
    isplitl [C3_0]
    · iexact C3_0
    isplitl [C3_1]
    · iexact C3_1
    isplitl [C3_2]
    · iexact C3_2
    isplitl [C5_0]
    · iexact C5_0
    isplitl [C5_1]
    · iexact C5_1
    isplitl [C5_2]
    · iexact C5_2
    isplitl [C7_0]
    · iexact C7_0
    isplitl [C7_1]
    · iexact C7_1
    isplitl [C7_2]
    · iexact C7_2
    isplitl [C9_0]
    · iexact C9_0
    isplitl [C9_1]
    · iexact C9_1
    isplitl [C11_0]
    · iexact C11_0
    iexact C11_1
  isplitl [BX]
  · iexact BX
  isplitl [BA]
  · iexact BA
  isplitl [BB]
  · iexact BB
  isplitl [BC]
  · iexact BC
  isplitl [BY]
  · iexact BY
  iexact BH

/-! ## The run -/

def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N

set_option maxHeartbeats 2000000 in
set_option backward.isDefEq.respectTransparency.types false in
/-- From any memory with zero counters, for any float values: every weakly fair execution of the program terminates, and
    every final state is as `Ends` says, every semaphore at zero. -/
theorem run_main : θ_run defs (onTc (τ := τ) (main (F := F))) ⟨m, fun _ => 0, ρ⟩ (fun r => (∀ c : Dev nD, Ends m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]
      · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := Xr m) (Y := Yr m) (Z := Zr m)
    (hX := fun c => by
      rw [show (Pipeline.unscopedRest (Ix := Unit) (Name := ℕ) (U := UU nD τ) (Lvl := ℕ) (cfgs 0).spec c (V m c) : sProp 𝕄) = _ from rest_eq m c]
      unfold Xr
      iintro ⟨⟨H6, HZ⟩, HS, -, -, -⟩; imodintro
      isplitl [H6 HS]
      · isplitl [H6]
        · iexact H6
        iexact HS
      iexact HZ)
    (hin := fun c => enter m c)
    (hout := fun c => leave m c)
    (QY := Ends m)
    (hY := fun c s' => by
      unfold Yr Zr
      iintro ⟨⟨-, HA, -, HC, ⟨%fy, %ey, HY⟩, ⟨%fh, %eh, HH⟩⟩, HZ, HSI⟩
      icombine HSI HA gives %hA
      icombine HSI HC gives %hC
      icombine HSI HY gives %hy
      icombine HSI HH gives %hh
      ihave HR := (pointsTo_read_all (Pipeline.restRefs sig spec0 \ own6) (fun b => (c : Thread nD τ).loc b) (V m c) s') $$ [HZ HSI]
      · isplitl [HZ]
        · iexact HZ
        iexact HSI
      icases HR with ⟨%hR, HSI⟩
      imodintro
      isplitr
      · ipureintro
        have ey' := Buf.eq_of_forall_mem_univ hy
        have eh' := Buf.eq_of_forall_mem_univ hh
        exact ⟨fun b => by rw [ey']; exact ey b, fun b => by rw [eh']; exact eh b, Buf.eq_of_forall_mem_univ hA, Buf.eq_of_forall_mem_univ hC, hR⟩
      iexact HSI)
    (hQ := fun _ hh hz => ⟨fun c => (hh c).2, hz⟩)

/-- Every argument ends as it was launched. -/
theorem args_kept (c : Dev nD) (s : MemSt nD τ sig (Elt F)) (h : Ends m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9) :=
  ⟨(h.rest main_arg0 (Finset.mem_sdiff.mpr ⟨Pipeline.mem_restRefs_of main_arg0 (by decide) (by decide), by decide⟩)).trans (V_main_arg0 m c),
    h.a1.trans (V_main_arg1 m c),
    (h.rest main_arg2 (Finset.mem_sdiff.mpr ⟨Pipeline.mem_restRefs_of main_arg2 (by decide) (by decide), by decide⟩)).trans (V_main_arg2 m c),
    h.a3.trans (V_main_arg3 m c),
    (h.rest main_arg4 (Finset.mem_sdiff.mpr ⟨Pipeline.mem_restRefs_of main_arg4 (by decide) (by decide), by decide⟩)).trans (V_main_arg4 m c),
    (h.rest main_arg5 (Finset.mem_sdiff.mpr ⟨Pipeline.mem_restRefs_of main_arg5 (by decide) (by decide), by decide⟩)).trans (V_main_arg5 m c),
    (h.rest main_arg6 (Finset.mem_sdiff.mpr ⟨Pipeline.mem_restRefs_of main_arg6 (by decide) (by decide), by decide⟩)).trans (V_main_arg6 m c),
    (h.rest main_arg7 (Finset.mem_sdiff.mpr ⟨Pipeline.mem_restRefs_of main_arg7 (by decide) (by decide), by decide⟩)).trans (V_main_arg7 m c),
    (h.rest main_arg8 (Finset.mem_sdiff.mpr ⟨Pipeline.mem_restRefs_of main_arg8 (by decide) (by decide), by decide⟩)).trans (V_main_arg8 m c),
    (h.rest main_arg9 (Finset.mem_sdiff.mpr ⟨Pipeline.mem_restRefs_of main_arg9 (by decide) (by decide), by decide⟩)).trans (V_main_arg9 m c)⟩

end Cert.Proof.Launch

end
-- ==== Proof.Same.lean ====
/-
  The two kernel programs have the same text: their body tables and their `@main` are equal over any float values, so a
  run of the one is a run of the other.
-/
module

public import proofs.«01_k».proof.Proof.Gen.Kernel
public import proofs.«01_k».proof.Proof.Gen.KernelIdeal

@[expose] public section

set_option maxRecDepth 16384

noncomputable section

universe v

namespace Cert.Proof.Same

open Idealize.ShloMosaic Idealize.ShloMosaic.TcCoe
open Idealize.SL.Sem

attribute [local instance] Cert.Kernel.Gen.facts Cert.KernelIdeal.Gen.facts

variable {F : FTy → Type} [FloatOps F]

/-- Two sequences whose first programs agree and whose continuations agree, agree. -/
theorem bind_eq {e : Type → Type v} {α β : Type} {p q : Prog e α} {f g : α → Prog e β} (h : p = q) (k : ∀ a, f a = g a) :
    (p >>= f) = (q >>= g) := h ▸ congrArg _ (funext k)
theorem part9_eq : Cert.Kernel.k0_part9 (F := F) = Cert.KernelIdeal.k0_part9 (F := F) := rfl
theorem part10_eq : Cert.Kernel.k0_part10 (F := F) = Cert.KernelIdeal.k0_part10 (F := F) := rfl
set_option maxHeartbeats 0 in
theorem part11_eq : Cert.Kernel.k0_part11 (F := F) = Cert.KernelIdeal.k0_part11 (F := F) := rfl
set_option maxHeartbeats 0 in
theorem part12_eq : Cert.Kernel.k0_part12 (F := F) = Cert.KernelIdeal.k0_part12 (F := F) := rfl
set_option maxHeartbeats 0 in
theorem cc_eq : @Cert.Kernel.cc0_merge_streamed F _ _ = @Cert.KernelIdeal.cc0_merge_streamed F _ _ := by
  iterate 42 refine funext fun _ => ?_
  unfold Cert.Kernel.cc0_merge_streamed Cert.KernelIdeal.cc0_merge_streamed
  refine bind_eq ?_ fun x => ?_
  · exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (part9_eq) _) _) _) _) _) _) _) _) _) _) _) _) _) _) _) _) _) _) _) _) _) _) _) _) _) _) _) _) _) _) _) _) _) _) _) _) _) _) _) _) _) _
  obtain ⟨_, _⟩ := x
  refine bind_eq ?_ fun x => ?_
  · exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (part10_eq) _) _) _) _) _) _) _) _) _) _) _) _) _) _) _) _) _) _) _) _) _) _) _) _) _) _) _) _) _) _) _) _) _) _) _) _) _) _) _) _) _) _) _) _
  obtain ⟨_, _, _, _, _, _⟩ := x
  refine bind_eq ?_ fun x => ?_
  · exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (part11_eq) _) _) _) _) _) _) _) _) _) _) _) _) _) _) _) _) _) _) _) _) _) _) _) _) _) _) _) _) _) _) _) _) _) _) _) _) _) _) _) _) _) _) _) _) _) _) _) _) _
  obtain ⟨_, _, _, _, _, _, _, _⟩ := x
  refine bind_eq ?_ fun x => ?_
  · exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (part12_eq) _) _) _) _) _) _) _) _) _) _) _) _) _) _) _) _) _) _) _) _) _) _) _) _) _) _) _) _) _) _) _) _) _) _) _) _) _) _) _) _) _) _) _) _) _) _) _) _) _
  obtain ⟨_, _⟩ := x
  rfl
/-- The kernels' body tables agree, label by label. -/
theorem defs₀_eq : Cert.Kernel.defs₀ (F := F) = Cert.KernelIdeal.defs₀ (F := F) := by
  refine congrArg Defs.onTc (funext fun l => funext fun x => ?_)
  match l, x with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (cc_eq) _) _) _) _) _) _) _) _) _) _) _) _) _) _) _) _) _) _) _) _) _) _) _) _) _) _) _) _) _) _) _) _) _) _) _) _) _) _) _) _) _) _
  | ⟨_ + 1, h⟩, _ => exact absurd h (Nat.not_lt.2 (Nat.le_add_left _ _))
/-- So do the whole tables. -/
theorem defs_eq : Cert.Kernel.defs (F := F) = Cert.KernelIdeal.defs (F := F) :=
  congrArg (Pipeline.defs (Cert.KernelIdeal.pcfgs (F := F))) defs₀_eq
theorem main_eq : Cert.Kernel.main (F := F) = Cert.KernelIdeal.main (F := F) := rfl

/-- A run of the one program from a state is a run of the other. -/
theorem run_eq (s) : θ_run (Cert.Kernel.defs (F := F)) (onTc (τ := Cert.Kernel.τ) (Cert.Kernel.main (F := F))) s
    = θ_run (Cert.KernelIdeal.defs (F := F)) (onTc (τ := Cert.KernelIdeal.τ) (Cert.KernelIdeal.main (F := F))) s :=
  congrArg (fun d => θ_run d (onTc (τ := Cert.KernelIdeal.τ) (Cert.KernelIdeal.main (F := F))) s) defs_eq

end Cert.Proof.Same

end
-- ==== Proof.Spec.lean ====
/-
  The merge of one token, written over its rows and the weights as plain functions of their indices: what both programs
  compute at the ideal instance.
-/
module

public import Idealize.ShloMosaic.Lib.Pointwise

@[expose] public section

noncomputable section

namespace Cert.Proof.Spec

open Idealize.ShloMosaic

/-- A row over its root mean square, times the gain. -/
def rms (v g : Fin 1024 → EReal) (k : Fin 1024) : EReal :=
  v k * Ideal.rsqrt (Ideal.div (∑ l, v l * v l) (Ideal.ofBits .f32 0x44800000#32) + Ideal.ofBits .f32 0x358637BD#32) * g k

/-- One branch: its rows' output projection under the gate of the normed row. -/
def gated (n : Fin 1024 → EReal) (u : Fin 1024 → Fin 1024 → EReal) (up : Fin 1024 → EReal) (k : Fin 1024) : EReal :=
  Ideal.logistic (∑ l, n l * u l k) * up k

/-- A branch's row through its output projection. -/
def proj (a : Fin 512 → EReal) (p : Fin 512 → Fin 1024 → EReal) (k : Fin 1024) : EReal := ∑ j, a j * p j k

/-- The mixer's output before its norm: the three gated branches summed, through the output projection. -/
def mix (n : Fin 1024 → EReal) (u1 u2 u3 : Fin 1024 → Fin 1024 → EReal) (a b d : Fin 1024 → EReal)
    (wo : Fin 1024 → Fin 1024 → EReal) (k : Fin 1024) : EReal :=
  ∑ l, (gated n u1 a l + gated n u2 b l + gated n u3 d l) * wo l k

/-- The stream after the mixer. -/
def yRow (x g0 : Fin 1024 → EReal) (u1 u2 u3 : Fin 1024 → Fin 1024 → EReal) (a b d : Fin 1024 → EReal)
    (wo : Fin 1024 → Fin 1024 → EReal) (g1 : Fin 1024 → EReal) (k : Fin 1024) : EReal :=
  x k + rms (mix (rms x g0) u1 u2 u3 a b d wo) g1 k

/-- The feed-forward's input. -/
def hRow (x g0 : Fin 1024 → EReal) (u1 u2 u3 : Fin 1024 → Fin 1024 → EReal) (a b d : Fin 1024 → EReal)
    (wo : Fin 1024 → Fin 1024 → EReal) (g1 g2 : Fin 1024 → EReal) (k : Fin 1024) : EReal :=
  rms (yRow x g0 u1 u2 u3 a b d wo g1) g2 k

/-- The row of branch A's output projection that its entry `j` meets: the heads arrive as four groups of two, the
    projection takes them as two groups of four. -/
def head (j : Fin 512) : Fin 512 := ⟨j.val / 64 % 2 * 256 + j.val / 128 * 64 + j.val % 64, by omega⟩

/-- The entry of branch A's row met by the projection's row `j`. -/
def entry (j : Fin 512) : Fin 512 := ⟨j.val / 64 % 4 * 128 + j.val / 256 * 64 + j.val % 64, by omega⟩

/-- The two orders of the heads, one against the other. -/
def heads : Fin 512 ≃ Fin 512 where
  toFun := entry
  invFun := head
  left_inv := by unfold Function.LeftInverse; decide +kernel
  right_inv := by unfold Function.RightInverse Function.LeftInverse; decide +kernel

/-- Branch A's projection is the same sum in either order of the heads. -/
theorem proj_heads (a : Fin 512 → EReal) (p : Fin 512 → Fin 1024 → EReal) :
    proj (fun j => a (entry j)) p = proj a (fun j => p (head j)) := funext fun k =>
  (Finset.sum_congr rfl fun j _ => by show a (heads j) * p j k = a (heads j) * p (heads.symm (heads j)) k; rw [Equiv.symm_apply_apply]).trans
    (Equiv.sum_comp heads fun j => a j * p (heads.symm j) k)

end Cert.Proof.Spec

end
-- ==== Proof.KRows.lean ====
/-
  The rows a trip stores, at the ideal instance: the token's merge of Proof/Spec.lean of the rows and weights loaded.
-/
module

public import proofs.«01_k».proof.Proof.Block
public import proofs.«01_k».proof.Proof.Spec
public import Idealize.ShloMosaic.PureOps.Ideal

@[expose] public section

set_option maxRecDepth 16384

noncomputable section

namespace Cert.Proof.KRows

open Cert.KernelIdeal Cert.KernelIdeal.Gen Cert.Proof.Block Cert.Proof.Spec
open Idealize.ShloMosaic Idealize.ShloMosaic.TcCoe

variable (w : Wts Ideal) (x : FVec Ideal S256x1024 .f32) (a b d : FVec Ideal S256x512 .bf16)

/-- The mixer's output before its norm, at row `r` and column `k`. -/
theorem mixed_apply (r : Fin 256) (k : Fin 1024) : mixed w (up (F := Ideal) (e := .f32) x) (hup (F := Ideal) (e := .bf16) a) (hup (F := Ideal) (e := .bf16) b) (hup (F := Ideal) (e := .bf16) d) (ix2 r k)
    = mix (rms (fun l => x (ix2 r l)) (fun l => w.g0 (ix2 0 l))) (fun l k => w.u1 (ix2 l k)) (fun l k => w.u2 (ix2 l k)) (fun l k => w.u3 (ix2 l k))
        (proj (fun j => a (ix2 r j)) (fun j k => w.p1 (ix3 0 j k))) (proj (fun j => b (ix2 r j)) (fun j k => w.p2 (ix3 0 j k)))
        (proj (fun j => d (ix2 r j)) (fun j k => w.p3 (ix3 0 j k))) (fun l k => w.wo (ix2 l k)) k := by
  pointwise [mixed, up, hup, k0_pay1, k0_pay2, k0_pay3, k0_pay4, k0_pay5, k0_pay6]
  simp only [mix, rms, gated, proj, zero_add]

/-- Its square, entry by entry. -/
theorem mixedSq_apply (w : Wts Ideal) (x : Vec Ideal S1x256x1024 .f32) (a b d : Vec Ideal S1x256x512 .bf16) (r : Fin 256) (k : Fin 1024) :
    mixedSq w x a b d (ix2 r k) = (mixed w x a b d (ix2 r k) * mixed w x a b d (ix2 r k) : EReal) := rfl

/-- The stream's rows, of a mixer's output `M` and its square `Q`. -/
theorem pay10_apply (M Q : FVec Ideal S256x1024 .f32) (hQ : ∀ r k, Q (ix2 r k) = (M (ix2 r k) * M (ix2 r k) : EReal)) (r : Fin 256) (k : Fin 1024) :
    down (F := Ideal) (e := .f32) (k0_pay10 (k0_pay1 (up (F := Ideal) (e := .f32) x)) M (k0_pay7 w.g1) Q) (ix2 r k)
      = (x (ix2 r k) + rms (fun k => M (ix2 r k)) (fun k => w.g1 (ix2 0 k)) k : EReal) := by
  pointwise [down, up, k0_pay1, k0_pay7, k0_pay9, k0_pay10]
  simp only [rms, hQ]

/-- The feed-forward's rows, of a mixer's output `M` and its square `Q`. -/
theorem pay11_apply (M Q : FVec Ideal S256x1024 .f32) (hQ : ∀ r k, Q (ix2 r k) = (M (ix2 r k) * M (ix2 r k) : EReal)) (r : Fin 256) (k : Fin 1024) :
    down (F := Ideal) (e := .bf16) (k0_pay11 (k0_pay1 (up (F := Ideal) (e := .f32) x)) M (k0_pay7 w.g1) Q w.g2) (ix2 r k)
      = rms (fun k => x (ix2 r k) + rms (fun k => M (ix2 r k)) (fun k => w.g1 (ix2 0 k)) k) (fun k => w.g2 (ix2 0 k)) k := by
  pointwise [down, up, k0_pay1, k0_pay7, k0_pay9, k0_pay11]
  simp only [rms, hQ]

/-- The stream's row a trip stores is the token's. -/
theorem yRows_apply (r : Fin 256) (k : Fin 1024) : yRows w x a b d (ix2 r k)
    = yRow (fun l => x (ix2 r l)) (fun l => w.g0 (ix2 0 l)) (fun l k => w.u1 (ix2 l k)) (fun l k => w.u2 (ix2 l k)) (fun l k => w.u3 (ix2 l k))
        (proj (fun j => a (ix2 r j)) (fun j k => w.p1 (ix3 0 j k))) (proj (fun j => b (ix2 r j)) (fun j k => w.p2 (ix3 0 j k)))
        (proj (fun j => d (ix2 r j)) (fun j k => w.p3 (ix3 0 j k))) (fun l k => w.wo (ix2 l k)) (fun l => w.g1 (ix2 0 l)) k := by
  refine (pay10_apply w x _ _ (mixedSq_apply w _ _ _ _) r k).trans ?_
  rw [funext fun k => mixed_apply w x a b d r k]; rfl

/-- The feed-forward's row a trip stores is the token's. -/
theorem hRows_apply (r : Fin 256) (k : Fin 1024) : hRows w x a b d (ix2 r k)
    = hRow (fun l => x (ix2 r l)) (fun l => w.g0 (ix2 0 l)) (fun l k => w.u1 (ix2 l k)) (fun l k => w.u2 (ix2 l k)) (fun l k => w.u3 (ix2 l k))
        (proj (fun j => a (ix2 r j)) (fun j k => w.p1 (ix3 0 j k))) (proj (fun j => b (ix2 r j)) (fun j k => w.p2 (ix3 0 j k)))
        (proj (fun j => d (ix2 r j)) (fun j k => w.p3 (ix3 0 j k))) (fun l k => w.wo (ix2 l k)) (fun l => w.g1 (ix2 0 l)) (fun l => w.g2 (ix2 0 l)) k := by
  refine (pay11_apply w x _ _ (mixedSq_apply w _ _ _ _) r k).trans ?_
  rw [funext fun k => mixed_apply w x a b d r k]; rfl

end Cert.Proof.KRows

end
-- ==== Proof.Host.lean ====
/-
  What the kernel finds in its buffers, at the ideal instance: the host's reshapes, slices and the reordering of branch A's
  output projection, read at an index of the arguments.
-/
module

public import proofs.«01_k».proof.Proof.Launch
public import proofs.«01_k».proof.Proof.KRows
public import Idealize.ShloMosaic.Lib.Claim
public import Idealize.ShloMosaic.Lib.VecWindow

@[expose] public section

set_option maxRecDepth 16384

noncomputable section

namespace Cert.Proof.Host

open Cert.KernelIdeal Cert.KernelIdeal.Gen Cert.Proof.Words Cert.Proof.Names Cert.Proof.Spec Cert.Proof.Launch
open Idealize.ShloMosaic Idealize.ShloMosaic.TcCoe

variable (m : (ℓ : Loc nD τ sig) → Buf (Elt Ideal) ℓ) (c : Dev nD)

/-- The row of the whole array that row `r` of block `b` is. -/
abbrev rowOf (b : Fin 128) (r : Fin 256) : Fin 32768 := ⟨256 * b.val + r.val, by omega⟩

/-- Block `b` of an array 1024 wide, read at row `r`. -/
theorem blk_read {e : EltTy} (b : Fin 128) (M : Memref sig .tc .hbm S32768x1024 e) (r : Fin 256) (k : Fin 1024) (X : M.view.ty.Contents (Elt Ideal)) :
    (blk M b).view.read (Elt Ideal) X (ix2 r k) = M.view.read (Elt Ideal) X (ix2 (rowOf b r) k) := by
  refine congrArg (M.view.read (Elt Ideal) X) (?_ : (Rect.unit (s := S32768x1024) (blkOff b) S256x1024.size (blkOff_inb b)).emb (ix2 r k) = ix2 (rowOf b r) k)
  funext a
  match a with
  | ⟨0, _⟩ => exact Fin.ext (show 256 * b.val + 1 * r.val = 256 * b.val + r.val by omega)
  | ⟨1, _⟩ => exact Fin.ext (show 0 + 1 * k.val = k.val by omega)

/-- Block `b` of an array 512 wide, read at row `r`. -/
theorem hblk_read {e : EltTy} (b : Fin 128) (M : Memref sig .tc .hbm S32768x512 e) (r : Fin 256) (k : Fin 512) (X : M.view.ty.Contents (Elt Ideal)) :
    (hblk M b).view.read (Elt Ideal) X (ix2 r k) = M.view.read (Elt Ideal) X (ix2 (rowOf b r) k) := by
  refine congrArg (M.view.read (Elt Ideal) X) (?_ : (Rect.unit (s := S32768x512) (blkOff b) S256x512.size (hblkOff_inb b)).emb (ix2 r k) = ix2 (rowOf b r) k)
  funext a
  match a with
  | ⟨0, _⟩ => exact Fin.ext (show 256 * b.val + 1 * r.val = 256 * b.val + r.val by omega)
  | ⟨1, _⟩ => exact Fin.ext (show 0 + 1 * k.val = k.val by omega)

/-- The row taken from a leading slab by an index, along its second axis. -/
theorem gather_apply (x : S1x512x1024.Idx → EReal) (idx : IVec S512x1 32) (j : Fin 512) (k : Fin 1024) :
    Host.gather gather_S1x512x1024_S512x1_S1x512x1024_02_1_n_n_1_1_111024 x idx (ix3 0 j k) = x (ix3 0 ⟨min (idx (ix2 j 0)).toInt.toNat 511, by omega⟩ k) := by
  unfold Host.gather
  congr 1
  funext a
  refine Fin.ext ?_
  match a with
  | ⟨0, _⟩ => rfl
  | ⟨1, _⟩ =>
    show GatherDims.start _ _ idx 1 + GatherDims.batchCoord _ _ 1 + GatherDims.offCoord _ _ 1 = _
    rw [GatherDims.batchCoord_eq_zero _ _ _ List.not_mem_nil, GatherDims.offCoord_eq_zero _ _ _ (fun h => ((GatherDims.mem_sKept _ _).mp h).1 (List.mem_singleton.mpr rfl))]
    unfold GatherDims.start
    rw [dif_pos (by exact List.mem_singleton.mpr rfl)]
    have hsi : gather_S1x512x1024_S512x1_S1x512x1024_02_1_n_n_1_1_111024.siIdx (ix3 0 j k)
        ⟨List.idxOf (1 : Fin 3) gather_S1x512x1024_S512x1_S1x512x1024_02_1_n_n_1_1_111024.startIndexMap, List.idxOf_lt_length_iff.2 (List.mem_singleton.mpr rfl)⟩ = ix2 j 0 := by
      funext b
      match b with
      | ⟨0, _⟩ => rfl
      | ⟨1, _⟩ => rfl
    rw [hsi]
    rfl
  | ⟨2, _⟩ =>
    show 0 + 0 + k.val = k.val; omega

/-! ## The kernel's operands, from the arguments -/

/-- The row of branch A's output projection each of its entries meets, as the host's table holds it. -/
abbrev table : IVec S512x1 32 := broadcastInDim S512x1 ![0] bcast_S512_S512x1_0 (select (constantI S512 1 0#1) (addi (fun i => lit0 (S512.rowMajor i)) (broadcastInDim S512 ![] bcast_S_S512 (constantI S_ 32 512#32))) (fun i => lit0 (S512.rowMajor i)))

theorem lit0_head : ∀ j : Fin 512, min (lit0 j).toInt.toNat 511 = (head j).val := by decide +kernel

theorem table_apply (j : Fin 512) : table (ix2 j 0) = lit0 j := by
  pointwise [table]
  exact congrArg lit0 (Fin.ext (Shape.rowMajor_val_one _))

/-- The gain of the norm before the mixer. -/
theorem V_v12 (k : Fin 1024) : V m c main_v12 (ix2 0 k) = m (c.tc.loc main_arg4) (ix1 k) := by
  rw [show V m c main_v12 = shapeCast _ (m (c.tc.loc main_arg4)) shapeCasts_S1024_S1x1024 by entry_read; rfl]
  pointwise
/-- The gain of the norm after the mixer. -/
theorem V_v13 (k : Fin 1024) : V m c main_v13 (ix2 0 k) = m (c.tc.loc main_arg8) (ix1 k) := by
  rw [show V m c main_v13 = shapeCast _ (m (c.tc.loc main_arg8)) shapeCasts_S1024_S1x1024 by entry_read; rfl]
  pointwise
/-- The gain of the feed-forward's norm. -/
theorem V_v14 (k : Fin 1024) : V m c main_v14 (ix2 0 k) = m (c.tc.loc main_arg9) (ix1 k) := by
  rw [show V m c main_v14 = shapeCast _ (m (c.tc.loc main_arg9)) shapeCasts_S1024_S1x1024 by entry_read; rfl]
  pointwise
/-- The number, among all tokens, of token `t` of sequence `b`. -/
abbrev tok (b : Fin 4) (t : Fin 8192) : Fin 32768 := ⟨b.val * 8192 + t.val, by omega⟩
theorem flat_apply {α : Type} (v : S4x8192x1024.Idx → α) (b : Fin 4) (t : Fin 8192) (k : Fin 1024) :
    shapeCast S32768x1024 v shapeCasts_S4x8192x1024_S32768x1024 (ix2 (tok b t) k) = v (ix3 b t k) := by
  pointwise [tok]
theorem hflat_apply {α : Type} (v : S4x8192x512.Idx → α) (b : Fin 4) (t : Fin 8192) (k : Fin 512) :
    shapeCast S32768x512 v shapeCasts_S4x8192x512_S32768x512 (ix2 (tok b t) k) = v (ix3 b t k) := by
  pointwise [tok]
/-- The stream, its tokens in one row. -/
theorem V_v15 (b : Fin 4) (t : Fin 8192) (k : Fin 1024) : V m c main_v15 (ix2 (tok b t) k) = m (c.tc.loc main_arg0) (ix3 b t k) := by
  rw [show V m c main_v15 = shapeCast _ (m (c.tc.loc main_arg0)) shapeCasts_S4x8192x1024_S32768x1024 by entry_read; rfl]
  exact flat_apply _ b t k
/-- Branch B's rows, their tokens in one row. -/
theorem V_v16 (b : Fin 4) (t : Fin 8192) (k : Fin 512) : V m c main_v16 (ix2 (tok b t) k) = m (c.tc.loc main_arg2) (ix3 b t k) := by
  rw [show V m c main_v16 = shapeCast _ (m (c.tc.loc main_arg2)) shapeCasts_S4x8192x512_S32768x512 by entry_read; rfl]
  exact hflat_apply _ b t k
/-- The mixer's output projection. -/
theorem V_v11 (l k : Fin 1024) : (V m c main_v11 (ix2 l k) : EReal) = m (c.tc.loc main_arg7) (ix2 l k) := by
  rw [show V m c main_v11 = truncf (F := Ideal) .bf16 (m (c.tc.loc main_arg7)) bitsLt_bf16_f32 by entry_read; rfl]
  pointwise
/-- The gates' columns of the input projection, from column 2312 on. -/
theorem V_v1 (l : Fin 1024) (k : Fin 4096) : (V m c main_v1 (ix2 l k) : EReal) = m (c.tc.loc main_arg5) (ix2 l ⟨2312 + k.val, by omega⟩) := by
  rw [show V m c main_v1 = truncf (F := Ideal) .bf16 (extractStridedSlice S1024x4096 ![0, 2312] (m (c.tc.loc main_arg5)) slices_S1024x6408_S1024x4096_0_2312) bitsLt_bf16_f32 by entry_read; rfl]
  pointwise

/-- The three output projections stacked again, the first with its rows reordered. -/
theorem V_v10 : V m c main_v10 = truncf (F := Ideal) .bf16 (concatenate S3x512x1024 0 [⟨S1x512x1024, Host.gather gather_S1x512x1024_S512x1_S1x512x1024_02_1_n_n_1_1_111024 (extractStridedSlice S1x512x1024 ![0, 0, 0] (m (c.tc.loc main_arg6)) slices_S3x512x1024_S1x512x1024_0_0_0) table⟩, ⟨S2x512x1024, extractStridedSlice S2x512x1024 ![1, 0, 0] (m (c.tc.loc main_arg6)) slices_S3x512x1024_S2x512x1024_1_0_0⟩] concatenates_S1x512x1024_S2x512x1024_S3x512x1024_d0) bitsLt_bf16_f32 := by
  entry_read; rfl
theorem V_v10_0 (j : Fin 512) (k : Fin 1024) : (V m c main_v10 (ix3 0 j k) : EReal) = m (c.tc.loc main_arg6) (ix3 0 (head j) k) := by
  rw [V_v10]
  pointwise [gather_apply, table_apply]
  exact congrArg (m (c.tc.loc main_arg6)) (congrArg (ix3 0 · k) (Fin.ext (lit0_head j)))
theorem V_v10_1 (j : Fin 512) (k : Fin 1024) : (V m c main_v10 (ix3 1 j k) : EReal) = m (c.tc.loc main_arg6) (ix3 1 j k) := by
  rw [V_v10]
  pointwise
theorem V_v10_2 (j : Fin 512) (k : Fin 1024) : (V m c main_v10 (ix3 2 j k) : EReal) = m (c.tc.loc main_arg6) (ix3 2 j k) := by
  rw [V_v10]
  pointwise

/-! ## The windows, whole -/

theorem iblk0 : iblk m c 0 t0_0 = V m c main_v12 := by
  funext y
  exact congrArg (V m c main_v12) (funext fun a => Fin.ext (by fin_cases a <;> show 0 + 1 * _ = _ <;> exact (Nat.zero_add _).trans (Nat.one_mul _)))
theorem iblk1 : iblk m c 1 t0_0 = V m c main_v1 := by
  funext y
  exact congrArg (V m c main_v1) (funext fun a => Fin.ext (by fin_cases a <;> show 0 + 1 * _ = _ <;> exact (Nat.zero_add _).trans (Nat.one_mul _)))
theorem iblk2 : iblk m c 2 t0_0 = V m c main_v10 := by
  funext y
  exact congrArg (V m c main_v10) (funext fun a => Fin.ext (by fin_cases a <;> show 0 + 1 * _ = _ <;> exact (Nat.zero_add _).trans (Nat.one_mul _)))
theorem iblk3 : iblk m c 3 t0_0 = V m c main_v11 := by
  funext y
  exact congrArg (V m c main_v11) (funext fun a => Fin.ext (by fin_cases a <;> show 0 + 1 * _ = _ <;> exact (Nat.zero_add _).trans (Nat.one_mul _)))
theorem iblk4 : iblk m c 4 t0_0 = V m c main_v13 := by
  funext y
  exact congrArg (V m c main_v13) (funext fun a => Fin.ext (by fin_cases a <;> show 0 + 1 * _ = _ <;> exact (Nat.zero_add _).trans (Nat.one_mul _)))
theorem iblk5 : iblk m c 5 t0_0 = V m c main_v14 := by
  funext y
  exact congrArg (V m c main_v14) (funext fun a => Fin.ext (by fin_cases a <;> show 0 + 1 * _ = _ <;> exact (Nat.zero_add _).trans (Nat.one_mul _)))

/-! ## The weights a trip loads -/

section Loads

variable (A4 : Memref sig .tc .vmem S1x1024 .f32) (A5 : Memref sig .tc .vmem S1024x4096 .bf16) (A6 : Memref sig .tc .vmem S3x512x1024 .bf16)
  (A7 : Memref sig .tc .vmem S1024x1024 .bf16) (A8 A9 : Memref sig .tc .vmem S1x1024 .f32)
  (x4 : S1x1024.Idx → Elt Ideal .f32) (x5 : S1024x4096.Idx → Elt Ideal .bf16) (x6 : S3x512x1024.Idx → Elt Ideal .bf16)
  (x7 : S1024x1024.Idx → Elt Ideal .bf16) (x8 x9 : S1x1024.Idx → Elt Ideal .f32)

/-- The weights loaded from buffers holding `x4`, …, `x9`. -/
abbrev loads : Block.Wts Ideal := Trip.wts c A4 A5 A6 A7 A8 A9 (A4.view.rep x4) (A5.view.rep x5) (A6.view.rep x6) (A7.view.rep x7) (A8.view.rep x8) (A9.view.rep x9)

theorem loads_g0 : (loads c A4 A5 A6 A7 A8 A9 x4 x5 x6 x7 x8 x9).g0 = x4 := by
  unfold loads Trip.wts; dsimp only; exact View.readAt_rep_full _ _ _
theorem loads_wo : (loads c A4 A5 A6 A7 A8 A9 x4 x5 x6 x7 x8 x9).wo = x7 := by
  unfold loads Trip.wts; dsimp only; exact View.readAt_rep_full _ _ _
theorem loads_g1 : (loads c A4 A5 A6 A7 A8 A9 x4 x5 x6 x7 x8 x9).g1 = x8 := by
  unfold loads Trip.wts; dsimp only; exact View.readAt_rep_full _ _ _
theorem loads_g2 : (loads c A4 A5 A6 A7 A8 A9 x4 x5 x6 x7 x8 x9).g2 = x9 := by
  unfold loads Trip.wts; dsimp only; exact View.readAt_rep_full _ _ _
theorem loads_u1 (l k : Fin 1024) : (loads c A4 A5 A6 A7 A8 A9 x4 x5 x6 x7 x8 x9).u1 (ix2 l k) = x5 (ix2 l ⟨1024 + k.val, by omega⟩) := by
  unfold loads Trip.wts; dsimp only
  rw [View.readAt_rep_unit _ _ _ rfl inb_S1024x4096_S1024x1024_0_1024]
  refine congrArg x5 (funext fun a => ?_)
  match a with
  | ⟨0, _⟩ => exact Fin.ext (show 0 + 1 * l.val = l.val by omega)
  | ⟨1, _⟩ => exact Fin.ext (show 1024 + 1 * k.val = 1024 + k.val by omega)
theorem loads_u2 (l k : Fin 1024) : (loads c A4 A5 A6 A7 A8 A9 x4 x5 x6 x7 x8 x9).u2 (ix2 l k) = x5 (ix2 l ⟨2048 + k.val, by omega⟩) := by
  unfold loads Trip.wts; dsimp only
  rw [View.readAt_rep_unit _ _ _ rfl inb_S1024x4096_S1024x1024_0_2048]
  refine congrArg x5 (funext fun a => ?_)
  match a with
  | ⟨0, _⟩ => exact Fin.ext (show 0 + 1 * l.val = l.val by omega)
  | ⟨1, _⟩ => exact Fin.ext (show 2048 + 1 * k.val = 2048 + k.val by omega)
theorem loads_u3 (l k : Fin 1024) : (loads c A4 A5 A6 A7 A8 A9 x4 x5 x6 x7 x8 x9).u3 (ix2 l k) = x5 (ix2 l ⟨3072 + k.val, by omega⟩) := by
  unfold loads Trip.wts; dsimp only
  rw [View.readAt_rep_unit _ _ _ rfl inb_S1024x4096_S1024x1024_0_3072]
  refine congrArg x5 (funext fun a => ?_)
  match a with
  | ⟨0, _⟩ => exact Fin.ext (show 0 + 1 * l.val = l.val by omega)
  | ⟨1, _⟩ => exact Fin.ext (show 3072 + 1 * k.val = 3072 + k.val by omega)
theorem loads_p1 (j : Fin 512) (k : Fin 1024) : (loads c A4 A5 A6 A7 A8 A9 x4 x5 x6 x7 x8 x9).p1 (ix3 0 j k) = x6 (ix3 0 j k) := by
  unfold loads Trip.wts; dsimp only
  rw [View.readAt_rep_unit _ _ _ rfl inb_S3x512x1024_S1x512x1024_0_0_0]
  refine congrArg x6 (funext fun a => ?_)
  match a with
  | ⟨0, _⟩ => exact Fin.ext rfl
  | ⟨1, _⟩ => exact Fin.ext (show 0 + 1 * j.val = j.val by omega)
  | ⟨2, _⟩ => exact Fin.ext (show 0 + 1 * k.val = k.val by omega)
theorem loads_p2 (j : Fin 512) (k : Fin 1024) : (loads c A4 A5 A6 A7 A8 A9 x4 x5 x6 x7 x8 x9).p2 (ix3 0 j k) = x6 (ix3 1 j k) := by
  unfold loads Trip.wts; dsimp only
  rw [View.readAt_rep_unit _ _ _ rfl inb_S3x512x1024_S1x512x1024_1_0_0]
  refine congrArg x6 (funext fun a => ?_)
  match a with
  | ⟨0, _⟩ => exact Fin.ext rfl
  | ⟨1, _⟩ => exact Fin.ext (show 0 + 1 * j.val = j.val by omega)
  | ⟨2, _⟩ => exact Fin.ext (show 0 + 1 * k.val = k.val by omega)
theorem loads_p3 (j : Fin 512) (k : Fin 1024) : (loads c A4 A5 A6 A7 A8 A9 x4 x5 x6 x7 x8 x9).p3 (ix3 0 j k) = x6 (ix3 2 j k) := by
  unfold loads Trip.wts; dsimp only
  rw [View.readAt_rep_unit _ _ _ rfl inb_S3x512x1024_S1x512x1024_2_0_0]
  refine congrArg x6 (funext fun a => ?_)
  match a with
  | ⟨0, _⟩ => exact Fin.ext rfl
  | ⟨1, _⟩ => exact Fin.ext (show 0 + 1 * j.val = j.val by omega)
  | ⟨2, _⟩ => exact Fin.ext (show 0 + 1 * k.val = k.val by omega)

end Loads

end Cert.Proof.Host

end
-- ==== Proof.RRows.lean ====
/-
  The reference's results, at the ideal instance: at every token the merge of Proof/Spec.lean of the token's rows and the
  weights. Branch A's row is read in the order of its heads in the output projection.
-/
module

public import proofs.«01_k».proof.Proof.Spec
public import proofs.«01_k».proof.Proof.Gen.ReferenceIdeal.Run
public import Idealize.ShloMosaic.PureOps.Ideal

@[expose] public section

set_option maxRecDepth 16384

noncomputable section

namespace Cert.Proof.RRows

open Cert.ReferenceIdeal Cert.ReferenceIdeal.Gen Cert.Proof.Spec
open Idealize.ShloMosaic Idealize.ShloMosaic.TcCoe

attribute [local instance] Cert.ReferenceIdeal.Gen.facts

/-- The reference's norm of every token's row. -/
def rnorm (v : FVec Ideal S4x8192x1024 .f32) (g : FVec Ideal S1024 .f32) : FVec Ideal S4x8192x1024 .f32 :=
  mulf (mulf v (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf v v) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

/-- The three branches' rows stacked, branch A's heads put back in the order of its output projection. -/
def rows (a : FVec Ideal S32768x512 .bf16) (b : FVec Ideal S4x8192x512 .bf16) (d : FVec Ideal S32768x512 .bf16) : FVec Ideal S4x8192x3x512 .f32 :=
  concatenate S4x8192x3x512 2 [⟨S4x8192x1x512, (broadcastInDim S4x8192x1x512 ![0, 1, 3] bcast_S4x8192x512_S4x8192x1x512_0_1_3 (shapeCast _ (transpose S4x8192x2x4x64 [0, 1, 3, 2, 4] (shapeCast _ (extf .f32 a bitsLt_bf16_f32) shapeCasts_S32768x512_S4x8192x4x2x64) transposes_S4x8192x4x2x64_S4x8192x2x4x64_0_1_3_2_4) shapeCasts_S4x8192x2x4x64_S4x8192x512) : FVec Ideal S4x8192x1x512 .f32)⟩, ⟨S4x8192x1x512, (broadcastInDim S4x8192x1x512 ![0, 1, 3] bcast_S4x8192x512_S4x8192x1x512_0_1_3 (extf .f32 b bitsLt_bf16_f32) : FVec Ideal S4x8192x1x512 .f32)⟩, ⟨S4x8192x1x512, (broadcastInDim S4x8192x1x512 ![0, 1, 3] bcast_S4x8192x512_S4x8192x1x512_0_1_3 (shapeCast _ (extf .f32 d bitsLt_bf16_f32) shapeCasts_S32768x512_S4x8192x512) : FVec Ideal S4x8192x1x512 .f32)⟩] concatenates_S4x8192x1x512_S4x8192x1x512_S4x8192x1x512_S4x8192x3x512_d2

/-- The branches' gates. -/
def gates (n : FVec Ideal S4x8192x1024 .f32) (w : FVec Ideal S1024x6408 .f32) : FVec Ideal S4x8192x3x1024 .f32 :=
  Host.divf (broadcastInDim S4x8192x3x1024 ![] bcast_S_S4x8192x3x1024 (constant S_ .f32 0x3F800000#32)) (addf (broadcastInDim S4x8192x3x1024 ![] bcast_S_S4x8192x3x1024 (constant S_ .f32 0x3F800000#32)) (Host.exp (Host.negf (shapeCast _ (Host.dotGeneral dot_S4x8192x1024_S1024x3072_S4x8192x3072_2_0_01_1_n_n none n (extractStridedSlice S1024x3072 ![0, 3336] w slices_S1024x6408_S1024x3072_0_3336)) shapeCasts_S4x8192x3072_S4x8192x3x1024))))

/-- The branches' rows through their output projections. -/
def projs (s : FVec Ideal S4x8192x3x512 .f32) (p : FVec Ideal S3x512x1024 .f32) : FVec Ideal S4x8192x3x1024 .f32 :=
  transpose S4x8192x3x1024 [2, 3, 0, 1] (Host.dotGeneral dot_S3x512x1024_S4x8192x3x512_S3x1024x4x8192_1_3_2_01_0_2 none p s) transposes_S3x1024x4x8192_S4x8192x3x1024_2_3_0_1

/-- The mixer's output before its norm. -/
def rmix (g p : FVec Ideal S4x8192x3x1024 .f32) (wo : FVec Ideal S1024x1024 .f32) : FVec Ideal S4x8192x1024 .f32 :=
  Host.dotGeneral dot_S4x8192x1024_S1024x1024_S4x8192x1024_2_0_01_1_n_n none (Host.reduceAdd (mulf g p) (constant S_ .f32 0x00000000#32) reducesTo_S4x8192x3x1024_S4x8192x1024_d2 h_S_) wo

/-- The stream after the mixer. -/
def ry (x : FVec Ideal S4x8192x1024 .f32) (a : FVec Ideal S32768x512 .bf16) (b : FVec Ideal S4x8192x512 .bf16) (d : FVec Ideal S32768x512 .bf16)
    (g0 : FVec Ideal S1024 .f32) (w : FVec Ideal S1024x6408 .f32) (p : FVec Ideal S3x512x1024 .f32) (wo : FVec Ideal S1024x1024 .f32) (g1 : FVec Ideal S1024 .f32) :
    FVec Ideal S4x8192x1024 .f32 := addf x (rnorm (rmix (gates (rnorm x g0) w) (projs (rows a b d) p) wo) g1)

variable (m : (ℓ : Loc nD τ sig) → Buf (Elt Ideal) ℓ) (c : Dev nD)

/-- The first result as its term. -/
theorem res0_eq : Value.res_out0 m c = shapeCast _ (ry (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg8))) shapeCasts_S4x8192x1024_S32768x1024 := rfl
/-- The second result as its term. -/
theorem res1_eq : Value.res_out1 m c = truncf .bf16 (shapeCast _ (rnorm (ry (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg8))) (m (c.tc.loc main_arg9))) shapeCasts_S4x8192x1024_S32768x1024) bitsLt_bf16_f32 := rfl

variable (b : Fin 4) (t : Fin 8192)

/-- The norm of a token's row. -/
theorem rnorm_apply (v g) (k : Fin 1024) : rnorm v g (ix3 b t k) = rms (fun k => v (ix3 b t k)) (fun k => g (ix1 k)) k := by
  pointwise [rnorm, rms]

/-- A gate is the logistic of the token's normed row against its column. -/
theorem gates_apply (n w) (e : Fin 3) (k : Fin 1024) :
    gates n w (ix4 b t e k) = Ideal.logistic (∑ l, n (ix3 b t l) * w (ix2 l ⟨3336 + (e.val * 1024 + k.val), by omega⟩)) := by
  pointwise [gates]
  rfl

/-- A branch's row through its output projection. -/
theorem projs_apply (s p) (e : Fin 3) (k : Fin 1024) : projs s p (ix4 b t e k) = proj (fun j => s (ix4 b t e j)) (fun j k => p (ix3 e j k)) k := by
  pointwise [projs, proj]
  exact Finset.sum_congr rfl fun _ _ => mul_comm _ _

/-- The gated branches summed, through the mixer's output projection. -/
theorem rmix_apply (g p wo) (k : Fin 1024) : rmix g p wo (ix3 b t k)
    = ∑ l, (g (ix4 b t 0 l) * p (ix4 b t 0 l) + g (ix4 b t 1 l) * p (ix4 b t 1 l) + g (ix4 b t 2 l) * p (ix4 b t 2 l)) * wo (ix2 l k) := by
  pointwise [rmix]
  simp only [Fin.sum_univ_three]

/-- The token's number among all of them. -/
abbrev tok : Fin 32768 := ⟨b.val * 8192 + t.val, by omega⟩

/-- Branch A's row, its heads put back in order. -/
theorem rows0_apply (x y z) (j : Fin 512) : rows x y z (ix4 b t 0 j) = x (ix2 (tok b t) (entry j)) := by
  pointwise [rows, tok, entry]
/-- Branch B's row. -/
theorem rows1_apply (x y z) (j : Fin 512) : rows x y z (ix4 b t 1 j) = y (ix3 b t j) := by
  pointwise [rows]
/-- Branch C's row. -/
theorem rows2_apply (x y z) (j : Fin 512) : rows x y z (ix4 b t 2 j) = z (ix2 (tok b t) j) := by
  pointwise [rows, tok]

section Token

variable (x : FVec Ideal S4x8192x1024 .f32) (oa : FVec Ideal S32768x512 .bf16) (ob : FVec Ideal S4x8192x512 .bf16) (oc : FVec Ideal S32768x512 .bf16)
  (g0 : FVec Ideal S1024 .f32) (w : FVec Ideal S1024x6408 .f32) (p : FVec Ideal S3x512x1024 .f32) (wo : FVec Ideal S1024x1024 .f32) (g1 g2 : FVec Ideal S1024 .f32)

/-- The stream after the mixer, at a token. -/
theorem ry_apply (k : Fin 1024) : ry x oa ob oc g0 w p wo g1 (ix3 b t k)
    = yRow (fun l => x (ix3 b t l)) (fun l => g0 (ix1 l))
        (fun l k => w (ix2 l ⟨3336 + (0 * 1024 + k.val), by omega⟩)) (fun l k => w (ix2 l ⟨3336 + (1 * 1024 + k.val), by omega⟩)) (fun l k => w (ix2 l ⟨3336 + (2 * 1024 + k.val), by omega⟩))
        (proj (fun j => oa (ix2 (tok b t) j)) (fun j k => p (ix3 0 (head j) k)))
        (proj (fun j => ob (ix3 b t j)) (fun j k => p (ix3 1 j k))) (proj (fun j => oc (ix2 (tok b t) j)) (fun j k => p (ix3 2 j k)))
        (fun l k => wo (ix2 l k)) (fun l => g1 (ix1 l)) k := by
  show x (ix3 b t k) + rnorm _ g1 (ix3 b t k) = _
  rw [rnorm_apply, yRow]
  congr 2
  funext k
  rw [rmix_apply, ← proj_heads (fun j => oa (ix2 (tok b t) j)) (fun j k => p (ix3 0 j k))]
  refine Finset.sum_congr rfl fun l _ => ?_
  simp only [gated, gates_apply, projs_apply, rnorm_apply, rows0_apply, rows1_apply, rows2_apply]
  rfl

/-- The feed-forward's input, at a token. -/
theorem rh_apply (k : Fin 1024) : rnorm (ry x oa ob oc g0 w p wo g1) g2 (ix3 b t k)
    = hRow (fun l => x (ix3 b t l)) (fun l => g0 (ix1 l))
        (fun l k => w (ix2 l ⟨3336 + (0 * 1024 + k.val), by omega⟩)) (fun l k => w (ix2 l ⟨3336 + (1 * 1024 + k.val), by omega⟩)) (fun l k => w (ix2 l ⟨3336 + (2 * 1024 + k.val), by omega⟩))
        (proj (fun j => oa (ix2 (tok b t) j)) (fun j k => p (ix3 0 (head j) k)))
        (proj (fun j => ob (ix3 b t j)) (fun j k => p (ix3 1 j k))) (proj (fun j => oc (ix2 (tok b t) j)) (fun j k => p (ix3 2 j k)))
        (fun l k => wo (ix2 l k)) (fun l => g1 (ix1 l)) (fun l => g2 (ix1 l)) k := by
  rw [rnorm_apply, funext fun k => ry_apply b t x oa ob oc g0 w p wo g1 k]; rfl

end Token

/-- The tokens laid out in one row of them. -/
theorem flat_apply (v : FVec Ideal S4x8192x1024 .f32) (k : Fin 1024) :
    shapeCast _ v shapeCasts_S4x8192x1024_S32768x1024 (ix2 (tok b t) k) = v (ix3 b t k) := by
  pointwise [tok]

end Cert.Proof.RRows

end
-- ==== Proof.Value.lean ====
/-
  The two results the kernel leaves are the reference's, at the ideal instance: every row a trip stores is the merge of its
  token, which is what the reference computes there.
-/
module

public import proofs.«01_k».proof.Proof.Host
public import proofs.«01_k».proof.Proof.RRows

@[expose] public section

set_option maxRecDepth 16384

noncomputable section

namespace Cert.Proof.Value

open Cert.KernelIdeal Cert.KernelIdeal.Gen Cert.Proof.Names Cert.Proof.Spec Cert.Proof.Launch Cert.Proof.Host
open Idealize.ShloMosaic Idealize.ShloMosaic.TcCoe

/-- The token's merge depends on its rows and weights only through their entries. -/
theorem yRow_congr {x x' g0 g0' : Fin 1024 → EReal} {u1 u1' u2 u2' u3 u3' : Fin 1024 → Fin 1024 → EReal} {a a' b b' d d' : Fin 512 → EReal}
    {p1 p1' p2 p2' p3 p3' : Fin 512 → Fin 1024 → EReal} {wo wo' : Fin 1024 → Fin 1024 → EReal} {g1 g1' : Fin 1024 → EReal}
    (hx : ∀ l, x l = x' l) (hg0 : ∀ l, g0 l = g0' l) (hu1 : ∀ l k, u1 l k = u1' l k) (hu2 : ∀ l k, u2 l k = u2' l k) (hu3 : ∀ l k, u3 l k = u3' l k)
    (ha : ∀ j, a j = a' j) (hp1 : ∀ j k, p1 j k = p1' j k) (hb : ∀ j, b j = b' j) (hp2 : ∀ j k, p2 j k = p2' j k) (hd : ∀ j, d j = d' j) (hp3 : ∀ j k, p3 j k = p3' j k)
    (hwo : ∀ l k, wo l k = wo' l k) (hg1 : ∀ l, g1 l = g1' l) :
    yRow x g0 u1 u2 u3 (proj a p1) (proj b p2) (proj d p3) wo g1 = yRow x' g0' u1' u2' u3' (proj a' p1') (proj b' p2') (proj d' p3') wo' g1' := by
  obtain rfl : x = x' := funext hx
  obtain rfl : g0 = g0' := funext hg0
  obtain rfl : u1 = u1' := funext fun l => funext (hu1 l)
  obtain rfl : u2 = u2' := funext fun l => funext (hu2 l)
  obtain rfl : u3 = u3' := funext fun l => funext (hu3 l)
  obtain rfl : a = a' := funext ha
  obtain rfl : p1 = p1' := funext fun l => funext (hp1 l)
  obtain rfl : b = b' := funext hb
  obtain rfl : p2 = p2' := funext fun l => funext (hp2 l)
  obtain rfl : d = d' := funext hd
  obtain rfl : p3 = p3' := funext fun l => funext (hp3 l)
  obtain rfl : wo = wo' := funext fun l => funext (hwo l)
  obtain rfl : g1 = g1' := funext hg1
  rfl

variable (m : (ℓ : Loc nD τ sig) → Buf (Elt Ideal) ℓ) (c : Dev nD)

/-! ## The columns of the gates -/

theorem gate1 (l k : Fin 1024) : (V m c main_v1 (ix2 l ⟨1024 + k.val, by omega⟩) : EReal) = m (c.tc.loc main_arg5) (ix2 l ⟨3336 + (0 * 1024 + k.val), by omega⟩) :=
  (V_v1 m c l _).trans (congrArg (fun j => m (c.tc.loc main_arg5) (ix2 l j)) (Fin.ext (by show 2312 + (1024 + k.val) = 3336 + (0 * 1024 + k.val); omega)))
theorem gate2 (l k : Fin 1024) : (V m c main_v1 (ix2 l ⟨2048 + k.val, by omega⟩) : EReal) = m (c.tc.loc main_arg5) (ix2 l ⟨3336 + (1 * 1024 + k.val), by omega⟩) :=
  (V_v1 m c l _).trans (congrArg (fun j => m (c.tc.loc main_arg5) (ix2 l j)) (Fin.ext (by show 2312 + (2048 + k.val) = 3336 + (1 * 1024 + k.val); omega)))
theorem gate3 (l k : Fin 1024) : (V m c main_v1 (ix2 l ⟨3072 + k.val, by omega⟩) : EReal) = m (c.tc.loc main_arg5) (ix2 l ⟨3336 + (2 * 1024 + k.val), by omega⟩) :=
  (V_v1 m c l _).trans (congrArg (fun j => m (c.tc.loc main_arg5) (ix2 l j)) (Fin.ext (by show 2312 + (3072 + k.val) = 3336 + (2 * 1024 + k.val); omega)))

/-- The merge of a token, over the arguments. -/
abbrev Y (B : Fin 4) (t : Fin 8192) : Fin 1024 → EReal :=
  yRow (fun l => m (c.tc.loc main_arg0) (ix3 B t l)) (fun l => m (c.tc.loc main_arg4) (ix1 l))
    (fun l k => m (c.tc.loc main_arg5) (ix2 l ⟨3336 + (0 * 1024 + k.val), by omega⟩)) (fun l k => m (c.tc.loc main_arg5) (ix2 l ⟨3336 + (1 * 1024 + k.val), by omega⟩)) (fun l k => m (c.tc.loc main_arg5) (ix2 l ⟨3336 + (2 * 1024 + k.val), by omega⟩))
    (proj (fun j => m (c.tc.loc main_arg1) (ix2 (tok B t) j)) (fun j k => m (c.tc.loc main_arg6) (ix3 0 (head j) k)))
    (proj (fun j => m (c.tc.loc main_arg2) (ix3 B t j)) (fun j k => m (c.tc.loc main_arg6) (ix3 1 j k)))
    (proj (fun j => m (c.tc.loc main_arg3) (ix2 (tok B t) j)) (fun j k => m (c.tc.loc main_arg6) (ix3 2 j k)))
    (fun l k => m (c.tc.loc main_arg7) (ix2 l k)) (fun l => m (c.tc.loc main_arg8) (ix1 l))

/-- What every trip loads of the weights. -/
abbrev WW : Block.Wts Ideal := loads c (st0 t0_0) (st1 t0_0) (st2 t0_0) (st3 t0_0) (st4 t0_0) (st5 t0_0) (iblk m c 0 t0_0) (iblk m c 1 t0_0) (iblk m c 2 t0_0) (iblk m c 3 t0_0) (iblk m c 4 t0_0) (iblk m c 5 t0_0)

/-! ## The rows a trip loads -/

section Rows

variable (b : Fin 128) (r : Fin 256) (B : Fin 4) (t : Fin 8192) (h : rowOf b r = tok B t)
include h

theorem x_row (l : Fin 1024) : (blk xM b).view.read (Elt Ideal) (V m c main_v15) (ix2 r l) = m (c.tc.loc main_arg0) (ix3 B t l) :=
  (blk_read b xM r l (V m c main_v15)).trans ((congrArg (fun i => V m c main_v15 (ix2 i l)) h).trans (V_v15 m c B t l))
theorem a_row (j : Fin 512) : ((hblk aM b).view.read (Elt Ideal) (V m c main_arg1) (ix2 r j) : EReal) = m (c.tc.loc main_arg1) (ix2 (tok B t) j) :=
  (hblk_read b aM r j (V m c main_arg1)).trans ((congrArg (fun i => V m c main_arg1 (ix2 i j)) h).trans (congrFun (V_main_arg1 m c) _))
theorem b_row (j : Fin 512) : ((hblk bM b).view.read (Elt Ideal) (V m c main_v16) (ix2 r j) : EReal) = m (c.tc.loc main_arg2) (ix3 B t j) :=
  (hblk_read b bM r j (V m c main_v16)).trans ((congrArg (fun i => V m c main_v16 (ix2 i j)) h).trans (V_v16 m c B t j))
theorem c_row (j : Fin 512) : ((hblk cM b).view.read (Elt Ideal) (V m c main_arg3) (ix2 r j) : EReal) = m (c.tc.loc main_arg3) (ix2 (tok B t) j) :=
  (hblk_read b cM r j (V m c main_arg3)).trans ((congrArg (fun i => V m c main_arg3 (ix2 i j)) h).trans (congrFun (V_main_arg3 m c) _))

/-- The rows a trip stores are its token's merge, read off the buffers the trip loads. -/
theorem rows_eq :
    yRow (fun l => (blk xM b).view.read (Elt Ideal) (V m c main_v15) (ix2 r l)) (fun l => (WW m c).g0 (ix2 0 l)) (fun l k => (WW m c).u1 (ix2 l k)) (fun l k => (WW m c).u2 (ix2 l k)) (fun l k => (WW m c).u3 (ix2 l k))
        (proj (fun j => (hblk aM b).view.read (Elt Ideal) (V m c main_arg1) (ix2 r j)) (fun j k => (WW m c).p1 (ix3 0 j k)))
        (proj (fun j => (hblk bM b).view.read (Elt Ideal) (V m c main_v16) (ix2 r j)) (fun j k => (WW m c).p2 (ix3 0 j k)))
        (proj (fun j => (hblk cM b).view.read (Elt Ideal) (V m c main_arg3) (ix2 r j)) (fun j k => (WW m c).p3 (ix3 0 j k))) (fun l k => (WW m c).wo (ix2 l k)) (fun l => (WW m c).g1 (ix2 0 l))
      = Y m c B t :=
  yRow_congr (x_row m c b r B t h)
    (fun l => (congrFun (loads_g0 ..) _).trans ((congrFun (iblk0 m c) _).trans (V_v12 m c l)))
    (fun l k => (loads_u1 ..).trans ((congrFun (iblk1 m c) _).trans (gate1 m c l k)))
    (fun l k => (loads_u2 ..).trans ((congrFun (iblk1 m c) _).trans (gate2 m c l k)))
    (fun l k => (loads_u3 ..).trans ((congrFun (iblk1 m c) _).trans (gate3 m c l k)))
    (a_row m c b r B t h) (fun j k => (loads_p1 ..).trans ((congrFun (iblk2 m c) _).trans (V_v10_0 m c j k)))
    (b_row m c b r B t h) (fun j k => (loads_p2 ..).trans ((congrFun (iblk2 m c) _).trans (V_v10_1 m c j k)))
    (c_row m c b r B t h) (fun j k => (loads_p3 ..).trans ((congrFun (iblk2 m c) _).trans (V_v10_2 m c j k)))
    (fun l k => (congrFun (loads_wo ..) _).trans ((congrFun (iblk3 m c) _).trans (V_v11 m c l k)))
    (fun l => (congrFun (loads_g1 ..) _).trans ((congrFun (iblk4 m c) _).trans (V_v13 m c l)))

/-- The first result's row of a block is its token's merge. -/
theorem y_tok (k : Fin 1024) : yAt m c b (ix2 r k) = Y m c B t k :=
  (KRows.yRows_apply (WW m c) _ _ _ _ r k).trans (congrFun (rows_eq m c b r B t h) k)
/-- The second's is its norm. -/
theorem h_tok (k : Fin 1024) : (hAt m c b (ix2 r k) : EReal) = rms (Y m c B t) (fun l => m (c.tc.loc main_arg9) (ix1 l)) k :=
  (KRows.hRows_apply (WW m c) _ _ _ _ r k).trans
    (congr (congr (congrArg rms (rows_eq m c b r B t h)) (funext fun l => (congrFun (loads_g2 ..) _).trans ((congrFun (iblk5 m c) _).trans (V_v14 m c l)))) rfl)

end Rows

/-! ## The whole results -/

/-- The reference's stream, over the kernel's arguments. -/
abbrev stream : FVec Ideal S4x8192x1024 .f32 :=
  RRows.ry (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg8))
/-- The reference's two results, over the kernel's arguments. -/
def out0 : Buf (Elt Ideal) (c.tc.loc main_v17_0 : Loc nD τ sig) := shapeCast S32768x1024 (stream m c) Cert.ReferenceIdeal.Gen.facts.shapeCasts_S4x8192x1024_S32768x1024
def out1 : Buf (Elt Ideal) (c.tc.loc main_v17_1 : Loc nD τ sig) := shapeCast S32768x1024 (RRows.rnorm (stream m c) (m (c.tc.loc main_arg9))) Cert.ReferenceIdeal.Gen.facts.shapeCasts_S4x8192x1024_S32768x1024

theorem out0_apply (B : Fin 4) (t : Fin 8192) (k : Fin 1024) : out0 m c (ix2 (tok B t) k) = Y m c B t k :=
  (RRows.flat_apply B t (stream m c) k).trans (RRows.ry_apply B t _ _ _ _ _ _ _ _ _ k)
theorem out1_apply (B : Fin 4) (t : Fin 8192) (k : Fin 1024) : out1 m c (ix2 (tok B t) k) = rms (Y m c B t) (fun l => m (c.tc.loc main_arg9) (ix1 l)) k :=
  (RRows.flat_apply B t (RRows.rnorm (stream m c) (m (c.tc.loc main_arg9))) k).trans (RRows.rh_apply B t _ _ _ _ _ _ _ _ _ _ k)

/-- Every index of a result is row `r` of a block and is a token. -/
theorem split_idx (i : S32768x1024.Idx) : ∃ (b : Fin 128) (r : Fin 256) (B : Fin 4) (t : Fin 8192) (k : Fin 1024), rowOf b r = tok B t ∧ i = ix2 (rowOf b r) k := by
  have h0 : (i 0).val < 32768 := (i 0).isLt
  refine ⟨⟨(i 0).val / 256, by omega⟩, ⟨(i 0).val % 256, by omega⟩, ⟨(i 0).val / 8192, by omega⟩, ⟨(i 0).val % 8192, by omega⟩, i 1,
    Fin.ext (by show 256 * ((i 0).val / 256) + (i 0).val % 256 = (i 0).val / 8192 * 8192 + (i 0).val % 8192; omega), funext fun a => ?_⟩
  match a with
  | ⟨0, _⟩ => exact Fin.ext (show (i 0).val = 256 * ((i 0).val / 256) + (i 0).val % 256 by omega)
  | ⟨1, _⟩ => rfl

/-- What the kernel leaves in its first result is the reference's. -/
theorem ends_y {s : MemSt nD τ sig (Elt Ideal)} (e : Ends m c s) : s.mem (c.tc.loc main_v17_0) = out0 m c := by
  funext i
  obtain ⟨b, r, B, t, k, h, rfl⟩ := split_idx i
  refine (blk_read b yM r k (s.mem (c.tc.loc main_v17_0))).symm.trans ((congrFun (e.y b) (ix2 r k)).trans ((y_tok m c b r B t h k).trans ?_))
  rw [h]; exact (out0_apply m c B t k).symm
/-- What it leaves in its second is the reference's. -/
theorem ends_h {s : MemSt nD τ sig (Elt Ideal)} (e : Ends m c s) : s.mem (c.tc.loc main_v17_1) = out1 m c := by
  funext i
  obtain ⟨b, r, B, t, k, h, rfl⟩ := split_idx i
  refine (blk_read b hM r k (s.mem (c.tc.loc main_v17_1))).symm.trans ((congrFun (e.h b) (ix2 r k)).trans ((h_tok m c b r B t h k).trans ?_))
  rw [h]; exact (out1_apply m c B t k).symm

end Cert.Proof.Value

end
-- ==== Proof.FfnSpec.lean ====
/-
  The feed-forward of one token, written over its rows and the weights as plain functions of their indices, and its sum over
  the hidden columns cut at a column.
-/
module

public import proofs.«01_k».proof.Proof.Spec

@[expose] public section

noncomputable section

namespace Cert.Proof.FfnSpec

open Idealize.ShloMosaic Cert.Proof.Spec

/-- A hidden column: the gate column's sigmoid-weighted value times the column beside it. -/
def hcol (h p q : Fin 1024 → EReal) : EReal :=
  (∑ l, h l * p l) * Ideal.logistic (∑ l, h l * p l) * ∑ l, h l * q l

/-- The feed-forward before its norm: the hidden columns through the output weights. The gate columns stand first in the
    input weights, the columns beside them after all of those. -/
def mlp (h : Fin 1024 → EReal) (wi : Fin 1024 → Fin 5632 → EReal) (wo : Fin 2816 → Fin 1024 → EReal) (k : Fin 1024) : EReal :=
  ∑ j : Fin 2816, hcol h (fun l => wi l ⟨j.val, by omega⟩) (fun l => wi l ⟨2816 + j.val, by omega⟩) * wo j k

/-- The stream after the feed-forward. -/
def ffn (x h : Fin 1024 → EReal) (wi : Fin 1024 → Fin 5632 → EReal) (wo : Fin 2816 → Fin 1024 → EReal) (g : Fin 1024 → EReal)
    (k : Fin 1024) : EReal := x k + rms (mlp h wi wo) g k

/-- A sum over the hidden columns is the sum over the first 1536 and over the other 1280. -/
theorem sum_cut (f : Fin 2816 → EReal) :
    (∑ j : Fin 1536, f ⟨j.val, by omega⟩) + ∑ j : Fin 1280, f ⟨1536 + j.val, by omega⟩ = ∑ j, f j :=
  (Fin.sum_univ_add (a := 1536) (b := 1280) f).symm

end Cert.Proof.FfnSpec

end
-- ==== Proof.FfnRows.lean ====
/-
  What the feed-forward kernel leaves in an output block, at the ideal instance: at every row the feed-forward of
  Proof/FfnSpec.lean of the rows and weights in the staging buffers. The kernel takes the hidden columns in two parts.
-/
module

public import proofs.«01_k».proof.Proof.FfnSpec
public import proofs.«01_k».proof.Proof.Gen.Kernel2Ideal.Value
public import Idealize.ShloMosaic.Lib.Pointwise
public import Idealize.ShloMosaic.Lib.Pipeline.ValueKit
public import Idealize.ShloMosaic.PureOps.Ideal

@[expose] public section

set_option maxRecDepth 16384

noncomputable section

namespace Cert.Proof.FfnRows

open Cert.Kernel2Ideal Cert.Kernel2Ideal.Gen Cert.Proof.Spec Cert.Proof.FfnSpec
open Idealize.ShloMosaic Idealize.ShloMosaic.TcCoe

attribute [local instance] Cert.Kernel2Ideal.Gen.facts

section Payloads

variable (x : Vec Ideal S1024x1024 .f32) (h : Vec Ideal S1024x1024 .bf16) (p1 q1 : Vec Ideal S1024x1536 .bf16) (p2 q2 : Vec Ideal S1024x1280 .bf16)
  (o1 : Vec Ideal S1536x1024 .bf16) (o2 : Vec Ideal S1280x1024 .bf16) (g : Vec Ideal S1x1024 .f32) (r k : Fin 1024)

/-- The two parts of the hidden columns through their output weights, added. -/
theorem mlp_apply : k0_pay2 h p1 q1 p2 q2 o1 o2 (ix2 r k)
    = (∑ j, hcol (fun l => h (ix2 r l)) (fun l => p1 (ix2 l j)) (fun l => q1 (ix2 l j)) * o1 (ix2 j k) : EReal)
      + ∑ j, hcol (fun l => h (ix2 r l)) (fun l => p2 (ix2 l j)) (fun l => q2 (ix2 l j)) * o2 (ix2 j k) := by
  pointwise [k0_pay2]
  simp only [hcol, zero_add]

/-- A row's sum of squares. -/
theorem squares_apply : k0_pay4 h p1 q1 p2 q2 o1 o2 (ix2 r 0)
    = (∑ l, k0_pay2 h p1 q1 p2 q2 o1 o2 (ix2 r l) * k0_pay2 h p1 q1 p2 q2 o1 o2 (ix2 r l) : EReal) := by
  unfold k0_pay4
  generalize k0_pay2 h p1 q1 p2 q2 o1 o2 = f
  pointwise []

/-- The stored row, of any inner values `f` and their rows' sums of squares `s`. -/
theorem store_apply (f : FVec Ideal S1024x1024 .f32) (s : FVec Ideal S1024x1 .f32) (hs : ∀ r, s (ix2 r 0) = (∑ l, f (ix2 r l) * f (ix2 r l) : EReal)) :
    k0_pay1 f x (k0_pay3 g) s (ix2 r k) = (x (ix2 r k) + rms (fun l => f (ix2 r l)) (fun l => g (ix2 0 l)) k : EReal) := by
  pointwise [k0_pay1, k0_pay3]
  rw [hs]
  rfl

end Payloads

/-- The output block at row `r` and column `k`. -/
theorem out_apply (x : Vec Ideal S1024x1024 .f32) (h : Vec Ideal S1024x1024 .bf16) (wi : Vec Ideal S1024x5632 .bf16) (wo : Vec Ideal S2816x1024 .bf16)
    (g : Vec Ideal S1x1024 .f32) (r k : Fin 1024) : out0_5 x h wi wo g (ix2 r k)
    = ffn (fun l => x (ix2 r l)) (fun l => h (ix2 r l)) (fun l j => wi (ix2 l j)) (fun j l => wo (ix2 j l)) (fun l => g (ix2 0 l)) k := by
  have hz : (![0, 0] : Fin 2 → Nat) = fun _ => 0 := funext fun a => by fin_cases a <;> rfl
  unfold out0_5
  rw [View.canon_unit_zero hz, View.ld_unit_zero hz, View.ld_unit_zero hz, View.ld_unit_zero hz,
    store_apply _ _ _ _ _ _ fun r => squares_apply _ _ _ _ _ _ _ r]
  refine congrArg (x (ix2 r k) + ·) (congrArg (rms · (fun l => g (ix2 0 l)) k) (funext fun k => ?_))
  rw [mlp_apply, mlp, ← sum_cut]
  refine congrArg₂ _ (Finset.sum_congr rfl fun j _ => ?_) (Finset.sum_congr rfl fun j _ => ?_)
  · congr 1
    · congr 1 <;> funext l <;> exact congrArg wi (funext fun a => by match a with | ⟨0, _⟩ => exact Fin.ext (show 0 + 1 * l.val = l.val by omega) | ⟨1, _⟩ => exact Fin.ext (by show _ + 1 * j.val = _; simp))
    · exact congrArg wo (funext fun a => by match a with | ⟨0, _⟩ => exact Fin.ext (show 0 + 1 * j.val = j.val by omega) | ⟨1, _⟩ => exact Fin.ext (show 0 + 1 * k.val = k.val by omega))
  · congr 1
    · congr 1 <;> funext l <;> exact congrArg wi (funext fun a => by match a with | ⟨0, _⟩ => exact Fin.ext (show 0 + 1 * l.val = l.val by omega) | ⟨1, _⟩ => exact Fin.ext (by show _ + 1 * j.val = _; simp; try omega))
    · exact congrArg wo (funext fun a => by match a with | ⟨0, _⟩ => exact Fin.ext (show 1536 + 1 * j.val = 1536 + j.val by omega) | ⟨1, _⟩ => exact Fin.ext (show 0 + 1 * k.val = k.val by omega))

end Cert.Proof.FfnRows

end
-- ==== Proof.FfnRef.lean ====
/-
  The feed-forward reference's result, at the ideal instance: at every token the feed-forward of Proof/FfnSpec.lean of the
  token's rows and the weights.
-/
module

public import proofs.«01_k».proof.Proof.FfnSpec
public import proofs.«01_k».proof.Proof.Gen.Reference2Ideal.Run
public import Idealize.ShloMosaic.Lib.Pointwise
public import Idealize.ShloMosaic.PureOps.Ideal

@[expose] public section

set_option maxRecDepth 16384

noncomputable section

namespace Cert.Proof.FfnRef

open Cert.Reference2Ideal Cert.Reference2Ideal.Gen Cert.Proof.Spec Cert.Proof.FfnSpec
open Idealize.ShloMosaic Idealize.ShloMosaic.TcCoe

attribute [local instance] Cert.Reference2Ideal.Gen.facts

/-- The rows through the input weights. -/
def into (h : FVec Ideal S32768x1024 .bf16) (wi : FVec Ideal S1024x5632 .f32) : FVec Ideal S32768x5632 .f32 :=
  Host.dotGeneral dot_S32768x1024_S1024x5632_S32768x5632_1_0_0_1_n_n none (extf .f32 h bitsLt_bf16_f32) wi

/-- The hidden columns: the first half, weighted by its own logistic, times the second half. -/
def cols (u : FVec Ideal S32768x5632 .f32) : FVec Ideal S32768x2816 .f32 :=
  mulf (mulf (extractStridedSlice S32768x2816 ![0, 0] u slices_S32768x5632_S32768x2816_0_0)
      (Host.divf (broadcastInDim S32768x2816 ![] bcast_S_S32768x2816 (constant S_ .f32 0x3F800000#32))
        (addf (broadcastInDim S32768x2816 ![] bcast_S_S32768x2816 (constant S_ .f32 0x3F800000#32))
          (Host.exp (Host.negf (extractStridedSlice S32768x2816 ![0, 0] u slices_S32768x5632_S32768x2816_0_0))))))
    (extractStridedSlice S32768x2816 ![0, 2816] u slices_S32768x5632_S32768x2816_0_2816)

/-- The hidden columns through the output weights. -/
def outOf (a : FVec Ideal S32768x2816 .f32) (wo : FVec Ideal S2816x1024 .f32) : FVec Ideal S32768x1024 .f32 :=
  Host.dotGeneral dot_S32768x2816_S2816x1024_S32768x1024_1_0_0_1_n_n none a wo

/-- The norm of every token's row. -/
def rnorm (v : FVec Ideal S32768x1024 .f32) (g : FVec Ideal S1024 .f32) : FVec Ideal S32768x1024 .f32 :=
  mulf (mulf v (broadcastInDim S32768x1024 ![0, 1] bcast_S32768x1_S32768x1024_0_1
      (Host.rsqrt (addf (Host.divf (broadcastInDim S32768x1 ![0] bcast_S32768_S32768x1_0 (Host.reduceAdd (mulf v v) (constant S_ .f32 0x00000000#32) reducesTo_S32768x1024_S32768_d1 h_S_))
          (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The stream after the feed-forward. -/
def stream (x : FVec Ideal S32768x1024 .f32) (h : FVec Ideal S32768x1024 .bf16) (wi : FVec Ideal S1024x5632 .f32) (wo : FVec Ideal S2816x1024 .f32)
    (g : FVec Ideal S1024 .f32) : FVec Ideal S32768x1024 .f32 := addf x (rnorm (outOf (cols (into h wi)) wo) g)

variable (m : (ℓ : Loc nD τ sig) → Buf (Elt Ideal) ℓ) (c : Dev nD)

/-- The result as its term. -/
theorem res_eq : Value.res_out0 m c = stream (m (c.tc.loc main_arg0)) (m (c.tc.loc main_arg1)) (m (c.tc.loc main_arg2)) (m (c.tc.loc main_arg3)) (m (c.tc.loc main_arg4)) := rfl

variable (t : Fin 32768)

theorem into_apply (h wi) (j : Fin 5632) : into h wi (ix2 t j) = (∑ l, h (ix2 t l) * wi (ix2 l j) : EReal) := by
  pointwise [into]

theorem cols_apply (u) (j : Fin 2816) :
    cols u (ix2 t j) = (u (ix2 t ⟨j.val, by omega⟩) * Ideal.logistic (u (ix2 t ⟨j.val, by omega⟩)) * u (ix2 t ⟨2816 + j.val, by omega⟩) : EReal) := by
  pointwise [cols]
  rfl

theorem outOf_apply (a wo) (k : Fin 1024) : outOf a wo (ix2 t k) = (∑ j, a (ix2 t j) * wo (ix2 j k) : EReal) := by
  pointwise [outOf]

theorem rnorm_apply (v g) (k : Fin 1024) : rnorm v g (ix2 t k) = rms (fun k => v (ix2 t k)) (fun k => g (ix1 k)) k := by
  pointwise [rnorm, rms]

/-- The stream after the feed-forward, at a token. -/
theorem stream_apply (x h wi wo g) (k : Fin 1024) : stream x h wi wo g (ix2 t k)
    = ffn (fun l => x (ix2 t l)) (fun l => h (ix2 t l)) (fun l j => wi (ix2 l j)) (fun j l => wo (ix2 j l)) (fun l => g (ix1 l)) k := by
  show (x (ix2 t k) + rnorm _ g (ix2 t k) : EReal) = _
  rw [rnorm_apply, ffn]
  refine congrArg (x (ix2 t k) + ·) (congrArg (rms · (fun l => g (ix1 l)) k) (funext fun k => ?_))
  rw [outOf_apply, mlp]
  refine Finset.sum_congr rfl fun j _ => ?_
  rw [cols_apply, into_apply, into_apply, hcol]

end Cert.Proof.FfnRef

end
-- ==== Proof.FfnValue.lean ====
/-
  The feed-forward kernel's result, at the ideal instance: every grid point writes the feed-forward of 1024 tokens, and the
  points' blocks fill the array, which so holds the reference's result over the same arguments.
-/
module

public import proofs.«01_k».proof.Proof.FfnRows
public import proofs.«01_k».proof.Proof.FfnRef
public import Idealize.ShloMosaic.Lib.Claim

@[expose] public section

set_option maxRecDepth 16384

noncomputable section

namespace Cert.Proof.FfnValue

open Cert.Kernel2Ideal Cert.Kernel2Ideal.Gen Cert.Proof.Spec Cert.Proof.FfnSpec
open Idealize.ShloMosaic Idealize.ShloMosaic.TcCoe

attribute [local instance] Cert.Kernel2Ideal.Gen.facts

/-- The feed-forward of entrywise equal rows and weights is the same. -/
theorem ffn_congr {x x' h h' : Fin 1024 → EReal} {wi wi' : Fin 1024 → Fin 5632 → EReal} {wo wo' : Fin 2816 → Fin 1024 → EReal} {g g' : Fin 1024 → EReal}
    (ex : ∀ l, x l = x' l) (eh : ∀ l, h l = h' l) (ei : ∀ l j, wi l j = wi' l j) (eo : ∀ j l, wo j l = wo' j l) (eg : ∀ l, g l = g' l) :
    ffn x h wi wo g = ffn x' h' wi' wo' g' := by
  obtain rfl := funext ex
  obtain rfl := funext eh
  obtain rfl := funext fun l => funext (ei l)
  obtain rfl := funext fun l => funext (eo l)
  obtain rfl := funext eg
  rfl

/-- Every window's block index at a point. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] :=
  (by decide +kernel : ∀ t : Fin grid0.N, win0_0.index t = ![t.val, 0] ∧ win0_1.index t = ![t.val, 0] ∧ win0_2.index t = ![0, 0] ∧ win0_3.index t = ![0, 0]
    ∧ win0_4.index t = ![0, 0] ∧ win0_5.index t = ![t.val, 0])

variable (m : (ℓ : Loc nD τ sig) → Buf (Elt Ideal) ℓ) (c : Dev nD)

/-- The reference's result, over the kernel's arguments. -/
def out : Buf (Elt Ideal) (c.tc.loc main_v3 : Loc nD τ sig) :=
  FfnRef.stream (m (c.tc.loc main_arg0)) (m (c.tc.loc main_arg1)) (m (c.tc.loc main_arg2)) (m (c.tc.loc main_arg3)) (m (c.tc.loc main_arg4))

/-! ## What the call finds in the arrays the program prepares -/

theorem V_v0 (l : Fin 1024) (j : Fin 5632) : (V m c main_v0 (ix2 l j) : EReal) = m (c.tc.loc main_arg2) (ix2 l j) := by
  entry_read; rfl
theorem V_v1 (j : Fin 2816) (k : Fin 1024) : (V m c main_v1 (ix2 j k) : EReal) = m (c.tc.loc main_arg3) (ix2 j k) := by
  entry_read; rfl
theorem V_v2 (k : Fin 1024) : (V m c main_v2 (ix2 0 k) : EReal) = m (c.tc.loc main_arg4) (ix1 k) := by
  entry_read; pointwise []

/-! ## A point's blocks -/

/-- The token of row `r` of point `t`'s block. -/
abbrev tok (t : Fin cfg0.N) (r : Fin 1024) : Fin 32768 := ⟨t.val * 1024 + r.val, by have : t.val < 32 := t.isLt; omega⟩

section Blocks

variable (t : Fin cfg0.N)

theorem x_blk (r l : Fin 1024) : (iblk m c 0 t (ix2 r l) : EReal) = m (c.tc.loc main_arg0) (ix2 (tok t r) l) := by
  refine Eq.trans ?_ (congrFun (V_main_arg0 m c) (ix2 (tok t r) l))
  blk_ext [iblk, idx t]
theorem h_blk (r l : Fin 1024) : (iblk m c 1 t (ix2 r l) : EReal) = m (c.tc.loc main_arg1) (ix2 (tok t r) l) := by
  refine Eq.trans ?_ (congrFun (V_main_arg1 m c) (ix2 (tok t r) l))
  blk_ext [iblk, idx t]
theorem wi_blk (l : Fin 1024) (j : Fin 5632) : (iblk m c 2 t (ix2 l j) : EReal) = m (c.tc.loc main_arg2) (ix2 l j) := by
  refine Eq.trans ?_ (V_v0 m c l j)
  blk_ext [iblk, idx t]
theorem wo_blk (j : Fin 2816) (k : Fin 1024) : (iblk m c 3 t (ix2 j k) : EReal) = m (c.tc.loc main_arg3) (ix2 j k) := by
  refine Eq.trans ?_ (V_v1 m c j k)
  blk_ext [iblk, idx t]
theorem g_blk (k : Fin 1024) : (iblk m c 4 t (ix2 0 k) : EReal) = m (c.tc.loc main_arg4) (ix1 k) := by
  refine Eq.trans ?_ (V_v2 m c k)
  blk_ext [iblk, idx t]

/-- What a point leaves in its output block is the reference's rows of its tokens. -/
theorem out_blk (r k : Fin 1024) : out0_5 (iblk m c 0 t) (iblk m c 1 t) (iblk m c 2 t) (iblk m c 3 t) (iblk m c 4 t) (ix2 r k) = out m c (ix2 (tok t r) k) :=
  (FfnRows.out_apply (iblk m c 0 t) (iblk m c 1 t) (iblk m c 2 t) (iblk m c 3 t) (iblk m c 4 t) r k).trans
    ((congrFun (ffn_congr (x_blk m c t r) (h_blk m c t r) (wi_blk m c t) (wo_blk m c t) (g_blk m c t)) k).trans
      (FfnRef.stream_apply (tok t r) _ _ _ _ _ k).symm)

end Blocks

/-- The result array after the run is the reference's. -/
theorem arr_eq : (dats m 0 c).arrAt 5 cfg0.N = out m c := by
  refine (dats m 0 c).arrAt_eq_of_covers 5 _ (by decide +kernel) fun t hf y => ?_
  obtain ⟨r, k, rfl⟩ : ∃ r k : Fin 1024, y = ix2 r k := ⟨y 0, y 1, funext fun a => by match a with | ⟨0, _⟩ => rfl | ⟨1, _⟩ => rfl⟩
  refine (congrFun (Value.flushed5 m c t) _).trans ((out_blk m c t r k).trans ?_)
  blk_ext [idx t]

end Cert.Proof.FfnValue

end
-- ==== Proof.Same2.lean ====
/-
  The two feed-forward programs have the same text: their body tables and their `@main` are equal over any float values, so a run
  of the one is a run of the other.
-/
module

public import proofs.«01_k».proof.Proof.Gen.Kernel2
public import proofs.«01_k».proof.Proof.Gen.Kernel2Ideal

@[expose] public section

set_option maxRecDepth 16384

noncomputable section

namespace Cert.Proof.Same2

open Idealize.ShloMosaic Idealize.ShloMosaic.TcCoe
open Idealize.SL.Sem

attribute [local instance] Cert.Kernel2.Gen.facts Cert.Kernel2Ideal.Gen.facts

variable {F : FTy → Type} [FloatOps F]

theorem part_eq : @Cert.Kernel2.k0_part1 F _ _ = @Cert.Kernel2Ideal.k0_part1 F _ _ := rfl
set_option maxHeartbeats 2000000 in
theorem cc_eq : @Cert.Kernel2.cc0_ffn F _ _ = @Cert.Kernel2Ideal.cc0_ffn F _ _ := rfl
/-- The kernels' body tables agree, label by label. -/
theorem defs₀_eq : Cert.Kernel2.defs₀ (F := F) = Cert.Kernel2Ideal.defs₀ (F := F) := by
  refine congrArg Defs.onTc (funext fun l => funext fun x => ?_)
  match l, x with
  | 0, (t, s) => rfl
  | ⟨_ + 1, h⟩, _ => exact absurd h (Nat.not_lt.2 (Nat.le_add_left _ _))
/-- So do the whole tables. -/
theorem defs_eq : Cert.Kernel2.defs (F := F) = Cert.Kernel2Ideal.defs (F := F) :=
  congrArg (Pipeline.defs (Cert.Kernel2Ideal.pcfgs (F := F))) defs₀_eq
theorem main_eq : Cert.Kernel2.main (F := F) = Cert.Kernel2Ideal.main (F := F) := rfl

/-- A run of the one program from a state is a run of the other. -/
theorem run_eq (s) : θ_run (Cert.Kernel2.defs (F := F)) (onTc (τ := Cert.Kernel2.τ) (Cert.Kernel2.main (F := F))) s
    = θ_run (Cert.Kernel2Ideal.defs (F := F)) (onTc (τ := Cert.Kernel2Ideal.τ) (Cert.Kernel2Ideal.main (F := F))) s :=
  congrArg (fun d => θ_run d (onTc (τ := Cert.Kernel2Ideal.τ) (Cert.Kernel2Ideal.main (F := F))) s) defs_eq

end Cert.Proof.Same2

end
-- ==== Proof.FfnClaim.lean ====
/-
  The claims of the feed-forward call: the frames of both kernel programs and of the reference, and the equality of the result
  at the ideal instance.
-/
module

public import proofs.«01_k».proof.Defs
public import proofs.«01_k».proof.Proof.Gen.Kernel2
public import proofs.«01_k».proof.Proof.FfnValue
public import proofs.«01_k».proof.Proof.Same2
public import Idealize.ShloMosaic.Adequacy
public import Idealize.ShloMosaic.Init

@[expose] public section

noncomputable section

namespace Cert.Proof.FfnClaim

open Idealize.ShloMosaic Idealize.ShloMosaic.TcCoe
open Idealize.SL.Sem

attribute [local instance] Cert.Kernel2.Gen.facts Cert.Kernel2Ideal.Gen.facts Cert.Reference2Ideal.Gen.facts

/-- The kernel over machine values ends, keeps its arguments and leaves every semaphore at zero. -/
theorem frame_kernel : Cert.quiescent_Kernel2 := fun m ρ _ =>
  (Same2.run_eq (F := Bits) ⟨m, fun _ => 0, ρ⟩).symm ▸ Cert.Kernel2Ideal.Gen.frame (F := Bits) m ρ
/-- So does the kernel over the reals. -/
theorem frame_kernelIdeal : Cert.quiescent_Kernel2Ideal := fun m ρ _ => Cert.Kernel2Ideal.Gen.frame (F := Ideal) m ρ
/-- The reference ends and keeps its arguments; it has no semaphores. -/
theorem frame_reference : Cert.quiescent_Reference2Ideal := fun m ρ _ =>
  (θ_run Cert.Reference2Ideal.defs _ _).mono
    (fun r h => ⟨fun c => (h c).2, funext fun g => by obtain ⟨_, s | s⟩ := g <;> exact s.elim0⟩)
    (Cert.Reference2Ideal.Value.run (F := Ideal) m ρ)

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

/-- The two programs' arguments are the same on this device. -/
abbrev Agree : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)

/-- From the same arguments, the reference's result is the one the kernel leaves. -/
theorem ref (h : Agree m m' c) : Cert.Reference2Ideal.Value.res_out0 m' c = FfnValue.out m c := by
  obtain ⟨h0, h1, h2, h3, h4⟩ := h
  rw [FfnRef.res_eq, h0, h1, h2, h3, h4]; rfl

/-- From the same arguments, the kernel and the reference leave the same result over the reals. -/
theorem algebraic : Cert.algebraic_Kernel2Ideal_Reference2Ideal := fun m ρ m' ρ' _ hag =>
  ⟨fun c => FfnValue.out m c,
    (θ_run Cert.Kernel2Ideal.defs _ _).mono
      (fun r h c => ⟨(h c).1.trans (FfnValue.arr_eq m c), (h c).2⟩) (Cert.Kernel2Ideal.Value.run_blocks (F := Ideal) m ρ),
    (θ_run Cert.Reference2Ideal.defs _ _).mono
      (fun r h c => ⟨(h c).1.trans (ref m m' c (hag c)), (h c).2⟩) (Cert.Reference2Ideal.Value.run (F := Ideal) m' ρ')⟩

end Cert.Proof.FfnClaim

end
-- ==== Proof.MemRef.lean ====
/-
  The memory's keys and values: one row written over plain functions of their indices, and the reference's results at the
  ideal instance, which are that row at every memory slot.
-/
module

public import proofs.«01_k».proof.Proof.Spec
public import proofs.«01_k».proof.Proof.Gen.Reference3Ideal.Run
public import Idealize.ShloMosaic.Lib.Pointwise
public import Idealize.ShloMosaic.PureOps.Ideal

@[expose] public section

set_option maxRecDepth 16384

noncomputable section

namespace Cert.Proof.MemRef

open Cert.Reference3Ideal Cert.Reference3Ideal.Gen Cert.Proof.Spec
open Idealize.ShloMosaic Idealize.ShloMosaic.TcCoe

attribute [local instance] Cert.Reference3Ideal.Gen.facts

/-- A normed row through a block of columns. -/
def kv (x g : Fin 1024 → EReal) (w : Fin 1024 → Fin 512 → EReal) (k : Fin 512) : EReal := ∑ l, rms x g l * w l k

/-- The norm of every slot's row. -/
def rnorm (v : FVec Ideal S4x256x1024 .f32) (g : FVec Ideal S1024 .f32) : FVec Ideal S4x256x1024 .f32 :=
  mulf (mulf v (broadcastInDim S4x256x1024 ![0, 1, 2] bcast_S4x256x1_S4x256x1024_0_1_2
      (Host.rsqrt (addf (Host.divf (broadcastInDim S4x256x1 ![0, 1] bcast_S4x256_S4x256x1_0_1 (Host.reduceAdd (mulf v v) (constant S_ .f32 0x00000000#32) reducesTo_S4x256x1024_S4x256_d2 h_S_))
          (broadcastInDim S4x256x1 ![] bcast_S_S4x256x1 (constant S_ .f32 0x44800000#32)))
        (broadcastInDim S4x256x1 ![] bcast_S_S4x256x1 (constant S_ .f32 0x358637BD#32))))))
    (broadcastInDim S4x256x1024 ![0, 1, 2] bcast_S1x1x1024_S4x256x1024_0_1_2 (broadcastInDim S1x1x1024 ![2] bcast_S1024_S1x1x1024_2 g))

/-- The normed rows through all the columns. -/
def both (x : FVec Ideal S4x256x1024 .f32) (g : FVec Ideal S1024 .f32) (w : FVec Ideal S1024x1024 .f32) : FVec Ideal S4x256x1024 .f32 :=
  Host.dotGeneral dot_S4x256x1024_S1024x1024_S4x256x1024_2_0_01_1_n_n none (rnorm x g) w

/-- The keys: the first half of the columns. -/
def keys (x : FVec Ideal S4x256x1024 .f32) (g : FVec Ideal S1024 .f32) (w : FVec Ideal S1024x1024 .f32) : FVec Ideal S1024x512 .f32 :=
  shapeCast S1024x512 (extractStridedSlice S4x256x512 ![0, 0, 0] (both x g w) slices_S4x256x1024_S4x256x512_0_0_0) shapeCasts_S4x256x512_S1024x512
/-- The values: the second half. -/
def vals (x : FVec Ideal S4x256x1024 .f32) (g : FVec Ideal S1024 .f32) (w : FVec Ideal S1024x1024 .f32) : FVec Ideal S1024x512 .f32 :=
  shapeCast S1024x512 (extractStridedSlice S4x256x512 ![0, 0, 512] (both x g w) slices_S4x256x1024_S4x256x512_0_0_512) shapeCasts_S4x256x512_S1024x512

section Entries

variable (b : Fin 4) (s : Fin 256) (x : FVec Ideal S4x256x1024 .f32) (g : FVec Ideal S1024 .f32) (w : FVec Ideal S1024x1024 .f32)

/-- The slot's number among all of them. -/
abbrev slot : Fin 1024 := ⟨b.val * 256 + s.val, by omega⟩

theorem rnorm_apply (k : Fin 1024) : rnorm x g (ix3 b s k) = rms (fun k => x (ix3 b s k)) (fun k => g (ix1 k)) k := by
  pointwise [rnorm, rms]

theorem both_apply (k : Fin 1024) : both x g w (ix3 b s k) = (∑ l, rms (fun k => x (ix3 b s k)) (fun k => g (ix1 k)) l * w (ix2 l k) : EReal) := by
  unfold both
  rw [← funext (rnorm_apply b s x g)]
  generalize rnorm x g = n
  pointwise []

theorem keys_apply (k : Fin 512) : keys x g w (ix2 (slot b s) k)
    = kv (fun l => x (ix3 b s l)) (fun l => g (ix1 l)) (fun l k => w (ix2 l ⟨k.val, by omega⟩)) k := by
  refine Eq.trans ?_ (both_apply b s x g w ⟨k.val, by omega⟩)
  unfold keys
  generalize both x g w = u
  pointwise [slot]
theorem vals_apply (k : Fin 512) : vals x g w (ix2 (slot b s) k)
    = kv (fun l => x (ix3 b s l)) (fun l => g (ix1 l)) (fun l k => w (ix2 l ⟨512 + k.val, by omega⟩)) k := by
  refine Eq.trans ?_ (both_apply b s x g w ⟨512 + k.val, by omega⟩)
  unfold vals
  generalize both x g w = u
  pointwise [slot]

end Entries

end Cert.Proof.MemRef

end
-- ==== Proof.MemValue.lean ====
/-
  The memory kernel's results, at the ideal instance: each of the two grid points writes the keys and the values of 512
  slots, and the points' blocks fill both arrays, which so hold the reference's results over the same arguments.
-/
module

public import proofs.«01_k».proof.Proof.MemRef
public import proofs.«01_k».proof.Proof.Gen.Kernel3Ideal.Value
public import Idealize.ShloMosaic.Lib.Claim
public import Idealize.ShloMosaic.Lib.Pointwise
public import Idealize.ShloMosaic.Lib.Pipeline.ValueKit

@[expose] public section

set_option maxRecDepth 16384

noncomputable section

namespace Cert.Proof.MemValue

open Cert.Kernel3Ideal Cert.Kernel3Ideal.Gen Cert.Proof.Spec Cert.Proof.MemRef
open Idealize.ShloMosaic Idealize.ShloMosaic.TcCoe

attribute [local instance] Cert.Kernel3Ideal.Gen.facts

/-! ## What the kernel leaves in an output block -/

section Payloads

variable (x : Vec Ideal S512x1024 .f32) (g : Vec Ideal S1x1024 .f32) (w : Vec Ideal S1024x512 .bf16) (r : Fin 512)

theorem normed_apply (k : Fin 1024) : (k0_pay1 x g (ix2 r k) : EReal) = rms (fun l => x (ix2 r l)) (fun l => g (ix2 0 l)) k := by
  pointwise [k0_pay1, rms]

theorem pay2_apply (k : Fin 512) : k0_pay2 x g w (ix2 r k) = kv (fun l => x (ix2 r l)) (fun l => g (ix2 0 l)) (fun l k => w (ix2 l k)) k := by
  unfold kv k0_pay2
  rw [← funext (normed_apply x g r)]
  generalize k0_pay1 x g = n
  pointwise []

/-- The values are reckoned as the keys are. -/
theorem pay3_eq : k0_pay3 x g w = k0_pay2 x g w := rfl

end Payloads

section Blocks

variable (x : Vec Ideal S512x1024 .f32) (g : Vec Ideal S1x1024 .f32) (w : Vec Ideal S1024x1024 .bf16) (r k : Fin 512)

theorem corner : (![0, 0] : Fin 2 → Nat) = fun _ => 0 := funext fun a => by fin_cases a <;> rfl

/-- The keys' block. -/
theorem keys_out : out0_3 x g w (ix2 r k) = kv (fun l => x (ix2 r l)) (fun l => g (ix2 0 l)) (fun l k => w (ix2 l ⟨k.val, by omega⟩)) k := by
  unfold out0_3
  rw [View.canon_unit_zero corner, View.ld_unit_zero corner, View.ld_unit_zero corner, pay2_apply]
  refine congrArg (kv _ _ · k) (funext fun l => funext fun k => congrArg w (funext fun a => ?_))
  match a with
  | ⟨0, _⟩ => exact Fin.ext (show 0 + 1 * l.val = l.val by omega)
  | ⟨1, _⟩ => exact Fin.ext (show 0 + 1 * k.val = k.val by omega)

/-- The values' block. -/
theorem vals_out : out0_4 x g w (ix2 r k) = kv (fun l => x (ix2 r l)) (fun l => g (ix2 0 l)) (fun l k => w (ix2 l ⟨512 + k.val, by omega⟩)) k := by
  unfold out0_4
  rw [View.canon_unit_zero corner, View.ld_unit_zero corner, View.ld_unit_zero corner, pay3_eq, pay2_apply]
  refine congrArg (kv _ _ · k) (funext fun l => funext fun k => congrArg w (funext fun a => ?_))
  match a with
  | ⟨0, _⟩ => exact Fin.ext (show 0 + 1 * l.val = l.val by omega)
  | ⟨1, _⟩ => exact Fin.ext (show 512 + 1 * k.val = 512 + k.val by omega)

end Blocks

/-! ## A point's blocks of the arguments -/

/-- The row of entrywise equal rows and weights is the same. -/
theorem kv_congr {x x' g g' : Fin 1024 → EReal} {w w' : Fin 1024 → Fin 512 → EReal}
    (ex : ∀ l, x l = x' l) (eg : ∀ l, g l = g' l) (ew : ∀ l k, w l k = w' l k) : kv x g w = kv x' g' w' := by
  obtain rfl := funext ex
  obtain rfl := funext eg
  obtain rfl := funext fun l => funext (ew l)
  rfl

/-- Every window's block index at a point. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] :=
  (by decide +kernel : ∀ t : Fin grid0.N, win0_0.index t = ![t.val, 0] ∧ win0_1.index t = ![0, 0] ∧ win0_2.index t = ![0, 0] ∧ win0_3.index t = ![t.val, 0]
    ∧ win0_4.index t = ![t.val, 0])

variable (m : (ℓ : Loc nD τ sig) → Buf (Elt Ideal) ℓ) (c : Dev nD)

/-- The reference's keys and values, over the kernel's arguments. -/
def out0 : Buf (Elt Ideal) (c.tc.loc main_v3_0 : Loc nD τ sig) := keys (m (c.tc.loc main_arg0)) (m (c.tc.loc main_arg1)) (m (c.tc.loc main_arg2))
def out1 : Buf (Elt Ideal) (c.tc.loc main_v3_1 : Loc nD τ sig) := vals (m (c.tc.loc main_arg0)) (m (c.tc.loc main_arg1)) (m (c.tc.loc main_arg2))

theorem V_v0 (l k : Fin 1024) : (V m c main_v0 (ix2 l k) : EReal) = m (c.tc.loc main_arg2) (ix2 l k) := by
  entry_read; rfl
theorem V_v1 (b : Fin 4) (s : Fin 256) (l : Fin 1024) : (V m c main_v1 (ix2 (slot b s) l) : EReal) = m (c.tc.loc main_arg0) (ix3 b s l) := by
  entry_read; pointwise [slot]
theorem V_v2 (l : Fin 1024) : (V m c main_v2 (ix2 0 l) : EReal) = m (c.tc.loc main_arg1) (ix1 l) := by
  entry_read; pointwise []

/-- The array row of row `r` of point `t`'s block. -/
abbrev row (t : Fin cfg0.N) (r : Fin 512) : Fin 1024 := ⟨t.val * 512 + r.val, by have : t.val < 2 := t.isLt; omega⟩

section Point

variable (t : Fin cfg0.N)

theorem g_blk (l : Fin 1024) : (iblk m c 1 t (ix2 0 l) : EReal) = m (c.tc.loc main_arg1) (ix1 l) := by
  refine Eq.trans ?_ (V_v2 m c l)
  blk_ext [iblk, idx t]
theorem w_blk (l k : Fin 1024) : (iblk m c 2 t (ix2 l k) : EReal) = m (c.tc.loc main_arg2) (ix2 l k) := by
  refine Eq.trans ?_ (V_v0 m c l k)
  blk_ext [iblk, idx t]
theorem x_row (r : Fin 512) (l : Fin 1024) : (iblk m c 0 t (ix2 r l) : EReal) = V m c main_v1 (ix2 (row t r) l) := by
  blk_ext [iblk, idx t]

variable (r : Fin 512) (b : Fin 4) (s : Fin 256) (h : row t r = slot b s)
include h

theorem x_blk (l : Fin 1024) : (iblk m c 0 t (ix2 r l) : EReal) = m (c.tc.loc main_arg0) (ix3 b s l) :=
  (x_row m c t r l).trans ((congrArg (fun i => V m c main_v1 (ix2 i l)) h).trans (V_v1 m c b s l))

/-- What a point leaves in its blocks is the reference's rows of its slots. -/
theorem keys_blk (k : Fin 512) : out0_3 (iblk m c 0 t) (iblk m c 1 t) (iblk m c 2 t) (ix2 r k) = out0 m c (ix2 (slot b s) k) :=
  (keys_out (iblk m c 0 t) (iblk m c 1 t) (iblk m c 2 t) r k).trans
    ((congrFun (kv_congr (x_blk m c t r b s h) (g_blk m c t) fun l _ => w_blk m c t l _) k).trans (keys_apply b s _ _ _ k).symm)
theorem vals_blk (k : Fin 512) : out0_4 (iblk m c 0 t) (iblk m c 1 t) (iblk m c 2 t) (ix2 r k) = out1 m c (ix2 (slot b s) k) :=
  (vals_out (iblk m c 0 t) (iblk m c 1 t) (iblk m c 2 t) r k).trans
    ((congrFun (kv_congr (x_blk m c t r b s h) (g_blk m c t) fun l _ => w_blk m c t l _) k).trans (vals_apply b s _ _ _ k).symm)

end Point

/-- Every row of a block is a slot's. -/
theorem split_row (t : Fin cfg0.N) (r : Fin 512) : ∃ (b : Fin 4) (s : Fin 256), row t r = slot b s :=
  ⟨⟨(row t r).val / 256, by have := (row t r).isLt; omega⟩, ⟨(row t r).val % 256, by omega⟩, Fin.ext (by show (row t r).val = (row t r).val / 256 * 256 + (row t r).val % 256; omega)⟩

/-! ## The whole results -/

/-- The keys' array after the run is the reference's. -/
theorem arr3_eq : (dats m 0 c).arrAt 3 cfg0.N = out0 m c := by
  refine (dats m 0 c).arrAt_eq_of_covers 3 _ (by decide +kernel) fun t hf y => ?_
  obtain ⟨r, k, rfl⟩ : ∃ r k : Fin 512, y = ix2 r k := ⟨y 0, y 1, funext fun a => by match a with | ⟨0, _⟩ => rfl | ⟨1, _⟩ => rfl⟩
  obtain ⟨b, s, h⟩ := split_row t r
  refine (congrFun (Value.flushed3 m c t) _).trans ((keys_blk m c t r b s h k).trans ?_)
  rw [← h]
  blk_ext [idx t]
/-- And the values'. -/
theorem arr4_eq : (dats m 0 c).arrAt 4 cfg0.N = out1 m c := by
  refine (dats m 0 c).arrAt_eq_of_covers 4 _ (by decide +kernel) fun t hf y => ?_
  obtain ⟨r, k, rfl⟩ : ∃ r k : Fin 512, y = ix2 r k := ⟨y 0, y 1, funext fun a => by match a with | ⟨0, _⟩ => rfl | ⟨1, _⟩ => rfl⟩
  obtain ⟨b, s, h⟩ := split_row t r
  refine (congrFun (Value.flushed4 m c t) _).trans ((vals_blk m c t r b s h k).trans ?_)
  rw [← h]
  blk_ext [idx t]

end Cert.Proof.MemValue

end
-- ==== Proof.Same3.lean ====
/-
  The two memory programs have the same text: their body tables and their `@main` are equal over any float values, so a run
  of the one is a run of the other.
-/
module

public import proofs.«01_k».proof.Proof.Gen.Kernel3
public import proofs.«01_k».proof.Proof.Gen.Kernel3Ideal

@[expose] public section

set_option maxRecDepth 16384

noncomputable section

namespace Cert.Proof.Same3

open Idealize.ShloMosaic Idealize.ShloMosaic.TcCoe
open Idealize.SL.Sem

attribute [local instance] Cert.Kernel3.Gen.facts Cert.Kernel3Ideal.Gen.facts

variable {F : FTy → Type} [FloatOps F]

set_option maxHeartbeats 2000000 in
theorem cc_eq : @Cert.Kernel3.cc0_memkv F _ _ = @Cert.Kernel3Ideal.cc0_memkv F _ _ := rfl
/-- The kernels' body tables agree, label by label. -/
theorem defs₀_eq : Cert.Kernel3.defs₀ (F := F) = Cert.Kernel3Ideal.defs₀ (F := F) := by
  refine congrArg Defs.onTc (funext fun l => funext fun x => ?_)
  match l, x with
  | 0, (t, s) => rfl
  | ⟨_ + 1, h⟩, _ => exact absurd h (Nat.not_lt.2 (Nat.le_add_left _ _))
/-- So do the whole tables. -/
theorem defs_eq : Cert.Kernel3.defs (F := F) = Cert.Kernel3Ideal.defs (F := F) :=
  congrArg (Pipeline.defs (Cert.Kernel3Ideal.pcfgs (F := F))) defs₀_eq
theorem main_eq : Cert.Kernel3.main (F := F) = Cert.Kernel3Ideal.main (F := F) := rfl

/-- A run of the one program from a state is a run of the other. -/
theorem run_eq (s) : θ_run (Cert.Kernel3.defs (F := F)) (onTc (τ := Cert.Kernel3.τ) (Cert.Kernel3.main (F := F))) s
    = θ_run (Cert.Kernel3Ideal.defs (F := F)) (onTc (τ := Cert.Kernel3Ideal.τ) (Cert.Kernel3Ideal.main (F := F))) s :=
  congrArg (fun d => θ_run d (onTc (τ := Cert.Kernel3Ideal.τ) (Cert.Kernel3Ideal.main (F := F))) s) defs_eq

end Cert.Proof.Same3

end
-- ==== Proof.MemClaim.lean ====
/-
  The claims of the memory call: the frames of both kernel programs and of the reference, and the equality of the keys and
  the values at the ideal instance.
-/
module

public import proofs.«01_k».proof.Defs
public import proofs.«01_k».proof.Proof.Gen.Kernel3
public import proofs.«01_k».proof.Proof.MemValue
public import proofs.«01_k».proof.Proof.Same3
public import Idealize.ShloMosaic.Adequacy
public import Idealize.ShloMosaic.Init

@[expose] public section

noncomputable section

namespace Cert.Proof.MemClaim

open Idealize.ShloMosaic Idealize.ShloMosaic.TcCoe
open Idealize.SL.Sem

attribute [local instance] Cert.Kernel3.Gen.facts Cert.Kernel3Ideal.Gen.facts Cert.Reference3Ideal.Gen.facts

/-- The kernel over machine values ends, keeps its arguments and leaves every semaphore at zero. -/
theorem frame_kernel : Cert.quiescent_Kernel3 := fun m ρ _ =>
  (Same3.run_eq (F := Bits) ⟨m, fun _ => 0, ρ⟩).symm ▸ Cert.Kernel3Ideal.Gen.frame (F := Bits) m ρ
/-- So does the kernel over the reals. -/
theorem frame_kernelIdeal : Cert.quiescent_Kernel3Ideal := fun m ρ _ => Cert.Kernel3Ideal.Gen.frame (F := Ideal) m ρ
/-- The reference ends and keeps its arguments; it has no semaphores. -/
theorem frame_reference : Cert.quiescent_Reference3Ideal := fun m ρ _ =>
  (θ_run Cert.Reference3Ideal.defs _ _).mono
    (fun r h => ⟨fun c => (h c).2.2, funext fun g => by obtain ⟨_, s | s⟩ := g <;> exact s.elim0⟩)
    (Cert.Reference3Ideal.Value.run (F := Ideal) m ρ)

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- The two programs' arguments are the same on this device. -/
abbrev Agree : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
  ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
  ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)

/-- From the same arguments, the reference's keys are those the kernel leaves. -/
theorem ref0 (h : Agree m m' c) : MemRef.keys (m' (c.tc.loc Cert.Reference3Ideal.main_arg0)) (m' (c.tc.loc Cert.Reference3Ideal.main_arg1)) (m' (c.tc.loc Cert.Reference3Ideal.main_arg2)) = MemValue.out0 m c := by
  obtain ⟨h0, h1, h2⟩ := h
  rw [h0, h1, h2]; rfl
/-- And so are its values. -/
theorem ref1 (h : Agree m m' c) : MemRef.vals (m' (c.tc.loc Cert.Reference3Ideal.main_arg0)) (m' (c.tc.loc Cert.Reference3Ideal.main_arg1)) (m' (c.tc.loc Cert.Reference3Ideal.main_arg2)) = MemValue.out1 m c := by
  obtain ⟨h0, h1, h2⟩ := h
  rw [h0, h1, h2]; rfl

/-- From the same arguments, the kernel and the reference leave the same keys and values over the reals. -/
theorem algebraic : Cert.algebraic_Kernel3Ideal_Reference3Ideal := fun m ρ m' ρ' _ hag =>
  ⟨fun c => MemValue.out0 m c, fun c => MemValue.out1 m c,
    (θ_run Cert.Kernel3Ideal.defs _ _).mono
      (fun r h c => ⟨(h c).1.trans (MemValue.arr3_eq m c), (h c).2.1.trans (MemValue.arr4_eq m c), (h c).2.2⟩) (Cert.Kernel3Ideal.Value.run_blocks (F := Ideal) m ρ),
    (θ_run Cert.Reference3Ideal.defs _ _).mono
      (fun r h c => ⟨(h c).1.trans (ref0 m m' c (hag c)), (h c).2.1.trans (ref1 m m' c (hag c)), (h c).2.2⟩) (Cert.Reference3Ideal.Value.run (F := Ideal) m' ρ')⟩

end Cert.Proof.MemClaim

end
-- ==== Proof.ProjSpec.lean ====
/-
  The projection of one token, written over plain functions of their indices: a column of the normed row's projection, the
  rotation of a head, the short convolution over the token and the three before it, and the norm of a head.
-/
module

public import proofs.«01_k».proof.Proof.Spec
public import Idealize.ShloMosaic.Lib.Pointwise

@[expose] public section

noncomputable section

namespace Cert.Proof.ProjSpec

open Idealize.ShloMosaic Cert.Proof.Spec

/-- The normed row through one column of weights. -/
def col (x g u : Fin 1024 → EReal) : EReal := ∑ l, rms x g l * u l

/-- A pair of heads, 64 entries each, rotated: an entry of a head's first half meets the entry 32 after it, one of the
    second half the entry 32 before it. -/
def rope (v : Fin 128 → EReal) (c s : Fin 32 → EReal) (k : Fin 128) : EReal :=
  if k.val % 64 < 32 then v k * c ⟨k.val % 32, by omega⟩ + v ⟨(k.val + 32) % 128, by omega⟩ * -s ⟨k.val % 32, by omega⟩
  else v k * c ⟨k.val % 32, by omega⟩ + v ⟨(k.val + 96) % 128, by omega⟩ * s ⟨k.val % 32, by omega⟩

/-- Four taps over an entry and the three before it, the oldest first. -/
def taps (v k : Fin 4 → EReal) : EReal := ((v 0 * k 0 + v 1 * k 1) + v 2 * k 2) + v 3 * k 3

/-- An entry times its logistic. -/
def silu (v : EReal) : EReal := v * Ideal.logistic v

/-- A head over the root of its sum of squares. -/
def unit (v : Fin 128 → EReal) (k : Fin 128) : EReal :=
  v k * Ideal.rsqrt ((∑ l, v l * v l) + Ideal.ofBits .f32 0x358637BD#32)

/-- The angle of a position at a frequency of a head. -/
def angle (t : Fin 8192) (d : Fin 32) : EReal :=
  FloatOps.sitofp (F := Ideal) .f32 (BitVec.ofNat 32 t.val) * Ideal.pow (Ideal.ofBits .f32 0x461C4000#32)
    (Ideal.div (-FloatOps.sitofp (F := Ideal) .f32 (BitVec.ofNat 32 d.val)) (Ideal.ofBits .f32 0x42000000#32))
/-- Its cosine. -/
def cosA (t : Fin 8192) (d : Fin 32) : EReal := Ideal.cos (angle t d)
/-- Its sine. -/
def sinA (t : Fin 8192) (d : Fin 32) : EReal := Ideal.sin (angle t d)

/-- The column of the projection that gives the rotated queries their entry `j`: the heads in the order 0, 4, 1, 5, 2, 6, 3, 7. -/
def qcol (j : Fin 512) : Fin 6408 := ⟨j.val / 64 % 2 * 256 + j.val / 128 * 64 + j.val % 64, by omega⟩

/-- The rotated queries of a token, scaled, from the token's projection. -/
def qaE (y : Fin 6408 → EReal) (c s : Fin 32 → EReal) (k : Fin 512) : EReal :=
  rope (fun l => y (qcol ⟨k.val / 128 * 128 + l.val, by omega⟩)) c s ⟨k.val % 128, by omega⟩ * Ideal.ofBits .f32 0x3E000000#32
/-- Its rotated keys. -/
def kaE (y : Fin 6408 → EReal) (c s : Fin 32 → EReal) (k : Fin 128) : EReal :=
  rope (fun l => y ⟨512 + l.val, by omega⟩) c s k

/-- The short convolution's rows: the token's own and those of the three before it, zero before the sequence starts. -/
def seen (y : Fin 8192 → Fin 6408 → EReal) (t : Fin 8192) (i : Fin 4) (j : Fin 1536) : EReal :=
  if t.val + i.val < 3 then 0 else y ⟨t.val + i.val - 3, by omega⟩ ⟨768 + j.val, by omega⟩

/-- The convolution's activated channel. -/
def act (z w : Fin 4 → Fin 1536 → EReal) (j : Fin 1536) : EReal := silu (taps (fun i => z i j) (fun i => w i j))
/-- The normed queries of the convolution. -/
def qnE (z w : Fin 4 → Fin 1536 → EReal) (k : Fin 512) : EReal :=
  unit (fun l => act z w ⟨k.val / 128 * 128 + l.val, by omega⟩) ⟨k.val % 128, by omega⟩ * Ideal.ofBits .f32 0x3DB504F3#32
/-- The normed keys. -/
def knE (z w : Fin 4 → Fin 1536 → EReal) (k : Fin 512) : EReal :=
  unit (fun l => act z w ⟨512 + (k.val / 128 * 128 + l.val), by omega⟩) ⟨k.val % 128, by omega⟩
/-- The values. -/
def vvE (z w : Fin 4 → Fin 1536 → EReal) (k : Fin 512) : EReal := act z w ⟨1024 + k.val, by omega⟩

end Cert.Proof.ProjSpec

end
-- ==== Proof.ProjRef.lean ====
/-
  The reference's projection at the ideal instance: its ten results are, at every token, the token's row as
  ProjSpec.lean writes it.
-/
module

public import proofs.«01_k».proof.Proof.ProjSpec
public import proofs.«01_k».proof.Proof.Gen.Reference4Ideal.Run
public import Idealize.ShloMosaic.Lib.Pointwise
public import Idealize.ShloMosaic.PureOps.Ideal

@[expose] public section

set_option maxRecDepth 16384

noncomputable section

namespace Cert.Proof.ProjRef

open Cert.Reference4Ideal Cert.Reference4Ideal.Gen Cert.Reference4Ideal.Value Cert.Proof.Spec Cert.Proof.ProjSpec
open Idealize.ShloMosaic Idealize.ShloMosaic.TcCoe

attribute [local instance] Cert.Reference4Ideal.Gen.facts

variable (V0 : Valuation τ sig (Elt Ideal))

/-- The rotated queries, as the reference's operations give them. -/
def qa : FVec Ideal S32768x512 .bf16 :=
  truncf .bf16 (shapeCast _ (transpose S4x8192x4x2x64 [0, 1, 3, 2, 4] (shapeCast _ (mulf (concatenate S4x8192x8x64 3 [⟨S4x8192x8x32, (subf (mulf (res_main_v41 V0) (broadcastInDim S4x8192x8x32 ![0, 1, 2, 3] bcast_S1x8192x1x32_S4x8192x8x32_0_1_2_3 (broadcastInDim S1x8192x1x32 ![1, 2, 3] bcast_S8192x1x32_S1x8192x1x32_1_2_3 (res_main_v38 V0)))) (mulf (res_main_v42 V0) (broadcastInDim S4x8192x8x32 ![0, 1, 2, 3] bcast_S1x8192x1x32_S4x8192x8x32_0_1_2_3 (broadcastInDim S1x8192x1x32 ![1, 2, 3] bcast_S8192x1x32_S1x8192x1x32_1_2_3 (res_main_v40 V0)))))⟩, ⟨S4x8192x8x32, (addf (mulf (res_main_v42 V0) (broadcastInDim S4x8192x8x32 ![0, 1, 2, 3] bcast_S1x8192x1x32_S4x8192x8x32_0_1_2_3 (broadcastInDim S1x8192x1x32 ![1, 2, 3] bcast_S8192x1x32_S1x8192x1x32_1_2_3 (res_main_v38 V0)))) (mulf (res_main_v41 V0) (broadcastInDim S4x8192x8x32 ![0, 1, 2, 3] bcast_S1x8192x1x32_S4x8192x8x32_0_1_2_3 (broadcastInDim S1x8192x1x32 ![1, 2, 3] bcast_S8192x1x32_S1x8192x1x32_1_2_3 (res_main_v40 V0)))))⟩] concatenates_S4x8192x8x32_S4x8192x8x32_S4x8192x8x64_d3) (broadcastInDim S4x8192x8x64 ![] bcast_S_S4x8192x8x64 (constant S_ .f32 0x3E000000#32))) shapeCasts_S4x8192x8x64_S4x8192x2x4x64) transposes_S4x8192x2x4x64_S4x8192x4x2x64_0_1_3_2_4) shapeCasts_S4x8192x4x2x64_S32768x512) bitsLt_bf16_f32
/-- The rotated keys, as the reference's operations give them. -/
def ka : FVec Ideal S32768x128 .f32 :=
  shapeCast _ (concatenate S4x8192x2x64 3 [⟨S4x8192x2x32, (subf (mulf (res_main_v77 V0) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v74 V0)))) (mulf (res_main_v78 V0) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v76 V0)))))⟩, ⟨S4x8192x2x32, (addf (mulf (res_main_v78 V0) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v74 V0)))) (mulf (res_main_v77 V0) (broadcastInDim S4x8192x2x32 ![0, 1, 2, 3] bcast_S1x8192x1x32_S4x8192x2x32_0_1_2_3 (broadcastInDim S1x8192x1x32 ![1, 2, 3] bcast_S8192x1x32_S1x8192x1x32_1_2_3 (res_main_v76 V0)))))⟩] concatenates_S4x8192x2x32_S4x8192x2x32_S4x8192x2x64_d3) shapeCasts_S4x8192x2x64_S32768x128
/-- The values beside them, as the reference's operations give them. -/
def va : FVec Ideal S32768x128 .f32 :=
  shapeCast _ (extractStridedSlice S4x8192x128 ![0, 0, 640] (res_main_v13 V0) slices_S4x8192x6408_S4x8192x128_0_0_640) shapeCasts_S4x8192x128_S32768x128
/-- Branch B's gate, as the reference's operations give them. -/
def zb : FVec Ideal S32768x512 .f32 :=
  shapeCast _ (extractStridedSlice S4x8192x512 ![0, 0, 2312] (res_main_v13 V0) slices_S4x8192x6408_S4x8192x512_0_0_2312) shapeCasts_S4x8192x512_S32768x512
/-- Branch C's queries, as the reference's operations give them. -/
def qc : FVec Ideal S32768x512 .bf16 :=
  truncf .bf16 (shapeCast _ (extractStridedSlice S4x8192x512 ![0, 0, 2824] (res_main_v13 V0) slices_S4x8192x6408_S4x8192x512_0_0_2824) shapeCasts_S4x8192x512_S32768x512) bitsLt_bf16_f32
/-- The two gates' logits, padded, as the reference's operations give them. -/
def ba : FVec Ideal S32768x128 .f32 :=
  shapeCast _ (pad S4x8192x128 ![0, 0, 0] ![0, 0, 120] ![0, 0, 0] (concatenate S4x8192x8 2 [⟨S4x8192x4, (extractStridedSlice S4x8192x4 ![0, 0, 2304] (res_main_v13 V0) slices_S4x8192x6408_S4x8192x4_0_0_2304)⟩, ⟨S4x8192x4, (extractStridedSlice S4x8192x4 ![0, 0, 2308] (res_main_v13 V0) slices_S4x8192x6408_S4x8192x4_0_0_2308)⟩] concatenates_S4x8192x4_S4x8192x4_S4x8192x8_d2) (sitofp .f32 (constantI S_ 32 0#32)) pads_S4x8192x8_S4x8192x128_000_000_01200 h_S_) shapeCasts_S4x8192x128_S32768x128
/-- Branch B's queries, as the reference's operations give them. -/
def qn : FVec Ideal S32768x512 .f32 :=
  shapeCast _ (mulf (mulf (res_main_v129 V0) (broadcastInDim S4x8192x4x128 ![0, 1, 2, 3] bcast_S4x8192x4x1_S4x8192x4x128_0_1_2_3 (Host.rsqrt (addf (broadcastInDim S4x8192x4x1 ![0, 1, 2] bcast_S4x8192x4_S4x8192x4x1_0_1_2 (Host.reduceAdd (mulf (res_main_v129 V0) (res_main_v129 V0)) (constant S_ .f32 0x00000000#32) reducesTo_S4x8192x4x128_S4x8192x4_d3 h_S_)) (broadcastInDim S4x8192x4x1 ![] bcast_S_S4x8192x4x1 (constant S_ .f32 0x358637BD#32)))))) (broadcastInDim S4x8192x4x128 ![] bcast_S_S4x8192x4x128 (constant S_ .f32 0x3DB504F3#32))) shapeCasts_S4x8192x4x128_S32768x512
/-- Branch B's keys, as the reference's operations give them. -/
def kn : FVec Ideal S32768x512 .f32 :=
  shapeCast _ (mulf (res_main_v140 V0) (broadcastInDim S4x8192x4x128 ![0, 1, 2, 3] bcast_S4x8192x4x1_S4x8192x4x128_0_1_2_3 (Host.rsqrt (addf (broadcastInDim S4x8192x4x1 ![0, 1, 2] bcast_S4x8192x4_S4x8192x4x1_0_1_2 (Host.reduceAdd (mulf (res_main_v140 V0) (res_main_v140 V0)) (constant S_ .f32 0x00000000#32) reducesTo_S4x8192x4x128_S4x8192x4_d3 h_S_)) (broadcastInDim S4x8192x4x1 ![] bcast_S_S4x8192x4x1 (constant S_ .f32 0x358637BD#32)))))) shapeCasts_S4x8192x4x128_S32768x512
/-- Branch B's values, as the reference's operations give them. -/
def vv : FVec Ideal S32768x512 .f32 :=
  shapeCast _ (extractStridedSlice S4x8192x512 ![0, 0, 1024] (res_main_v125 V0) slices_S4x8192x1536_S4x8192x512_0_0_1024) shapeCasts_S4x8192x512_S32768x512
/-- The last rows before the convolution, as the reference's operations give them. -/
def tail : FVec Ideal S4x8x1536 .f32 :=
  extractStridedSlice S4x8x1536 ![0, 8184, 0] (res_main_v17 V0) slices_S4x8192x1536_S4x8x1536_0_8184_0

section Entries

/-- A token's projection. -/
def proj (b : Fin 4) (t : Fin 8192) (j : Fin 6408) : EReal :=
  col (fun l => V0 (Proc.devRef .tc main_arg0) (ix3 b t l)) (fun l => V0 (Proc.devRef .tc main_arg1) (ix1 l)) (fun l => V0 (Proc.devRef .tc main_arg2) (ix2 l j))

theorem v13_apply (b : Fin 4) (t : Fin 8192) (j : Fin 6408) : res_main_v13 V0 (ix3 b t j) = proj V0 b t j := by
  pointwise [res_main_v13, proj, col, rms]

variable (T : Fin 32768)

/-- A token's sequence, and its place in it. -/
abbrev seq : Fin 4 := ⟨T.val / 8192, by omega⟩
abbrev pos : Fin 8192 := ⟨T.val % 8192, by omega⟩

theorem va_apply (k : Fin 128) : va V0 (ix2 T k) = proj V0 (seq T) (pos T) ⟨640 + k.val, by omega⟩ := by
  refine Eq.trans ?_ (v13_apply V0 _ _ _)
  unfold va
  generalize res_main_v13 V0 = u
  pointwise []
theorem zb_apply (k : Fin 512) : zb V0 (ix2 T k) = proj V0 (seq T) (pos T) ⟨2312 + k.val, by omega⟩ := by
  refine Eq.trans ?_ (v13_apply V0 _ _ _)
  unfold zb
  generalize res_main_v13 V0 = u
  pointwise []
theorem qc_apply (k : Fin 512) : (qc V0 (ix2 T k) : EReal) = proj V0 (seq T) (pos T) ⟨2824 + k.val, by omega⟩ := by
  refine Eq.trans ?_ (v13_apply V0 _ _ _)
  unfold qc
  generalize res_main_v13 V0 = u
  pointwise []
theorem tail_apply (b : Fin 4) (r : Fin 8) (k : Fin 1536) : tail V0 (ix3 b r k) = proj V0 b ⟨8184 + r.val, by omega⟩ ⟨768 + k.val, by omega⟩ := by
  refine Eq.trans ?_ (v13_apply V0 b _ _)
  unfold tail res_main_v17
  generalize res_main_v13 V0 = u
  pointwise []
theorem ba_apply (k : Fin 128) : ba V0 (ix2 T k) = if h : k.val < 8 then proj V0 (seq T) (pos T) ⟨2304 + k.val, by omega⟩ else 0 := by
  simp only [← v13_apply]
  unfold ba
  generalize res_main_v13 V0 = u
  have hT : T.val / 8192 < 4 ∧ T.val % 8192 < 8192 := by omega
  by_cases h : k.val < 8
  · by_cases h' : k.val < 4
    · pointwise [h, h']
      rw [dif_pos hT]
    · pointwise [h, h']
      rw [dif_pos hT]
      exact congrArg (fun j => u (ix3 (seq T) (pos T) j)) (Fin.ext (by show 2308 + (k.val - 4) = 2304 + k.val; omega))
  · pointwise [h]
    rw [dif_neg (fun e => e.2.2)]
    show ((((0#32 : BitVec 32).toInt : ℝ) : EReal)) = 0
    simp

end Entries

end Cert.Proof.ProjRef

end
-- ==== Proof.ProjRefRope.lean ====
/-
  The reference's rotated queries and keys at an entry.
-/
module

public import proofs.«01_k».proof.Proof.ProjRef

@[expose] public section

set_option maxRecDepth 16384

noncomputable section

namespace Cert.Proof.ProjRefRope

open Cert.Reference4Ideal Cert.Reference4Ideal.Gen Cert.Reference4Ideal.Value Cert.Proof.Spec Cert.Proof.ProjSpec Cert.Proof.ProjRef
open Idealize.ShloMosaic Idealize.ShloMosaic.TcCoe

attribute [local instance] Cert.Reference4Ideal.Gen.facts

variable (V0 : Valuation τ sig (Elt Ideal)) (T : Fin 32768)

/-- A function at two indices of the same value. -/
theorem fin_arg {n : Nat} (f : Fin n → EReal) {i j : Fin n} (h : i.val = j.val) : f i = f j := congrArg f (Fin.ext h)

/-- A difference of products as a sum. -/
theorem sub_turn (a b c d : EReal) : a * b - c * d = a * b + c * -d := by rw [sub_eq_add_neg, mul_neg]

/-- The tables at a position. -/
theorem cos_apply (t : Fin 8192) (d : Fin 32) : res_main_v38 V0 (ix3 t 0 d) = cosA t d := by
  pointwise [res_main_v38, res_main_v36, res_main_v23, cosA, angle]
theorem sin_apply (t : Fin 8192) (d : Fin 32) : res_main_v40 V0 (ix3 t 0 d) = sinA t d := by
  pointwise [res_main_v40, res_main_v36, res_main_v23, sinA, angle]
theorem v74_eq : res_main_v74 V0 = res_main_v38 V0 := rfl
theorem v76_eq : res_main_v76 V0 = res_main_v40 V0 := rfl

theorem ka_apply (k : Fin 128) : ka V0 (ix2 T k) = kaE (proj V0 (seq T) (pos T)) (cosA (pos T)) (sinA (pos T)) k := by
  unfold kaE rope
  rw [← funext (v13_apply V0 (seq T) (pos T)), ← funext (cos_apply V0 (pos T)), ← funext (sin_apply V0 (pos T))]
  unfold ka res_main_v77 res_main_v78 res_main_v60
  rw [v74_eq, v76_eq]
  generalize res_main_v13 V0 = u
  generalize res_main_v38 V0 = cc
  generalize res_main_v40 V0 = ss
  by_cases h : k.val % 64 < 32
  · rw [if_pos h]
    pointwise [h]
    exact (sub_turn _ _ _ _).trans <| congrArg₂ (· + ·) (congrArg₂ (· * ·) (fin_arg (fun j => u (ix3 (seq T) (pos T) j)) (by first | rfl | (dsimp only; omega))) (fin_arg (fun d => cc (ix3 (pos T) 0 d)) (by first | rfl | (dsimp only; omega))))
      (congrArg₂ (· * ·) (fin_arg (fun j => u (ix3 (seq T) (pos T) j)) (by first | rfl | (dsimp only; omega))) (fin_arg (fun d => Neg.neg (α := EReal) (ss (ix3 (pos T) 0 d))) (by first | rfl | (dsimp only; omega))))
  · rw [if_neg h]
    pointwise [h]
    exact congrArg₂ (· + ·) (congrArg₂ (· * ·) (fin_arg (fun j => u (ix3 (seq T) (pos T) j)) (by first | rfl | (dsimp only; omega))) (fin_arg (fun d => cc (ix3 (pos T) 0 d)) (by first | rfl | (dsimp only; omega))))
      (congrArg₂ (· * ·) (fin_arg (fun j => u (ix3 (seq T) (pos T) j)) (by first | rfl | (dsimp only; omega))) (fin_arg (fun d => ss (ix3 (pos T) 0 d)) (by first | rfl | (dsimp only; omega))))
theorem qa_apply (k : Fin 512) : (qa V0 (ix2 T k) : EReal) = qaE (proj V0 (seq T) (pos T)) (cosA (pos T)) (sinA (pos T)) k := by
  unfold qaE rope qcol
  rw [← funext (v13_apply V0 (seq T) (pos T)), ← funext (cos_apply V0 (pos T)), ← funext (sin_apply V0 (pos T))]
  unfold qa res_main_v41 res_main_v42 res_main_v24
  generalize res_main_v13 V0 = u
  generalize res_main_v38 V0 = cc
  generalize res_main_v40 V0 = ss
  by_cases h : k.val % 64 < 32
  · rw [if_pos (show k.val % 128 % 64 < 32 by omega)]
    pointwise [h]
    exact congrArg (· * _) ((sub_turn _ _ _ _).trans <| congrArg₂ (· + ·) (congrArg₂ (· * ·) (fin_arg (fun j => u (ix3 (seq T) (pos T) j)) (by first | rfl | (dsimp only; omega))) (fin_arg (fun d => cc (ix3 (pos T) 0 d)) (by first | rfl | (dsimp only; omega))))
      (congrArg₂ (· * ·) (fin_arg (fun j => u (ix3 (seq T) (pos T) j)) (by first | rfl | (dsimp only; omega))) (fin_arg (fun d => Neg.neg (α := EReal) (ss (ix3 (pos T) 0 d))) (by first | rfl | (dsimp only; omega)))))
  · rw [if_neg (show ¬k.val % 128 % 64 < 32 by omega)]
    pointwise [h]
    exact congrArg (· * _) (congrArg₂ (· + ·) (congrArg₂ (· * ·) (fin_arg (fun j => u (ix3 (seq T) (pos T) j)) (by first | rfl | (dsimp only; omega))) (fin_arg (fun d => cc (ix3 (pos T) 0 d)) (by first | rfl | (dsimp only; omega))))
      (congrArg₂ (· * ·) (fin_arg (fun j => u (ix3 (seq T) (pos T) j)) (by first | rfl | (dsimp only; omega))) (fin_arg (fun d => ss (ix3 (pos T) 0 d)) (by first | rfl | (dsimp only; omega)))))

end Cert.Proof.ProjRefRope

end
-- ==== Proof.ProjRefConv.lean ====
/-
  The reference's short convolution at an entry: its activated channels, and the values, which are some of them.
-/
module

public import proofs.«01_k».proof.Proof.ProjRef

@[expose] public section

set_option maxRecDepth 16384

noncomputable section

namespace Cert.Proof.ProjRefConv

open Cert.Reference4Ideal Cert.Reference4Ideal.Gen Cert.Reference4Ideal.Value Cert.Proof.Spec Cert.Proof.ProjSpec Cert.Proof.ProjRef
open Idealize.ShloMosaic Idealize.ShloMosaic.TcCoe

attribute [local instance] Cert.Reference4Ideal.Gen.facts

variable (V0 : Valuation τ sig (Elt Ideal)) (T : Fin 32768)

/-- The convolution's weights. -/
abbrev taps4 (i : Fin 4) (j : Fin 1536) : EReal := V0 (Proc.devRef .tc main_arg3) (ix2 i j)

theorem seen_apply (b : Fin 4) (t : Fin 8192) (i : Fin 4) (j : Fin 1536) : res_main_v95 V0 (ix3 b ⟨t.val + i.val, by omega⟩ j) = seen (proj V0 b) t i j := by
  unfold seen
  simp only [← v13_apply]
  unfold res_main_v95 res_main_v17
  generalize res_main_v13 V0 = u
  by_cases h : t.val + i.val < 3
  · rw [if_pos h]
    pointwise [h]
  · rw [if_neg h]
    pointwise [h]
theorem act_apply (b : Fin 4) (t : Fin 8192) (j : Fin 1536) : res_main_v125 V0 (ix3 b t j) = act (seen (proj V0 b) t) (taps4 V0) j := by
  unfold act silu taps
  simp only [← seen_apply]
  unfold res_main_v125 res_main_v124
  generalize res_main_v95 V0 = u
  pointwise []
  have e1 : (⟨1 + t.val, by omega⟩ : Fin 8195) = ⟨t.val + 1, by omega⟩ := Fin.ext (Nat.add_comm _ _)
  have e2 : (⟨2 + t.val, by omega⟩ : Fin 8195) = ⟨t.val + 2, by omega⟩ := Fin.ext (Nat.add_comm _ _)
  have e3 : (⟨3 + t.val, by omega⟩ : Fin 8195) = ⟨t.val + 3, by omega⟩ := Fin.ext (Nat.add_comm _ _)
  rw [e1, e2, e3]
  rfl

theorem vv_apply (k : Fin 512) : vv V0 (ix2 T k) = vvE (seen (proj V0 (seq T)) (pos T)) (taps4 V0) k := by
  refine Eq.trans ?_ (act_apply V0 _ _ _)
  unfold vv
  generalize res_main_v125 V0 = u
  pointwise []

end Cert.Proof.ProjRefConv

end
-- ==== Proof.ProjRefHeads.lean ====
/-
  The reference's queries and keys of branch B at an entry: heads of activated channels, normed.
-/
module

public import proofs.«01_k».proof.Proof.ProjRefConv

@[expose] public section

set_option maxRecDepth 16384

noncomputable section

namespace Cert.Proof.ProjRefHeads

open Cert.Reference4Ideal Cert.Reference4Ideal.Gen Cert.Reference4Ideal.Value Cert.Proof.Spec Cert.Proof.ProjSpec Cert.Proof.ProjRef Cert.Proof.ProjRefConv
open Idealize.ShloMosaic Idealize.ShloMosaic.TcCoe

attribute [local instance] Cert.Reference4Ideal.Gen.facts

variable (V0 : Valuation τ sig (Elt Ideal)) (T : Fin 32768)

section Heads

variable (v : FVec Ideal S4x8192x4x128 .f32) (b : Fin 4) (t : Fin 8192) (h : Fin 4) (d : Fin 128)

/-- The heads over their norms. -/
def heads : FVec Ideal S4x8192x4x128 .f32 := mulf v (broadcastInDim S4x8192x4x128 ![0, 1, 2, 3] bcast_S4x8192x4x1_S4x8192x4x128_0_1_2_3 (Host.rsqrt (addf (broadcastInDim S4x8192x4x1 ![0, 1, 2] bcast_S4x8192x4_S4x8192x4x1_0_1_2 (Host.reduceAdd (mulf v v) (constant S_ .f32 0x00000000#32) reducesTo_S4x8192x4x128_S4x8192x4_d3 h_S_)) (broadcastInDim S4x8192x4x1 ![] bcast_S_S4x8192x4x1 (constant S_ .f32 0x358637BD#32)))))
theorem heads_apply : heads v (ix4 b t h d) = unit (fun l => v (ix4 b t h l)) d := by
  pointwise [heads, unit]
/-- And scaled. -/
def scaled : FVec Ideal S4x8192x4x128 .f32 := mulf (heads v) (broadcastInDim S4x8192x4x128 ![] bcast_S_S4x8192x4x128 (constant S_ .f32 0x3DB504F3#32))
theorem scaled_apply : scaled v (ix4 b t h d) = unit (fun l => v (ix4 b t h l)) d * Ideal.ofBits .f32 0x3DB504F3#32 := by
  rw [← heads_apply]
  unfold scaled
  generalize heads v = w
  pointwise []
theorem v129_apply : res_main_v129 V0 (ix4 b t h d) = res_main_v125 V0 (ix3 b t ⟨h.val * 128 + d.val, by omega⟩) := by
  unfold res_main_v129
  generalize res_main_v125 V0 = u
  pointwise []
theorem v140_apply : res_main_v140 V0 (ix4 b t h d) = res_main_v125 V0 (ix3 b t ⟨512 + (h.val * 128 + d.val), by omega⟩) := by
  unfold res_main_v140
  generalize res_main_v125 V0 = u
  pointwise []
theorem flat_apply (k : Fin 512) : (shapeCast S32768x512 v shapeCasts_S4x8192x4x128_S32768x512 : FVec Ideal S32768x512 .f32) (ix2 T k) = v (ix4 (seq T) (pos T) ⟨k.val / 128, by omega⟩ ⟨k.val % 128, by omega⟩) := by
  pointwise []

end Heads

theorem qn_apply (k : Fin 512) : qn V0 (ix2 T k) = qnE (seen (proj V0 (seq T)) (pos T)) (taps4 V0) k := by
  unfold qnE
  rw [show qn V0 = shapeCast S32768x512 (scaled (res_main_v129 V0)) shapeCasts_S4x8192x4x128_S32768x512 from rfl, flat_apply, scaled_apply]
  refine congrArg (unit · _ * _) (funext fun l => (v129_apply V0 _ _ _ _).trans (act_apply V0 _ _ _))
theorem kn_apply (k : Fin 512) : kn V0 (ix2 T k) = knE (seen (proj V0 (seq T)) (pos T)) (taps4 V0) k := by
  unfold knE
  rw [show kn V0 = shapeCast S32768x512 (heads (res_main_v140 V0)) shapeCasts_S4x8192x4x128_S32768x512 from rfl, flat_apply, heads_apply]
  refine congrArg (unit · _) (funext fun l => (v140_apply V0 _ _ _ _).trans (act_apply V0 _ _ _))

end Cert.Proof.ProjRefHeads

end
-- ==== Proof.ProjRows.lean ====
/-
  The projection kernel's arithmetic at an entry: the normed rows, a group of columns, the rotation of a pair of heads, and
  a group of the short convolution. The kernel writes the same arithmetic once per group; each copy is the first one.
-/
module

public import proofs.«01_k».proof.Proof.ProjSpec
public import proofs.«01_k».proof.Proof.Gen.Kernel4Ideal.Skeleton
public import Idealize.ShloMosaic.Lib.Pointwise
public import Idealize.ShloMosaic.PureOps.Ideal

@[expose] public section

set_option maxRecDepth 16384

noncomputable section

namespace Cert.Proof.ProjRows

open Cert.Kernel4Ideal Cert.Kernel4Ideal.Gen Cert.Proof.Spec Cert.Proof.ProjSpec
open Idealize.ShloMosaic Idealize.ShloMosaic.TcCoe

attribute [local instance] Cert.Kernel4Ideal.Gen.facts

section Columns

variable (x : Vec Ideal S1024x1024 .f32) (g : Vec Ideal S1x1024 .f32) (n : FVec Ideal S1024x1024 .bf16) (r : Fin 1024)

theorem normed_apply (k : Fin 1024) : (k0_pay3 x g (ix2 r k) : EReal) = rms (fun l => x (ix2 r l)) (fun l => g (ix2 0 l)) k := by
  pointwise [k0_pay3, rms]

theorem mm_apply (w : Vec Ideal S1024x256 .bf16) (k : Fin 256) : k0_pay13 n w (ix2 r k) = (∑ l, n (ix2 r l) * w (ix2 l k) : EReal) := by
  pointwise [k0_pay13]

/-- A group of 256 columns. -/
theorem cols_apply (w : Vec Ideal S1024x256 .bf16) (k : Fin 256) : k0_pay13 (k0_pay3 x g) w (ix2 r k)
    = col (fun l => x (ix2 r l)) (fun l => g (ix2 0 l)) (fun l => w (ix2 l k)) := by
  unfold col
  rw [← funext (normed_apply x g r)]
  exact mm_apply _ r w k
/-- The group of 128 padded columns. -/
theorem gates_apply (w : Vec Ideal S1024x128 .bf16) (k : Fin 128) : k0_pay68 (k0_pay3 x g) w (ix2 r k)
    = col (fun l => x (ix2 r l)) (fun l => g (ix2 0 l)) (fun l => w (ix2 l k)) := by
  unfold col k0_pay68
  rw [← funext (normed_apply x g r)]
  generalize k0_pay3 x g = n
  pointwise []

theorem pay45_apply (w : Vec Ideal S1024x256 .bf16) (k : Fin 128) : k0_pay45 n w (ix2 r k) = k0_pay13 n w (ix2 r ⟨128 + k.val, by omega⟩) := by
  rw [show k0_pay45 n w = extractStridedSlice S1024x128 ![0, 128] (k0_pay13 n w) slices_S1024x256_o0_128_S1024x128 from rfl]
  generalize k0_pay13 n w = q
  pointwise []
theorem pay54_eq (w : Vec Ideal S1024x256 .bf16) : k0_pay54 n w = k0_pay13 n w := rfl
theorem pay60_eq (w : Vec Ideal S1024x256 .bf16) : k0_pay60 n w = k0_pay13 n w := rfl
theorem pay66_apply (w : Vec Ideal S1024x256 .bf16) (k : Fin 256) : (k0_pay66 n w (ix2 r k) : EReal) = k0_pay13 n w (ix2 r k) := rfl
theorem pay67_apply (w : Vec Ideal S1024x256 .bf16) (k : Fin 256) : (k0_pay67 n w (ix2 r k) : EReal) = k0_pay13 n w (ix2 r k) := rfl

theorem pay7_apply (w : Vec Ideal S1024x256 .bf16) (k : Fin 256) : k0_pay7 x g w (ix2 r k) = k0_pay13 (k0_pay3 x g) w (ix2 r k) := by
  rw [show k0_pay7 x g w = shapeCast S1024x256 (k0_pay13 (k0_pay3 x g) w) shapeCasts_S1024x256_S1024x256 from rfl]
  generalize k0_pay13 (k0_pay3 x g) w = q
  pointwise []
theorem pay21_eq (w : Vec Ideal S1024x256 .bf16) : k0_pay21 (k0_pay3 x g) w = k0_pay7 x g w := rfl
theorem pay36_eq (w : Vec Ideal S1024x256 .bf16) : k0_pay36 (k0_pay3 x g) w = k0_pay7 x g w := rfl
theorem pay47_eq (w : Vec Ideal S1024x256 .bf16) : k0_pay47 (k0_pay3 x g) w = k0_pay7 x g w := rfl
theorem pay56_eq (w : Vec Ideal S1024x256 .bf16) : k0_pay56 (k0_pay3 x g) w = k0_pay7 x g w := rfl
theorem pay62_eq (w : Vec Ideal S1024x256 .bf16) : k0_pay62 (k0_pay3 x g) w = k0_pay7 x g w := rfl

theorem pay22_apply (w : Vec Ideal S1024x256 .bf16) (o : Fin 1) (s : Fin 8) (k : Fin 256) : k0_pay22 n w (ix3 o s k) = k0_pay13 n w (ix2 ⟨1016 + s.val, by omega⟩ k) := by
  rw [show k0_pay22 n w = shapeCast S1x8x256 (extractStridedSlice S8x256 ![1016, 0] (k0_pay13 n w) slices_S1024x256_o1016_0_S8x256) shapeCasts_S8x256_S1x8x256 from rfl]
  generalize k0_pay13 n w = q
  pointwise []
theorem pay9_eq (w : Vec Ideal S1024x256 .bf16) : k0_pay9 (k0_pay8 x g w) = k0_pay22 (k0_pay3 x g) w := rfl
theorem pay37_eq (w : Vec Ideal S1024x256 .bf16) : k0_pay37 n w = k0_pay22 n w := rfl
theorem pay48_eq (w : Vec Ideal S1024x256 .bf16) : k0_pay48 n w = k0_pay22 n w := rfl
theorem pay57_eq (w : Vec Ideal S1024x256 .bf16) : k0_pay57 n w = k0_pay22 n w := rfl
theorem pay63_eq (w : Vec Ideal S1024x256 .bf16) : k0_pay63 n w = k0_pay22 n w := rfl

end Columns

section Rotation

variable (n : FVec Ideal S1024x1024 .bf16) (c s : FVec Ideal S1024x128 .f32) (w : Vec Ideal S1024x256 .bf16) (r : Fin 1024) (k : Fin 128)

/-- The kernel's test of an entry's half: bit 5 of its lane. -/
theorem half : ∀ k : Fin 128, IntOp.cmpi CmpIPredicate.eq (IntOp.andi (BitVec.ofNat 32 k.val) 32#32) 0#32 = if k.val % 64 < 32 then 1#1 else 0#1 := by decide +kernel

/-- The rotation as the kernel writes it, of a pair of heads. -/
def turned (q : FVec Ideal S1024x128 .f32) : FVec Ideal S1024x128 .f32 :=
  addf (mulf q c) (mulf (select (cmpi .eq (andi (iota .tc S1024x128 32 [1] iota_S1024x128_d1_w32) (broadcast S1024x128 32#32)) (broadcast S1024x128 0#32))
    (dynamicRotate 1 96#32 none q rotates_S1024x128_d1) (dynamicRotate 1 32#32 none q rotates_S1024x128_d1)) s)

variable (C S : Fin 32 → EReal) (hc : ∀ k : Fin 128, c (ix2 r k) = C ⟨k.val % 32, Nat.mod_lt k.val (Nat.succ_pos 31)⟩)
  (hs : ∀ k : Fin 128, s (ix2 r k) = if k.val % 64 < 32 then -S ⟨k.val % 32, Nat.mod_lt k.val (Nat.succ_pos 31)⟩ else S ⟨k.val % 32, Nat.mod_lt k.val (Nat.succ_pos 31)⟩)
include hc hs

theorem turned_apply (q : FVec Ideal S1024x128 .f32) : turned c s q (ix2 r k) = rope (fun l => q (ix2 r l)) C S k := by
  unfold rope
  have e := half k
  by_cases h : k.val % 64 < 32
  · have hs' := hs k
    rw [if_pos h] at hs' e ⊢
    pointwise [turned, hc, hs']
    rw [e]
    exact congrArg (fun i => q (ix2 r k) * C ⟨k.val % 32, by omega⟩ + q (ix2 r i) * -S ⟨k.val % 32, by omega⟩) (Fin.ext (by show (k.val + 128 - 96) % 128 = (k.val + 32) % 128; omega))
  · have hs' := hs k
    rw [if_neg h] at hs' e ⊢
    pointwise [turned, hc, hs']
    rw [e]
    exact congrArg (fun i => q (ix2 r k) * C ⟨k.val % 32, by omega⟩ + q (ix2 r i) * S ⟨k.val % 32, by omega⟩) (Fin.ext (by show (k.val + 128 - 32) % 128 = (k.val + 96) % 128; omega))

theorem pay44_apply : k0_pay44 n c s w (ix2 r k) = rope (fun l => k0_pay13 n w (ix2 r ⟨l.val, by omega⟩)) C S k := by
  rw [show k0_pay44 n c s w = turned c s (extractStridedSlice S1024x128 ![0, 0] (k0_pay13 n w) slices_S1024x256_o0_0_S1024x128) from rfl, turned_apply c s r k C S hc hs]
  generalize k0_pay13 n w = q
  refine congrArg (rope · C S k) (funext fun l => ?_)
  pointwise []
theorem pay14_apply : (k0_pay14 n c s w (ix2 r k) : EReal) = rope (fun l => k0_pay13 n w (ix2 r ⟨l.val, by omega⟩)) C S k * Ideal.ofBits .f32 0x3E000000#32 := by
  rw [← pay44_apply n c s w r k C S hc hs]
  rfl
theorem pay19_apply : (k0_pay19 c s (k0_pay15 n w) (k0_pay16 n w) (k0_pay17 n w) k0_pay18 (ix2 r k) : EReal)
    = rope (fun l => k0_pay13 n w (ix2 r ⟨128 + l.val, by omega⟩)) C S k * Ideal.ofBits .f32 0x3E000000#32 := by
  refine (show _ = turned c s (extractStridedSlice S1024x128 ![0, 128] (k0_pay13 n w) slices_S1024x256_o0_128_S1024x128) (ix2 r k) * Ideal.ofBits .f32 0x3E000000#32 from rfl).trans ?_
  rw [turned_apply c s r k C S hc hs]
  generalize k0_pay13 n w = q
  refine congrArg (rope · C S k * _) (funext fun l => ?_)
  pointwise []
omit hc hs in
theorem pay33_eq : k0_pay33 c s (k0_pay28 n w) (k0_pay29 n w) (k0_pay30 n w) k0_pay31 k0_pay32 = k0_pay14 n c s w := rfl
omit hc hs in
theorem pay34_eq : k0_pay34 c s (k0_pay27 n w) = k0_pay19 c s (k0_pay15 n w) (k0_pay16 n w) (k0_pay17 n w) k0_pay18 := rfl

end Rotation

section Convolution

variable (z : Vec Ideal S1032x256 .f32) (c0 c1 c2 c3 : Vec Ideal S1x256 .f32) (r : Fin 1024)

theorem conv_apply (k : Fin 256) : k0_pay10 z c0 c1 c2 c3 (ix2 r k)
    = silu (taps (fun i => z (ix2 ⟨r.val + 5 + i.val, by omega⟩ k)) ![c0 (ix2 0 k), c1 (ix2 0 k), c2 (ix2 0 k), c3 (ix2 0 k)]) := by
  unfold silu taps
  pointwise [k0_pay10]
  have e0 : (⟨(((8 + r.val + 1032 - 1) % 1032 + 1032 - 1) % 1032 + 1032 - 1) % 1032, Nat.mod_lt _ (by omega)⟩ : Fin 1032) = ⟨r.val + 5, by omega⟩ := Fin.ext (by dsimp only; omega)
  have e1 : (⟨((8 + r.val + 1032 - 1) % 1032 + 1032 - 1) % 1032, Nat.mod_lt _ (by omega)⟩ : Fin 1032) = ⟨r.val + 5 + 1, by omega⟩ := Fin.ext (by dsimp only; omega)
  have e2 : (⟨(8 + r.val + 1032 - 1) % 1032, Nat.mod_lt _ (by omega)⟩ : Fin 1032) = ⟨r.val + 5 + 2, by omega⟩ := Fin.ext (by dsimp only; omega)
  have e3 : (⟨8 + r.val, by omega⟩ : Fin 1032) = ⟨r.val + 5 + 3, by omega⟩ := Fin.ext (by dsimp only; omega)
  rw [e0, e1, e2, e3]
theorem conv24 : k0_pay24 z (k0_pay23 z c0 c1 c2) c3 = k0_pay10 z c0 c1 c2 c3 := rfl
theorem conv38 : k0_pay38 z c0 c1 c2 c3 = k0_pay10 z c0 c1 c2 c3 := rfl
theorem conv49 : k0_pay49 z c0 c1 c2 c3 = k0_pay10 z c0 c1 c2 c3 := rfl
theorem conv59 : k0_pay59 z (k0_pay58 z c0 c1) c2 c3 = k0_pay10 z c0 c1 c2 c3 := rfl
theorem conv65 : k0_pay65 z (k0_pay64 z c0) c1 c2 c3 = k0_pay10 z c0 c1 c2 c3 := rfl

theorem pay11_apply (k : Fin 128) : k0_pay11 z c0 c1 c2 c3 (ix2 r k)
    = unit (fun l => k0_pay10 z c0 c1 c2 c3 (ix2 r ⟨l.val, by omega⟩)) k * Ideal.ofBits .f32 0x3DB504F3#32 := by
  unfold unit k0_pay11
  generalize k0_pay10 z c0 c1 c2 c3 = q
  pointwise []
theorem pay12_apply (q : FVec Ideal S1024x256 .f32) (k : Fin 128) : k0_pay12 q (ix2 r k)
    = unit (fun l => q (ix2 r ⟨128 + l.val, by omega⟩)) k * Ideal.ofBits .f32 0x3DB504F3#32 := by
  unfold unit k0_pay12
  pointwise []
theorem pay25_eq : k0_pay25 z (k0_pay23 z c0 c1 c2) c3 = k0_pay11 z c0 c1 c2 c3 := rfl
theorem pay26_eq : k0_pay26 z (k0_pay23 z c0 c1 c2) c3 = k0_pay12 (k0_pay10 z c0 c1 c2 c3) := rfl
theorem pay39_apply (k : Fin 128) : k0_pay39 z c0 c1 c2 c3 (ix2 r k)
    = unit (fun l => k0_pay10 z c0 c1 c2 c3 (ix2 r ⟨l.val, by omega⟩)) k := by
  simp only [← conv38]
  unfold unit k0_pay39
  generalize k0_pay38 z c0 c1 c2 c3 = q
  pointwise []
theorem pay42_apply (k : Fin 128) : k0_pay42 (k0_pay40 z c0 c1 c2 c3) (k0_pay41 z c0 c1 c2 c3) (ix2 r k)
    = unit (fun l => k0_pay10 z c0 c1 c2 c3 (ix2 r ⟨128 + l.val, by omega⟩)) k := by
  simp only [← conv38]
  unfold unit k0_pay42 k0_pay41 k0_pay40
  generalize k0_pay38 z c0 c1 c2 c3 = q
  pointwise []
theorem pay50_eq : k0_pay50 z c0 c1 c2 c3 = k0_pay39 z c0 c1 c2 c3 := rfl
theorem pay53_eq : k0_pay53 (k0_pay51 z c0 c1 c2 c3) (k0_pay52 z c0 c1 c2 c3) = k0_pay42 (k0_pay40 z c0 c1 c2 c3) (k0_pay41 z c0 c1 c2 c3) := rfl

end Convolution

end Cert.Proof.ProjRows

end
-- ==== Proof.ProjBuf.lean ====
/-
  A block of 1024 tokens: what the kernel reads of it, and its buffer of rows before the convolution, which holds the last
  eight rows of the block before (or zeros where a sequence starts) and then the block's own.
-/
module

public import proofs.«01_k».proof.Proof.ProjRows
public import Idealize.ShloMosaic.Lib.Pipeline.ValueKit

@[expose] public section

set_option maxRecDepth 16384

noncomputable section

namespace Cert.Proof.ProjBuf

open Cert.Kernel4Ideal Cert.Kernel4Ideal.Gen Cert.Proof.Spec Cert.Proof.ProjSpec Cert.Proof.ProjRows
open Idealize.ShloMosaic Idealize.ShloMosaic.TcCoe

attribute [local instance] Cert.Kernel4Ideal.Gen.facts

/-- An index of rank two by its coordinates. -/
theorem split2 {a b : Nat} (y : Shape.Idx ⟨2, ![a, b]⟩) : ∃ (r : Fin a) (k : Fin b), y = ix2 r k :=
  ⟨y 0, y 1, funext fun i => by match i with | ⟨0, _⟩ => rfl | ⟨1, _⟩ => rfl⟩
/-- And one of rank three. -/
theorem split3 {a b d : Nat} (y : Shape.Idx ⟨3, ![a, b, d]⟩) : ∃ (o : Fin a) (r : Fin b) (k : Fin d), y = ix3 o r k :=
  ⟨y 0, y 1, y 2, funext fun i => by match i with | ⟨0, _⟩ => rfl | ⟨1, _⟩ => rfl | ⟨2, _⟩ => rfl⟩

/-! ## What a block reads -/

/-- The block's inputs are those of tokens whose projections are `Y`, at positions with the tables `C` and `S`. -/
structure Reads (x0 : Vec Ideal S1024x1024 .f32) (x1 : Vec Ideal S1x1024 .f32) (x2 : Vec Ideal S1024x512 .bf16) (x3 : Vec Ideal S1024x1792 .bf16)
    (x4 : Vec Ideal S1024x1024 .bf16) (x5 : Vec Ideal S1024x128 .bf16) (x6 x7 : Vec Ideal S1024x128 .f32)
    (Y : Fin 1024 → Fin 6408 → EReal) (C S : Fin 1024 → Fin 32 → EReal) : Prop where
  q : ∀ (r : Fin 1024) (k : Fin 512), col (fun l => x0 (ix2 r l)) (fun l => x1 (ix2 0 l)) (fun l => x2 (ix2 l k)) = Y r (qcol k)
  w : ∀ (r : Fin 1024) (k : Fin 1792), col (fun l => x0 (ix2 r l)) (fun l => x1 (ix2 0 l)) (fun l => x3 (ix2 l k)) = Y r ⟨512 + k.val, by omega⟩
  t : ∀ (r : Fin 1024) (k : Fin 1024), col (fun l => x0 (ix2 r l)) (fun l => x1 (ix2 0 l)) (fun l => x4 (ix2 l k)) = Y r ⟨2312 + k.val, by omega⟩
  b : ∀ (r : Fin 1024) (k : Fin 128), col (fun l => x0 (ix2 r l)) (fun l => x1 (ix2 0 l)) (fun l => x5 (ix2 l k)) = if h : k.val < 8 then Y r ⟨2304 + k.val, by omega⟩ else 0
  c : ∀ (r : Fin 1024) (k : Fin 128), x6 (ix2 r k) = C r ⟨k.val % 32, by omega⟩
  s : ∀ (r : Fin 1024) (k : Fin 128), x7 (ix2 r k) = if k.val % 64 < 32 then -S r ⟨k.val % 32, by omega⟩ else S r ⟨k.val % 32, by omega⟩

/-- A load of columns. -/
theorem ld_cols {e : EltTy} {n p : Nat} (x : Vec Ideal ⟨2, ![1024, n]⟩ e) (o : Nat) (inb) (l : Fin 1024) (k : Fin p) (h : o + k.val < n) :
    View.ld x (Rect.unit ![0, o] ![1024, p] inb) (ix2 l k) = x (ix2 l ⟨o + k.val, h⟩) :=
  congrArg x (funext fun a => by
    match a with
    | ⟨0, _⟩ => exact Fin.ext (show 0 + 1 * l.val = l.val by omega)
    | ⟨1, _⟩ => exact Fin.ext (show o + 1 * k.val = o + k.val by omega))
/-- A load of one row's columns. -/
theorem ld_row {n p : Nat} (x : Vec Ideal ⟨2, ![4, n]⟩ .f32) (i : Fin 4) (o : Nat) (inb) (k : Fin p) (h : o + k.val < n) :
    View.ld x (Rect.unit ![i.val, o] ![1, p] inb) (ix2 0 k) = x (ix2 i ⟨o + k.val, h⟩) :=
  congrArg x (funext fun a => by
    match a with
    | ⟨0, _⟩ => exact Fin.ext (show i.val + 1 * 0 = i.val by omega)
    | ⟨1, _⟩ => exact Fin.ext (show o + 1 * k.val = o + k.val by omega))

section Groups

variable {x0 : Vec Ideal S1024x1024 .f32} {x1 : Vec Ideal S1x1024 .f32} {x2 : Vec Ideal S1024x512 .bf16} {x3 : Vec Ideal S1024x1792 .bf16}
  {x4 : Vec Ideal S1024x1024 .bf16} {x5 : Vec Ideal S1024x128 .bf16} {x6 x7 : Vec Ideal S1024x128 .f32}
  {Y : Fin 1024 → Fin 6408 → EReal} {C S : Fin 1024 → Fin 32 → EReal} (R : Reads x0 x1 x2 x3 x4 x5 x6 x7 Y C S)
include R

theorem Reads.colsQ (o : Nat) (inb) (r : Fin 1024) (k : Fin 256) (h : o + k.val < 512) :
    k0_pay13 (k0_pay3 x0 x1) (View.ld x2 (Rect.unit ![0, o] ![1024, 256] inb)) (ix2 r k) = Y r (qcol ⟨o + k.val, h⟩) := by
  rw [cols_apply, ← R.q]
  exact congrArg (col _ _) (funext fun l => ld_cols x2 o inb l k h)
theorem Reads.colsW (o : Nat) (inb) (r : Fin 1024) (k : Fin 256) (h : o + k.val < 1792) :
    k0_pay13 (k0_pay3 x0 x1) (View.ld x3 (Rect.unit ![0, o] ![1024, 256] inb)) (ix2 r k) = Y r ⟨512 + (o + k.val), by omega⟩ := by
  refine (cols_apply x0 x1 r _ k).trans ((congrArg (col _ _) (funext fun l => ld_cols x3 o inb l k h)).trans (R.w r ⟨o + k.val, h⟩))
theorem Reads.colsT (o : Nat) (inb) (r : Fin 1024) (k : Fin 256) (h : o + k.val < 1024) :
    k0_pay13 (k0_pay3 x0 x1) (View.ld x4 (Rect.unit ![0, o] ![1024, 256] inb)) (ix2 r k) = Y r ⟨2312 + (o + k.val), by omega⟩ := by
  refine (cols_apply x0 x1 r _ k).trans ((congrArg (col _ _) (funext fun l => ld_cols x4 o inb l k h)).trans (R.t r ⟨o + k.val, h⟩))

/-- The tables as the rotation reads them. -/
theorem Reads.c4 (r : Fin 1024) (k : Fin 128) : (k0_pay4 x6 : Vec Ideal S1024x128 .f32) (ix2 r k) = C r ⟨k.val % 32, by omega⟩ := by
  refine Eq.trans ?_ (R.c r k)
  pointwise [k0_pay4]
theorem Reads.s5 (r : Fin 1024) (k : Fin 128) : (k0_pay5 x7 : Vec Ideal S1024x128 .f32) (ix2 r k)
    = if k.val % 64 < 32 then -S r ⟨k.val % 32, by omega⟩ else S r ⟨k.val % 32, by omega⟩ := by
  refine Eq.trans ?_ (R.s r k)
  pointwise [k0_pay5]

end Groups

/-! ## The buffer -/

/-- The buffer's rows: eight of history, then the block's own. -/
def win (H : Fin 8 → Fin 1536 → EReal) (Y : Fin 1024 → Fin 6408 → EReal) (q : Fin 1032) (j : Fin 1536) : EReal :=
  if h : q.val < 8 then H ⟨q.val, h⟩ j else Y ⟨q.val - 8, by omega⟩ ⟨768 + j.val, by omega⟩

/-- A list of stores into the buffer. -/
abbrev Stores : Type := List (View.Piece (Elt Ideal) S1032x1536 .f32)

/-- The stores leave the history `H` in the first eight rows. -/
def Keeps (H : Fin 8 → Fin 1536 → EReal) (L : Stores) : Prop :=
  ∀ (q : Fin 1032) (j : Fin 1536) (h : q.val < 8), View.canon L (ix2 q j) = H ⟨q.val, h⟩ j

theorem keeps_cons {H : Fin 8 → Fin 1536 → EReal} {L : Stores} (o : Nat) (inb) (w) (k : Keeps H L) :
    Keeps H (⟨Rect.unit ![8, o] ![1024, 256] inb, w⟩ :: L) := fun q j h =>
  (View.canon_cons_of_not_mem _ L (fun hm => by
    obtain ⟨i, hi, he⟩ := (LoadRect.mem_set _).mp hm 0
    have he' : q.val = 8 + 1 * i := he
    omega)).trans (k q j h)
theorem keeps_base {H : Fin 8 → Fin 1536 → EReal} (inb) (w : Vec Ideal S8x1536 .f32) (k : ∀ (q : Fin 8) (j : Fin 1536), w (ix2 q j) = H q j) :
    Keeps H [⟨Rect.unit ![0, 0] ![8, 1536] inb, w⟩] := fun q j h => by
  have e : (ix2 q j : S1032x1536.Idx) = (Rect.unit ![0, 0] ![8, 1536] inb).emb (ix2 (⟨q.val, h⟩ : Fin 8) j) := funext fun a => by
    match a with
    | ⟨0, _⟩ => exact Fin.ext (show q.val = 0 + 1 * q.val by omega)
    | ⟨1, _⟩ => exact Fin.ext (show j.val = 0 + 1 * j.val by omega)
  rw [e]
  exact (View.canon_cons_emb _ _ _ _).trans (k _ _)

/-- The last store's own rows. -/
theorem hit (L : Stores) (o : Nat) (inb) (w : Vec Ideal S1024x256 .f32) (r : Fin 1024) (k : Fin 256) (h : o + k.val < 1536) :
    View.canon (⟨Rect.unit ![8, o] ![1024, 256] inb, w⟩ :: L : Stores) (ix2 ⟨8 + r.val, by omega⟩ ⟨o + k.val, h⟩) = w (ix2 r k) := by
  have e : (ix2 ⟨8 + r.val, by omega⟩ ⟨o + k.val, h⟩ : S1032x1536.Idx) = (Rect.unit ![8, o] ![1024, 256] inb).emb (ix2 r k) := funext fun a => by
    match a with
    | ⟨0, _⟩ => exact Fin.ext (show 8 + r.val = 8 + 1 * r.val by omega)
    | ⟨1, _⟩ => exact Fin.ext (show o + k.val = o + 1 * k.val by omega)
  rw [e]
  exact View.canon_cons_emb _ _ _ _

/-- The stores of one group after another, at a block's own row: the last whose columns the index meets gives the entry. -/
theorem next {Z : EReal} (L : Stores) (o : Nat) (inb) (w : Vec Ideal S1024x256 .f32) (r : Fin 1024) (k : Fin 1536) (hk : k.val < o + 256)
    (hw : ∀ k' : Fin 256, k.val = o + k'.val → w (ix2 r k') = Z) (hl : k.val < o → View.canon L (ix2 ⟨8 + r.val, by omega⟩ k) = Z) :
    View.canon (⟨Rect.unit ![8, o] ![1024, 256] inb, w⟩ :: L : Stores) (ix2 ⟨8 + r.val, by omega⟩ k) = Z := by
  by_cases h : k.val < o
  · refine (View.canon_cons_of_not_mem _ L (fun hm => ?_)).trans (hl h)
    obtain ⟨i, hi, he⟩ := (LoadRect.mem_set _).mp hm 1
    have he' : k.val = o + 1 * i := he
    omega
  · have e : k = ⟨o + (k.val - o), by omega⟩ := Fin.ext (by dsimp only; omega)
    refine Eq.trans ?_ (hw ⟨k.val - o, by omega⟩ (by dsimp only; omega))
    refine Eq.trans (congrArg (fun k => View.canon _ (ix2 _ k)) e) (hit L o inb w r ⟨k.val - o, by omega⟩ _)

/-- A group of the buffer's columns, over all its rows. -/
abbrev span (o : Nat) (inb : ∀ a, (![0, o] : Fin 2 → Nat) a + (![1032, 256] : Fin 2 → Nat) a ≤ S1032x1536.size a) : Rect S1032x1536 :=
  Rect.unit ![0, o] ![1032, 256] inb

/-- A group of the buffer's columns read back after its own store. -/
theorem read_group (H : Fin 8 → Fin 1536 → EReal) (Y : Fin 1024 → Fin 6408 → EReal) (L : Stores) (K : Keeps H L) (v : View sig .tc .vmem S1032x1536 .f32) (o : Nat) (inb)
    (inb' : ∀ a, (![0, o] : Fin 2 → Nat) a + (![1032, 256] : Fin 2 → Nat) a ≤ S1032x1536.size a)
    (w : Vec Ideal S1024x256 .f32) (ho : o + 256 ≤ 1536) (hw : ∀ (r : Fin 1024) (k : Fin 256), w (ix2 r k) = Y r ⟨768 + (o + k.val), by omega⟩) (q : Fin 1032) (k : Fin 256) :
    (v.readCov (Val := Elt Ideal) (⟨Rect.unit ![8, o] ![1024, 256] inb, w⟩ :: L : Stores) (span o inb').toLoadRect : Vec Ideal S1032x256 .f32) (ix2 q k) = win H Y q ⟨o + k.val, by omega⟩ := by
  have e : (span o inb').toLoadRect.idx (ix2 q k) = ix2 q ⟨o + k.val, by omega⟩ := funext fun a => by
    match a with
    | ⟨0, _⟩ => exact Fin.ext (show 0 + 1 * q.val = q.val by omega)
    | ⟨1, _⟩ => exact Fin.ext (show o + 1 * k.val = o + k.val by omega)
  rw [View.readCov_eq_canon']
  show View.canon _ ((span o inb').toLoadRect.idx (ix2 q k)) = _
  rw [e]
  unfold win
  by_cases h : q.val < 8
  · rw [dif_pos h]
    exact keeps_cons o inb w K q _ h
  · rw [dif_neg h]
    have eq : q = ⟨8 + (q.val - 8), by omega⟩ := Fin.ext (by dsimp only; omega)
    refine Eq.trans ?_ (hw ⟨q.val - 8, by omega⟩ k)
    refine Eq.trans (congrArg (fun q => View.canon _ (ix2 q _)) eq) (hit L o inb w ⟨q.val - 8, by omega⟩ k _)

/-- A group of the convolution over such a read. -/
theorem group_apply (H : Fin 8 → Fin 1536 → EReal) (Y : Fin 1024 → Fin 6408 → EReal) (z : Vec Ideal S1032x256 .f32) (x8 : Vec Ideal S4x1536 .f32) (o : Nat) (i0 i1 i2 i3) (ho : o + 256 ≤ 1536)
    (hz : ∀ (q : Fin 1032) (k : Fin 256), z (ix2 q k) = win H Y q ⟨o + k.val, by omega⟩) (r : Fin 1024) (k : Fin 256) :
    k0_pay10 z (View.ld x8 (Rect.unit ![0, o] ![1, 256] i0)) (View.ld x8 (Rect.unit ![1, o] ![1, 256] i1)) (View.ld x8 (Rect.unit ![2, o] ![1, 256] i2)) (View.ld x8 (Rect.unit ![3, o] ![1, 256] i3)) (ix2 r k)
      = act (fun i j => win H Y ⟨r.val + 5 + i.val, by omega⟩ j) (fun i j => x8 (ix2 i j)) ⟨o + k.val, by omega⟩ := by
  rw [conv_apply]
  unfold act
  refine congrArg silu (congrArg₂ taps (funext fun i => hz _ k) (funext fun i => ?_))
  match i with
  | ⟨0, _⟩ => exact ld_row x8 0 o i0 k (by omega)
  | ⟨1, _⟩ => exact ld_row x8 1 o i1 k (by omega)
  | ⟨2, _⟩ => exact ld_row x8 2 o i2 k (by omega)
  | ⟨3, _⟩ => exact ld_row x8 3 o i3 k (by omega)

/-- No history: a sequence starts. -/
def zeroHist : Fin 8 → Fin 1536 → EReal := fun _ _ => 0
/-- The last rows a block left in the buffer. -/
def lastHist (xs : Vec Ideal S1032x1536 .f32) : Fin 8 → Fin 1536 → EReal := fun q j => xs (ix2 ⟨1024 + q.val, by omega⟩ j)

theorem zero_hist (q : Fin 8) (j : Fin 1536) : (k0_pay1 (F := Ideal) : Vec Ideal S8x1536 .f32) (ix2 q j) = zeroHist q j := by
  unfold zeroHist
  pointwise [k0_pay1]
theorem last_hist (xs : Vec Ideal S1032x1536 .f32) (inb) (q : Fin 8) (j : Fin 1536) :
    k0_pay2 (View.ld xs (Rect.unit ![1024, 0] ![8, 1536] inb)) (ix2 q j) = lastHist xs q j := by
  have e : View.ld xs (Rect.unit ![1024, 0] ![8, 1536] inb) (ix2 q j) = lastHist xs q j :=
    congrArg xs (funext fun a => by
      match a with
      | ⟨0, _⟩ => exact Fin.ext (show 1024 + 1 * q.val = 1024 + q.val by omega)
      | ⟨1, _⟩ => exact Fin.ext (show 0 + 1 * j.val = j.val by omega))
  refine Eq.trans ?_ e
  generalize (View.ld xs (Rect.unit ![1024, 0] ![8, 1536] inb) : Vec Ideal S8x1536 .f32) = v
  pointwise [k0_pay2]

end Cert.Proof.ProjBuf

end
-- ==== Proof.ProjOutA.lean ====
/-
  What a block leaves in its outputs and in its buffer, where a sequence starts: the buffer's history is zero.
-/
module

public import proofs.«01_k».proof.Proof.ProjBuf
public import proofs.«01_k».proof.Proof.Gen.Kernel4Ideal.Value
public import Idealize.ShloMosaic.Lib.Pipeline.ReadBack

@[expose] public section

set_option maxRecDepth 16384

noncomputable section

namespace Cert.Proof.ProjOutA

open Cert.Kernel4Ideal Cert.Kernel4Ideal.Gen Cert.Proof.Spec Cert.Proof.ProjSpec Cert.Proof.ProjRows Cert.Proof.ProjBuf
open Idealize.ShloMosaic Idealize.ShloMosaic.TcCoe

attribute [local instance] Cert.Kernel4Ideal.Gen.facts

variable {c : Dev nD} {i : grid0.Coords} {arg1 : Memref sig .tc .vmem S1024x1024 .f32} {harg1 : arg1.IsWhole} {arg2 : Memref sig .tc .vmem S1x1024 .f32} {harg2 : arg2.IsWhole} {arg3 : Memref sig .tc .vmem S1024x512 .bf16} {harg3 : arg3.IsWhole} {arg4 : Memref sig .tc .vmem S1024x1792 .bf16} {harg4 : arg4.IsWhole} {arg5 : Memref sig .tc .vmem S1024x1024 .bf16} {harg5 : arg5.IsWhole} {arg6 : Memref sig .tc .vmem S1024x128 .bf16} {harg6 : arg6.IsWhole} {arg7 : Memref sig .tc .vmem S1024x128 .f32} {harg7 : arg7.IsWhole} {arg8 : Memref sig .tc .vmem S1024x128 .f32} {harg8 : arg8.IsWhole} {arg9 : Memref sig .tc .vmem S4x1536 .f32} {harg9 : arg9.IsWhole} {arg10 : Memref sig .tc .vmem S1024x512 .bf16} {harg10 : arg10.IsWhole} {arg11 : Memref sig .tc .vmem S1024x128 .f32} {harg11 : arg11.IsWhole} {arg12 : Memref sig .tc .vmem S1024x128 .f32} {harg12 : arg12.IsWhole} {arg13 : Memref sig .tc .vmem S1024x512 .f32} {harg13 : arg13.IsWhole} {arg14 : Memref sig .tc .vmem S1024x512 .bf16} {harg14 : arg14.IsWhole} {arg15 : Memref sig .tc .vmem S1024x128 .f32} {harg15 : arg15.IsWhole} {arg16 : Memref sig .tc .vmem S1024x512 .f32} {harg16 : arg16.IsWhole} {arg17 : Memref sig .tc .vmem S1024x512 .f32} {harg17 : arg17.IsWhole} {arg18 : Memref sig .tc .vmem S1024x512 .f32} {harg18 : arg18.IsWhole} {arg19 : Memref sig .tc .vmem S1x8x1536 .f32} {harg19 : arg19.IsWhole} {arg20 : Memref sig .tc .vmem S1032x1536 .f32} {harg20 : arg20.IsWhole}
  {hc0 : cond0_0 i} {hc1 : ¬cond0_1 i}
  {x0 : Vec Ideal S1024x1024 .f32} {x1 : Vec Ideal S1x1024 .f32} {x2 : Vec Ideal S1024x512 .bf16} {x3 : Vec Ideal S1024x1792 .bf16} {x4 : Vec Ideal S1024x1024 .bf16} {x5 : Vec Ideal S1024x128 .bf16} {x6 x7 : Vec Ideal S1024x128 .f32} {x8 : Vec Ideal S4x1536 .f32}
  {Y : Fin 1024 → Fin 6408 → EReal} {C S : Fin 1024 → Fin 32 → EReal} (R : Reads x0 x1 x2 x3 x4 x5 x6 x7 Y C S) (r : Fin 1024)
include R

/-- The plain values. -/
theorem va (k : Fin 128) : (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 (ix2 r k) : EReal)
    = Y r ⟨640 + k.val, by omega⟩ := by
  frame_out
  refine (pay45_apply _ r _ k).trans ((R.colsW 0 _ r _ (by dsimp only; omega)).trans (congrArg (Y r) (Fin.ext ?_)))
  dsimp only; omega

/-- The rotated keys. -/
theorem ka (k : Fin 128) : (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 (ix2 r k) : EReal)
    = kaE (Y r) (C r) (S r) k := by
  frame_out
  refine (pay44_apply _ _ _ _ r k (C r) (S r) (R.c4 r) (R.s5 r)).trans (congrArg (rope · (C r) (S r) k) (funext fun l => ?_))
  refine (R.colsW 0 _ r _ (by dsimp only; omega)).trans (congrArg (Y r) (Fin.ext ?_))
  dsimp only; omega

/-- The gates' columns. -/
theorem ba (k : Fin 128) : (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 (ix2 r k) : EReal)
    = if h : k.val < 8 then Y r ⟨2304 + k.val, by omega⟩ else 0 := by
  frame_out
  exact (gates_apply x0 x1 r x5 k).trans (R.b r k)

/-- The gate of the output. -/
theorem z (k : Fin 512) : (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 (ix2 r k) : EReal)
    = Y r ⟨2312 + k.val, by omega⟩ := by
  frame_out
  canon_tiles x h
  · obtain ⟨r', k', rfl⟩ := split2 x
    obtain rfl : r = r' := Fin.ext h0
    have h1' : k.val = 256 + k'.val := h1
    refine Eq.trans (congrFun (pay60_eq _ _) _) ((R.colsT 256 _ r k' (by omega)).trans (congrArg (Y r) (Fin.ext ?_)))
    dsimp only; omega
  · obtain ⟨r', k', rfl⟩ := split2 x
    obtain rfl : r = r' := Fin.ext h0
    have h1' : k.val = k'.val := h1
    refine Eq.trans (congrFun (pay54_eq _ _) _) ((R.colsT 0 _ r k' (by omega)).trans (congrArg (Y r) (Fin.ext ?_)))
    dsimp only; omega

/-- The queries of the memory. -/
theorem qc (k : Fin 512) : (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 (ix2 r k) : EReal)
    = Y r ⟨2824 + k.val, by omega⟩ := by
  frame_out
  canon_tiles x h
  · obtain ⟨r', k', rfl⟩ := split2 x
    obtain rfl : r = r' := Fin.ext h0
    have h1' : k.val = 256 + k'.val := h1
    refine Eq.trans (pay67_apply _ r _ k') ((R.colsT 768 _ r k' (by omega)).trans (congrArg (Y r) (Fin.ext ?_)))
    dsimp only; omega
  · obtain ⟨r', k', rfl⟩ := split2 x
    obtain rfl : r = r' := Fin.ext h0
    have h1' : k.val = k'.val := h1
    refine Eq.trans (pay66_apply _ r _ k') ((R.colsT 512 _ r k' (by omega)).trans (congrArg (Y r) (Fin.ext ?_)))
    dsimp only; omega

/-- The rotated queries. -/
theorem qa (k : Fin 512) : (out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 (ix2 r k) : EReal)
    = qaE (Y r) (C r) (S r) k := by
  frame_out
  canon_tiles x h
  · obtain ⟨r', k', rfl⟩ := split2 x
    obtain rfl : r = r' := Fin.ext h0
    have h1' : k.val = 384 + k'.val := h1
    have e1 : (⟨k.val % 128, Nat.mod_lt _ (by omega)⟩ : Fin 128) = k' := Fin.ext (by dsimp only; omega)
    unfold qaE
    rw [e1]
    refine Eq.trans ((congrFun (pay34_eq _ _ _ _) _).trans (pay19_apply _ _ _ _ r k' (C r) (S r) (R.c4 r) (R.s5 r))) (congrArg (rope · (C r) (S r) k' * _) (funext fun l => ?_))
    refine (R.colsQ 256 _ r _ (by dsimp only; omega)).trans (congrArg (fun j => Y r (qcol j)) (Fin.ext ?_))
    dsimp only; omega
  · obtain ⟨r', k', rfl⟩ := split2 x
    obtain rfl : r = r' := Fin.ext h0
    have h1' : k.val = 256 + k'.val := h1
    have e1 : (⟨k.val % 128, Nat.mod_lt _ (by omega)⟩ : Fin 128) = k' := Fin.ext (by dsimp only; omega)
    unfold qaE
    rw [e1]
    refine Eq.trans ((congrFun (pay33_eq _ _ _ _) _).trans (pay14_apply _ _ _ _ r k' (C r) (S r) (R.c4 r) (R.s5 r))) (congrArg (rope · (C r) (S r) k' * _) (funext fun l => ?_))
    refine (R.colsQ 256 _ r _ (by dsimp only; omega)).trans (congrArg (fun j => Y r (qcol j)) (Fin.ext ?_))
    dsimp only; omega
  · obtain ⟨r', k', rfl⟩ := split2 x
    obtain rfl : r = r' := Fin.ext h0
    have h1' : k.val = 128 + k'.val := h1
    have e1 : (⟨k.val % 128, Nat.mod_lt _ (by omega)⟩ : Fin 128) = k' := Fin.ext (by dsimp only; omega)
    unfold qaE
    rw [e1]
    refine Eq.trans (pay19_apply _ _ _ _ r k' (C r) (S r) (R.c4 r) (R.s5 r)) (congrArg (rope · (C r) (S r) k' * _) (funext fun l => ?_))
    refine (R.colsQ 0 _ r _ (by dsimp only; omega)).trans (congrArg (fun j => Y r (qcol j)) (Fin.ext ?_))
    dsimp only; omega
  · obtain ⟨r', k', rfl⟩ := split2 x
    obtain rfl : r = r' := Fin.ext h0
    have h1' : k.val = k'.val := h1
    have e1 : (⟨k.val % 128, Nat.mod_lt _ (by omega)⟩ : Fin 128) = k' := Fin.ext (by dsimp only; omega)
    unfold qaE
    rw [e1]
    refine Eq.trans (pay14_apply _ _ _ _ r k' (C r) (S r) (R.c4 r) (R.s5 r)) (congrArg (rope · (C r) (S r) k' * _) (funext fun l => ?_))
    refine (R.colsQ 0 _ r _ (by dsimp only; omega)).trans (congrArg (fun j => Y r (qcol j)) (Fin.ext ?_))
    dsimp only; omega

/-- The convolution's queries. -/
theorem qn (k : Fin 512) : (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 (ix2 r k) : EReal)
    = qnE (fun i j => win zeroHist Y ⟨r.val + 5 + i.val, by omega⟩ j) (fun i j => x8 (ix2 i j)) k := by
  frame_out
  canon_tiles x h
  · obtain ⟨r', k', rfl⟩ := split2 x
    obtain rfl : r = r' := Fin.ext h0
    have h1' : k.val = 384 + k'.val := h1
    have e1 : (⟨k.val % 128, Nat.mod_lt _ (by omega)⟩ : Fin 128) = k' := Fin.ext (by dsimp only; omega)
    unfold qnE
    rw [e1]
    refine Eq.trans ((congrFun (pay26_eq _ _ _ _ _) _).trans (pay12_apply r _ k')) (congrArg (unit · k' * _) (funext fun l => ?_))
    refine (group_apply zeroHist Y _ x8 256 _ _ _ _ (by omega) (read_group zeroHist Y _ (keeps_cons 0 _ _ (keeps_base _ _ zero_hist)) _ 256 _ _ _ (by omega) (fun r k => ((congrFun (pay21_eq x0 x1 _) (ix2 r k)).trans (pay7_apply x0 x1 r _ k)).trans ((R.colsW 512 _ r k (by omega)).trans (congrArg (Y r) (Fin.ext (by dsimp only; omega)))))) r _).trans (congrArg (act _ _) (Fin.ext ?_))
    dsimp only; omega
  · obtain ⟨r', k', rfl⟩ := split2 x
    obtain rfl : r = r' := Fin.ext h0
    have h1' : k.val = 256 + k'.val := h1
    have e1 : (⟨k.val % 128, Nat.mod_lt _ (by omega)⟩ : Fin 128) = k' := Fin.ext (by dsimp only; omega)
    unfold qnE
    rw [e1]
    refine Eq.trans ((congrFun (pay25_eq _ _ _ _ _) _).trans (pay11_apply _ _ _ _ _ r k')) (congrArg (unit · k' * _) (funext fun l => ?_))
    refine (group_apply zeroHist Y _ x8 256 _ _ _ _ (by omega) (read_group zeroHist Y _ (keeps_cons 0 _ _ (keeps_base _ _ zero_hist)) _ 256 _ _ _ (by omega) (fun r k => ((congrFun (pay21_eq x0 x1 _) (ix2 r k)).trans (pay7_apply x0 x1 r _ k)).trans ((R.colsW 512 _ r k (by omega)).trans (congrArg (Y r) (Fin.ext (by dsimp only; omega)))))) r _).trans (congrArg (act _ _) (Fin.ext ?_))
    dsimp only; omega
  · obtain ⟨r', k', rfl⟩ := split2 x
    obtain rfl : r = r' := Fin.ext h0
    have h1' : k.val = 128 + k'.val := h1
    have e1 : (⟨k.val % 128, Nat.mod_lt _ (by omega)⟩ : Fin 128) = k' := Fin.ext (by dsimp only; omega)
    unfold qnE
    rw [e1]
    refine Eq.trans (pay12_apply r _ k') (congrArg (unit · k' * _) (funext fun l => ?_))
    refine (group_apply zeroHist Y _ x8 0 _ _ _ _ (by omega) (read_group zeroHist Y _ (keeps_base _ _ zero_hist) _ 0 _ _ _ (by omega) (fun r k => (pay7_apply x0 x1 r _ k).trans ((R.colsW 256 _ r k (by omega)).trans (congrArg (Y r) (Fin.ext (by dsimp only; omega)))))) r _).trans (congrArg (act _ _) (Fin.ext ?_))
    dsimp only; omega
  · obtain ⟨r', k', rfl⟩ := split2 x
    obtain rfl : r = r' := Fin.ext h0
    have h1' : k.val = k'.val := h1
    have e1 : (⟨k.val % 128, Nat.mod_lt _ (by omega)⟩ : Fin 128) = k' := Fin.ext (by dsimp only; omega)
    unfold qnE
    rw [e1]
    refine Eq.trans (pay11_apply _ _ _ _ _ r k') (congrArg (unit · k' * _) (funext fun l => ?_))
    refine (group_apply zeroHist Y _ x8 0 _ _ _ _ (by omega) (read_group zeroHist Y _ (keeps_base _ _ zero_hist) _ 0 _ _ _ (by omega) (fun r k => (pay7_apply x0 x1 r _ k).trans ((R.colsW 256 _ r k (by omega)).trans (congrArg (Y r) (Fin.ext (by dsimp only; omega)))))) r _).trans (congrArg (act _ _) (Fin.ext ?_))
    dsimp only; omega

/-- Its keys. -/
theorem kn (k : Fin 512) : (out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 (ix2 r k) : EReal)
    = knE (fun i j => win zeroHist Y ⟨r.val + 5 + i.val, by omega⟩ j) (fun i j => x8 (ix2 i j)) k := by
  frame_out
  canon_tiles x h
  · obtain ⟨r', k', rfl⟩ := split2 x
    obtain rfl : r = r' := Fin.ext h0
    have h1' : k.val = 384 + k'.val := h1
    have e1 : (⟨k.val % 128, Nat.mod_lt _ (by omega)⟩ : Fin 128) = k' := Fin.ext (by dsimp only; omega)
    unfold knE
    rw [e1]
    refine Eq.trans ((congrFun (pay53_eq _ _ _ _ _) _).trans (pay42_apply _ _ _ _ _ r k')) (congrArg (unit · k') (funext fun l => ?_))
    refine (group_apply zeroHist Y _ x8 768 _ _ _ _ (by omega) (read_group zeroHist Y _ (keeps_cons 512 _ _ (keeps_cons 256 _ _ (keeps_cons 0 _ _ (keeps_base _ _ zero_hist)))) _ 768 _ _ _ (by omega) (fun r k => ((congrFun (pay47_eq x0 x1 _) (ix2 r k)).trans (pay7_apply x0 x1 r _ k)).trans ((R.colsW 1024 _ r k (by omega)).trans (congrArg (Y r) (Fin.ext (by dsimp only; omega)))))) r _).trans (congrArg (act _ _) (Fin.ext ?_))
    dsimp only; omega
  · obtain ⟨r', k', rfl⟩ := split2 x
    obtain rfl : r = r' := Fin.ext h0
    have h1' : k.val = 256 + k'.val := h1
    have e1 : (⟨k.val % 128, Nat.mod_lt _ (by omega)⟩ : Fin 128) = k' := Fin.ext (by dsimp only; omega)
    unfold knE
    rw [e1]
    refine Eq.trans ((congrFun (pay50_eq _ _ _ _ _) _).trans (pay39_apply _ _ _ _ _ r k')) (congrArg (unit · k') (funext fun l => ?_))
    refine (group_apply zeroHist Y _ x8 768 _ _ _ _ (by omega) (read_group zeroHist Y _ (keeps_cons 512 _ _ (keeps_cons 256 _ _ (keeps_cons 0 _ _ (keeps_base _ _ zero_hist)))) _ 768 _ _ _ (by omega) (fun r k => ((congrFun (pay47_eq x0 x1 _) (ix2 r k)).trans (pay7_apply x0 x1 r _ k)).trans ((R.colsW 1024 _ r k (by omega)).trans (congrArg (Y r) (Fin.ext (by dsimp only; omega)))))) r _).trans (congrArg (act _ _) (Fin.ext ?_))
    dsimp only; omega
  · obtain ⟨r', k', rfl⟩ := split2 x
    obtain rfl : r = r' := Fin.ext h0
    have h1' : k.val = 128 + k'.val := h1
    have e1 : (⟨k.val % 128, Nat.mod_lt _ (by omega)⟩ : Fin 128) = k' := Fin.ext (by dsimp only; omega)
    unfold knE
    rw [e1]
    refine Eq.trans (pay42_apply _ _ _ _ _ r k') (congrArg (unit · k') (funext fun l => ?_))
    refine (group_apply zeroHist Y _ x8 512 _ _ _ _ (by omega) (read_group zeroHist Y _ (keeps_cons 256 _ _ (keeps_cons 0 _ _ (keeps_base _ _ zero_hist))) _ 512 _ _ _ (by omega) (fun r k => ((congrFun (pay36_eq x0 x1 _) (ix2 r k)).trans (pay7_apply x0 x1 r _ k)).trans ((R.colsW 768 _ r k (by omega)).trans (congrArg (Y r) (Fin.ext (by dsimp only; omega)))))) r _).trans (congrArg (act _ _) (Fin.ext ?_))
    dsimp only; omega
  · obtain ⟨r', k', rfl⟩ := split2 x
    obtain rfl : r = r' := Fin.ext h0
    have h1' : k.val = k'.val := h1
    have e1 : (⟨k.val % 128, Nat.mod_lt _ (by omega)⟩ : Fin 128) = k' := Fin.ext (by dsimp only; omega)
    unfold knE
    rw [e1]
    refine Eq.trans (pay39_apply _ _ _ _ _ r k') (congrArg (unit · k') (funext fun l => ?_))
    refine (group_apply zeroHist Y _ x8 512 _ _ _ _ (by omega) (read_group zeroHist Y _ (keeps_cons 256 _ _ (keeps_cons 0 _ _ (keeps_base _ _ zero_hist))) _ 512 _ _ _ (by omega) (fun r k => ((congrFun (pay36_eq x0 x1 _) (ix2 r k)).trans (pay7_apply x0 x1 r _ k)).trans ((R.colsW 768 _ r k (by omega)).trans (congrArg (Y r) (Fin.ext (by dsimp only; omega)))))) r _).trans (congrArg (act _ _) (Fin.ext ?_))
    dsimp only; omega

/-- Its values. -/
theorem vv (k : Fin 512) : (out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 (ix2 r k) : EReal)
    = vvE (fun i j => win zeroHist Y ⟨r.val + 5 + i.val, by omega⟩ j) (fun i j => x8 (ix2 i j)) k := by
  frame_out
  canon_tiles x h
  · obtain ⟨r', k', rfl⟩ := split2 x
    obtain rfl : r = r' := Fin.ext h0
    have h1' : k.val = 256 + k'.val := h1
    unfold vvE
    refine Eq.trans (congrFun (conv65 _ _ _ _ _) _) ((group_apply zeroHist Y _ x8 1280 _ _ _ _ (by omega) (read_group zeroHist Y _ (keeps_cons 1024 _ _ (keeps_cons 768 _ _ (keeps_cons 512 _ _ (keeps_cons 256 _ _ (keeps_cons 0 _ _ (keeps_base _ _ zero_hist)))))) _ 1280 _ _ _ (by omega) (fun r k => ((congrFun (pay62_eq x0 x1 _) (ix2 r k)).trans (pay7_apply x0 x1 r _ k)).trans ((R.colsW 1536 _ r k (by omega)).trans (congrArg (Y r) (Fin.ext (by dsimp only; omega)))))) r k').trans (congrArg (act _ _) (Fin.ext ?_)))
    dsimp only; omega
  · obtain ⟨r', k', rfl⟩ := split2 x
    obtain rfl : r = r' := Fin.ext h0
    have h1' : k.val = k'.val := h1
    unfold vvE
    refine Eq.trans (congrFun (conv59 _ _ _ _ _) _) ((group_apply zeroHist Y _ x8 1024 _ _ _ _ (by omega) (read_group zeroHist Y _ (keeps_cons 768 _ _ (keeps_cons 512 _ _ (keeps_cons 256 _ _ (keeps_cons 0 _ _ (keeps_base _ _ zero_hist))))) _ 1024 _ _ _ (by omega) (fun r k => ((congrFun (pay56_eq x0 x1 _) (ix2 r k)).trans (pay7_apply x0 x1 r _ k)).trans ((R.colsW 1280 _ r k (by omega)).trans (congrArg (Y r) (Fin.ext (by dsimp only; omega)))))) r k').trans (congrArg (act _ _) (Fin.ext ?_)))
    dsimp only; omega

/-- The block's last eight rows before the convolution. -/
theorem tail (o : Fin 1) (s : Fin 8) (k : Fin 1536) : (out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 (ix3 o s k) : EReal)
    = Y ⟨1016 + s.val, by omega⟩ ⟨768 + k.val, by omega⟩ := by
  frame_out
  canon_tiles x h
  · obtain ⟨o', s', k', rfl⟩ := split3 x
    obtain rfl : s = s' := Fin.ext h1
    have h2' : k.val = 1280 + k'.val := h2
    refine Eq.trans ((congrFun (pay63_eq _ _) _).trans (pay22_apply _ _ o' s k')) ((R.colsW 1536 _ _ k' (by omega)).trans (congrArg (Y _) (Fin.ext ?_)))
    dsimp only; omega
  · obtain ⟨o', s', k', rfl⟩ := split3 x
    obtain rfl : s = s' := Fin.ext h1
    have h2' : k.val = 1024 + k'.val := h2
    refine Eq.trans ((congrFun (pay57_eq _ _) _).trans (pay22_apply _ _ o' s k')) ((R.colsW 1280 _ _ k' (by omega)).trans (congrArg (Y _) (Fin.ext ?_)))
    dsimp only; omega
  · obtain ⟨o', s', k', rfl⟩ := split3 x
    obtain rfl : s = s' := Fin.ext h1
    have h2' : k.val = 768 + k'.val := h2
    refine Eq.trans ((congrFun (pay48_eq _ _) _).trans (pay22_apply _ _ o' s k')) ((R.colsW 1024 _ _ k' (by omega)).trans (congrArg (Y _) (Fin.ext ?_)))
    dsimp only; omega
  · obtain ⟨o', s', k', rfl⟩ := split3 x
    obtain rfl : s = s' := Fin.ext h1
    have h2' : k.val = 512 + k'.val := h2
    refine Eq.trans ((congrFun (pay37_eq _ _) _).trans (pay22_apply _ _ o' s k')) ((R.colsW 768 _ _ k' (by omega)).trans (congrArg (Y _) (Fin.ext ?_)))
    dsimp only; omega
  · obtain ⟨o', s', k', rfl⟩ := split3 x
    obtain rfl : s = s' := Fin.ext h1
    have h2' : k.val = 256 + k'.val := h2
    refine Eq.trans (pay22_apply _ _ o' s k') ((R.colsW 512 _ _ k' (by omega)).trans (congrArg (Y _) (Fin.ext ?_)))
    dsimp only; omega
  · obtain ⟨o', s', k', rfl⟩ := split3 x
    obtain rfl : s = s' := Fin.ext h1
    have h2' : k.val = k'.val := h2
    refine Eq.trans ((congrFun (pay9_eq _ _ _) _).trans (pay22_apply _ _ o' s k')) ((R.colsW 256 _ _ k' (by omega)).trans (congrArg (Y _) (Fin.ext ?_)))
    dsimp only; omega

/-- The buffer's own rows. -/
theorem buf (k : Fin 1536) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 (ix2 ⟨8 + r.val, by omega⟩ k) = Y r ⟨768 + k.val, by omega⟩ := by
  frame_out
  refine next _ 1280 _ _ r k (by omega) (fun k' e => ((congrFun (pay62_eq x0 x1 _) (ix2 r k')).trans (pay7_apply x0 x1 r _ k')).trans ((R.colsW 1536 _ r k' (by omega)).trans (congrArg (Y r) (Fin.ext (by dsimp only; omega))))) fun h => ?_
  refine next _ 1024 _ _ r k (by omega) (fun k' e => ((congrFun (pay56_eq x0 x1 _) (ix2 r k')).trans (pay7_apply x0 x1 r _ k')).trans ((R.colsW 1280 _ r k' (by omega)).trans (congrArg (Y r) (Fin.ext (by dsimp only; omega))))) fun h => ?_
  refine next _ 768 _ _ r k (by omega) (fun k' e => ((congrFun (pay47_eq x0 x1 _) (ix2 r k')).trans (pay7_apply x0 x1 r _ k')).trans ((R.colsW 1024 _ r k' (by omega)).trans (congrArg (Y r) (Fin.ext (by dsimp only; omega))))) fun h => ?_
  refine next _ 512 _ _ r k (by omega) (fun k' e => ((congrFun (pay36_eq x0 x1 _) (ix2 r k')).trans (pay7_apply x0 x1 r _ k')).trans ((R.colsW 768 _ r k' (by omega)).trans (congrArg (Y r) (Fin.ext (by dsimp only; omega))))) fun h => ?_
  refine next _ 256 _ _ r k (by omega) (fun k' e => ((congrFun (pay21_eq x0 x1 _) (ix2 r k')).trans (pay7_apply x0 x1 r _ k')).trans ((R.colsW 512 _ r k' (by omega)).trans (congrArg (Y r) (Fin.ext (by dsimp only; omega))))) fun h => ?_
  refine next _ 0 _ _ r k (by omega) (fun k' e => (pay7_apply x0 x1 r _ k').trans ((R.colsW 256 _ r k' (by omega)).trans (congrArg (Y r) (Fin.ext (by dsimp only; omega))))) fun h => ?_
  exact absurd h (Nat.not_lt_zero _)

end Cert.Proof.ProjOutA

end
-- ==== Proof.ProjOutB.lean ====
/-
  What a block leaves in its outputs and in its buffer, after the first of a sequence: the buffer's history is the last rows of the block before.
-/
module

public import proofs.«01_k».proof.Proof.ProjBuf
public import proofs.«01_k».proof.Proof.Gen.Kernel4Ideal.Value
public import Idealize.ShloMosaic.Lib.Pipeline.ReadBack

@[expose] public section

set_option maxRecDepth 16384

noncomputable section

namespace Cert.Proof.ProjOutB

open Cert.Kernel4Ideal Cert.Kernel4Ideal.Gen Cert.Proof.Spec Cert.Proof.ProjSpec Cert.Proof.ProjRows Cert.Proof.ProjBuf
open Idealize.ShloMosaic Idealize.ShloMosaic.TcCoe

attribute [local instance] Cert.Kernel4Ideal.Gen.facts

variable {c : Dev nD} {i : grid0.Coords} {arg1 : Memref sig .tc .vmem S1024x1024 .f32} {harg1 : arg1.IsWhole} {arg2 : Memref sig .tc .vmem S1x1024 .f32} {harg2 : arg2.IsWhole} {arg3 : Memref sig .tc .vmem S1024x512 .bf16} {harg3 : arg3.IsWhole} {arg4 : Memref sig .tc .vmem S1024x1792 .bf16} {harg4 : arg4.IsWhole} {arg5 : Memref sig .tc .vmem S1024x1024 .bf16} {harg5 : arg5.IsWhole} {arg6 : Memref sig .tc .vmem S1024x128 .bf16} {harg6 : arg6.IsWhole} {arg7 : Memref sig .tc .vmem S1024x128 .f32} {harg7 : arg7.IsWhole} {arg8 : Memref sig .tc .vmem S1024x128 .f32} {harg8 : arg8.IsWhole} {arg9 : Memref sig .tc .vmem S4x1536 .f32} {harg9 : arg9.IsWhole} {arg10 : Memref sig .tc .vmem S1024x512 .bf16} {harg10 : arg10.IsWhole} {arg11 : Memref sig .tc .vmem S1024x128 .f32} {harg11 : arg11.IsWhole} {arg12 : Memref sig .tc .vmem S1024x128 .f32} {harg12 : arg12.IsWhole} {arg13 : Memref sig .tc .vmem S1024x512 .f32} {harg13 : arg13.IsWhole} {arg14 : Memref sig .tc .vmem S1024x512 .bf16} {harg14 : arg14.IsWhole} {arg15 : Memref sig .tc .vmem S1024x128 .f32} {harg15 : arg15.IsWhole} {arg16 : Memref sig .tc .vmem S1024x512 .f32} {harg16 : arg16.IsWhole} {arg17 : Memref sig .tc .vmem S1024x512 .f32} {harg17 : arg17.IsWhole} {arg18 : Memref sig .tc .vmem S1024x512 .f32} {harg18 : arg18.IsWhole} {arg19 : Memref sig .tc .vmem S1x8x1536 .f32} {harg19 : arg19.IsWhole} {arg20 : Memref sig .tc .vmem S1032x1536 .f32} {harg20 : arg20.IsWhole}
  {hc0 : ¬cond0_0 i} {hc1 : cond0_1 i}
  {x0 : Vec Ideal S1024x1024 .f32} {x1 : Vec Ideal S1x1024 .f32} {x2 : Vec Ideal S1024x512 .bf16} {x3 : Vec Ideal S1024x1792 .bf16} {x4 : Vec Ideal S1024x1024 .bf16} {x5 : Vec Ideal S1024x128 .bf16} {x6 x7 : Vec Ideal S1024x128 .f32} {x8 : Vec Ideal S4x1536 .f32} {xs0 : Vec Ideal S1032x1536 .f32}
  {Y : Fin 1024 → Fin 6408 → EReal} {C S : Fin 1024 → Fin 32 → EReal} (R : Reads x0 x1 x2 x3 x4 x5 x6 x7 Y C S) (r : Fin 1024)
include R

/-- The plain values. -/
theorem va (k : Fin 128) : (out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 (ix2 r k) : EReal)
    = Y r ⟨640 + k.val, by omega⟩ := by
  frame_out
  refine (pay45_apply _ r _ k).trans ((R.colsW 0 _ r _ (by dsimp only; omega)).trans (congrArg (Y r) (Fin.ext ?_)))
  dsimp only; omega

/-- The rotated keys. -/
theorem ka (k : Fin 128) : (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 (ix2 r k) : EReal)
    = kaE (Y r) (C r) (S r) k := by
  frame_out
  refine (pay44_apply _ _ _ _ r k (C r) (S r) (R.c4 r) (R.s5 r)).trans (congrArg (rope · (C r) (S r) k) (funext fun l => ?_))
  refine (R.colsW 0 _ r _ (by dsimp only; omega)).trans (congrArg (Y r) (Fin.ext ?_))
  dsimp only; omega

/-- The gates' columns. -/
theorem ba (k : Fin 128) : (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 (ix2 r k) : EReal)
    = if h : k.val < 8 then Y r ⟨2304 + k.val, by omega⟩ else 0 := by
  frame_out
  exact (gates_apply x0 x1 r x5 k).trans (R.b r k)

/-- The gate of the output. -/
theorem z (k : Fin 512) : (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 (ix2 r k) : EReal)
    = Y r ⟨2312 + k.val, by omega⟩ := by
  frame_out
  canon_tiles x h
  · obtain ⟨r', k', rfl⟩ := split2 x
    obtain rfl : r = r' := Fin.ext h0
    have h1' : k.val = 256 + k'.val := h1
    refine Eq.trans (congrFun (pay60_eq _ _) _) ((R.colsT 256 _ r k' (by omega)).trans (congrArg (Y r) (Fin.ext ?_)))
    dsimp only; omega
  · obtain ⟨r', k', rfl⟩ := split2 x
    obtain rfl : r = r' := Fin.ext h0
    have h1' : k.val = k'.val := h1
    refine Eq.trans (congrFun (pay54_eq _ _) _) ((R.colsT 0 _ r k' (by omega)).trans (congrArg (Y r) (Fin.ext ?_)))
    dsimp only; omega

/-- The queries of the memory. -/
theorem qc (k : Fin 512) : (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 (ix2 r k) : EReal)
    = Y r ⟨2824 + k.val, by omega⟩ := by
  frame_out
  canon_tiles x h
  · obtain ⟨r', k', rfl⟩ := split2 x
    obtain rfl : r = r' := Fin.ext h0
    have h1' : k.val = 256 + k'.val := h1
    refine Eq.trans (pay67_apply _ r _ k') ((R.colsT 768 _ r k' (by omega)).trans (congrArg (Y r) (Fin.ext ?_)))
    dsimp only; omega
  · obtain ⟨r', k', rfl⟩ := split2 x
    obtain rfl : r = r' := Fin.ext h0
    have h1' : k.val = k'.val := h1
    refine Eq.trans (pay66_apply _ r _ k') ((R.colsT 512 _ r k' (by omega)).trans (congrArg (Y r) (Fin.ext ?_)))
    dsimp only; omega

/-- The rotated queries. -/
theorem qa (k : Fin 512) : (out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 (ix2 r k) : EReal)
    = qaE (Y r) (C r) (S r) k := by
  frame_out
  canon_tiles x h
  · obtain ⟨r', k', rfl⟩ := split2 x
    obtain rfl : r = r' := Fin.ext h0
    have h1' : k.val = 384 + k'.val := h1
    have e1 : (⟨k.val % 128, Nat.mod_lt _ (by omega)⟩ : Fin 128) = k' := Fin.ext (by dsimp only; omega)
    unfold qaE
    rw [e1]
    refine Eq.trans ((congrFun (pay34_eq _ _ _ _) _).trans (pay19_apply _ _ _ _ r k' (C r) (S r) (R.c4 r) (R.s5 r))) (congrArg (rope · (C r) (S r) k' * _) (funext fun l => ?_))
    refine (R.colsQ 256 _ r _ (by dsimp only; omega)).trans (congrArg (fun j => Y r (qcol j)) (Fin.ext ?_))
    dsimp only; omega
  · obtain ⟨r', k', rfl⟩ := split2 x
    obtain rfl : r = r' := Fin.ext h0
    have h1' : k.val = 256 + k'.val := h1
    have e1 : (⟨k.val % 128, Nat.mod_lt _ (by omega)⟩ : Fin 128) = k' := Fin.ext (by dsimp only; omega)
    unfold qaE
    rw [e1]
    refine Eq.trans ((congrFun (pay33_eq _ _ _ _) _).trans (pay14_apply _ _ _ _ r k' (C r) (S r) (R.c4 r) (R.s5 r))) (congrArg (rope · (C r) (S r) k' * _) (funext fun l => ?_))
    refine (R.colsQ 256 _ r _ (by dsimp only; omega)).trans (congrArg (fun j => Y r (qcol j)) (Fin.ext ?_))
    dsimp only; omega
  · obtain ⟨r', k', rfl⟩ := split2 x
    obtain rfl : r = r' := Fin.ext h0
    have h1' : k.val = 128 + k'.val := h1
    have e1 : (⟨k.val % 128, Nat.mod_lt _ (by omega)⟩ : Fin 128) = k' := Fin.ext (by dsimp only; omega)
    unfold qaE
    rw [e1]
    refine Eq.trans (pay19_apply _ _ _ _ r k' (C r) (S r) (R.c4 r) (R.s5 r)) (congrArg (rope · (C r) (S r) k' * _) (funext fun l => ?_))
    refine (R.colsQ 0 _ r _ (by dsimp only; omega)).trans (congrArg (fun j => Y r (qcol j)) (Fin.ext ?_))
    dsimp only; omega
  · obtain ⟨r', k', rfl⟩ := split2 x
    obtain rfl : r = r' := Fin.ext h0
    have h1' : k.val = k'.val := h1
    have e1 : (⟨k.val % 128, Nat.mod_lt _ (by omega)⟩ : Fin 128) = k' := Fin.ext (by dsimp only; omega)
    unfold qaE
    rw [e1]
    refine Eq.trans (pay14_apply _ _ _ _ r k' (C r) (S r) (R.c4 r) (R.s5 r)) (congrArg (rope · (C r) (S r) k' * _) (funext fun l => ?_))
    refine (R.colsQ 0 _ r _ (by dsimp only; omega)).trans (congrArg (fun j => Y r (qcol j)) (Fin.ext ?_))
    dsimp only; omega

/-- The convolution's queries. -/
theorem qn (k : Fin 512) : (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 (ix2 r k) : EReal)
    = qnE (fun i j => win (lastHist xs0) Y ⟨r.val + 5 + i.val, by omega⟩ j) (fun i j => x8 (ix2 i j)) k := by
  frame_out
  canon_tiles x h
  · obtain ⟨r', k', rfl⟩ := split2 x
    obtain rfl : r = r' := Fin.ext h0
    have h1' : k.val = 384 + k'.val := h1
    have e1 : (⟨k.val % 128, Nat.mod_lt _ (by omega)⟩ : Fin 128) = k' := Fin.ext (by dsimp only; omega)
    unfold qnE
    rw [e1]
    refine Eq.trans ((congrFun (pay26_eq _ _ _ _ _) _).trans (pay12_apply r _ k')) (congrArg (unit · k' * _) (funext fun l => ?_))
    refine (group_apply (lastHist xs0) Y _ x8 256 _ _ _ _ (by omega) (read_group (lastHist xs0) Y _ (keeps_cons 0 _ _ (keeps_base _ _ (last_hist xs0 _))) _ 256 _ _ _ (by omega) (fun r k => ((congrFun (pay21_eq x0 x1 _) (ix2 r k)).trans (pay7_apply x0 x1 r _ k)).trans ((R.colsW 512 _ r k (by omega)).trans (congrArg (Y r) (Fin.ext (by dsimp only; omega)))))) r _).trans (congrArg (act _ _) (Fin.ext ?_))
    dsimp only; omega
  · obtain ⟨r', k', rfl⟩ := split2 x
    obtain rfl : r = r' := Fin.ext h0
    have h1' : k.val = 256 + k'.val := h1
    have e1 : (⟨k.val % 128, Nat.mod_lt _ (by omega)⟩ : Fin 128) = k' := Fin.ext (by dsimp only; omega)
    unfold qnE
    rw [e1]
    refine Eq.trans ((congrFun (pay25_eq _ _ _ _ _) _).trans (pay11_apply _ _ _ _ _ r k')) (congrArg (unit · k' * _) (funext fun l => ?_))
    refine (group_apply (lastHist xs0) Y _ x8 256 _ _ _ _ (by omega) (read_group (lastHist xs0) Y _ (keeps_cons 0 _ _ (keeps_base _ _ (last_hist xs0 _))) _ 256 _ _ _ (by omega) (fun r k => ((congrFun (pay21_eq x0 x1 _) (ix2 r k)).trans (pay7_apply x0 x1 r _ k)).trans ((R.colsW 512 _ r k (by omega)).trans (congrArg (Y r) (Fin.ext (by dsimp only; omega)))))) r _).trans (congrArg (act _ _) (Fin.ext ?_))
    dsimp only; omega
  · obtain ⟨r', k', rfl⟩ := split2 x
    obtain rfl : r = r' := Fin.ext h0
    have h1' : k.val = 128 + k'.val := h1
    have e1 : (⟨k.val % 128, Nat.mod_lt _ (by omega)⟩ : Fin 128) = k' := Fin.ext (by dsimp only; omega)
    unfold qnE
    rw [e1]
    refine Eq.trans (pay12_apply r _ k') (congrArg (unit · k' * _) (funext fun l => ?_))
    refine (group_apply (lastHist xs0) Y _ x8 0 _ _ _ _ (by omega) (read_group (lastHist xs0) Y _ (keeps_base _ _ (last_hist xs0 _)) _ 0 _ _ _ (by omega) (fun r k => (pay7_apply x0 x1 r _ k).trans ((R.colsW 256 _ r k (by omega)).trans (congrArg (Y r) (Fin.ext (by dsimp only; omega)))))) r _).trans (congrArg (act _ _) (Fin.ext ?_))
    dsimp only; omega
  · obtain ⟨r', k', rfl⟩ := split2 x
    obtain rfl : r = r' := Fin.ext h0
    have h1' : k.val = k'.val := h1
    have e1 : (⟨k.val % 128, Nat.mod_lt _ (by omega)⟩ : Fin 128) = k' := Fin.ext (by dsimp only; omega)
    unfold qnE
    rw [e1]
    refine Eq.trans (pay11_apply _ _ _ _ _ r k') (congrArg (unit · k' * _) (funext fun l => ?_))
    refine (group_apply (lastHist xs0) Y _ x8 0 _ _ _ _ (by omega) (read_group (lastHist xs0) Y _ (keeps_base _ _ (last_hist xs0 _)) _ 0 _ _ _ (by omega) (fun r k => (pay7_apply x0 x1 r _ k).trans ((R.colsW 256 _ r k (by omega)).trans (congrArg (Y r) (Fin.ext (by dsimp only; omega)))))) r _).trans (congrArg (act _ _) (Fin.ext ?_))
    dsimp only; omega

/-- Its keys. -/
theorem kn (k : Fin 512) : (out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 (ix2 r k) : EReal)
    = knE (fun i j => win (lastHist xs0) Y ⟨r.val + 5 + i.val, by omega⟩ j) (fun i j => x8 (ix2 i j)) k := by
  frame_out
  canon_tiles x h
  · obtain ⟨r', k', rfl⟩ := split2 x
    obtain rfl : r = r' := Fin.ext h0
    have h1' : k.val = 384 + k'.val := h1
    have e1 : (⟨k.val % 128, Nat.mod_lt _ (by omega)⟩ : Fin 128) = k' := Fin.ext (by dsimp only; omega)
    unfold knE
    rw [e1]
    refine Eq.trans ((congrFun (pay53_eq _ _ _ _ _) _).trans (pay42_apply _ _ _ _ _ r k')) (congrArg (unit · k') (funext fun l => ?_))
    refine (group_apply (lastHist xs0) Y _ x8 768 _ _ _ _ (by omega) (read_group (lastHist xs0) Y _ (keeps_cons 512 _ _ (keeps_cons 256 _ _ (keeps_cons 0 _ _ (keeps_base _ _ (last_hist xs0 _))))) _ 768 _ _ _ (by omega) (fun r k => ((congrFun (pay47_eq x0 x1 _) (ix2 r k)).trans (pay7_apply x0 x1 r _ k)).trans ((R.colsW 1024 _ r k (by omega)).trans (congrArg (Y r) (Fin.ext (by dsimp only; omega)))))) r _).trans (congrArg (act _ _) (Fin.ext ?_))
    dsimp only; omega
  · obtain ⟨r', k', rfl⟩ := split2 x
    obtain rfl : r = r' := Fin.ext h0
    have h1' : k.val = 256 + k'.val := h1
    have e1 : (⟨k.val % 128, Nat.mod_lt _ (by omega)⟩ : Fin 128) = k' := Fin.ext (by dsimp only; omega)
    unfold knE
    rw [e1]
    refine Eq.trans ((congrFun (pay50_eq _ _ _ _ _) _).trans (pay39_apply _ _ _ _ _ r k')) (congrArg (unit · k') (funext fun l => ?_))
    refine (group_apply (lastHist xs0) Y _ x8 768 _ _ _ _ (by omega) (read_group (lastHist xs0) Y _ (keeps_cons 512 _ _ (keeps_cons 256 _ _ (keeps_cons 0 _ _ (keeps_base _ _ (last_hist xs0 _))))) _ 768 _ _ _ (by omega) (fun r k => ((congrFun (pay47_eq x0 x1 _) (ix2 r k)).trans (pay7_apply x0 x1 r _ k)).trans ((R.colsW 1024 _ r k (by omega)).trans (congrArg (Y r) (Fin.ext (by dsimp only; omega)))))) r _).trans (congrArg (act _ _) (Fin.ext ?_))
    dsimp only; omega
  · obtain ⟨r', k', rfl⟩ := split2 x
    obtain rfl : r = r' := Fin.ext h0
    have h1' : k.val = 128 + k'.val := h1
    have e1 : (⟨k.val % 128, Nat.mod_lt _ (by omega)⟩ : Fin 128) = k' := Fin.ext (by dsimp only; omega)
    unfold knE
    rw [e1]
    refine Eq.trans (pay42_apply _ _ _ _ _ r k') (congrArg (unit · k') (funext fun l => ?_))
    refine (group_apply (lastHist xs0) Y _ x8 512 _ _ _ _ (by omega) (read_group (lastHist xs0) Y _ (keeps_cons 256 _ _ (keeps_cons 0 _ _ (keeps_base _ _ (last_hist xs0 _)))) _ 512 _ _ _ (by omega) (fun r k => ((congrFun (pay36_eq x0 x1 _) (ix2 r k)).trans (pay7_apply x0 x1 r _ k)).trans ((R.colsW 768 _ r k (by omega)).trans (congrArg (Y r) (Fin.ext (by dsimp only; omega)))))) r _).trans (congrArg (act _ _) (Fin.ext ?_))
    dsimp only; omega
  · obtain ⟨r', k', rfl⟩ := split2 x
    obtain rfl : r = r' := Fin.ext h0
    have h1' : k.val = k'.val := h1
    have e1 : (⟨k.val % 128, Nat.mod_lt _ (by omega)⟩ : Fin 128) = k' := Fin.ext (by dsimp only; omega)
    unfold knE
    rw [e1]
    refine Eq.trans (pay39_apply _ _ _ _ _ r k') (congrArg (unit · k') (funext fun l => ?_))
    refine (group_apply (lastHist xs0) Y _ x8 512 _ _ _ _ (by omega) (read_group (lastHist xs0) Y _ (keeps_cons 256 _ _ (keeps_cons 0 _ _ (keeps_base _ _ (last_hist xs0 _)))) _ 512 _ _ _ (by omega) (fun r k => ((congrFun (pay36_eq x0 x1 _) (ix2 r k)).trans (pay7_apply x0 x1 r _ k)).trans ((R.colsW 768 _ r k (by omega)).trans (congrArg (Y r) (Fin.ext (by dsimp only; omega)))))) r _).trans (congrArg (act _ _) (Fin.ext ?_))
    dsimp only; omega

/-- Its values. -/
theorem vv (k : Fin 512) : (out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 (ix2 r k) : EReal)
    = vvE (fun i j => win (lastHist xs0) Y ⟨r.val + 5 + i.val, by omega⟩ j) (fun i j => x8 (ix2 i j)) k := by
  frame_out
  canon_tiles x h
  · obtain ⟨r', k', rfl⟩ := split2 x
    obtain rfl : r = r' := Fin.ext h0
    have h1' : k.val = 256 + k'.val := h1
    unfold vvE
    refine Eq.trans (congrFun (conv65 _ _ _ _ _) _) ((group_apply (lastHist xs0) Y _ x8 1280 _ _ _ _ (by omega) (read_group (lastHist xs0) Y _ (keeps_cons 1024 _ _ (keeps_cons 768 _ _ (keeps_cons 512 _ _ (keeps_cons 256 _ _ (keeps_cons 0 _ _ (keeps_base _ _ (last_hist xs0 _))))))) _ 1280 _ _ _ (by omega) (fun r k => ((congrFun (pay62_eq x0 x1 _) (ix2 r k)).trans (pay7_apply x0 x1 r _ k)).trans ((R.colsW 1536 _ r k (by omega)).trans (congrArg (Y r) (Fin.ext (by dsimp only; omega)))))) r k').trans (congrArg (act _ _) (Fin.ext ?_)))
    dsimp only; omega
  · obtain ⟨r', k', rfl⟩ := split2 x
    obtain rfl : r = r' := Fin.ext h0
    have h1' : k.val = k'.val := h1
    unfold vvE
    refine Eq.trans (congrFun (conv59 _ _ _ _ _) _) ((group_apply (lastHist xs0) Y _ x8 1024 _ _ _ _ (by omega) (read_group (lastHist xs0) Y _ (keeps_cons 768 _ _ (keeps_cons 512 _ _ (keeps_cons 256 _ _ (keeps_cons 0 _ _ (keeps_base _ _ (last_hist xs0 _)))))) _ 1024 _ _ _ (by omega) (fun r k => ((congrFun (pay56_eq x0 x1 _) (ix2 r k)).trans (pay7_apply x0 x1 r _ k)).trans ((R.colsW 1280 _ r k (by omega)).trans (congrArg (Y r) (Fin.ext (by dsimp only; omega)))))) r k').trans (congrArg (act _ _) (Fin.ext ?_)))
    dsimp only; omega

/-- The block's last eight rows before the convolution. -/
theorem tail (o : Fin 1) (s : Fin 8) (k : Fin 1536) : (out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 (ix3 o s k) : EReal)
    = Y ⟨1016 + s.val, by omega⟩ ⟨768 + k.val, by omega⟩ := by
  frame_out
  canon_tiles x h
  · obtain ⟨o', s', k', rfl⟩ := split3 x
    obtain rfl : s = s' := Fin.ext h1
    have h2' : k.val = 1280 + k'.val := h2
    refine Eq.trans ((congrFun (pay63_eq _ _) _).trans (pay22_apply _ _ o' s k')) ((R.colsW 1536 _ _ k' (by omega)).trans (congrArg (Y _) (Fin.ext ?_)))
    dsimp only; omega
  · obtain ⟨o', s', k', rfl⟩ := split3 x
    obtain rfl : s = s' := Fin.ext h1
    have h2' : k.val = 1024 + k'.val := h2
    refine Eq.trans ((congrFun (pay57_eq _ _) _).trans (pay22_apply _ _ o' s k')) ((R.colsW 1280 _ _ k' (by omega)).trans (congrArg (Y _) (Fin.ext ?_)))
    dsimp only; omega
  · obtain ⟨o', s', k', rfl⟩ := split3 x
    obtain rfl : s = s' := Fin.ext h1
    have h2' : k.val = 768 + k'.val := h2
    refine Eq.trans ((congrFun (pay48_eq _ _) _).trans (pay22_apply _ _ o' s k')) ((R.colsW 1024 _ _ k' (by omega)).trans (congrArg (Y _) (Fin.ext ?_)))
    dsimp only; omega
  · obtain ⟨o', s', k', rfl⟩ := split3 x
    obtain rfl : s = s' := Fin.ext h1
    have h2' : k.val = 512 + k'.val := h2
    refine Eq.trans ((congrFun (pay37_eq _ _) _).trans (pay22_apply _ _ o' s k')) ((R.colsW 768 _ _ k' (by omega)).trans (congrArg (Y _) (Fin.ext ?_)))
    dsimp only; omega
  · obtain ⟨o', s', k', rfl⟩ := split3 x
    obtain rfl : s = s' := Fin.ext h1
    have h2' : k.val = 256 + k'.val := h2
    refine Eq.trans (pay22_apply _ _ o' s k') ((R.colsW 512 _ _ k' (by omega)).trans (congrArg (Y _) (Fin.ext ?_)))
    dsimp only; omega
  · obtain ⟨o', s', k', rfl⟩ := split3 x
    obtain rfl : s = s' := Fin.ext h1
    have h2' : k.val = k'.val := h2
    refine Eq.trans ((congrFun (pay9_eq _ _ _) _).trans (pay22_apply _ _ o' s k')) ((R.colsW 256 _ _ k' (by omega)).trans (congrArg (Y _) (Fin.ext ?_)))
    dsimp only; omega

/-- The buffer's own rows. -/
theorem buf (k : Fin 1536) : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs0 (ix2 ⟨8 + r.val, by omega⟩ k) = Y r ⟨768 + k.val, by omega⟩ := by
  frame_out
  refine next _ 1280 _ _ r k (by omega) (fun k' e => ((congrFun (pay62_eq x0 x1 _) (ix2 r k')).trans (pay7_apply x0 x1 r _ k')).trans ((R.colsW 1536 _ r k' (by omega)).trans (congrArg (Y r) (Fin.ext (by dsimp only; omega))))) fun h => ?_
  refine next _ 1024 _ _ r k (by omega) (fun k' e => ((congrFun (pay56_eq x0 x1 _) (ix2 r k')).trans (pay7_apply x0 x1 r _ k')).trans ((R.colsW 1280 _ r k' (by omega)).trans (congrArg (Y r) (Fin.ext (by dsimp only; omega))))) fun h => ?_
  refine next _ 768 _ _ r k (by omega) (fun k' e => ((congrFun (pay47_eq x0 x1 _) (ix2 r k')).trans (pay7_apply x0 x1 r _ k')).trans ((R.colsW 1024 _ r k' (by omega)).trans (congrArg (Y r) (Fin.ext (by dsimp only; omega))))) fun h => ?_
  refine next _ 512 _ _ r k (by omega) (fun k' e => ((congrFun (pay36_eq x0 x1 _) (ix2 r k')).trans (pay7_apply x0 x1 r _ k')).trans ((R.colsW 768 _ r k' (by omega)).trans (congrArg (Y r) (Fin.ext (by dsimp only; omega))))) fun h => ?_
  refine next _ 256 _ _ r k (by omega) (fun k' e => ((congrFun (pay21_eq x0 x1 _) (ix2 r k')).trans (pay7_apply x0 x1 r _ k')).trans ((R.colsW 512 _ r k' (by omega)).trans (congrArg (Y r) (Fin.ext (by dsimp only; omega))))) fun h => ?_
  refine next _ 0 _ _ r k (by omega) (fun k' e => (pay7_apply x0 x1 r _ k').trans ((R.colsW 256 _ r k' (by omega)).trans (congrArg (Y r) (Fin.ext (by dsimp only; omega))))) fun h => ?_
  exact absurd h (Nat.not_lt_zero _)

end Cert.Proof.ProjOutB

end
-- ==== Proof.ProjHost.lean ====
/-
  What the projection kernel finds in its buffers, at the ideal instance: the host's reshapes, slices, reordered columns,
  padding and tables of the rotation, read at an index of the arguments.
-/
module

public import proofs.«01_k».proof.Proof.ProjSpec
public import proofs.«01_k».proof.Proof.Gen.Kernel4Ideal.Value
public import Idealize.ShloMosaic.Lib.Claim
public import Idealize.ShloMosaic.Lib.Pointwise

@[expose] public section

set_option maxRecDepth 16384

noncomputable section

namespace Cert.Proof.ProjHost

open Cert.Kernel4Ideal Cert.Kernel4Ideal.Gen Cert.Proof.Spec Cert.Proof.ProjSpec
open Idealize.ShloMosaic Idealize.ShloMosaic.TcCoe

attribute [local instance] Cert.Kernel4Ideal.Gen.facts

variable (m : (ℓ : Loc nD τ sig) → Buf (Elt Ideal) ℓ) (c : Dev nD)

/-! ## The reordered columns -/

/-- Columns taken by a table of their numbers. -/
theorem gather_apply (x : S1024x6408.Idx → EReal) (idx : IVec S512x1 32) (l : Fin 1024) (j : Fin 512) :
    Host.gather gather_S1024x6408_S512x1_S1024x512_0_1_n_n_1_1_10241 x idx (ix2 l j) = x (ix2 l ⟨min (idx (ix2 j 0)).toInt.toNat 6407, by omega⟩) := by
  unfold Host.gather
  congr 1
  funext a
  refine Fin.ext ?_
  match a with
  | ⟨0, _⟩ => show 0 + 0 + l.val = l.val; omega
  | ⟨1, _⟩ =>
    show GatherDims.start _ _ idx 1 + GatherDims.batchCoord _ _ 1 + GatherDims.offCoord _ _ 1 = _
    rw [GatherDims.batchCoord_eq_zero _ _ _ List.not_mem_nil, GatherDims.offCoord_eq_zero _ _ _ (fun h => ((GatherDims.mem_sKept _ _).mp h).1 (List.mem_singleton.mpr rfl))]
    unfold GatherDims.start
    rw [dif_pos (by exact List.mem_singleton.mpr rfl)]
    have hsi : gather_S1024x6408_S512x1_S1024x512_0_1_n_n_1_1_10241.siIdx (ix2 l j)
        ⟨List.idxOf (1 : Fin 2) gather_S1024x6408_S512x1_S1024x512_0_1_n_n_1_1_10241.startIndexMap, List.idxOf_lt_length_iff.2 (List.mem_singleton.mpr rfl)⟩ = ix2 j 0 := by
      funext b
      match b with
      | ⟨0, _⟩ => rfl
      | ⟨1, _⟩ => rfl
    rw [hsi]
    rfl

/-- The numbers of the query columns in the kernel's order, as the host's table holds them. -/
abbrev table : IVec S512x1 32 := broadcastInDim S512x1 ![0] bcast_S512_S512x1_0 (select (constantI S512 1 0#1) (addi (fun i => lit0 (S512.rowMajor i)) (broadcastInDim S512 ![] bcast_S_S512 (constantI S_ 32 6408#32))) (fun i => lit0 (S512.rowMajor i)))

theorem lit0_qcol : ∀ j : Fin 512, min (lit0 j).toInt.toNat 6407 = (qcol j).val := by decide +kernel

theorem table_apply (j : Fin 512) : table (ix2 j 0) = lit0 j := by
  pointwise [table]
  exact congrArg lit0 (Fin.ext (Shape.rowMajor_val_one _))

/-! ## The kernel's operands -/

theorem flat_apply {α : Type} (v : S4x8192x1024.Idx → α) (T : Fin 32768) (l : Fin 1024) :
    shapeCast S32768x1024 v shapeCasts_S4x8192x1024_S32768x1024 (ix2 T l) = v (ix3 ⟨T.val / 8192, by omega⟩ ⟨T.val % 8192, by omega⟩ l) := by
  pointwise []
theorem V_v13 (T : Fin 32768) (l : Fin 1024) : V m c main_v13 (ix2 T l) = m (c.tc.loc main_arg0) (ix3 ⟨T.val / 8192, by omega⟩ ⟨T.val % 8192, by omega⟩ l) := by
  rw [show V m c main_v13 = shapeCast _ (m (c.tc.loc main_arg0)) shapeCasts_S4x8192x1024_S32768x1024 by entry_read; rfl]
  exact flat_apply _ T l
theorem V_v38 (l : Fin 1024) : V m c main_v38 (ix2 0 l) = m (c.tc.loc main_arg1) (ix1 l) := by
  rw [show V m c main_v38 = shapeCast _ (m (c.tc.loc main_arg1)) shapeCasts_S1024_S1x1024 by entry_read; rfl]
  pointwise
theorem V_v7 (l : Fin 1024) (k : Fin 1792) : (V m c main_v7 (ix2 l k) : EReal) = m (c.tc.loc main_arg2) (ix2 l ⟨512 + k.val, by omega⟩) := by
  rw [show V m c main_v7 = truncf (F := Ideal) .bf16 (extractStridedSlice S1024x1792 ![0, 512] (m (c.tc.loc main_arg2)) slices_S1024x6408_S1024x1792_0_512) bitsLt_bf16_f32 by entry_read; rfl]
  pointwise
theorem V_v9 (l : Fin 1024) (k : Fin 4096) : (V m c main_v9 (ix2 l k) : EReal) = m (c.tc.loc main_arg2) (ix2 l ⟨2312 + k.val, by omega⟩) := by
  rw [show V m c main_v9 = truncf (F := Ideal) .bf16 (extractStridedSlice S1024x4096 ![0, 2312] (m (c.tc.loc main_arg2)) slices_S1024x6408_S1024x4096_0_2312) bitsLt_bf16_f32 by entry_read; rfl]
  pointwise
theorem V_v5 (l : Fin 1024) (k : Fin 512) : (V m c main_v5 (ix2 l k) : EReal) = m (c.tc.loc main_arg2) (ix2 l (qcol k)) := by
  rw [show V m c main_v5 = truncf (F := Ideal) .bf16 (Host.gather gather_S1024x6408_S512x1_S1024x512_0_1_n_n_1_1_10241 (m (c.tc.loc main_arg2)) table) bitsLt_bf16_f32 by entry_read; rfl]
  pointwise [gather_apply, table_apply]
  exact congrArg (m (c.tc.loc main_arg2)) (congrArg (ix2 l) (Fin.ext (lit0_qcol k)))
/-- The gates' eight columns, and zeros after them. -/
theorem V_v12 (l : Fin 1024) (k : Fin 128) : (V m c main_v12 (ix2 l k) : EReal) = if h : k.val < 8 then (m (c.tc.loc main_arg2) (ix2 l ⟨2304 + k.val, by omega⟩) : EReal) else (0 : EReal) := by
  rw [show V m c main_v12 = truncf (F := Ideal) .bf16 (pad S1024x128 ![0, 0] ![0, 120] ![0, 0] (extractStridedSlice S1024x8 ![0, 2304] (m (c.tc.loc main_arg2)) slices_S1024x6408_S1024x8_0_2304) (sitofp (F := Ideal) .f32 (constantI S_ 32 0#32)) pads_S1024x8_S1024x128_000_01200 h_S_) bitsLt_bf16_f32 by entry_read; rfl]
  generalize m (c.tc.loc main_arg2) = u
  by_cases h : k.val < 8
  · pointwise [h]
  · pointwise [h]
    show ((((0#32 : BitVec 32).toInt : ℝ) : EReal)) = 0
    simp

/-- The angles of the positions. -/
def angles : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1 (Host.powf (broadcastInDim S32 ![] bcast_S_S32 (constant S_ .f32 0x461C4000#32))
      (Host.divf (Host.negf (sitofp .f32 (iotaInDim S32 32 0))) (broadcastInDim S32 ![] bcast_S_S32 (constant S_ .f32 0x42000000#32))))))
theorem angles_apply (t : Fin 8192) (d : Fin 32) : angles (ix2 t d) = angle t d := by
  pointwise [angles, angle]

/-- Two halves side by side, repeated for a second head. -/
def twice (a b : FVec Ideal S8192x32 .f32) : FVec Ideal S8192x128 .f32 :=
  shapeCast _ (broadcastInDim S1x8192x2x64 ![0, 1, 2, 3] bcast_S1x8192x1x64_S1x8192x2x64_0_1_2_3
    (shapeCast _ (concatenate S8192x64 1 [⟨S8192x32, a⟩, ⟨S8192x32, b⟩] concatenates_S8192x32_S8192x32_S8192x64_d1) shapeCasts_S8192x64_S1x8192x1x64)) shapeCasts_S1x8192x2x64_S8192x128
theorem twice_apply (a b : FVec Ideal S8192x32 .f32) (t : Fin 8192) (k : Fin 128) :
    twice a b (ix2 t k) = if k.val % 64 < 32 then a (ix2 t ⟨k.val % 32, by omega⟩) else b (ix2 t ⟨k.val % 32, by omega⟩) := by
  by_cases h : k.val % 64 < 32
  · pointwise [twice, h]
    exact congrArg (fun d => a (ix2 t d)) (Fin.ext (by dsimp only; omega))
  · pointwise [twice, h]
    exact congrArg (fun d => b (ix2 t d)) (Fin.ext (by dsimp only; omega))

theorem V_v34 (t : Fin 8192) (k : Fin 128) : (V m c main_v34 (ix2 t k) : EReal) = cosA t ⟨k.val % 32, by omega⟩ := by
  rw [show V m c main_v34 = twice (Host.cos angles) (Host.cos angles) by entry_read; rfl, twice_apply, ite_self]
  exact congrArg Ideal.cos (angles_apply t _)
theorem V_v37 (t : Fin 8192) (k : Fin 128) : (V m c main_v37 (ix2 t k) : EReal) = if k.val % 64 < 32 then -sinA t ⟨k.val % 32, by omega⟩ else sinA t ⟨k.val % 32, by omega⟩ := by
  rw [show V m c main_v37 = twice (Host.negf (Host.sin angles)) (Host.sin angles) by entry_read; rfl, twice_apply]
  unfold sinA
  rw [← angles_apply]
  rfl

end Cert.Proof.ProjHost

end
-- ==== Proof.ProjValue.lean ====
/-
  The projection kernel's results, at the ideal instance: a grid point's blocks are those of its 1024 tokens, the buffer
  hands each point the rows of the tokens before its own, and the points' blocks fill every result.
-/
module

public import proofs.«01_k».proof.Proof.ProjOutA
public import proofs.«01_k».proof.Proof.ProjOutB
public import proofs.«01_k».proof.Proof.ProjHost

@[expose] public section

set_option maxRecDepth 16384

noncomputable section

namespace Cert.Proof.ProjValue

open Cert.Kernel4Ideal Cert.Kernel4Ideal.Gen Cert.Proof.Spec Cert.Proof.ProjSpec Cert.Proof.ProjHost Cert.Proof.ProjBuf
open Idealize.ShloMosaic Idealize.ShloMosaic.TcCoe

attribute [local instance] Cert.Kernel4Ideal.Gen.facts

/-! ## A point's blocks of the arguments -/

/-- Every window's block index at a point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val % 8, 0] ∧ win0_7.index t = ![t.val % 8, 0] ∧ win0_8.index t = ![0, 0]
    ∧ win0_9.index t = ![t.val, 0] ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0] ∧ win0_18.index t = ![t.val / 8, 0, 0] :=
  (by decide +kernel : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val % 8, 0] ∧ win0_7.index t = ![t.val % 8, 0] ∧ win0_8.index t = ![0, 0]
    ∧ win0_9.index t = ![t.val, 0] ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0] ∧ win0_18.index t = ![t.val / 8, 0, 0])

theorem lt32 (t : Fin cfg0.N) : t.val < 32 := t.isLt

/-- The token of row `r` of point `t`'s block; a token's sequence, and its place in it. -/
def tok (t : Fin cfg0.N) (r : Fin 1024) : Fin 32768 := ⟨t.val * 1024 + r.val, by have := lt32 t; omega⟩
abbrev seq (T : Fin 32768) : Fin 4 := ⟨T.val / 8192, by omega⟩
abbrev pos (T : Fin 32768) : Fin 8192 := ⟨T.val % 8192, by omega⟩

variable (m : (ℓ : Loc nD τ sig) → Buf (Elt Ideal) ℓ) (c : Dev nD)

/-- A token's projection, from the arguments. -/
def prj (b : Fin 4) (t : Fin 8192) (j : Fin 6408) : EReal :=
  col (fun l => m (c.tc.loc main_arg0) (ix3 b t l)) (fun l => m (c.tc.loc main_arg1) (ix1 l)) (fun l => m (c.tc.loc main_arg2) (ix2 l j))
/-- The convolution's taps. -/
def tap (i : Fin 4) (j : Fin 1536) : EReal := m (c.tc.loc main_arg3) (ix2 i j)

section Point

variable (t : Fin cfg0.N)

theorem x_blk (r l : Fin 1024) : (iblk m c 0 t (ix2 r l) : EReal) = m (c.tc.loc main_arg0) (ix3 (seq (tok t r)) (pos (tok t r)) l) := by
  refine Eq.trans ?_ (V_v13 m c (tok t r) l)
  unfold tok
  blk_ext [iblk, idx t]
theorem g_blk (l : Fin 1024) : (iblk m c 1 t (ix2 0 l) : EReal) = m (c.tc.loc main_arg1) (ix1 l) := by
  refine Eq.trans ?_ (V_v38 m c l)
  blk_ext [iblk, idx t]
theorem wq_blk (l : Fin 1024) (k : Fin 512) : (iblk m c 2 t (ix2 l k) : EReal) = m (c.tc.loc main_arg2) (ix2 l (qcol k)) := by
  refine Eq.trans ?_ (V_v5 m c l k)
  blk_ext [iblk, idx t]
theorem wr_blk (l : Fin 1024) (k : Fin 1792) : (iblk m c 3 t (ix2 l k) : EReal) = m (c.tc.loc main_arg2) (ix2 l ⟨512 + k.val, by omega⟩) := by
  refine Eq.trans ?_ (V_v7 m c l k)
  blk_ext [iblk, idx t]
theorem wt_blk (l : Fin 1024) (k : Fin 1024) : (iblk m c 4 t (ix2 l k) : EReal) = m (c.tc.loc main_arg2) (ix2 l ⟨2312 + k.val, by omega⟩) := by
  refine Eq.trans ?_ (V_v9 m c l ⟨k.val, by omega⟩)
  blk_ext [iblk, idx t]
theorem wb_blk (l : Fin 1024) (k : Fin 128) : (iblk m c 5 t (ix2 l k) : EReal) = if h : k.val < 8 then (m (c.tc.loc main_arg2) (ix2 l ⟨2304 + k.val, by omega⟩) : EReal) else (0 : EReal) := by
  refine Eq.trans ?_ (V_v12 m c l k)
  blk_ext [iblk, idx t]
theorem c_blk (r : Fin 1024) (k : Fin 128) : (iblk m c 6 t (ix2 r k) : EReal) = cosA (pos (tok t r)) ⟨k.val % 32, by omega⟩ := by
  have e : pos (tok t r) = ⟨t.val % 8 * 1024 + r.val, by omega⟩ := Fin.ext (by show (t.val * 1024 + r.val) % 8192 = t.val % 8 * 1024 + r.val; omega)
  rw [e]
  refine Eq.trans ?_ (V_v34 m c ⟨t.val % 8 * 1024 + r.val, by omega⟩ k)
  blk_ext [iblk, idx t]
theorem s_blk (r : Fin 1024) (k : Fin 128) : (iblk m c 7 t (ix2 r k) : EReal)
    = if k.val % 64 < 32 then -sinA (pos (tok t r)) ⟨k.val % 32, by omega⟩ else sinA (pos (tok t r)) ⟨k.val % 32, by omega⟩ := by
  have e : pos (tok t r) = ⟨t.val % 8 * 1024 + r.val, by omega⟩ := Fin.ext (by show (t.val * 1024 + r.val) % 8192 = t.val % 8 * 1024 + r.val; omega)
  rw [e]
  refine Eq.trans ?_ (V_v37 m c ⟨t.val % 8 * 1024 + r.val, by omega⟩ k)
  blk_ext [iblk, idx t]
theorem k_blk (i : Fin 4) (j : Fin 1536) : (iblk m c 8 t (ix2 i j) : EReal) = tap m c i j := by
  refine Eq.trans ?_ (congrFun (V_main_arg3 m c) (ix2 i j))
  blk_ext [iblk, idx t]

/-- The projections of a point's tokens. -/
abbrev rows (r : Fin 1024) (j : Fin 6408) : EReal := prj m c (seq (tok t r)) (pos (tok t r)) j

theorem col_congr {x x' g g' u u' : Fin 1024 → EReal} (ex : ∀ l, x l = x' l) (eg : ∀ l, g l = g' l) (eu : ∀ l, u l = u' l) : col x g u = col x' g' u' := by
  obtain rfl := funext ex
  obtain rfl := funext eg
  obtain rfl := funext eu
  rfl

theorem reads : Reads (iblk m c 0 t) (iblk m c 1 t) (iblk m c 2 t) (iblk m c 3 t) (iblk m c 4 t) (iblk m c 5 t) (iblk m c 6 t) (iblk m c 7 t)
    (rows m c t) (fun r => cosA (pos (tok t r))) (fun r => sinA (pos (tok t r))) where
  q r k := col_congr (x_blk m c t r) (g_blk m c t) fun l => wq_blk m c t l k
  w r k := col_congr (x_blk m c t r) (g_blk m c t) fun l => wr_blk m c t l k
  t r k := col_congr (x_blk m c t r) (g_blk m c t) fun l => wt_blk m c t l k
  b r k := by
    by_cases h : k.val < 8
    · rw [dif_pos h]
      exact col_congr (x_blk m c t r) (g_blk m c t) fun l => (wb_blk m c t l k).trans (dif_pos h)
    · rw [dif_neg h]
      exact Finset.sum_eq_zero fun l _ => (congrArg (_ * ·) ((wb_blk m c t l k).trans (dif_neg h))).trans (mul_zero _)
  c r k := c_blk m c t r k
  s r k := s_blk m c t r k

/-! ## What a point leaves -/

/-- The buffer after a point holds the point's own rows. -/
theorem buf_at (r : Fin 1024) (j : Fin 1536) : (outsAt0 m c t.val t.isLt).2.2.2.2.2.2.2.2.2.2 (ix2 ⟨8 + r.val, by omega⟩ j) = rows m c t r ⟨768 + j.val, by omega⟩ := by
  by_cases h0 : t.val % 8 = 0
  · rw [outsAt0_A m c t h0 (not_not.mpr h0)]
    dsimp only
    exact (ProjOutA.buf (reads m c t) r j)
  · rw [outsAt0_B m c t h0 h0]
    dsimp only
    exact (ProjOutB.buf (reads m c t) r j)

/-- At a sequence's start the rows before are zeros. -/
theorem past_A (h0 : t.val % 8 = 0) (r : Fin 1024) (i : Fin 4) (j : Fin 1536) :
    win zeroHist (rows m c t) ⟨r.val + 5 + i.val, by omega⟩ j = seen (prj m c (seq (tok t r))) (pos (tok t r)) i j := by
  have hT := lt32 t
  have hv : (pos (tok t r)).val = r.val := by show (t.val * 1024 + r.val) % 8192 = r.val; omega
  unfold win seen
  by_cases h : r.val + i.val < 3
  · rw [dif_pos (by dsimp only; omega), if_pos (by rw [hv]; exact h)]
    rfl
  · rw [dif_neg (by dsimp only; omega), if_neg (by rw [hv]; exact h)]
    refine congrArg₂ (fun b p => prj m c b p _) (Fin.ext ?_) (Fin.ext ?_)
    · show (t.val * 1024 + (r.val + 5 + i.val - 8)) / 8192 = (t.val * 1024 + r.val) / 8192; omega
    · show (t.val * 1024 + (r.val + 5 + i.val - 8)) % 8192 = (t.val * 1024 + r.val) % 8192 + i.val - 3; omega

/-- Elsewhere they are the last the point before left in the buffer. -/
theorem past_B (h0 : ¬t.val % 8 = 0) (r : Fin 1024) (i : Fin 4) (j : Fin 1536) :
    win (lastHist (outsAt0 m c (t.val - 1) (Nat.lt_of_le_of_lt (Nat.sub_le _ _) t.isLt)).2.2.2.2.2.2.2.2.2.2) (rows m c t) ⟨r.val + 5 + i.val, by omega⟩ j
      = seen (prj m c (seq (tok t r))) (pos (tok t r)) i j := by
  have hT := lt32 t
  have hv : (pos (tok t r)).val = t.val % 8 * 1024 + r.val := by show (t.val * 1024 + r.val) % 8192 = _; omega
  unfold win seen
  rw [if_neg (by rw [hv]; omega)]
  by_cases h : r.val + i.val < 3
  · rw [dif_pos (by dsimp only; omega)]
    refine Eq.trans (congrArg (fun q => (outsAt0 m c (t.val - 1) (Nat.lt_of_le_of_lt (Nat.sub_le _ _) t.isLt)).2.2.2.2.2.2.2.2.2.2 (ix2 q j)) (Fin.ext (by dsimp only; omega)))
      ((buf_at m c ⟨t.val - 1, Nat.lt_of_le_of_lt (Nat.sub_le _ _) t.isLt⟩ ⟨1016 + (r.val + 5 + i.val), by omega⟩ j).trans ?_)
    refine congrArg₂ (fun b p => prj m c b p _) (Fin.ext ?_) (Fin.ext ?_)
    · show ((t.val - 1) * 1024 + (1016 + (r.val + 5 + i.val))) / 8192 = (t.val * 1024 + r.val) / 8192; omega
    · show ((t.val - 1) * 1024 + (1016 + (r.val + 5 + i.val))) % 8192 = (t.val * 1024 + r.val) % 8192 + i.val - 3; omega
  · rw [dif_neg (by dsimp only; omega)]
    refine congrArg₂ (fun b p => prj m c b p _) (Fin.ext ?_) (Fin.ext ?_)
    · show (t.val * 1024 + (r.val + 5 + i.val - 8)) / 8192 = (t.val * 1024 + r.val) / 8192; omega
    · show (t.val * 1024 + (r.val + 5 + i.val - 8)) % 8192 = (t.val * 1024 + r.val) % 8192 + i.val - 3; omega

theorem taps_eq : (fun (i : Fin 4) (j : Fin 1536) => (iblk m c 8 t (ix2 i j) : EReal)) = tap m c := funext fun i => funext fun j => k_blk m c t i j

end Point

/-! ## The results, over the arguments -/

/-- An entry of the rotated queries. -/
def qaAt (T : Fin 32768) (k : Fin 512) : EReal := qaE (prj m c (seq T) (pos T)) (cosA (pos T)) (sinA (pos T)) k
/-- All of the rotated queries. -/
def out9 : Buf (Elt Ideal) (c.tc.loc main_v39_0 : Loc nD τ sig) := fun y => qaAt m c (y 0) (y 1)

/-- An entry of the rotated keys. -/
def kaAt (T : Fin 32768) (k : Fin 128) : EReal := kaE (prj m c (seq T) (pos T)) (cosA (pos T)) (sinA (pos T)) k
/-- All of the rotated keys. -/
def out10 : Buf (Elt Ideal) (c.tc.loc main_v39_1 : Loc nD τ sig) := fun y => kaAt m c (y 0) (y 1)

/-- An entry of the values beside them. -/
def vaAt (T : Fin 32768) (k : Fin 128) : EReal := prj m c (seq T) (pos T) ⟨640 + (k).val, by have := (k).isLt; omega⟩
/-- All of the values beside them. -/
def out11 : Buf (Elt Ideal) (c.tc.loc main_v39_2 : Loc nD τ sig) := fun y => vaAt m c (y 0) (y 1)

/-- An entry of branch B's gate. -/
def zAt (T : Fin 32768) (k : Fin 512) : EReal := prj m c (seq T) (pos T) ⟨2312 + (k).val, by have := (k).isLt; omega⟩
/-- All of branch B's gate. -/
def out12 : Buf (Elt Ideal) (c.tc.loc main_v39_3 : Loc nD τ sig) := fun y => zAt m c (y 0) (y 1)

/-- An entry of branch C's queries. -/
def qcAt (T : Fin 32768) (k : Fin 512) : EReal := prj m c (seq T) (pos T) ⟨2824 + (k).val, by have := (k).isLt; omega⟩
/-- All of branch C's queries. -/
def out13 : Buf (Elt Ideal) (c.tc.loc main_v39_4 : Loc nD τ sig) := fun y => qcAt m c (y 0) (y 1)

/-- An entry of the gates' columns. -/
def baAt (T : Fin 32768) (k : Fin 128) : EReal := if h : (k).val < 8 then prj m c (seq T) (pos T) ⟨2304 + (k).val, by omega⟩ else 0
/-- All of the gates' columns. -/
def out14 : Buf (Elt Ideal) (c.tc.loc main_v39_5 : Loc nD τ sig) := fun y => baAt m c (y 0) (y 1)

/-- An entry of branch B's queries. -/
def qnAt (T : Fin 32768) (k : Fin 512) : EReal := qnE (seen (prj m c (seq T)) (pos T)) (tap m c) k
/-- All of branch B's queries. -/
def out15 : Buf (Elt Ideal) (c.tc.loc main_v39_6 : Loc nD τ sig) := fun y => qnAt m c (y 0) (y 1)

/-- An entry of branch B's keys. -/
def knAt (T : Fin 32768) (k : Fin 512) : EReal := knE (seen (prj m c (seq T)) (pos T)) (tap m c) k
/-- All of branch B's keys. -/
def out16 : Buf (Elt Ideal) (c.tc.loc main_v39_7 : Loc nD τ sig) := fun y => knAt m c (y 0) (y 1)

/-- An entry of branch B's values. -/
def vvAt (T : Fin 32768) (k : Fin 512) : EReal := vvE (seen (prj m c (seq T)) (pos T)) (tap m c) k
/-- All of branch B's values. -/
def out17 : Buf (Elt Ideal) (c.tc.loc main_v39_8 : Loc nD τ sig) := fun y => vvAt m c (y 0) (y 1)

/-- An entry of the last rows before the convolution. -/
def tailAt (b : Fin 4) (s : Fin 8) (k : Fin 1536) : EReal := prj m c b ⟨8184 + s.val, by omega⟩ ⟨768 + k.val, by omega⟩
/-- All of them. -/
def out18 : Buf (Elt Ideal) (c.tc.loc main_v39_9 : Loc nD τ sig) := fun y => tailAt m c (y 0) (y 1) (y 2)

/-! ## A point's blocks of the results -/

section Blocks

variable (t : Fin cfg0.N)

theorem qa_at (r : Fin 1024) (k : Fin 512) : ((outsAt0 m c t.val t.isLt).1 (ix2 r k) : EReal) = qaAt m c (tok t r) k := by
  by_cases h0 : t.val % 8 = 0
  · rw [outsAt0_A m c t h0 (not_not.mpr h0)]
    dsimp only
    exact (ProjOutA.qa (reads m c t) r k)
  · rw [outsAt0_B m c t h0 h0]
    dsimp only
    exact (ProjOutB.qa (reads m c t) r k)

theorem ka_at (r : Fin 1024) (k : Fin 128) : ((outsAt0 m c t.val t.isLt).2.1 (ix2 r k) : EReal) = kaAt m c (tok t r) k := by
  by_cases h0 : t.val % 8 = 0
  · rw [outsAt0_A m c t h0 (not_not.mpr h0)]
    dsimp only
    exact (ProjOutA.ka (reads m c t) r k)
  · rw [outsAt0_B m c t h0 h0]
    dsimp only
    exact (ProjOutB.ka (reads m c t) r k)

theorem va_at (r : Fin 1024) (k : Fin 128) : ((outsAt0 m c t.val t.isLt).2.2.1 (ix2 r k) : EReal) = vaAt m c (tok t r) k := by
  by_cases h0 : t.val % 8 = 0
  · rw [outsAt0_A m c t h0 (not_not.mpr h0)]
    dsimp only
    exact (ProjOutA.va (reads m c t) r k)
  · rw [outsAt0_B m c t h0 h0]
    dsimp only
    exact (ProjOutB.va (reads m c t) r k)

theorem z_at (r : Fin 1024) (k : Fin 512) : ((outsAt0 m c t.val t.isLt).2.2.2.1 (ix2 r k) : EReal) = zAt m c (tok t r) k := by
  by_cases h0 : t.val % 8 = 0
  · rw [outsAt0_A m c t h0 (not_not.mpr h0)]
    dsimp only
    exact (ProjOutA.z (reads m c t) r k)
  · rw [outsAt0_B m c t h0 h0]
    dsimp only
    exact (ProjOutB.z (reads m c t) r k)

theorem qc_at (r : Fin 1024) (k : Fin 512) : ((outsAt0 m c t.val t.isLt).2.2.2.2.1 (ix2 r k) : EReal) = qcAt m c (tok t r) k := by
  by_cases h0 : t.val % 8 = 0
  · rw [outsAt0_A m c t h0 (not_not.mpr h0)]
    dsimp only
    exact (ProjOutA.qc (reads m c t) r k)
  · rw [outsAt0_B m c t h0 h0]
    dsimp only
    exact (ProjOutB.qc (reads m c t) r k)

theorem ba_at (r : Fin 1024) (k : Fin 128) : ((outsAt0 m c t.val t.isLt).2.2.2.2.2.1 (ix2 r k) : EReal) = baAt m c (tok t r) k := by
  by_cases h0 : t.val % 8 = 0
  · rw [outsAt0_A m c t h0 (not_not.mpr h0)]
    dsimp only
    exact (ProjOutA.ba (reads m c t) r k)
  · rw [outsAt0_B m c t h0 h0]
    dsimp only
    exact (ProjOutB.ba (reads m c t) r k)

theorem qn_at (r : Fin 1024) (k : Fin 512) : ((outsAt0 m c t.val t.isLt).2.2.2.2.2.2.1 (ix2 r k) : EReal) = qnAt m c (tok t r) k := by
  by_cases h0 : t.val % 8 = 0
  · rw [outsAt0_A m c t h0 (not_not.mpr h0)]
    dsimp only
    exact ((ProjOutA.qn (reads m c t) r k).trans
        (congrArg₂ (qnE · · k) (funext fun i => funext fun j => past_A m c t h0 r i j) (taps_eq m c t)))
  · rw [outsAt0_B m c t h0 h0]
    dsimp only
    exact ((ProjOutB.qn (reads m c t) r k).trans
        (congrArg₂ (qnE · · k) (funext fun i => funext fun j => past_B m c t h0 r i j) (taps_eq m c t)))

theorem kn_at (r : Fin 1024) (k : Fin 512) : ((outsAt0 m c t.val t.isLt).2.2.2.2.2.2.2.1 (ix2 r k) : EReal) = knAt m c (tok t r) k := by
  by_cases h0 : t.val % 8 = 0
  · rw [outsAt0_A m c t h0 (not_not.mpr h0)]
    dsimp only
    exact ((ProjOutA.kn (reads m c t) r k).trans
        (congrArg₂ (knE · · k) (funext fun i => funext fun j => past_A m c t h0 r i j) (taps_eq m c t)))
  · rw [outsAt0_B m c t h0 h0]
    dsimp only
    exact ((ProjOutB.kn (reads m c t) r k).trans
        (congrArg₂ (knE · · k) (funext fun i => funext fun j => past_B m c t h0 r i j) (taps_eq m c t)))

theorem vv_at (r : Fin 1024) (k : Fin 512) : ((outsAt0 m c t.val t.isLt).2.2.2.2.2.2.2.2.1 (ix2 r k) : EReal) = vvAt m c (tok t r) k := by
  by_cases h0 : t.val % 8 = 0
  · rw [outsAt0_A m c t h0 (not_not.mpr h0)]
    dsimp only
    exact ((ProjOutA.vv (reads m c t) r k).trans
        (congrArg₂ (vvE · · k) (funext fun i => funext fun j => past_A m c t h0 r i j) (taps_eq m c t)))
  · rw [outsAt0_B m c t h0 h0]
    dsimp only
    exact ((ProjOutB.vv (reads m c t) r k).trans
        (congrArg₂ (vvE · · k) (funext fun i => funext fun j => past_B m c t h0 r i j) (taps_eq m c t)))

/-- The last point of a sequence leaves its last eight rows. -/
theorem tail_at (h : t.val % 8 = 7) (a : Fin 1) (s : Fin 8) (k : Fin 1536) : ((outsAt0 m c t.val t.isLt).2.2.2.2.2.2.2.2.2.1 (ix3 a s k) : EReal)
    = tailAt m c ⟨t.val / 8, by have := lt32 t; omega⟩ s k := by
  have h0 : ¬t.val % 8 = 0 := by omega
  have hT := lt32 t
  rw [outsAt0_B m c t h0 h0]
  dsimp only
  refine (ProjOutB.tail (reads m c t) a s k).trans ?_
  refine congrArg₂ (fun b p => prj m c b p _) (Fin.ext ?_) (Fin.ext ?_)
  · show (t.val * 1024 + (1016 + s.val)) / 8192 = t.val / 8; omega
  · show (t.val * 1024 + (1016 + s.val)) % 8192 = 8184 + s.val; omega

/-- The points that write the last rows back. -/
theorem flush18 : ∀ t : Fin cfg0.N, (cfg0.win 18).flush t = true → t.val % 8 = 7 :=
  (by decide +kernel : ∀ t : Fin grid0.N, (cfg0.win 18).flush t = true → t.val % 8 = 7)

end Blocks

/-! ## The whole results -/

theorem arr9_eq : (dats m 0 c).arrAt 9 cfg0.N = out9 m c := by
  refine (dats m 0 c).arrAt_eq_of_covers 9 _ (by decide +kernel) fun t hf y => ?_
  obtain ⟨r, k, rfl⟩ : ∃ (r : Fin 1024) (k : Fin 512), y = ix2 r k := split2 y
  refine (congrFun (Value.flushed9 m c t) _).trans ((qa_at m c t r k).trans ((rfl : _ = out9 m c (ix2 (tok t r) k)).trans ?_))
  unfold tok
  blk_ext [idx t]

theorem arr10_eq : (dats m 0 c).arrAt 10 cfg0.N = out10 m c := by
  refine (dats m 0 c).arrAt_eq_of_covers 10 _ (by decide +kernel) fun t hf y => ?_
  obtain ⟨r, k, rfl⟩ : ∃ (r : Fin 1024) (k : Fin 128), y = ix2 r k := split2 y
  refine (congrFun (Value.flushed10 m c t) _).trans ((ka_at m c t r k).trans ((rfl : _ = out10 m c (ix2 (tok t r) k)).trans ?_))
  unfold tok
  blk_ext [idx t]

theorem arr11_eq : (dats m 0 c).arrAt 11 cfg0.N = out11 m c := by
  refine (dats m 0 c).arrAt_eq_of_covers 11 _ (by decide +kernel) fun t hf y => ?_
  obtain ⟨r, k, rfl⟩ : ∃ (r : Fin 1024) (k : Fin 128), y = ix2 r k := split2 y
  refine (congrFun (Value.flushed11 m c t) _).trans ((va_at m c t r k).trans ((rfl : _ = out11 m c (ix2 (tok t r) k)).trans ?_))
  unfold tok
  blk_ext [idx t]

theorem arr12_eq : (dats m 0 c).arrAt 12 cfg0.N = out12 m c := by
  refine (dats m 0 c).arrAt_eq_of_covers 12 _ (by decide +kernel) fun t hf y => ?_
  obtain ⟨r, k, rfl⟩ : ∃ (r : Fin 1024) (k : Fin 512), y = ix2 r k := split2 y
  refine (congrFun (Value.flushed12 m c t) _).trans ((z_at m c t r k).trans ((rfl : _ = out12 m c (ix2 (tok t r) k)).trans ?_))
  unfold tok
  blk_ext [idx t]

theorem arr13_eq : (dats m 0 c).arrAt 13 cfg0.N = out13 m c := by
  refine (dats m 0 c).arrAt_eq_of_covers 13 _ (by decide +kernel) fun t hf y => ?_
  obtain ⟨r, k, rfl⟩ : ∃ (r : Fin 1024) (k : Fin 512), y = ix2 r k := split2 y
  refine (congrFun (Value.flushed13 m c t) _).trans ((qc_at m c t r k).trans ((rfl : _ = out13 m c (ix2 (tok t r) k)).trans ?_))
  unfold tok
  blk_ext [idx t]

theorem arr14_eq : (dats m 0 c).arrAt 14 cfg0.N = out14 m c := by
  refine (dats m 0 c).arrAt_eq_of_covers 14 _ (by decide +kernel) fun t hf y => ?_
  obtain ⟨r, k, rfl⟩ : ∃ (r : Fin 1024) (k : Fin 128), y = ix2 r k := split2 y
  refine (congrFun (Value.flushed14 m c t) _).trans ((ba_at m c t r k).trans ((rfl : _ = out14 m c (ix2 (tok t r) k)).trans ?_))
  unfold tok
  blk_ext [idx t]

theorem arr15_eq : (dats m 0 c).arrAt 15 cfg0.N = out15 m c := by
  refine (dats m 0 c).arrAt_eq_of_covers 15 _ (by decide +kernel) fun t hf y => ?_
  obtain ⟨r, k, rfl⟩ : ∃ (r : Fin 1024) (k : Fin 512), y = ix2 r k := split2 y
  refine (congrFun (Value.flushed15 m c t) _).trans ((qn_at m c t r k).trans ((rfl : _ = out15 m c (ix2 (tok t r) k)).trans ?_))
  unfold tok
  blk_ext [idx t]

theorem arr16_eq : (dats m 0 c).arrAt 16 cfg0.N = out16 m c := by
  refine (dats m 0 c).arrAt_eq_of_covers 16 _ (by decide +kernel) fun t hf y => ?_
  obtain ⟨r, k, rfl⟩ : ∃ (r : Fin 1024) (k : Fin 512), y = ix2 r k := split2 y
  refine (congrFun (Value.flushed16 m c t) _).trans ((kn_at m c t r k).trans ((rfl : _ = out16 m c (ix2 (tok t r) k)).trans ?_))
  unfold tok
  blk_ext [idx t]

theorem arr17_eq : (dats m 0 c).arrAt 17 cfg0.N = out17 m c := by
  refine (dats m 0 c).arrAt_eq_of_covers 17 _ (by decide +kernel) fun t hf y => ?_
  obtain ⟨r, k, rfl⟩ : ∃ (r : Fin 1024) (k : Fin 512), y = ix2 r k := split2 y
  refine (congrFun (Value.flushed17 m c t) _).trans ((vv_at m c t r k).trans ((rfl : _ = out17 m c (ix2 (tok t r) k)).trans ?_))
  unfold tok
  blk_ext [idx t]

theorem arr18_eq : (dats m 0 c).arrAt 18 cfg0.N = out18 m c := by
  refine (dats m 0 c).arrAt_eq_of_covers 18 _ (by decide +kernel) fun t hf y => ?_
  obtain ⟨a, s, k, rfl⟩ : ∃ (a : Fin 1) (s : Fin 8) (k : Fin 1536), y = ix3 a s k := split3 y
  refine (congrFun (Value.flushed18 m c t) _).trans ((tail_at m c t (flush18 t hf) a s k).trans ((rfl : _ = out18 m c (ix3 ⟨t.val / 8, by have := lt32 t; omega⟩ s k)).trans ?_))
  obtain rfl : a = 0 := Subsingleton.elim _ _
  blk_ext [idx t]

end Cert.Proof.ProjValue

end
-- ==== Proof.Same4Body.lean ====
/-
  The two projection programs' kernel functions have the same text: they are equal over any float values.
-/
module

public import proofs.«01_k».proof.Proof.Gen.Kernel4
public import proofs.«01_k».proof.Proof.Gen.Kernel4Ideal

@[expose] public section

set_option maxRecDepth 16384

noncomputable section

namespace Cert.Proof.Same4Body

open Idealize.ShloMosaic Idealize.ShloMosaic.TcCoe
open Idealize.SL.Sem

attribute [local instance] Cert.Kernel4.Gen.facts Cert.Kernel4Ideal.Gen.facts

variable {F : FTy → Type} [FloatOps F]

set_option maxHeartbeats 0 in
theorem part1_eq : Cert.Kernel4.k0_part1 (F := F) = Cert.Kernel4Ideal.k0_part1 (F := F) := rfl
set_option maxHeartbeats 0 in
theorem part2_eq : Cert.Kernel4.k0_part2 (F := F) = Cert.Kernel4Ideal.k0_part2 (F := F) := rfl
set_option maxHeartbeats 0 in
theorem part3_eq : Cert.Kernel4.k0_part3 (F := F) = Cert.Kernel4Ideal.k0_part3 (F := F) := rfl
set_option maxHeartbeats 0 in
theorem part4_eq : Cert.Kernel4.k0_part4 (F := F) = Cert.Kernel4Ideal.k0_part4 (F := F) := rfl
set_option maxHeartbeats 0 in
theorem part5_eq : Cert.Kernel4.k0_part5 (F := F) = Cert.Kernel4Ideal.k0_part5 (F := F) := rfl
set_option maxHeartbeats 0 in
theorem part6_eq : Cert.Kernel4.k0_part6 (F := F) = Cert.Kernel4Ideal.k0_part6 (F := F) := rfl
set_option maxHeartbeats 0 in
theorem part7_eq : Cert.Kernel4.k0_part7 (F := F) = Cert.Kernel4Ideal.k0_part7 (F := F) := rfl
set_option maxHeartbeats 0 in
theorem part8_eq : Cert.Kernel4.k0_part8 (F := F) = Cert.Kernel4Ideal.k0_part8 (F := F) := rfl
set_option maxHeartbeats 0 in
theorem part9_eq : Cert.Kernel4.k0_part9 (F := F) = Cert.Kernel4Ideal.k0_part9 (F := F) := rfl
set_option maxHeartbeats 0 in
theorem part10_eq : Cert.Kernel4.k0_part10 (F := F) = Cert.Kernel4Ideal.k0_part10 (F := F) := rfl
set_option maxHeartbeats 0 in
theorem part11_eq : Cert.Kernel4.k0_part11 (F := F) = Cert.Kernel4Ideal.k0_part11 (F := F) := rfl
set_option maxHeartbeats 0 in
theorem part12_eq : Cert.Kernel4.k0_part12 (F := F) = Cert.Kernel4Ideal.k0_part12 (F := F) := rfl
set_option maxHeartbeats 0 in
theorem cc_eq : Cert.Kernel4.cc0_proj_conv (F := F) = Cert.Kernel4Ideal.cc0_proj_conv (F := F) := by
  unfold Cert.Kernel4.cc0_proj_conv Cert.Kernel4Ideal.cc0_proj_conv
  simp only [part1_eq, part2_eq, part3_eq, part4_eq, part5_eq, part6_eq, part7_eq, part8_eq, part9_eq, part10_eq, part11_eq, part12_eq]
  rfl

end Cert.Proof.Same4Body

end
-- ==== Proof.Same4Defs.lean ====
/-
  The projection's two kernel programs have the same body tables over any float values.
-/
module

public import proofs.«01_k».proof.Proof.Same4Body

@[expose] public section

set_option maxRecDepth 16384

noncomputable section

namespace Cert.Proof.Same4

open Idealize.ShloMosaic Idealize.ShloMosaic.TcCoe
open Idealize.SL.Sem

attribute [local instance] Cert.Kernel4.Gen.facts Cert.Kernel4Ideal.Gen.facts

variable {F : FTy → Type} [FloatOps F]

set_option maxHeartbeats 0 in
/-- The kernels' body tables agree, label by label. -/
theorem defs₀_eq : Cert.Kernel4.defs₀ (F := F) = Cert.Kernel4Ideal.defs₀ (F := F) := by
  unfold Cert.Kernel4.defs₀ Cert.Kernel4Ideal.defs₀
  rw [Same4Body.cc_eq]
  refine congrArg Defs.onTc (funext fun l => funext fun x => ?_)
  match l, x with
  | 0, (t, s) => rfl
  | ⟨_ + 1, h⟩, _ => exact absurd h (Nat.not_lt.2 (Nat.le_add_left _ _))

set_option maxHeartbeats 0 in
/-- So do the whole tables. -/
theorem defs_eq : Cert.Kernel4.defs (F := F) = Cert.Kernel4Ideal.defs (F := F) :=
  congrArg (Pipeline.defs (Cert.Kernel4Ideal.pcfgs (F := F))) defs₀_eq

end Cert.Proof.Same4

end
-- ==== Proof.Same4Main.lean ====
/-
  The projection's two kernel programs have the same `@main` over any float values.
-/
module

public import proofs.«01_k».proof.Proof.Gen.Kernel4
public import proofs.«01_k».proof.Proof.Gen.Kernel4Ideal

@[expose] public section

set_option maxRecDepth 16384

noncomputable section

namespace Cert.Proof.Same4

open Idealize.ShloMosaic Idealize.ShloMosaic.TcCoe
open Idealize.SL.Sem

attribute [local instance] Cert.Kernel4.Gen.facts Cert.Kernel4Ideal.Gen.facts

variable {F : FTy → Type} [FloatOps F]

/-- The two tables of columns are one. -/
theorem lit0_eq : Cert.Kernel4.lit0 = Cert.Kernel4Ideal.lit0 := funext (by decide +kernel)

set_option maxHeartbeats 0 in
/-- The pipelines are configured alike. -/
theorem pcfgs_eq : Cert.Kernel4.pcfgs (F := F) = Cert.Kernel4Ideal.pcfgs (F := F) := rfl

set_option maxHeartbeats 0 in
/-- The programs' statements agree. -/
theorem main_eq : Cert.Kernel4.main (F := F) = Cert.Kernel4Ideal.main (F := F) := by
  unfold Cert.Kernel4.main Cert.Kernel4Ideal.main
  rw [lit0_eq]
  rfl

end Cert.Proof.Same4

end
-- ==== Proof.Same4.lean ====
/-
  The projection's two kernel programs have the same text: their body tables and their `@main` are equal over any float
  values, so a run of the one is a run of the other.
-/
module

public import proofs.«01_k».proof.Proof.Same4Defs
public import proofs.«01_k».proof.Proof.Same4Main

@[expose] public section

set_option maxRecDepth 16384

noncomputable section

namespace Cert.Proof.Same4

open Idealize.ShloMosaic Idealize.ShloMosaic.TcCoe
open Idealize.SL.Sem

attribute [local instance] Cert.Kernel4.Gen.facts Cert.Kernel4Ideal.Gen.facts

variable {F : FTy → Type} [FloatOps F]

set_option maxHeartbeats 0 in
/-- A run of the one program from a state is a run of the other. -/
theorem run_eq (s) : θ_run (Cert.Kernel4.defs (F := F)) (onTc (τ := Cert.Kernel4.τ) (Cert.Kernel4.main (F := F))) s
    = θ_run (Cert.Kernel4Ideal.defs (F := F)) (onTc (τ := Cert.Kernel4Ideal.τ) (Cert.Kernel4Ideal.main (F := F))) s :=
  (congrArg (fun p => θ_run (Cert.Kernel4.defs (F := F)) (onTc (τ := Cert.Kernel4.τ) p) s) main_eq).trans
    (congrArg (fun d => θ_run d (onTc (τ := Cert.Kernel4Ideal.τ) (Cert.Kernel4Ideal.main (F := F))) s) defs_eq)

end Cert.Proof.Same4

end
-- ==== Proof.ProjClaim.lean ====
/-
  The claims of the projection call: the frames of both kernel programs and of the reference, and the equality of the ten
  results at the ideal instance.
-/
module

public import proofs.«01_k».proof.Defs
public import proofs.«01_k».proof.Proof.Gen.Kernel4
public import proofs.«01_k».proof.Proof.Gen.Reference4Ideal
public import proofs.«01_k».proof.Proof.ProjRefRope
public import proofs.«01_k».proof.Proof.ProjRefHeads
public import proofs.«01_k».proof.Proof.ProjValue
public import proofs.«01_k».proof.Proof.Same4
public import Idealize.ShloMosaic.Adequacy
public import Idealize.ShloMosaic.Init

@[expose] public section

noncomputable section

namespace Cert.Proof.ProjClaim

open Idealize.ShloMosaic Idealize.ShloMosaic.TcCoe
open Idealize.SL.Sem
open Cert.Proof.ProjBuf Cert.Proof.ProjSpec

attribute [local instance] Cert.Kernel4.Gen.facts Cert.Kernel4Ideal.Gen.facts Cert.Reference4Ideal.Gen.facts

/-- The kernel over machine values ends, keeps its arguments and leaves every semaphore at zero. -/
theorem frame_kernel : Cert.quiescent_Kernel4 := fun m ρ _ =>
  (Same4.run_eq (F := Bits) ⟨m, fun _ => 0, ρ⟩).symm ▸ Cert.Kernel4Ideal.Gen.frame (F := Bits) m ρ
/-- So does the kernel over the reals. -/
theorem frame_kernelIdeal : Cert.quiescent_Kernel4Ideal := fun m ρ _ => Cert.Kernel4Ideal.Gen.frame (F := Ideal) m ρ
/-- The reference ends and keeps its arguments; it has no semaphores. -/
theorem frame_reference : Cert.quiescent_Reference4Ideal := fun m ρ _ =>
  (θ_run Cert.Reference4Ideal.defs _ _).mono
    (fun r h => ⟨fun c => (h c).2.2.2.2.2.2.2.2.2.2, funext fun g => by obtain ⟨_, s | s⟩ := g <;> exact s.elim0⟩)
    (Cert.Reference4Ideal.Value.run (F := Ideal) m ρ)

variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)

/-- The two programs' arguments are the same on this device. -/
abbrev Agree : Prop :=
  m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
  ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
  ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
  ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)

/-- What the reference's run starts from on a device. -/
abbrev start : Valuation Cert.Reference4Ideal.τ Cert.Reference4Ideal.sig (Elt Ideal) := StableHlo.launchContents m' c

/-- From the same arguments the projections are the same, token by token. -/
theorem prj_eq (h : Agree m m' c) (b : Fin 4) (t : Fin 8192) (j : Fin 6408) : ProjRef.proj (start m' c) b t j = ProjValue.prj m c b t j := by
  obtain ⟨h0, h1, h2, h3⟩ := h
  refine ProjValue.col_congr (fun l => congrFun h0 (ix3 b t l)) (fun l => congrFun h1 (ix1 l)) fun l => congrFun h2 (ix2 l j)
/-- And so are the taps. -/
theorem tap_eq (h : Agree m m' c) : ProjRefConv.taps4 (start m' c) = ProjValue.tap m c :=
  funext fun i => funext fun j => congrFun h.2.2.2 (ix2 i j)

theorem qa_eq (h : Agree m m' c) : ProjRef.qa (start m' c) = ProjValue.out9 m c := by
  have e : ProjRef.proj (start m' c) = ProjValue.prj m c := funext fun b => funext fun t => funext fun j => prj_eq m m' c h b t j
  funext y
  obtain ⟨T, k, rfl⟩ : ∃ (T : Fin 32768) (k : Fin 512), y = ix2 T k := split2 y
  refine (ProjRefRope.qa_apply (start m' c) T k).trans ?_
  rw [e]
  rfl
theorem ka_eq (h : Agree m m' c) : ProjRef.ka (start m' c) = ProjValue.out10 m c := by
  have e : ProjRef.proj (start m' c) = ProjValue.prj m c := funext fun b => funext fun t => funext fun j => prj_eq m m' c h b t j
  funext y
  obtain ⟨T, k, rfl⟩ : ∃ (T : Fin 32768) (k : Fin 128), y = ix2 T k := split2 y
  refine (ProjRefRope.ka_apply (start m' c) T k).trans ?_
  rw [e]
  rfl
theorem va_eq (h : Agree m m' c) : ProjRef.va (start m' c) = ProjValue.out11 m c := by
  have e : ProjRef.proj (start m' c) = ProjValue.prj m c := funext fun b => funext fun t => funext fun j => prj_eq m m' c h b t j
  funext y
  obtain ⟨T, k, rfl⟩ : ∃ (T : Fin 32768) (k : Fin 128), y = ix2 T k := split2 y
  refine (ProjRef.va_apply (start m' c) T k).trans ?_
  rw [e]
  rfl
theorem zb_eq (h : Agree m m' c) : ProjRef.zb (start m' c) = ProjValue.out12 m c := by
  have e : ProjRef.proj (start m' c) = ProjValue.prj m c := funext fun b => funext fun t => funext fun j => prj_eq m m' c h b t j
  funext y
  obtain ⟨T, k, rfl⟩ : ∃ (T : Fin 32768) (k : Fin 512), y = ix2 T k := split2 y
  refine (ProjRef.zb_apply (start m' c) T k).trans ?_
  rw [e]
  rfl
theorem qc_eq (h : Agree m m' c) : ProjRef.qc (start m' c) = ProjValue.out13 m c := by
  have e : ProjRef.proj (start m' c) = ProjValue.prj m c := funext fun b => funext fun t => funext fun j => prj_eq m m' c h b t j
  funext y
  obtain ⟨T, k, rfl⟩ : ∃ (T : Fin 32768) (k : Fin 512), y = ix2 T k := split2 y
  refine (ProjRef.qc_apply (start m' c) T k).trans ?_
  rw [e]
  rfl
theorem ba_eq (h : Agree m m' c) : ProjRef.ba (start m' c) = ProjValue.out14 m c := by
  have e : ProjRef.proj (start m' c) = ProjValue.prj m c := funext fun b => funext fun t => funext fun j => prj_eq m m' c h b t j
  funext y
  obtain ⟨T, k, rfl⟩ : ∃ (T : Fin 32768) (k : Fin 128), y = ix2 T k := split2 y
  refine (ProjRef.ba_apply (start m' c) T k).trans ?_
  rw [e]
  rfl
theorem qn_eq (h : Agree m m' c) : ProjRef.qn (start m' c) = ProjValue.out15 m c := by
  have e : ProjRef.proj (start m' c) = ProjValue.prj m c := funext fun b => funext fun t => funext fun j => prj_eq m m' c h b t j
  funext y
  obtain ⟨T, k, rfl⟩ : ∃ (T : Fin 32768) (k : Fin 512), y = ix2 T k := split2 y
  refine (ProjRefHeads.qn_apply (start m' c) T k).trans ?_
  rw [e, tap_eq m m' c h]
  rfl
theorem kn_eq (h : Agree m m' c) : ProjRef.kn (start m' c) = ProjValue.out16 m c := by
  have e : ProjRef.proj (start m' c) = ProjValue.prj m c := funext fun b => funext fun t => funext fun j => prj_eq m m' c h b t j
  funext y
  obtain ⟨T, k, rfl⟩ : ∃ (T : Fin 32768) (k : Fin 512), y = ix2 T k := split2 y
  refine (ProjRefHeads.kn_apply (start m' c) T k).trans ?_
  rw [e, tap_eq m m' c h]
  rfl
theorem vv_eq (h : Agree m m' c) : ProjRef.vv (start m' c) = ProjValue.out17 m c := by
  have e : ProjRef.proj (start m' c) = ProjValue.prj m c := funext fun b => funext fun t => funext fun j => prj_eq m m' c h b t j
  funext y
  obtain ⟨T, k, rfl⟩ : ∃ (T : Fin 32768) (k : Fin 512), y = ix2 T k := split2 y
  refine (ProjRefConv.vv_apply (start m' c) T k).trans ?_
  rw [e, tap_eq m m' c h]
  rfl
theorem tail_eq (h : Agree m m' c) : ProjRef.tail (start m' c) = ProjValue.out18 m c := by
  funext y
  obtain ⟨b, s, k, rfl⟩ : ∃ (b : Fin 4) (s : Fin 8) (k : Fin 1536), y = ix3 b s k := split3 y
  exact (ProjRef.tail_apply (start m' c) b s k).trans (prj_eq m m' c h _ _ _)

/-- From the same arguments, the kernel and the reference leave the same ten arrays over the reals. -/
theorem algebraic : Cert.algebraic_Kernel4Ideal_Reference4Ideal := fun m ρ m' ρ' _ hag =>
  ⟨fun c => ProjValue.out9 m c, fun c => ProjValue.out10 m c, fun c => ProjValue.out11 m c, fun c => ProjValue.out12 m c, fun c => ProjValue.out13 m c, fun c => ProjValue.out14 m c, fun c => ProjValue.out15 m c, fun c => ProjValue.out16 m c, fun c => ProjValue.out17 m c, fun c => ProjValue.out18 m c,
    (θ_run Cert.Kernel4Ideal.defs _ _).mono
      (fun r h c => by
        obtain ⟨h9, h10, h11, h12, h13, h14, h15, h16, h17, h18, ha⟩ := h c
        exact ⟨h9.trans (ProjValue.arr9_eq m c), h10.trans (ProjValue.arr10_eq m c), h11.trans (ProjValue.arr11_eq m c), h12.trans (ProjValue.arr12_eq m c), h13.trans (ProjValue.arr13_eq m c), h14.trans (ProjValue.arr14_eq m c), h15.trans (ProjValue.arr15_eq m c), h16.trans (ProjValue.arr16_eq m c), h17.trans (ProjValue.arr17_eq m c), h18.trans (ProjValue.arr18_eq m c), ha⟩)
      (Cert.Kernel4Ideal.Value.run_blocks (F := Ideal) m ρ),
    (θ_run Cert.Reference4Ideal.defs _ _).mono
      (fun r h c => by
        obtain ⟨h9, h10, h11, h12, h13, h14, h15, h16, h17, h18, ha⟩ := h c
        exact ⟨h9.trans (qa_eq m m' c (hag c)), h10.trans (ka_eq m m' c (hag c)), h11.trans (va_eq m m' c (hag c)), h12.trans (zb_eq m m' c (hag c)), h13.trans (qc_eq m m' c (hag c)), h14.trans (ba_eq m m' c (hag c)), h15.trans (qn_eq m m' c (hag c)), h16.trans (kn_eq m m' c (hag c)), h17.trans (vv_eq m m' c (hag c)), h18.trans (tail_eq m m' c (hag c)), ha⟩)
      (Cert.Reference4Ideal.Value.run (F := Ideal) m' ρ')⟩

end Cert.Proof.ProjClaim

end
-- ==== Proof.lean ====
/-
  The claims, assembled. Of the streamed merge call they are proved here: the frames of both kernel programs from one run
  (Proof/Launch.lean), the reference's own, and the equality of the results at the ideal instance. Those of the feed-forward,
  of the memory call and of the projection come from Proof/FfnClaim.lean, Proof/MemClaim.lean and Proof/ProjClaim.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import proofs.«01_k».proof.Proof.FfnClaim
public import proofs.«01_k».proof.Proof.MemClaim
public import proofs.«01_k».proof.Proof.ProjClaim
public import Idealize.ShloMosaic.Adequacy
public import Idealize.ShloMosaic.Init

@[expose] public section

noncomputable section

namespace Cert.Proof

open Idealize.ShloMosaic Idealize.ShloMosaic.TcCoe
open Idealize.SL.Sem

attribute [local instance] Cert.Kernel.Gen.facts Cert.KernelIdeal.Gen.facts Cert.ReferenceIdeal.Gen.facts

/-- The kernel over machine values ends, keeps its arguments and leaves every semaphore at zero: its run is the ideal text's. -/
theorem frame_kernel : Cert.quiescent_Kernel := fun m ρ _ =>
  (Same.run_eq (F := Bits) ⟨m, fun _ => 0, ρ⟩).symm ▸
    (θ_run Cert.KernelIdeal.defs _ _).mono (fun r h => ⟨fun c => Launch.args_kept m c r.2 (h.1 c), h.2⟩) (Launch.run_main (F := Bits) m ρ)
/-- So does the kernel over the reals. -/
theorem frame_kernelIdeal : Cert.quiescent_KernelIdeal := fun m ρ _ =>
  (θ_run Cert.KernelIdeal.defs _ _).mono (fun r h => ⟨fun c => Launch.args_kept m c r.2 (h.1 c), h.2⟩) (Launch.run_main (F := Ideal) m ρ)
/-- The reference ends and keeps its arguments; it has no semaphores. -/
theorem frame_reference : Cert.quiescent_ReferenceIdeal := fun m ρ _ =>
  (θ_run Cert.ReferenceIdeal.defs _ _).mono
    (fun r h => ⟨fun c => (h c).2.2, funext fun g => by obtain ⟨_, s | s⟩ := g <;> exact s.elim0⟩)
    (Cert.ReferenceIdeal.Value.run (F := Ideal) m ρ)

section Results

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs' arguments are the same on this device. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

/-- From the same arguments, the reference's first result is the stream the kernel's is. -/
theorem ref0 (h : Agree m m' c) : Cert.ReferenceIdeal.Value.res_out0 m' c = Value.out0 m c := by
  obtain ⟨h0, h1, h2, h3, h4, h5, h6, h7, h8, h9⟩ := h
  rw [RRows.res0_eq, h0, h1, h2, h3, h4, h5, h6, h7, h8]; rfl
/-- And its second. -/
theorem ref1 (h : Agree m m' c) : Cert.ReferenceIdeal.Value.res_out1 m' c = Value.out1 m c := by
  obtain ⟨h0, h1, h2, h3, h4, h5, h6, h7, h8, h9⟩ := h
  rw [RRows.res1_eq, h0, h1, h2, h3, h4, h5, h6, h7, h8, h9]; rfl

end Results

/-- From the same arguments, the kernel and the reference leave the same two results over the reals. -/
theorem algebraic : Cert.algebraic_KernelIdeal_ReferenceIdeal := fun m ρ m' ρ' _ hag =>
  ⟨fun c => Value.out0 m c, fun c => Value.out1 m c,
    (θ_run Cert.KernelIdeal.defs _ _).mono
      (fun r h c => ⟨Value.ends_y m c (h.1 c), Value.ends_h m c (h.1 c), Launch.args_kept m c r.2 (h.1 c)⟩) (Launch.run_main (F := Ideal) m ρ),
    (θ_run Cert.ReferenceIdeal.defs _ _).mono
      (fun r h c => ⟨(h c).1.trans (ref0 m m' c (hag c)), (h c).2.1.trans (ref1 m m' c (hag c)), (h c).2.2⟩) (Cert.ReferenceIdeal.Value.run (F := Ideal) m' ρ')⟩

/-- All the claims: of the merge, the feed-forward, the memory call and the projection, five each. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  frame_kernel, frame_kernelIdeal, frame_reference,
  FfnClaim.frame_kernel, FfnClaim.frame_kernelIdeal, FfnClaim.frame_reference,
  MemClaim.frame_kernel, MemClaim.frame_kernelIdeal, MemClaim.frame_reference,
  ProjClaim.frame_kernel, ProjClaim.frame_kernelIdeal, ProjClaim.frame_reference,
  trivial, algebraic, trivial, FfnClaim.algebraic, trivial, MemClaim.algebraic, trivial, ProjClaim.algebraic⟩

end Cert.Proof

end
